-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_v20) = v1 c
          ∧ r.2.mem ((c.tc : Thread Cert.ReferenceIdeal.nD Cert.ReferenceIdeal.τ).loc Cert.ReferenceIdeal.main_v14_6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v14) = v0 c
          ∧ r.2.mem ((c.tc : Thread Cert.Reference2Ideal.nD Cert.Reference2Ideal.τ).loc Cert.Reference2Ideal.main_v13) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v4_0)) (v1 : (c : Dev Cert.Kernel4Ideal.nD) → Buf (Elt Ideal) ((c.tc : Thread Cert.Kernel4Ideal.nD Cert.Kernel4Ideal.τ).loc Cert.Kernel4Ideal.main_v4_1)) (v2 : (c : Dev Cert.Kernel4Ideal.nD) → Buf (Elt Ideal) ((c.tc : Thread Cert.Kernel4Ideal.nD Cert.Kernel4Ideal.τ).loc Cert.Kernel4Ideal.main_v4_2)) (v3 : (c : Dev Cert.Kernel4Ideal.nD) → Buf (Elt Ideal) ((c.tc : Thread Cert.Kernel4Ideal.nD Cert.Kernel4Ideal.τ).loc Cert.Kernel4Ideal.main_v4_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4_0) = v0 c
          ∧ r.2.mem ((c.tc : Thread Cert.Kernel4Ideal.nD Cert.Kernel4Ideal.τ).loc Cert.Kernel4Ideal.main_v4_1) = v1 c
          ∧ r.2.mem ((c.tc : Thread Cert.Kernel4Ideal.nD Cert.Kernel4Ideal.τ).loc Cert.Kernel4Ideal.main_v4_2) = v2 c
          ∧ r.2.mem ((c.tc : Thread Cert.Kernel4Ideal.nD Cert.Kernel4Ideal.τ).loc Cert.Kernel4Ideal.main_v4_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v38) = v0 c
          ∧ r.2.mem ((c.tc : Thread Cert.Reference4Ideal.nD Cert.Reference4Ideal.τ).loc Cert.Reference4Ideal.main_v40) = v1 c
          ∧ r.2.mem ((c.tc : Thread Cert.Reference4Ideal.nD Cert.Reference4Ideal.τ).loc Cert.Reference4Ideal.main_v41) = v2 c
          ∧ r.2.mem ((c.tc : Thread Cert.Reference4Ideal.nD Cert.Reference4Ideal.τ).loc Cert.Reference4Ideal.main_v39) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v4_0)) (v1 : (c : Dev Cert.Kernel5Ideal.nD) → Buf (Elt Ideal) ((c.tc : Thread Cert.Kernel5Ideal.nD Cert.Kernel5Ideal.τ).loc Cert.Kernel5Ideal.main_v4_1)) (v2 : (c : Dev Cert.Kernel5Ideal.nD) → Buf (Elt Ideal) ((c.tc : Thread Cert.Kernel5Ideal.nD Cert.Kernel5Ideal.τ).loc Cert.Kernel5Ideal.main_v4_2)) (v3 : (c : Dev Cert.Kernel5Ideal.nD) → Buf (Elt Ideal) ((c.tc : Thread Cert.Kernel5Ideal.nD Cert.Kernel5Ideal.τ).loc Cert.Kernel5Ideal.main_v4_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4_0) = v0 c
          ∧ r.2.mem ((c.tc : Thread Cert.Kernel5Ideal.nD Cert.Kernel5Ideal.τ).loc Cert.Kernel5Ideal.main_v4_1) = v1 c
          ∧ r.2.mem ((c.tc : Thread Cert.Kernel5Ideal.nD Cert.Kernel5Ideal.τ).loc Cert.Kernel5Ideal.main_v4_2) = v2 c
          ∧ r.2.mem ((c.tc : Thread Cert.Kernel5Ideal.nD Cert.Kernel5Ideal.τ).loc Cert.Kernel5Ideal.main_v4_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v56) = v0 c
          ∧ r.2.mem ((c.tc : Thread Cert.Reference5Ideal.nD Cert.Reference5Ideal.τ).loc Cert.Reference5Ideal.main_v55) = v1 c
          ∧ r.2.mem ((c.tc : Thread Cert.Reference5Ideal.nD Cert.Reference5Ideal.τ).loc Cert.Reference5Ideal.main_v57) = v2 c
          ∧ r.2.mem ((c.tc : Thread Cert.Reference5Ideal.nD Cert.Reference5Ideal.τ).loc Cert.Reference5Ideal.main_v58) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_v15) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0_0)) (v1 : (c : Dev Cert.Kernel7Ideal.nD) → Buf (Elt Ideal) ((c.tc : Thread Cert.Kernel7Ideal.nD Cert.Kernel7Ideal.τ).loc Cert.Kernel7Ideal.main_v0_1)) (v2 : (c : Dev Cert.Kernel7Ideal.nD) → Buf (Elt Ideal) ((c.tc : Thread Cert.Kernel7Ideal.nD Cert.Kernel7Ideal.τ).loc Cert.Kernel7Ideal.main_v0_2)) (v3 : (c : Dev Cert.Kernel7Ideal.nD) → Buf (Elt Ideal) ((c.tc : Thread Cert.Kernel7Ideal.nD Cert.Kernel7Ideal.τ).loc Cert.Kernel7Ideal.main_v0_3)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0_0) = v0 c
          ∧ r.2.mem ((c.tc : Thread Cert.Kernel7Ideal.nD Cert.Kernel7Ideal.τ).loc Cert.Kernel7Ideal.main_v0_1) = v1 c
          ∧ r.2.mem ((c.tc : Thread Cert.Kernel7Ideal.nD Cert.Kernel7Ideal.τ).loc Cert.Kernel7Ideal.main_v0_2) = v2 c
          ∧ r.2.mem ((c.tc : Thread Cert.Kernel7Ideal.nD Cert.Kernel7Ideal.τ).loc Cert.Kernel7Ideal.main_v0_3) = v3 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_arg1) = v0 c
          ∧ r.2.mem ((c.tc : Thread Cert.Reference7Ideal.nD Cert.Reference7Ideal.τ).loc Cert.Reference7Ideal.main_v23) = v1 c
          ∧ r.2.mem ((c.tc : Thread Cert.Reference7Ideal.nD Cert.Reference7Ideal.τ).loc Cert.Reference7Ideal.main_v4) = v2 c
          ∧ r.2.mem ((c.tc : Thread Cert.Reference7Ideal.nD Cert.Reference7Ideal.τ).loc Cert.Reference7Ideal.main_v10) = v3 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_arg1) = v0 c
          ∧ r.2.mem ((c.tc : Thread Cert.Reference8Ideal.nD Cert.Reference8Ideal.τ).loc Cert.Reference8Ideal.main_v23) = v1 c
          ∧ r.2.mem ((c.tc : Thread Cert.Reference8Ideal.nD Cert.Reference8Ideal.τ).loc Cert.Reference8Ideal.main_v4) = v2 c
          ∧ r.2.mem ((c.tc : Thread Cert.Reference8Ideal.nD Cert.Reference8Ideal.τ).loc Cert.Reference8Ideal.main_v10) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_arg1) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_v4) = v2 c
          ∧ r.2.mem ((c.tc : Thread Cert.Reference9Ideal.nD Cert.Reference9Ideal.τ).loc Cert.Reference9Ideal.main_v10) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)) (v2 : (c : Dev Cert.Kernel10Ideal.nD) → Buf (Elt Ideal) ((c.tc : Thread Cert.Kernel10Ideal.nD Cert.Kernel10Ideal.τ).loc Cert.Kernel10Ideal.main_v0_2)) (v3 : (c : Dev Cert.Kernel10Ideal.nD) → Buf (Elt Ideal) ((c.tc : Thread Cert.Kernel10Ideal.nD Cert.Kernel10Ideal.τ).loc Cert.Kernel10Ideal.main_v0_3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_v0_2) = v2 c
          ∧ r.2.mem ((c.tc : Thread Cert.Kernel10Ideal.nD Cert.Kernel10Ideal.τ).loc Cert.Kernel10Ideal.main_v0_3) = v3 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_arg1) = v0 c
          ∧ r.2.mem ((c.tc : Thread Cert.Reference10Ideal.nD Cert.Reference10Ideal.τ).loc Cert.Reference10Ideal.main_v23) = v1 c
          ∧ r.2.mem ((c.tc : Thread Cert.Reference10Ideal.nD Cert.Reference10Ideal.τ).loc Cert.Reference10Ideal.main_v4) = v2 c
          ∧ r.2.mem ((c.tc : Thread Cert.Reference10Ideal.nD Cert.Reference10Ideal.τ).loc Cert.Reference10Ideal.main_v10) = v3 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)) (v3 : (c : Dev Cert.Kernel11Ideal.nD) → Buf (Elt Ideal) ((c.tc : Thread Cert.Kernel11Ideal.nD Cert.Kernel11Ideal.τ).loc Cert.Kernel11Ideal.main_v0_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_v0_3) = v3 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_arg1) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v4) = v2 c
          ∧ r.2.mem ((c.tc : Thread Cert.Reference11Ideal.nD Cert.Reference11Ideal.τ).loc Cert.Reference11Ideal.main_v10) = v3 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  IdealRules.named_const.Statement Cert.Kernel12Ideal.κ "gelu_cubic" .f32 0x3D122279#32 ((80338380498831 / 2251799813685248 : ℝ) : EReal)

def algebraic_Kernel12Ideal_Reference12Ideal_on_ssm_half [hKernel12Ideal : Cert.Kernel12Ideal.Facts] [hReference12Ideal : Cert.Reference12Ideal.Facts] [hOn_ssm_half : Cert.On_ssm_half.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v3)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          (∀ i : (⟨2, ![8192, 2048]⟩ : Shape).Idx, (Cert.On_ssm_half.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) i = 1#1 → r.2.mem ((c.tc : Thread Cert.Kernel12Ideal.nD Cert.Kernel12Ideal.τ).loc Cert.Kernel12Ideal.main_v3) i = v0 c i)
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          (∀ i : (⟨2, ![8192, 2048]⟩ : Shape).Idx, (Cert.On_ssm_half.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))) i = 1#1 → r.2.mem ((c.tc : Thread Cert.Reference12Ideal.nD Cert.Reference12Ideal.τ).loc Cert.Reference12Ideal.main_v39) i = v0 c i)
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  IdealRules.named_const.Statement Cert.Kernel13Ideal.κ "gelu_cubic" .f32 0x3D122279#32 ((80338380498831 / 2251799813685248 : ℝ) : EReal)

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)) →
    ∃ (v0 : (c : Dev Cert.Kernel13Ideal.nD) → Buf (Elt Ideal) ((c.tc : Thread Cert.Kernel13Ideal.nD Cert.Kernel13Ideal.τ).loc Cert.Kernel13Ideal.main_v11)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v11) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v70) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v5_0)) (v1 : (c : Dev Cert.Kernel14Ideal.nD) → Buf (Elt Ideal) ((c.tc : Thread Cert.Kernel14Ideal.nD Cert.Kernel14Ideal.τ).loc Cert.Kernel14Ideal.main_v5_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v5_0) = v0 c
          ∧ r.2.mem ((c.tc : Thread Cert.Kernel14Ideal.nD Cert.Kernel14Ideal.τ).loc Cert.Kernel14Ideal.main_v5_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v43) = v0 c
          ∧ r.2.mem ((c.tc : Thread Cert.Reference14Ideal.nD Cert.Reference14Ideal.τ).loc Cert.Reference14Ideal.main_v44) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v5) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  IdealRules.named_const.Statement Cert.Kernel18Ideal.κ "gelu_c" .f32 0x3D372713#32 ((8943 / 200000 : ℝ) : EReal)
  ∧ IdealRules.named_const.Statement Cert.Kernel18Ideal.κ "gelu_3c" .f32 0x3E095D4F#32 ((26829 / 200000 : ℝ) : EReal)

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)) →
    ∃ (v0 : (c : Dev Cert.Kernel18Ideal.nD) → Buf (Elt Ideal) ((c.tc : Thread Cert.Kernel18Ideal.nD Cert.Kernel18Ideal.τ).loc Cert.Kernel18Ideal.main_v3_0)) (v1 : (c : Dev Cert.Kernel18Ideal.nD) → Buf (Elt Ideal) ((c.tc : Thread Cert.Kernel18Ideal.nD Cert.Kernel18Ideal.τ).loc Cert.Kernel18Ideal.main_v3_1)) (v2 : (c : Dev Cert.Kernel18Ideal.nD) → Buf (Elt Ideal) ((c.tc : Thread Cert.Kernel18Ideal.nD Cert.Kernel18Ideal.τ).loc Cert.Kernel18Ideal.main_v3_2)) (v3 : (c : Dev Cert.Kernel18Ideal.nD) → Buf (Elt Ideal) ((c.tc : Thread Cert.Kernel18Ideal.nD Cert.Kernel18Ideal.τ).loc Cert.Kernel18Ideal.main_v3_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3_0) = v0 c
          ∧ r.2.mem ((c.tc : Thread Cert.Kernel18Ideal.nD Cert.Kernel18Ideal.τ).loc Cert.Kernel18Ideal.main_v3_1) = v1 c
          ∧ r.2.mem ((c.tc : Thread Cert.Kernel18Ideal.nD Cert.Kernel18Ideal.τ).loc Cert.Kernel18Ideal.main_v3_2) = v2 c
          ∧ r.2.mem ((c.tc : Thread Cert.Kernel18Ideal.nD Cert.Kernel18Ideal.τ).loc Cert.Kernel18Ideal.main_v3_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v114) = v0 c
          ∧ r.2.mem ((c.tc : Thread Cert.Reference18Ideal.nD Cert.Reference18Ideal.τ).loc Cert.Reference18Ideal.main_v115) = v1 c
          ∧ r.2.mem ((c.tc : Thread Cert.Reference18Ideal.nD Cert.Reference18Ideal.τ).loc Cert.Reference18Ideal.main_v116) = v2 c
          ∧ r.2.mem ((c.tc : Thread Cert.Reference18Ideal.nD Cert.Reference18Ideal.τ).loc Cert.Reference18Ideal.main_v117) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v4)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v4) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v2) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1_0)) (v1 : (c : Dev Cert.Kernel20Ideal.nD) → Buf (Elt Ideal) ((c.tc : Thread Cert.Kernel20Ideal.nD Cert.Kernel20Ideal.τ).loc Cert.Kernel20Ideal.main_v1_1)) (v2 : (c : Dev Cert.Kernel20Ideal.nD) → Buf (Elt Ideal) ((c.tc : Thread Cert.Kernel20Ideal.nD Cert.Kernel20Ideal.τ).loc Cert.Kernel20Ideal.main_v1_2)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1_0) = v0 c
          ∧ r.2.mem ((c.tc : Thread Cert.Kernel20Ideal.nD Cert.Kernel20Ideal.τ).loc Cert.Kernel20Ideal.main_v1_1) = v1 c
          ∧ r.2.mem ((c.tc : Thread Cert.Kernel20Ideal.nD Cert.Kernel20Ideal.τ).loc Cert.Kernel20Ideal.main_v1_2) = v2 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v36) = v0 c
          ∧ r.2.mem ((c.tc : Thread Cert.Reference20Ideal.nD Cert.Reference20Ideal.τ).loc Cert.Reference20Ideal.main_v37) = v1 c
          ∧ r.2.mem ((c.tc : Thread Cert.Reference20Ideal.nD Cert.Reference20Ideal.τ).loc Cert.Reference20Ideal.main_v38) = v2 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hOn_ssm_half : Cert.On_ssm_half.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_on_ssm_half (hKernel12Ideal := hKernel12Ideal) (hReference12Ideal := hReference12Ideal) (hOn_ssm_half := hOn_ssm_half)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
-- ==== On_ssm_half.lean ====
abbrev S8192x1024 : Shape := ⟨2, ![8192, 1024]⟩
abbrev S1024x1024 : Shape := ⟨2, ![1024, 1024]⟩
abbrev S1024 : Shape := ⟨1, ![1024]⟩
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x1024 .f32) (main_arg1 : FVec F S1024x1024 .f32) (main_arg2 : FVec F S1024 .f32) (main_arg3 : FVec F S1024 .f32) : IVec S8192x2048 1 :=
  let main_v0 : IVec S8192x2048 32 := iotaInDim S8192x2048 32 1
  let main_c : IVec S_ 32 := constantI S_ 32 1024#32
  let main_v1 : IVec S8192x2048 32 := broadcastInDim S8192x2048 ![] bcast_S_S8192x2048 main_c
  let main_v2 : IVec S8192x2048 1 := cmpi .slt main_v0 main_v1
  main_v2
-- ==== Kernel.lean ====
abbrev S8192x1024 : Shape := ⟨2, ![8192, 1024]⟩
abbrev S8x8x256x1024 : Shape := ⟨4, ![8, 8, 256, 1024]⟩
abbrev S8x2x512 : Shape := ⟨3, ![8, 2, 512]⟩
abbrev S8x512x1024 : Shape := ⟨3, ![8, 512, 1024]⟩
abbrev S8x8x512x256 : Shape := ⟨4, ![8, 8, 512, 256]⟩
abbrev S8192x128 : Shape := ⟨2, ![8192, 128]⟩
abbrev S1x8x256x1024 : Shape := ⟨4, ![1, 8, 256, 1024]⟩
abbrev S1x2x512 : Shape := ⟨3, ![1, 2, 512]⟩
abbrev S1x512x1024 : Shape := ⟨3, ![1, 512, 1024]⟩
abbrev S1x8x512x256 : Shape := ⟨4, ![1, 8, 512, 256]⟩
abbrev S512x1024 : Shape := ⟨2, ![512, 1024]⟩
abbrev S512x128 : Shape := ⟨2, ![512, 128]⟩
abbrev S1x1x512x128 : Shape := ⟨4, ![1, 1, 512, 128]⟩
abbrev S1x1x512x256 : Shape := ⟨4, ![1, 1, 512, 256]⟩
abbrev S512x256 : Shape := ⟨2, ![512, 256]⟩
abbrev S1x1x256x1024 : Shape := ⟨4, ![1, 1, 256, 1024]⟩
abbrev S256x1024 : Shape := ⟨2, ![256, 1024]⟩
abbrev S1x1x512 : Shape := ⟨3, ![1, 1, 512]⟩
abbrev S1x512 : Shape := ⟨2, ![1, 512]⟩
abbrev S512x512 : Shape := ⟨2, ![512, 512]⟩
abbrev S512 : Shape := ⟨1, ![512]⟩

abbrev nBuf : Space → Nat
  | .hbm => 7
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8x8x256x1024, .bf16⟩
  | .hbm, ⟨2, _⟩ => ⟨S8x2x512, .f32⟩
  | .hbm, ⟨3, _⟩ => ⟨S8x512x1024, .f32⟩
  | .hbm, ⟨4, _⟩ => ⟨S8x8x512x256, .bf16⟩
  | .hbm, ⟨5, _⟩ => ⟨S8x512x1024, .bf16⟩
  | .hbm, ⟨6, _⟩ => ⟨S8x2x512, .f32⟩
  | .local _ .vmem, ⟨0, _⟩ => ⟨S8192x128, .f32⟩
  | .local _ .vmem, ⟨1, _⟩ => ⟨S8192x128, .f32⟩
  | .local _ .vmem, ⟨2, _⟩ => ⟨S1x8x256x1024, .bf16⟩
  | .local _ .vmem, ⟨3, _⟩ => ⟨S1x8x256x1024, .bf16⟩
  | .local _ .vmem, ⟨4, _⟩ => ⟨S1x2x512, .f32⟩
  | .local _ .vmem, ⟨5, _⟩ => ⟨S1x2x512, .f32⟩
  | .local _ .vmem, ⟨6, _⟩ => ⟨S1x512x1024, .f32⟩
  | .local _ .vmem, ⟨7, _⟩ => ⟨S1x512x1024, .f32⟩
  | .local _ .vmem, ⟨8, _⟩ => ⟨S1x8x512x256, .bf16⟩
  | .local _ .vmem, ⟨9, _⟩ => ⟨S1x8x512x256, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x2x512, .f32⟩
  | .local _ .vmem, ⟨13, _⟩ => ⟨S1x2x512, .f32⟩
  | .local _ .vmem, ⟨14, _⟩ => ⟨S512x1024, .f32⟩
  | .local _ .vmem, ⟨15, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c511_i32 : BitVec 32 := 511#32
  let v141 : BitVec 32 := Scalar.addi c0_i32 c511_i32
  let c1_i32 : BitVec 32 := 1#32
  ⟨c0_i32, v141, c1_i32⟩
def k0_off1 (k0_t1 : Fin k0_t1_loop.trips) : Fin 2 → Nat :=
  let c510_i32 : BitVec 32 := 510#32
  let c0_i32 : BitVec 32 := 0#32
  let c1_i32 : BitVec 32 := 1#32
  let arg10 : BitVec 32 := Scf.iv c0_i32 c1_i32 k0_t1
  let v170 : BitVec 32 := Scalar.subi c510_i32 arg10
  let c1_i32_178 : BitVec 32 := 1#32
  let v171 : BitVec 32 := Scalar.addi v170 c1_i32_178
  let v172 : Index := Scalar.indexCast v171
  let c0_179 : Index := 0#32
  ![v172.toNat, 0]
def k0_off2 (k0_t1 : Fin k0_t1_loop.trips) : Fin 2 → Nat :=
  let c510_i32 : BitVec 32 := 510#32
  let c0_i32 : BitVec 32 := 0#32
  let c1_i32 : BitVec 32 := 1#32
  let arg10 : BitVec 32 := Scf.iv c0_i32 c1_i32 k0_t1
  let v170 : BitVec 32 := Scalar.subi c510_i32 arg10
  let c1_i32_180 : BitVec 32 := 1#32
  let v178 : BitVec 32 := Scalar.addi v170 c1_i32_180
  let v179 : Index := Scalar.indexCast v178
  let c512_181 : Index := 512#32
  ![v179.toNat, 512]
def k0_off3 (k0_t1 : Fin k0_t1_loop.trips) : Fin 2 → Nat :=
  let c510_i32 : BitVec 32 := 510#32
  let c0_i32 : BitVec 32 := 0#32
  let c1_i32 : BitVec 32 := 1#32
  let arg10 : BitVec 32 := Scf.iv c0_i32 c1_i32 k0_t1
  let v170 : BitVec 32 := Scalar.subi c510_i32 arg10
  let v185 : Index := Scalar.indexCast v170
  let c0_182 : Index := 0#32
  ![v185.toNat, 0]
def k0_off4 (k0_t1 : Fin k0_t1_loop.trips) : Fin 2 → Nat :=
  let c510_i32 : BitVec 32 := 510#32
  let c0_i32 : BitVec 32 := 0#32
  let c1_i32 : BitVec 32 := 1#32
  let arg10 : BitVec 32 := Scf.iv c0_i32 c1_i32 k0_t1
  let v170 : BitVec 32 := Scalar.subi c510_i32 arg10
  let v189 : Index := Scalar.indexCast v170
  let c512_183 : Index := 512#32
  ![v189.toNat, 512]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x8x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8192x1024 : Shape := ⟨2, ![8192, 1024]⟩
abbrev S8x8x256x1024 : Shape := ⟨4, ![8, 8, 256, 1024]⟩
abbrev S8x2x512 : Shape := ⟨3, ![8, 2, 512]⟩
abbrev S8x512x1024 : Shape := ⟨3, ![8, 512, 1024]⟩
abbrev S8x512x8x256 : Shape := ⟨4, ![8, 512, 8, 256]⟩
abbrev S8x512x8x2x128 : Shape := ⟨5, ![8, 512, 8, 2, 128]⟩
abbrev S512x8x2x8x128 : Shape := ⟨5, ![512, 8, 2, 8, 128]⟩
abbrev S_ : Shape := ⟨0, ![]⟩
abbrev S8x1024 : Shape := ⟨2, ![8, 1024]⟩
abbrev S512x8x1024 : Shape := ⟨3, ![512, 8, 1024]⟩
abbrev S1x8x1024 : Shape := ⟨3, ![1, 8, 1024]⟩
abbrev S8x512 : Shape := ⟨2, ![8, 512]⟩
abbrev S8x1x512 : Shape := ⟨3, ![8, 1, 512]⟩
abbrev S8x8x512x2x128 : Shape := ⟨5, ![8, 8, 512, 2, 128]⟩
abbrev S8x8x512x256 : Shape := ⟨4, ![8, 8, 512, 256]⟩

abbrev nBuf : Space → Nat
  | .hbm => 99
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x8x256x1024, .bf16⟩
  | .hbm, ⟨2, _⟩ => ⟨S8x2x512, .f32⟩
  | .hbm, ⟨3, _⟩ => ⟨S8x512x1024, .f32⟩
  | .hbm, ⟨4, _⟩ => ⟨S8x8x256x1024, .f32⟩
  | .hbm, ⟨5, _⟩ => ⟨S8x512x8x256, .f32⟩
  | .hbm, ⟨6, _⟩ => ⟨S8x512x8x2x128, .f32⟩
  | .hbm, ⟨7, _⟩ => ⟨S512x8x2x8x128, .f32⟩
  | .hbm, ⟨8, _⟩ => ⟨S8192x1024, .f32⟩
  | .hbm, ⟨9, _⟩ => ⟨S512x8x2x8x128, .f32⟩
  | .hbm, ⟨10, _⟩ => ⟨S8x512x8x2x128, .f32⟩
  | .hbm, ⟨11, _⟩ => ⟨S8x512x8x256, .f32⟩
  | .hbm, ⟨12, _⟩ => ⟨S8x512x1024, .f32⟩
  | .hbm, ⟨13, _⟩ => ⟨S_, .f32⟩
  | .hbm, ⟨14, _⟩ => ⟨S8x1024, .f32⟩
  | .hbm, ⟨15, _⟩ => ⟨S_, .f32⟩
  | .hbm, ⟨16, _⟩ => ⟨S8x2x512, .f32⟩
  | .hbm, ⟨17, _⟩ => ⟨S512x8x1024, .f32⟩
  | .hbm, ⟨18, _⟩ => ⟨S512x8x1024, .f32⟩
  | .hbm, ⟨19, _⟩ => ⟨S_, .f32⟩
  | .hbm, ⟨20, _⟩ => ⟨S512x8x1024, .f32⟩
  | .hbm, ⟨21, _⟩ => ⟨S_, .i32⟩
  | .hbm, ⟨22, _⟩ => ⟨S512x8x1024, .f32⟩
  | .hbm, ⟨23, _⟩ => ⟨S512x8x1024, .f32⟩
  | .hbm, ⟨24, _⟩ => ⟨S8x2x512, .f32⟩
  | .hbm, ⟨25, _⟩ => ⟨S8x1024, .f32⟩
  | .hbm, ⟨26, _⟩ => ⟨S_, .i32⟩
  | .hbm, ⟨27, _⟩ => ⟨S8x1024, .f32⟩
  | .hbm, ⟨28, _⟩ => ⟨S8x2x512, .f32⟩
  | .hbm, ⟨29, _⟩ => ⟨S512x8x1024, .f32⟩
  | .hbm, ⟨30, _⟩ => ⟨S_, .i32⟩
  | .hbm, ⟨31, _⟩ => ⟨S_, .i1⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S1x8x1024, .f32⟩
  | .hbm, ⟨39, _⟩ => ⟨S8x1024, .f32⟩
  | .hbm, ⟨40, _⟩ => ⟨S_, .i32⟩
  | .hbm, ⟨41, _⟩ => ⟨S_, .i32⟩
  | .hbm, ⟨42, _⟩ => ⟨S1x8x1024, .f32⟩
  | .hbm, ⟨43, _⟩ => ⟨S8x1024, .f32⟩
  | .hbm, ⟨44, _⟩ => ⟨S8x512, .f32⟩
  | .hbm, ⟨45, _⟩ => ⟨S8x512, .f32⟩
  | .hbm, ⟨46, _⟩ => ⟨S8x1x512, .f32⟩
  | .hbm, ⟨47, _⟩ => ⟨S8x512, .f32⟩
  | .hbm, ⟨48, _⟩ => ⟨S8x1x512, .f32⟩
  | .hbm, ⟨49, _⟩ => ⟨S8x512, .f32⟩
  | .hbm, ⟨50, _⟩ => ⟨S8x512, .f32⟩
  | .hbm, ⟨51, _⟩ => ⟨S8x512, .f32⟩
  | .hbm, ⟨52, _⟩ => ⟨S8x512, .f32⟩
  | .hbm, ⟨53, _⟩ => ⟨S8x512, .f32⟩
  | .hbm, ⟨54, _⟩ => ⟨S8x512, .f32⟩
  | .hbm, ⟨55, _⟩ => ⟨S8x512, .f32⟩
  | .hbm, ⟨56, _⟩ => ⟨S8x1024, .f32⟩
  | .hbm, ⟨57, _⟩ => ⟨S8x1024, .f32⟩
  | .hbm, ⟨58, _⟩ => ⟨S8x512, .f32⟩
  | .hbm, ⟨59, _⟩ => ⟨S8x512, .f32⟩
  | .hbm, ⟨60, _⟩ => ⟨S8x512, .f32⟩
  | .hbm, ⟨61, _⟩ => ⟨S8x512, .f32⟩
  | .hbm, ⟨62, _⟩ => ⟨S8x512, .f32⟩
  | .hbm, ⟨63, _⟩ => ⟨S8x512, .f32⟩
  | .hbm, ⟨64, _⟩ => ⟨S8x512, .f32⟩
  | .hbm, ⟨65, _⟩ => ⟨S8x512, .f32⟩
  | .hbm, ⟨66, _⟩ => ⟨S8x512, .f32⟩
  | .hbm, ⟨67, _⟩ => ⟨S8x512, .f32⟩
  | .hbm, ⟨68, _⟩ => ⟨S8x512, .f32⟩
  | .hbm, ⟨69, _⟩ => ⟨S8x512, .f32⟩
  | .hbm, ⟨70, _⟩ => ⟨S8x512, .f32⟩
  | .hbm, ⟨71, _⟩ => ⟨S8x512, .f32⟩
  | .hbm, ⟨72, _⟩ => ⟨S8x512, .f32⟩
  | .hbm, ⟨73, _⟩ => ⟨S8x1x512, .f32⟩
  | .hbm, ⟨74, _⟩ => ⟨S_, .f32⟩
  | .hbm, ⟨75, _⟩ => ⟨S8x2x512, .f32⟩
  | .hbm, ⟨76, _⟩ => ⟨S8x1x512, .f32⟩
  | .hbm, ⟨77, _⟩ => ⟨S_, .f32⟩
  | .hbm, ⟨78, _⟩ => ⟨S8x2x512, .f32⟩
  | .hbm, ⟨79, _⟩ => ⟨S8x2x512, .f32⟩
  | .hbm, ⟨80, _⟩ => ⟨S_, .f32⟩
  | .hbm, ⟨81, _⟩ => ⟨S8x1024, .f32⟩
  | .hbm, ⟨82, _⟩ => ⟨S_, .f32⟩
  | .hbm, ⟨83, _⟩ => ⟨S8x1024, .f32⟩
  | .hbm, ⟨84, _⟩ => ⟨S8x1024, .f32⟩
  | .hbm, ⟨85, _⟩ => ⟨S8x1024, .f32⟩
  | .hbm, ⟨86, _⟩ => ⟨S8x2x512, .f32⟩
  | .hbm, ⟨87, _⟩ => ⟨S1x8x1024, .f32⟩
  | .hbm, ⟨88, _⟩ => ⟨S_, .i32⟩
  | .hbm, ⟨89, _⟩ => ⟨S_, .i32⟩
  | .hbm, ⟨90, _⟩ => ⟨S512x8x1024, .f32⟩
  | .hbm, ⟨91, _⟩ => ⟨S_, .i32⟩
  | .hbm, ⟨92, _⟩ => ⟨S_, .i32⟩
  | .hbm, ⟨93, _⟩ => ⟨S512x8x2x8x128, .f32⟩
  | .hbm, ⟨94, _⟩ => ⟨S8x8x512x2x128, .f32⟩
  | .hbm, ⟨95, _⟩ => ⟨S8x8x512x256, .f32⟩
  | .hbm, ⟨96, _⟩ => ⟨S8x8x512x256, .bf16⟩
  | .hbm, ⟨97, _⟩ => ⟨S8x512x1024, .f32⟩
  | .hbm, ⟨98, _⟩ => ⟨S8x512x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_c : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev main_v14_7 : Ref sig .tc := ⟨.hbm, 29, rfl⟩
abbrev main_while0c_c_9 : Ref sig .tc := ⟨.hbm, 30, rfl⟩
abbrev main_while0c_v21 : Ref sig .tc := ⟨.hbm, 31, rfl⟩
abbrev main_while0b_c_9 : Ref sig .tc := ⟨.hbm, 32, rfl⟩
abbrev main_while0b_v21 : Ref sig .tc := ⟨.hbm, 33, rfl⟩
abbrev main_while0b_c_10 : Ref sig .tc := ⟨.hbm, 34, rfl⟩
abbrev main_while0b_v22 : Ref sig .tc := ⟨.hbm, 35, rfl⟩
abbrev main_while0b_call0_c : Ref sig .tc := ⟨.hbm, 36, rfl⟩
abbrev main_while0b_call0_c_0 : Ref sig .tc := ⟨.hbm, 37, rfl⟩
abbrev main_while0b_call0_v0 : Ref sig .tc := ⟨.hbm, 38, rfl⟩
abbrev main_while0b_v23 : Ref sig .tc := ⟨.hbm, 39, rfl⟩
abbrev main_while0b_call1_c : Ref sig .tc := ⟨.hbm, 40, rfl⟩
abbrev main_while0b_call1_c_0 : Ref sig .tc := ⟨.hbm, 41, rfl⟩
abbrev main_while0b_call1_v0 : Ref sig .tc := ⟨.hbm, 42, rfl⟩
abbrev main_while0b_v24 : Ref sig .tc := ⟨.hbm, 43, rfl⟩
abbrev main_while0b_v25 : Ref sig .tc := ⟨.hbm, 44, rfl⟩
abbrev main_while0b_v26 : Ref sig .tc := ⟨.hbm, 45, rfl⟩
abbrev main_while0b_v27 : Ref sig .tc := ⟨.hbm, 46, rfl⟩
abbrev main_while0b_v28 : Ref sig .tc := ⟨.hbm, 47, rfl⟩
abbrev main_while0b_v29 : Ref sig .tc := ⟨.hbm, 48, rfl⟩
abbrev main_while0b_v30 : Ref sig .tc := ⟨.hbm, 49, rfl⟩
abbrev main_while0b_v31 : Ref sig .tc := ⟨.hbm, 50, rfl⟩
abbrev main_while0b_v32 : Ref sig .tc := ⟨.hbm, 51, rfl⟩
abbrev main_while0b_v33 : Ref sig .tc := ⟨.hbm, 52, rfl⟩
abbrev main_while0b_v34 : Ref sig .tc := ⟨.hbm, 53, rfl⟩
abbrev main_while0b_v35 : Ref sig .tc := ⟨.hbm, 54, rfl⟩
abbrev main_while0b_v36 : Ref sig .tc := ⟨.hbm, 55, rfl⟩
abbrev main_while0b_v37 : Ref sig .tc := ⟨.hbm, 56, rfl⟩
abbrev main_while0b_v38 : Ref sig .tc := ⟨.hbm, 57, rfl⟩
abbrev main_while0b_v39 : Ref sig .tc := ⟨.hbm, 58, rfl⟩
abbrev main_while0b_v40 : Ref sig .tc := ⟨.hbm, 59, rfl⟩
abbrev main_while0b_v41 : Ref sig .tc := ⟨.hbm, 60, rfl⟩
abbrev main_while0b_v42 : Ref sig .tc := ⟨.hbm, 61, rfl⟩
abbrev main_while0b_v43 : Ref sig .tc := ⟨.hbm, 62, rfl⟩
abbrev main_while0b_v44 : Ref sig .tc := ⟨.hbm, 63, rfl⟩
abbrev main_while0b_v45 : Ref sig .tc := ⟨.hbm, 64, rfl⟩
abbrev main_while0b_v46 : Ref sig .tc := ⟨.hbm, 65, rfl⟩
abbrev main_while0b_v47 : Ref sig .tc := ⟨.hbm, 66, rfl⟩
abbrev main_while0b_v48 : Ref sig .tc := ⟨.hbm, 67, rfl⟩
abbrev main_while0b_v49 : Ref sig .tc := ⟨.hbm, 68, rfl⟩
abbrev main_while0b_v50 : Ref sig .tc := ⟨.hbm, 69, rfl⟩
abbrev main_while0b_v51 : Ref sig .tc := ⟨.hbm, 70, rfl⟩
abbrev main_while0b_v52 : Ref sig .tc := ⟨.hbm, 71, rfl⟩
abbrev main_while0b_v53 : Ref sig .tc := ⟨.hbm, 72, rfl⟩
abbrev main_while0b_v54 : Ref sig .tc := ⟨.hbm, 73, rfl⟩
abbrev main_while0b_cst_11 : Ref sig .tc := ⟨.hbm, 74, rfl⟩
abbrev main_while0b_v55 : Ref sig .tc := ⟨.hbm, 75, rfl⟩
abbrev main_while0b_v56 : Ref sig .tc := ⟨.hbm, 76, rfl⟩
abbrev main_while0b_cst_12 : Ref sig .tc := ⟨.hbm, 77, rfl⟩
abbrev main_while0b_v57 : Ref sig .tc := ⟨.hbm, 78, rfl⟩
abbrev main_while0b_v58 : Ref sig .tc := ⟨.hbm, 79, rfl⟩
abbrev main_while0b_cst_13 : Ref sig .tc := ⟨.hbm, 80, rfl⟩
abbrev main_while0b_v59 : Ref sig .tc := ⟨.hbm, 81, rfl⟩
abbrev main_while0b_cst_14 : Ref sig .tc := ⟨.hbm, 82, rfl⟩
abbrev main_while0b_v60 : Ref sig .tc := ⟨.hbm, 83, rfl⟩
abbrev main_while0b_v61 : Ref sig .tc := ⟨.hbm, 84, rfl⟩
abbrev main_while0b_v62 : Ref sig .tc := ⟨.hbm, 85, rfl⟩
abbrev main_while0b_v63 : Ref sig .tc := ⟨.hbm, 86, rfl⟩
abbrev main_while0b_call2_v0 : Ref sig .tc := ⟨.hbm, 87, rfl⟩
abbrev main_while0b_call2_c : Ref sig .tc := ⟨.hbm, 88, rfl⟩
abbrev main_while0b_call2_c_0 : Ref sig .tc := ⟨.hbm, 89, rfl⟩
abbrev main_while0b_v64 : Ref sig .tc := ⟨.hbm, 90, rfl⟩
abbrev main_while0b_c_15 : Ref sig .tc := ⟨.hbm, 91, rfl⟩
abbrev main_while0b_v65 : Ref sig .tc := ⟨.hbm, 92, rfl⟩
abbrev main_v15 : Ref sig .tc := ⟨.hbm, 93, rfl⟩
abbrev main_v16 : Ref sig .tc := ⟨.hbm, 94, rfl⟩
abbrev main_v17 : Ref sig .tc := ⟨.hbm, 95, rfl⟩
abbrev main_v18 : Ref sig .tc := ⟨.hbm, 96, rfl⟩
abbrev main_v19 : Ref sig .tc := ⟨.hbm, 97, rfl⟩
abbrev main_v20 : Ref sig .tc := ⟨.hbm, 98, rfl⟩

abbrev nD : Nat := 1
abbrev τ : Topo := Topo.v7x

variable {F : FTy → Type} [FloatOps F]

abbrev main_while0_count : Scf.Loop 32 := ⟨0#32, 512#32, 1#32⟩
-- ==== Kernel2.lean ====
abbrev S8192x2048 : Shape := ⟨2, ![8192, 2048]⟩
abbrev S2048x8192 : Shape := ⟨2, ![2048, 8192]⟩
abbrev S8192x8192 : Shape := ⟨2, ![8192, 8192]⟩
abbrev S2048x4x2048 : Shape := ⟨3, ![2048, 4, 2048]⟩
abbrev S4x2048x2048 : Shape := ⟨3, ![4, 2048, 2048]⟩
abbrev S1024x2048 : Shape := ⟨2, ![1024, 2048]⟩
abbrev S1024x1024 : Shape := ⟨2, ![1024, 1024]⟩
abbrev S1x2048x1024 : Shape := ⟨3, ![1, 2048, 1024]⟩
abbrev S2048x1024 : Shape := ⟨2, ![2048, 1024]⟩

abbrev nBuf : Space → Nat
  | .hbm => 13
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S8192x8192, .bf16⟩
  | .hbm, ⟨6, _⟩ => ⟨S2048x8192, .bf16⟩
  | .hbm, ⟨7, _⟩ => ⟨S2048x4x2048, .bf16⟩
  | .hbm, ⟨8, _⟩ => ⟨S4x2048x2048, .bf16⟩
  | .hbm, ⟨9, _⟩ => ⟨S8192x2048, .bf16⟩
  | .hbm, ⟨10, _⟩ => ⟨S8192x2048, .bf16⟩
  | .hbm, ⟨11, _⟩ => ⟨S8192x8192, .bf16⟩
  | .hbm, ⟨12, _⟩ => ⟨S8192x2048, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1024x2048, .bf16⟩
  | .local _ .vmem, ⟨7, _⟩ => ⟨S1024x2048, .bf16⟩
  | .local _ .vmem, ⟨8, _⟩ => ⟨S1024x1024, .bf16⟩
  | .local _ .vmem, ⟨9, _⟩ => ⟨S1024x1024, .bf16⟩
  | .local _ .vmem, ⟨10, _⟩ => ⟨S1024x2048, .f32⟩
  | .local _ .vmem, ⟨11, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩

abbrev nBuf : Space → Nat
  | .hbm => 25
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S_, .f32⟩
  | .hbm, ⟨9, _⟩ => ⟨S8192x8192, .f32⟩
  | .hbm, ⟨10, _⟩ => ⟨S8192x8192, .i1⟩
  | .hbm, ⟨11, _⟩ => ⟨S_, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x2048, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x2048, .f32⟩
  | .hbm, ⟨24, _⟩ => ⟨S8192x8192, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩

abbrev nD : Nat := 1
abbrev τ : Topo := Topo.v7x

variable {F : FTy → Type} [FloatOps F]
-- ==== Kernel3.lean ====
abbrev S8192x2048 : Shape := ⟨2, ![8192, 2048]⟩
abbrev S2048x8192 : Shape := ⟨2, ![2048, 8192]⟩
abbrev S8192x8192 : Shape := ⟨2, ![8192, 8192]⟩
abbrev S4x2x1024x2048 : Shape := ⟨4, ![4, 2, 1024, 2048]⟩
abbrev S2048x1024 : Shape := ⟨2, ![2048, 1024]⟩
abbrev S2048x2048 : Shape := ⟨2, ![2048, 2048]⟩
abbrev S1x1x1024x2048 : Shape := ⟨4, ![1, 1, 1024, 2048]⟩
abbrev S1024x2048 : Shape := ⟨2, ![1024, 2048]⟩

abbrev nBuf : Space → Nat
  | .hbm => 8
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S8192x8192, .bf16⟩
  | .hbm, ⟨6, _⟩ => ⟨S8192x2048, .bf16⟩
  | .hbm, ⟨7, _⟩ => ⟨S4x2x1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x2048, .bf16⟩
  | .local _ .vmem, ⟨3, _⟩ => ⟨S2048x2048, .bf16⟩
  | .local _ .vmem, ⟨4, _⟩ => ⟨S1x1x1024x2048, .bf16⟩
  | .local _ .vmem, ⟨5, _⟩ => ⟨S1x1x1024x2048, .bf16⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 4], ![false, false, false]⟩

def k0_cond2 (i : grid0.Coords) : BitVec 1 :=
  let arg2 : BitVec 32 := BitVec.ofNat 32 (i 2).val
  let c3_i32 : BitVec 32 := 3#32
  let v18 : BitVec 1 := Scalar.cmpi .eq arg2 c3_i32
  let v19 : BitVec 32 := Scalar.extui v18
  let c0_i32_9 : BitVec 32 := 0#32
  let v20 : BitVec 1 := Scalar.cmpi .ne v19 c0_i32_9
  v20

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.divsi arg0 c1_i32_4
  let c0_i32_5 : BitVec 32 := 0#32
  let v18 : BitVec 1 := Scalar.cmpi .sgt arg0 c0_i32_5
  let v19 : BitVec 32 := Scalar.extui v18
  let c0_i32_6 : BitVec 32 := 0#32
  let v20 : BitVec 1 := Scalar.cmpi .slt arg0 c0_i32_6
  let v21 : BitVec 32 := Scalar.extui v20
  let v22 : BitVec 32 := Scalar.subi v19 v21
  let c0_i32_7 : BitVec 32 := 0#32
  let v23 : BitVec 1 := Scalar.cmpi .sgt c1_i32_4 c0_i32_7
  let v24 : BitVec 32 := Scalar.extui v23
  let c0_i32_8 : BitVec 32 := 0#32
  let v25 : BitVec 1 := Scalar.cmpi .slt c1_i32_4 c0_i32_8
  let v26 : BitVec 32 := Scalar.extui v25
  let v27 : BitVec 32 := Scalar.subi v24 v26
  let v28 : BitVec 1 := Scalar.cmpi .ne v22 v27
  let v29 : BitVec 32 := Scalar.remsi arg0 c1_i32_4
  let c0_i32_9 : BitVec 32 := 0#32
  let v30 : BitVec 1 := Scalar.cmpi .ne v29 c0_i32_9
  let v31 : BitVec 1 := Scalar.andi v28 v30
  let c1_i32_10 : BitVec 32 := 1#32
  let v32 : BitVec 32 := Scalar.subi v17 c1_i32_10
  let v33 : BitVec 32 := Scalar.select v31 v32 v17
  let c2_i32_11 : BitVec 32 := 2#32
  let c0_i32_12 : BitVec 32 := 0#32
  let v34 : BitVec 1 := Scalar.cmpi .eq c2_i32_11 c0_i32_12
  let c1_i32_13 : BitVec 32 := 1#32
  let v35 : BitVec 32 := Scalar.select v34 c1_i32_13 c2_i32_11
  let v36 : BitVec 32 := Scalar.remsi v33 v35
  let c0_i32_14 : BitVec 32 := 0#32
  let v37 : BitVec 1 := Scalar.cmpi .ne v36 c0_i32_14
  let c0_i32_15 : BitVec 32 := 0#32
  let v38 : BitVec 1 := Scalar.cmpi .slt v36 c0_i32_15
  let c0_i32_16 : BitVec 32 := 0#32
  let v39 : BitVec 1 := Scalar.cmpi .slt v35 c0_i32_16
  let v40 : BitVec 1 := Scalar.xori v38 v39
  let v41 : BitVec 1 := Scalar.andi v40 v37
  let v42 : BitVec 32 := Scalar.addi v36 v35
  let v43 : BitVec 32 := Scalar.select v41 v42 v36
  let c1_i32_17 : BitVec 32 := 1#32
  let c0_i32_18 : BitVec 32 := 0#32
  let v44 : BitVec 1 := Scalar.cmpi .eq c1_i32_17 c0_i32_18
  let c1_i32_19 : BitVec 32 := 1#32
  let v45 : BitVec 32 := Scalar.select v44 c1_i32_19 c1_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  ![v16.toNat, v43.toNat, v53.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x2048 : Shape := ⟨2, ![8192, 2048]⟩
abbrev S2048x8192 : Shape := ⟨2, ![2048, 8192]⟩
abbrev S8192x8192 : Shape := ⟨2, ![8192, 8192]⟩
abbrev S_ : Shape := ⟨0, ![]⟩
abbrev S4x2x1024x2048 : Shape := ⟨4, ![4, 2, 1024, 2048]⟩

abbrev nBuf : Space → Nat
  | .hbm => 14
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x2048, .f32⟩
  | .hbm, ⟨3, _⟩ => ⟨S8192x2048, .f32⟩
  | .hbm, ⟨4, _⟩ => ⟨S8192x8192, .f32⟩
  | .hbm, ⟨5, _⟩ => ⟨S_, .f32⟩
  | .hbm, ⟨6, _⟩ => ⟨S8192x8192, .f32⟩
  | .hbm, ⟨7, _⟩ => ⟨S8192x8192, .f32⟩
  | .hbm, ⟨8, _⟩ => ⟨S8192x8192, .f32⟩
  | .hbm, ⟨9, _⟩ => ⟨S8192x2048, .f32⟩
  | .hbm, ⟨10, _⟩ => ⟨S2048x8192, .f32⟩
  | .hbm, ⟨11, _⟩ => ⟨S8192x2048, .f32⟩
  | .hbm, ⟨12, _⟩ => ⟨S4x2x1024x2048, .f32⟩
  | .hbm, ⟨13, _⟩ => ⟨S4x2x1024x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Kernel4.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 14
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S1x2048, .f32⟩
  | .hbm, ⟨9, _⟩ => ⟨S2048x2048, .bf16⟩
  | .hbm, ⟨10, _⟩ => ⟨S8192x2048, .f32⟩
  | .hbm, ⟨11, _⟩ => ⟨S8192x2048, .bf16⟩
  | .hbm, ⟨12, _⟩ => ⟨S1x2048, .f32⟩
  | .hbm, ⟨13, _⟩ => ⟨S8192x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S2048x2048, .bf16⟩
  | .local _ .vmem, ⟨8, _⟩ => ⟨S512x2048, .f32⟩
  | .local _ .vmem, ⟨9, _⟩ => ⟨S512x2048, .f32⟩
  | .local _ .vmem, ⟨10, _⟩ => ⟨S512x2048, .bf16⟩
  | .local _ .vmem, ⟨11, _⟩ => ⟨S512x2048, .bf16⟩
  | .local _ .vmem, ⟨12, _⟩ => ⟨S1x2048, .f32⟩
  | .local _ .vmem, ⟨13, _⟩ => ⟨S512x2048, .f32⟩
  | .local _ .vmem, ⟨14, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference4Ideal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 57
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x2048, .f32⟩
  | .hbm, ⟨24, _⟩ => ⟨S8192x2048, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S2048, .f32⟩
  | .hbm, ⟨31, _⟩ => ⟨S1x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S8192x2048, .f32⟩
  | .hbm, ⟨41, _⟩ => ⟨S8192x2048, .f32⟩
  | .hbm, ⟨42, _⟩ => ⟨S8192x2048, .f32⟩
  | .hbm, ⟨43, _⟩ => ⟨S8192x1, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S_, .f32⟩
  | .hbm, ⟨48, _⟩ => ⟨S8192, .f32⟩
  | .hbm, ⟨49, _⟩ => ⟨S8192x2048, .f32⟩
  | .hbm, ⟨50, _⟩ => ⟨S8192x2048, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S8192x2048, .f32⟩
  | .hbm, ⟨55, _⟩ => ⟨S8192x2048, .bf16⟩
  | .hbm, ⟨56, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩

abbrev nD : Nat := 1
abbrev τ : Topo := Topo.v7x

variable {F : FTy → Type} [FloatOps F]
-- ==== Kernel5.lean ====
abbrev S8192x2048 : Shape := ⟨2, ![8192, 2048]⟩
abbrev S2048x8192 : Shape := ⟨2, ![2048, 8192]⟩
abbrev S2048 : Shape := ⟨1, ![2048]⟩
abbrev S8192x8192 : Shape := ⟨2, ![8192, 8192]⟩
abbrev S1x2048 : Shape := ⟨2, ![1, 2048]⟩
abbrev S1x1 : Shape := ⟨2, ![1, 1]⟩
abbrev S512x2048 : Shape := ⟨2, ![512, 2048]⟩
abbrev S512x1024 : Shape := ⟨2, ![512, 1024]⟩
abbrev S1024x2048 : Shape := ⟨2, ![1024, 2048]⟩
abbrev S512 : Shape := ⟨1, ![512]⟩
abbrev S512x1 : Shape := ⟨2, ![512, 1]⟩
abbrev S1 : Shape := ⟨1, ![1]⟩

abbrev nBuf : Space → Nat
  | .hbm => 14
  | .vmem => 16
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x8192, .f32⟩
  | .hbm, ⟨3, _⟩ => ⟨S8192x2048, .f32⟩
  | .hbm, ⟨4, _⟩ => ⟨S8192x2048, .f32⟩
  | .hbm, ⟨5, _⟩ => ⟨S2048, .f32⟩
  | .hbm, ⟨6, _⟩ => ⟨S8192x8192, .f32⟩
  | .hbm, ⟨7, _⟩ => ⟨S8192x8192, .bf16⟩
  | .hbm, ⟨8, _⟩ => ⟨S8192x2048, .bf16⟩
  | .hbm, ⟨9, _⟩ => ⟨S1x2048, .f32⟩
  | .hbm, ⟨10, _⟩ => ⟨S1x1, .f32⟩
  | .hbm, ⟨11, _⟩ => ⟨S8192x2048, .f32⟩
  | .hbm, ⟨12, _⟩ => ⟨S8192x2048, .bf16⟩
  | .hbm, ⟨13, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S1x1, .f32⟩
  | .local _ .vmem, ⟨10, _⟩ => ⟨S512x2048, .f32⟩
  | .local _ .vmem, ⟨11, _⟩ => ⟨S512x2048, .f32⟩
  | .local _ .vmem, ⟨12, _⟩ => ⟨S512x2048, .bf16⟩
  | .local _ .vmem, ⟨13, _⟩ => ⟨S512x2048, .bf16⟩
  | .local _ .vmem, ⟨14, _⟩ => ⟨S1x2048, .f32⟩
  | .local _ .vmem, ⟨15, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev main_v4_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c7_i32 : BitVec 32 := 7#32
  let v23 : BitVec 1 := Scalar.cmpi .eq arg1 c7_i32
  let v24 : BitVec 32 := Scalar.extui v23
  let c0_i32_12 : BitVec 32 := 0#32
  let v25 : BitVec 1 := Scalar.cmpi .ne v24 c0_i32_12
  v25

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== Reference5Ideal.lean ====
abbrev S8192x2048 : Shape := ⟨2, ![8192, 2048]⟩
abbrev S2048x8192 : Shape := ⟨2, ![2048, 8192]⟩
abbrev S2048 : Shape := ⟨1, ![2048]⟩
abbrev S8192x8192 : Shape := ⟨2, ![8192, 8192]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S1x1 : Shape := ⟨2, ![1, 1]⟩

abbrev nBuf : Space → Nat
  | .hbm => 84
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x8192, .f32⟩
  | .hbm, ⟨3, _⟩ => ⟨S8192x2048, .f32⟩
  | .hbm, ⟨4, _⟩ => ⟨S8192x2048, .f32⟩
  | .hbm, ⟨5, _⟩ => ⟨S2048, .f32⟩
  | .hbm, ⟨6, _⟩ => ⟨S8192x8192, .f32⟩
  | .hbm, ⟨7, _⟩ => ⟨S_, .f32⟩
  | .hbm, ⟨8, _⟩ => ⟨S8192x8192, .f32⟩
  | .hbm, ⟨9, _⟩ => ⟨S8192x8192, .f32⟩
  | .hbm, ⟨10, _⟩ => ⟨S8192x8192, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x2048, .f32⟩
  | .hbm, ⟨29, _⟩ => ⟨S8192x2048, .f32⟩
  | .hbm, ⟨30, _⟩ => ⟨S1x2048, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S_, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192, .f32⟩
  | .hbm, ⟨40, _⟩ => ⟨S_, .f32⟩
  | .hbm, ⟨41, _⟩ => ⟨S8192, .f32⟩
  | .hbm, ⟨42, _⟩ => ⟨S8192, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S8192, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192x2048, .f32⟩
  | .hbm, ⟨55, _⟩ => ⟨S8192x2048, .f32⟩
  | .hbm, ⟨56, _⟩ => ⟨S8192x2048, .f32⟩
  | .hbm, ⟨57, _⟩ => ⟨S_, .f32⟩
  | .hbm, ⟨58, _⟩ => ⟨S2048, .f32⟩
  | .hbm, ⟨59, _⟩ => ⟨S1x2048, .f32⟩
  | .hbm, ⟨60, _⟩ => ⟨S8192x2048, .f32⟩
  | .hbm, ⟨61, _⟩ => ⟨S8192x2048, .f32⟩
  | .hbm, ⟨62, _⟩ => ⟨S_, .f32⟩
  | .hbm, ⟨63, _⟩ => ⟨S2048, .f32⟩
  | .hbm, ⟨64, _⟩ => ⟨S8192x2048, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x2048, .f32⟩
  | .hbm, ⟨69, _⟩ => ⟨S8192x2048, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x2048, .f32⟩
  | .hbm, ⟨77, _⟩ => ⟨S8192x2048, .f32⟩
  | .hbm, ⟨78, _⟩ => ⟨S8192x2048, .f32⟩
  | .hbm, ⟨79, _⟩ => ⟨S8192x2048, .f32⟩
  | .hbm, ⟨80, _⟩ => ⟨S8192x2048, .f32⟩
  | .hbm, ⟨81, _⟩ => ⟨S1x1, .f32⟩
  | .hbm, ⟨82, _⟩ => ⟨S8192x2048, .bf16⟩
  | .hbm, ⟨83, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_cst : Ref sig .tc := ⟨.hbm, 7, rfl⟩
abbrev main_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_3 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_cst_6 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_cst_8 : Ref sig .tc := ⟨.hbm, 47, rfl⟩
abbrev main_cst_9 : Ref sig .tc := ⟨.hbm, 48, rfl⟩
abbrev main_v30 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_11 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_cst_12 : Ref sig .tc := ⟨.hbm, 62, rfl⟩
abbrev main_v41 : Ref sig .tc := ⟨.hbm, 63, rfl⟩
abbrev main_v42 : Ref sig .tc := ⟨.hbm, 64, rfl⟩
abbrev main_cst_13 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_14 : Ref sig .tc := ⟨.hbm, 71, rfl⟩
abbrev main_v48 : Ref sig .tc := ⟨.hbm, 72, rfl⟩
abbrev main_v49 : Ref sig .tc := ⟨.hbm, 73, rfl⟩
abbrev main_cst_15 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩

abbrev nD : Nat := 1
abbrev τ : Topo := Topo.v7x

variable {F : FTy → Type} [FloatOps F]
-- ==== Kernel6.lean ====
abbrev S8192x2048 : Shape := ⟨2, ![8192, 2048]⟩
abbrev S2048x2048 : Shape := ⟨2, ![2048, 2048]⟩
abbrev S2048 : Shape := ⟨1, ![2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩

abbrev nBuf : Space → Nat
  | .hbm => 9
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S8192x2048, .bf16⟩
  | .hbm, ⟨5, _⟩ => ⟨S2048x2048, .bf16⟩
  | .hbm, ⟨6, _⟩ => ⟨S1x2048, .f32⟩
  | .hbm, ⟨7, _⟩ => ⟨S8192x2048, .f32⟩
  | .hbm, ⟨8, _⟩ => ⟨S8192x2048, .bf16⟩
  | .local _ .vmem, ⟨0, _⟩ => ⟨S512x2048, .f32⟩
  | .local _ .vmem, ⟨1, _⟩ => ⟨S512x2048, .f32⟩
  | .local _ .vmem, ⟨2, _⟩ => ⟨S512x2048, .bf16⟩
  | .local _ .vmem, ⟨3, _⟩ => ⟨S512x2048, .bf16⟩
  | .local _ .vmem, ⟨4, _⟩ => ⟨S2048x2048, .bf16⟩
  | .local _ .vmem, ⟨5, _⟩ => ⟨S1x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference6Ideal.lean ====
abbrev S8192x2048 : Shape := ⟨2, ![8192, 2048]⟩
abbrev S2048x2048 : Shape := ⟨2, ![2048, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 23
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S2048x2048, .f32⟩
  | .hbm, ⟨3, _⟩ => ⟨S2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel7.lean ====
abbrev S2048x768 : Shape := ⟨2, ![2048, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .hbm, ⟨7, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference7Ideal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel8.lean ====
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S256x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S256x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S256x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference8Ideal.lean ====
abbrev S256x1024 : Shape := ⟨2, ![256, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S256x1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S_, .f32⟩
  | .hbm, ⟨8, _⟩ => ⟨S256x1024, .f32⟩
  | .hbm, ⟨9, _⟩ => ⟨S256x1024, .f32⟩
  | .hbm, ⟨10, _⟩ => ⟨S256x1024, .f32⟩
  | .hbm, ⟨11, _⟩ => ⟨S_, .f32⟩
  | .hbm, ⟨12, _⟩ => ⟨S256x1024, .f32⟩
  | .hbm, ⟨13, _⟩ => ⟨S256x1024, .f32⟩
  | .hbm, ⟨14, _⟩ => ⟨S256x1024, .f32⟩
  | .hbm, ⟨15, _⟩ => ⟨S_, .f32⟩
  | .hbm, ⟨16, _⟩ => ⟨S256x1024, .f32⟩
  | .hbm, ⟨17, _⟩ => ⟨S256x1024, .f32⟩
  | .hbm, ⟨18, _⟩ => ⟨S256x1024, .f32⟩
  | .hbm, ⟨19, _⟩ => ⟨S_, .f32⟩
  | .hbm, ⟨20, _⟩ => ⟨S256x1024, .f32⟩
  | .hbm, ⟨21, _⟩ => ⟨S256x1024, .f32⟩
  | .hbm, ⟨22, _⟩ => ⟨S_, .f32⟩
  | .hbm, ⟨23, _⟩ => ⟨S256x1024, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x1024, .f32⟩
  | .hbm, ⟨30, _⟩ => ⟨S_, .f32⟩
  | .hbm, ⟨31, _⟩ => ⟨S256x1024, .f32⟩
  | .hbm, ⟨32, _⟩ => ⟨S256x1024, .f32⟩
  | .hbm, ⟨33, _⟩ => ⟨S256x1024, .f32⟩
  | .hbm, ⟨34, _⟩ => ⟨S_, .f32⟩
  | .hbm, ⟨35, _⟩ => ⟨S256x1024, .f32⟩
  | .hbm, ⟨36, _⟩ => ⟨S256x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel9.lean ====
abbrev S512x2048 : Shape := ⟨2, ![512, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .hbm, ⟨7, _⟩ => ⟨S512x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel10.lean ====
abbrev S2048x2048 : Shape := ⟨2, ![2048, 2048]⟩
abbrev S128x2048 : Shape := ⟨2, ![128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S2048x2048, .f32⟩
  | .hbm, ⟨5, _⟩ => ⟨S2048x2048, .f32⟩
  | .hbm, ⟨6, _⟩ => ⟨S2048x2048, .f32⟩
  | .hbm, ⟨7, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference10Ideal.lean ====
abbrev S2048x2048 : Shape := ⟨2, ![2048, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S2048x2048, .f32⟩
  | .hbm, ⟨4, _⟩ => ⟨S_, .f32⟩
  | .hbm, ⟨5, _⟩ => ⟨S2048x2048, .f32⟩
  | .hbm, ⟨6, _⟩ => ⟨S2048x2048, .f32⟩
  | .hbm, ⟨7, _⟩ => ⟨S_, .f32⟩
  | .hbm, ⟨8, _⟩ => ⟨S2048x2048, .f32⟩
  | .hbm, ⟨9, _⟩ => ⟨S2048x2048, .f32⟩
  | .hbm, ⟨10, _⟩ => ⟨S2048x2048, .f32⟩
  | .hbm, ⟨11, _⟩ => ⟨S_, .f32⟩
  | .hbm, ⟨12, _⟩ => ⟨S2048x2048, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S_, .f32⟩
  | .hbm, ⟨20, _⟩ => ⟨S2048x2048, .f32⟩
  | .hbm, ⟨21, _⟩ => ⟨S2048x2048, .f32⟩
  | .hbm, ⟨22, _⟩ => ⟨S_, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S_, .f32⟩
  | .hbm, ⟨27, _⟩ => ⟨S2048x2048, .f32⟩
  | .hbm, ⟨28, _⟩ => ⟨S2048x2048, .f32⟩
  | .hbm, ⟨29, _⟩ => ⟨S2048x2048, .f32⟩
  | .hbm, ⟨30, _⟩ => ⟨S_, .f32⟩
  | .hbm, ⟨31, _⟩ => ⟨S2048x2048, .f32⟩
  | .hbm, ⟨32, _⟩ => ⟨S2048x2048, .f32⟩
  | .hbm, ⟨33, _⟩ => ⟨S2048x2048, .f32⟩
  | .hbm, ⟨34, _⟩ => ⟨S_, .f32⟩
  | .hbm, ⟨35, _⟩ => ⟨S2048x2048, .f32⟩
  | .hbm, ⟨36, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel11.lean ====
abbrev S3264x128 : Shape := ⟨2, ![3264, 128]⟩
abbrev S1632x128 : Shape := ⟨2, ![1632, 128]⟩

abbrev nBuf : Space → Nat
  | .hbm => 8
  | .vmem => 16
  | .smem => 0
  | _ => 0

abbrev bufTy : (tb : Table) → Fin (tcTables nBuf tb) → BufTy
  | .hbm, ⟨0, _⟩ => ⟨S3264x128, .f32⟩
  | .hbm, ⟨1, _⟩ => ⟨S3264x128, .f32⟩
  | .hbm, ⟨2, _⟩ => ⟨S3264x128, .f32⟩
  | .hbm, ⟨3, _⟩ => ⟨S3264x128, .f32⟩
  | .hbm, ⟨4, _⟩ => ⟨S3264x128, .f32⟩
  | .hbm, ⟨5, _⟩ => ⟨S3264x128, .f32⟩
  | .hbm, ⟨6, _⟩ => ⟨S3264x128, .f32⟩
  | .hbm, ⟨7, _⟩ => ⟨S3264x128, .f32⟩
  | .local _ .vmem, ⟨0, _⟩ => ⟨S1632x128, .f32⟩
  | .local _ .vmem, ⟨1, _⟩ => ⟨S1632x128, .f32⟩
  | .local _ .vmem, ⟨2, _⟩ => ⟨S1632x128, .f32⟩
  | .local _ .vmem, ⟨3, _⟩ => ⟨S1632x128, .f32⟩
  | .local _ .vmem, ⟨4, _⟩ => ⟨S1632x128, .f32⟩
  | .local _ .vmem, ⟨5, _⟩ => ⟨S1632x128, .f32⟩
  | .local _ .vmem, ⟨6, _⟩ => ⟨S1632x128, .f32⟩
  | .local _ .vmem, ⟨7, _⟩ => ⟨S1632x128, .f32⟩
  | .local _ .vmem, ⟨8, _⟩ => ⟨S1632x128, .f32⟩
  | .local _ .vmem, ⟨9, _⟩ => ⟨S1632x128, .f32⟩
  | .local _ .vmem, ⟨10, _⟩ => ⟨S1632x128, .f32⟩
  | .local _ .vmem, ⟨11, _⟩ => ⟨S1632x128, .f32⟩
  | .local _ .vmem, ⟨12, _⟩ => ⟨S1632x128, .f32⟩
  | .local _ .vmem, ⟨13, _⟩ => ⟨S1632x128, .f32⟩
  | .local _ .vmem, ⟨14, _⟩ => ⟨S1632x128, .f32⟩
  | .local _ .vmem, ⟨15, _⟩ => ⟨S1632x128, .f32⟩
  | _, _ => ⟨S3264x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1632x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1632x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1632x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1632x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1632x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1632x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1632x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1632x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference11Ideal.lean ====
abbrev S3264x128 : Shape := ⟨2, ![3264, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S3264x128, .f32⟩
  | .hbm, ⟨1, _⟩ => ⟨S3264x128, .f32⟩
  | .hbm, ⟨2, _⟩ => ⟨S3264x128, .f32⟩
  | .hbm, ⟨3, _⟩ => ⟨S3264x128, .f32⟩
  | .hbm, ⟨4, _⟩ => ⟨S_, .f32⟩
  | .hbm, ⟨5, _⟩ => ⟨S3264x128, .f32⟩
  | .hbm, ⟨6, _⟩ => ⟨S3264x128, .f32⟩
  | .hbm, ⟨7, _⟩ => ⟨S_, .f32⟩
  | .hbm, ⟨8, _⟩ => ⟨S3264x128, .f32⟩
  | .hbm, ⟨9, _⟩ => ⟨S3264x128, .f32⟩
  | .hbm, ⟨10, _⟩ => ⟨S3264x128, .f32⟩
  | .hbm, ⟨11, _⟩ => ⟨S_, .f32⟩
  | .hbm, ⟨12, _⟩ => ⟨S3264x128, .f32⟩
  | .hbm, ⟨13, _⟩ => ⟨S3264x128, .f32⟩
  | .hbm, ⟨14, _⟩ => ⟨S3264x128, .f32⟩
  | .hbm, ⟨15, _⟩ => ⟨S_, .f32⟩
  | .hbm, ⟨16, _⟩ => ⟨S3264x128, .f32⟩
  | .hbm, ⟨17, _⟩ => ⟨S3264x128, .f32⟩
  | .hbm, ⟨18, _⟩ => ⟨S3264x128, .f32⟩
  | .hbm, ⟨19, _⟩ => ⟨S_, .f32⟩
  | .hbm, ⟨20, _⟩ => ⟨S3264x128, .f32⟩
  | .hbm, ⟨21, _⟩ => ⟨S3264x128, .f32⟩
  | .hbm, ⟨22, _⟩ => ⟨S_, .f32⟩
  | .hbm, ⟨23, _⟩ => ⟨S3264x128, .f32⟩
  | .hbm, ⟨24, _⟩ => ⟨S3264x128, .f32⟩
  | .hbm, ⟨25, _⟩ => ⟨S3264x128, .f32⟩
  | .hbm, ⟨26, _⟩ => ⟨S_, .f32⟩
  | .hbm, ⟨27, _⟩ => ⟨S3264x128, .f32⟩
  | .hbm, ⟨28, _⟩ => ⟨S3264x128, .f32⟩
  | .hbm, ⟨29, _⟩ => ⟨S3264x128, .f32⟩
  | .hbm, ⟨30, _⟩ => ⟨S_, .f32⟩
  | .hbm, ⟨31, _⟩ => ⟨S3264x128, .f32⟩
  | .hbm, ⟨32, _⟩ => ⟨S3264x128, .f32⟩
  | .hbm, ⟨33, _⟩ => ⟨S3264x128, .f32⟩
  | .hbm, ⟨34, _⟩ => ⟨S_, .f32⟩
  | .hbm, ⟨35, _⟩ => ⟨S3264x128, .f32⟩
  | .hbm, ⟨36, _⟩ => ⟨S3264x128, .f32⟩
  | _, _ => ⟨S3264x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel12.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S8192x2048 : Shape := ⟨2, ![8192, 2048]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S1x1024, .f32⟩
  | .hbm, ⟨7, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1x1024, .f32⟩
  | .local _ .vmem, ⟨5, _⟩ => ⟨S512x1024, .bf16⟩
  | .local _ .vmem, ⟨6, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Kernel12Ideal.lean ====
variable {F : FTy → Type} [FloatOps F] [Named F]
def κ : String → Option EReal := fun
  | "gelu_cubic" => some ((80338380498831 / 2251799813685248 : ℝ) : EReal)
  | _ => none
-- ==== Reference12Ideal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩
abbrev S8192x2048 : Shape := ⟨2, ![8192, 2048]⟩

abbrev nBuf : Space → Nat
  | .hbm => 54
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192x1024, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S_, .f32⟩
  | .hbm, ⟨42, _⟩ => ⟨S8192x1, .f32⟩
  | .hbm, ⟨43, _⟩ => ⟨S8192x1, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S8192x1024, .f32⟩
  | .hbm, ⟨52, _⟩ => ⟨S8192x2048, .f32⟩
  | .hbm, ⟨53, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_cst_6 : Ref sig .tc := ⟨.hbm, 38, rfl⟩
abbrev main_v27 : Ref sig .tc := ⟨.hbm, 39, rfl⟩
abbrev main_v28 : Ref sig .tc := ⟨.hbm, 40, rfl⟩
abbrev main_cst_7 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_8 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Kernel13.lean ====
abbrev S8192x3072 : Shape := ⟨2, ![8192, 3072]⟩
abbrev S8192x2048 : Shape := ⟨2, ![8192, 2048]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S128x128 : Shape := ⟨2, ![128, 128]⟩
abbrev S1x128x128 : Shape := ⟨3, ![1, 128, 128]⟩
abbrev S8x128x1 : Shape := ⟨3, ![8, 128, 1]⟩
abbrev S1x1024 : Shape := ⟨2, ![1, 1024]⟩
abbrev S512x1024 : Shape := ⟨2, ![512, 1024]⟩
abbrev S128x1024 : Shape := ⟨2, ![128, 1024]⟩
abbrev S128 : Shape := ⟨1, ![128]⟩
abbrev S128x1 : Shape := ⟨2, ![128, 1]⟩

abbrev nBuf : Space → Nat
  | .hbm => 32
  | .vmem => 11
  | .smem => 0
  | _ => 0

abbrev bufTy : (tb : Table) → Fin (tcTables nBuf tb) → BufTy
  | .hbm, ⟨0, _⟩ => ⟨S8192x3072, .f32⟩
  | .hbm, ⟨1, _⟩ => ⟨S8192x2048, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024, .f32⟩
  | .hbm, ⟨7, _⟩ => ⟨S_, .i1⟩
  | .hbm, ⟨8, _⟩ => ⟨S128x128, .i1⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .i1⟩
  | .hbm, ⟨16, _⟩ => ⟨S128x128, .i1⟩
  | .hbm, ⟨17, _⟩ => ⟨S128x128, .i1⟩
  | .hbm, ⟨18, _⟩ => ⟨S1x128x128, .i1⟩
  | .hbm, ⟨19, _⟩ => ⟨S_, .f32⟩
  | .hbm, ⟨20, _⟩ => ⟨S_, .f32⟩
  | .hbm, ⟨21, _⟩ => ⟨S8x128x128, .i1⟩
  | .hbm, ⟨22, _⟩ => ⟨S8x128x128, .f32⟩
  | .hbm, ⟨23, _⟩ => ⟨S8x128x128, .f32⟩
  | .hbm, ⟨24, _⟩ => ⟨S8x128x1, .f32⟩
  | .hbm, ⟨25, _⟩ => ⟨S8x128x128, .f32⟩
  | .hbm, ⟨26, _⟩ => ⟨S8192x2048, .bf16⟩
  | .hbm, ⟨27, _⟩ => ⟨S1x1024, .f32⟩
  | .hbm, ⟨28, _⟩ => ⟨S1x1024, .f32⟩
  | .hbm, ⟨29, _⟩ => ⟨S8x128x128, .bf16⟩
  | .hbm, ⟨30, _⟩ => ⟨S1x1024, .f32⟩
  | .hbm, ⟨31, _⟩ => ⟨S8192x2048, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x1024, .f32⟩
  | .local _ .vmem, ⟨6, _⟩ => ⟨S8x128x128, .bf16⟩
  | .local _ .vmem, ⟨7, _⟩ => ⟨S8x128x128, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_c_0 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_call1_v0 : Ref sig .tc := ⟨.hbm, 20, rfl⟩
abbrev main_call1_v1 : Ref sig .tc := ⟨.hbm, 21, rfl⟩
abbrev main_call1_v2 : Ref sig .tc := ⟨.hbm, 22, rfl⟩
abbrev main_v3 : Ref sig .tc := ⟨.hbm, 23, rfl⟩
abbrev main_v4 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel13Ideal.lean ====
variable {F : FTy → Type} [FloatOps F] [Named F]
def κ : String → Option EReal := fun
  | "gelu_cubic" => some ((80338380498831 / 2251799813685248 : ℝ) : EReal)
  | _ => none
-- ==== Reference13Ideal.lean ====
abbrev S8192x3072 : Shape := ⟨2, ![8192, 3072]⟩
abbrev S8192x2048 : Shape := ⟨2, ![8192, 2048]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S8192x1024 : Shape := ⟨2, ![8192, 1024]⟩
abbrev S8192 : Shape := ⟨1, ![8192]⟩
abbrev S8192x1 : Shape := ⟨2, ![8192, 1]⟩
abbrev S1x1024 : Shape := ⟨2, ![1, 1024]⟩
abbrev S64x128x8x128 : Shape := ⟨4, ![64, 128, 8, 128]⟩
abbrev S128x128 : Shape := ⟨2, ![128, 128]⟩
abbrev S1x128x128 : Shape := ⟨3, ![1, 128, 128]⟩
abbrev S8x64x128x128 : Shape := ⟨4, ![8, 64, 128, 128]⟩
abbrev S128x8 : Shape := ⟨2, ![128, 8]⟩
abbrev S128x8x1 : Shape := ⟨3, ![128, 8, 1]⟩
abbrev S1x128x8x1 : Shape := ⟨4, ![1, 128, 8, 1]⟩

abbrev nBuf : Space → Nat
  | .hbm => 101
  | .vmem => 0
  | .smem => 0
  | _ => 0

abbrev bufTy : (tb : Table) → Fin (tcTables nBuf tb) → BufTy
  | .hbm, ⟨0, _⟩ => ⟨S8192x3072, .f32⟩
  | .hbm, ⟨1, _⟩ => ⟨S8192x2048, .f32⟩
  | .hbm, ⟨2, _⟩ => ⟨S1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S1024, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S_, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192, .f32⟩
  | .hbm, ⟨29, _⟩ => ⟨S8192x1, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1, .f32⟩
  | .hbm, ⟨46, _⟩ => ⟨S8192x1, .f32⟩
  | .hbm, ⟨47, _⟩ => ⟨S8192x1, .f32⟩
  | .hbm, ⟨48, _⟩ => ⟨S8192x1024, .f32⟩
  | .hbm, ⟨49, _⟩ => ⟨S8192x1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S1x1024, .f32⟩
  | .hbm, ⟨54, _⟩ => ⟨S8192x1024, .f32⟩
  | .hbm, ⟨55, _⟩ => ⟨S8192x1024, .f32⟩
  | .hbm, ⟨56, _⟩ => ⟨S64x128x8x128, .f32⟩
  | .hbm, ⟨57, _⟩ => ⟨S_, .i1⟩
  | .hbm, ⟨58, _⟩ => ⟨S128x128, .i1⟩
  | .hbm, ⟨59, _⟩ => ⟨S128x128, .i32⟩
  | .hbm, ⟨60, _⟩ => ⟨S_, .i32⟩
  | .hbm, ⟨61, _⟩ => ⟨S128x128, .i32⟩
  | .hbm, ⟨62, _⟩ => ⟨S128x128, .i32⟩
  | .hbm, ⟨63, _⟩ => ⟨S128x128, .i32⟩
  | .hbm, ⟨64, _⟩ => ⟨S128x128, .i1⟩
  | .hbm, ⟨65, _⟩ => ⟨S_, .i1⟩
  | .hbm, ⟨66, _⟩ => ⟨S128x128, .i1⟩
  | .hbm, ⟨67, _⟩ => ⟨S128x128, .i1⟩
  | .hbm, ⟨68, _⟩ => ⟨S1x128x128, .i1⟩
  | .hbm, ⟨69, _⟩ => ⟨S_, .f32⟩
  | .hbm, ⟨70, _⟩ => ⟨S8x128x128, .f32⟩
  | .hbm, ⟨71, _⟩ => ⟨S8x128x128, .i1⟩
  | .hbm, ⟨72, _⟩ => ⟨S8x128x128, .f32⟩
  | .hbm, ⟨73, _⟩ => ⟨S8x64x128x128, .f32⟩
  | .hbm, ⟨74, _⟩ => ⟨S64x128x8x128, .f32⟩
  | .hbm, ⟨75, _⟩ => ⟨S128x8, .f32⟩
  | .hbm, ⟨76, _⟩ => ⟨S128x8x1, .f32⟩
  | .hbm, ⟨77, _⟩ => ⟨S1x128x8x1, .f32⟩
  | .hbm, ⟨78, _⟩ => ⟨S64x128x8x128, .f32⟩
  | .hbm, ⟨79, _⟩ => ⟨S64x128x8x128, .f32⟩
  | .hbm, ⟨80, _⟩ => ⟨S8192x1024, .f32⟩
  | .hbm, ⟨81, _⟩ => ⟨S8192x1024, .f32⟩
  | .hbm, ⟨82, _⟩ => ⟨S8192x1024, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S_, .f32⟩
  | .hbm, ⟨87, _⟩ => ⟨S8192x1, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S8192x1, .f32⟩
  | .hbm, ⟨93, _⟩ => ⟨S8192x1024, .f32⟩
  | .hbm, ⟨94, _⟩ => ⟨S8192x1024, .f32⟩
  | .hbm, ⟨95, _⟩ => ⟨S1x1024, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x2048, .f32⟩
  | .hbm, ⟨100, _⟩ => ⟨S8192x2048, .bf16⟩
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_7 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c : Ref sig .tc := ⟨.hbm, 57, rfl⟩
abbrev main_v41 : Ref sig .tc := ⟨.hbm, 58, rfl⟩
abbrev main_call0_v0 : Ref sig .tc := ⟨.hbm, 59, rfl⟩
abbrev main_call0_c : Ref sig .tc := ⟨.hbm, 60, rfl⟩
abbrev main_call0_v1 : Ref sig .tc := ⟨.hbm, 61, rfl⟩
abbrev main_call0_v2 : Ref sig .tc := ⟨.hbm, 62, rfl⟩
abbrev main_call0_v3 : Ref sig .tc := ⟨.hbm, 63, rfl⟩
abbrev main_call0_v4 : Ref sig .tc := ⟨.hbm, 64, rfl⟩
abbrev main_call0_c_0 : Ref sig .tc := ⟨.hbm, 65, rfl⟩
abbrev main_call0_v5 : Ref sig .tc := ⟨.hbm, 66, rfl⟩
abbrev main_v42 : Ref sig .tc := ⟨.hbm, 67, rfl⟩
abbrev main_v43 : Ref sig .tc := ⟨.hbm, 68, rfl⟩
abbrev main_cst_8 : Ref sig .tc := ⟨.hbm, 69, rfl⟩
abbrev main_v44 : Ref sig .tc := ⟨.hbm, 70, rfl⟩
abbrev main_call1_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_9 : Ref sig .tc := ⟨.hbm, 83, rfl⟩
abbrev main_v56 : Ref sig .tc := ⟨.hbm, 84, rfl⟩
abbrev main_v57 : Ref sig .tc := ⟨.hbm, 85, rfl⟩
abbrev main_cst_10 : Ref sig .tc := ⟨.hbm, 86, rfl⟩
abbrev main_v58 : Ref sig .tc := ⟨.hbm, 87, rfl⟩
abbrev main_v59 : Ref sig .tc := ⟨.hbm, 88, rfl⟩
abbrev main_cst_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩

abbrev nD : Nat := 1
abbrev τ : Topo := Topo.v7x

variable {F : FTy → Type} [FloatOps F]
-- ==== Kernel14.lean ====
abbrev S8192x2048 : Shape := ⟨2, ![8192, 2048]⟩
abbrev S2048x3072 : Shape := ⟨2, ![2048, 3072]⟩
abbrev S2048 : Shape := ⟨1, ![2048]⟩
abbrev S8192x3072 : Shape := ⟨2, ![8192, 3072]⟩
abbrev S2048x4x768 : Shape := ⟨3, ![2048, 4, 768]⟩
abbrev S4x2048x768 : Shape := ⟨3, ![4, 2048, 768]⟩
abbrev S1x2048 : Shape := ⟨2, ![1, 2048]⟩
abbrev S512x768 : Shape := ⟨2, ![512, 768]⟩
abbrev S1x2048x768 : Shape := ⟨3, ![1, 2048, 768]⟩
abbrev S512x2048 : Shape := ⟨2, ![512, 2048]⟩
abbrev S2048x768 : Shape := ⟨2, ![2048, 768]⟩
abbrev S512 : Shape := ⟨1, ![512]⟩
abbrev S512x1 : Shape := ⟨2, ![512, 1]⟩

abbrev nBuf : Space → Nat
  | .hbm => 13
  | .vmem => 13
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S2048, .f32⟩
  | .hbm, ⟨3, _⟩ => ⟨S8192x3072, .f32⟩
  | .hbm, ⟨4, _⟩ => ⟨S8192x2048, .f32⟩
  | .hbm, ⟨5, _⟩ => ⟨S8192x2048, .f32⟩
  | .hbm, ⟨6, _⟩ => ⟨S2048x4x768, .f32⟩
  | .hbm, ⟨7, _⟩ => ⟨S4x2048x768, .f32⟩
  | .hbm, ⟨8, _⟩ => ⟨S4x2048x768, .bf16⟩
  | .hbm, ⟨9, _⟩ => ⟨S8192x3072, .bf16⟩
  | .hbm, ⟨10, _⟩ => ⟨S1x2048, .f32⟩
  | .hbm, ⟨11, _⟩ => ⟨S8192x2048, .f32⟩
  | .hbm, ⟨12, _⟩ => ⟨S1x2048, .f32⟩
  | .local _ .vmem, ⟨0, _⟩ => ⟨S512x768, .bf16⟩
  | .local _ .vmem, ⟨1, _⟩ => ⟨S512x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_12 : BitVec 32 := 0#32
  let v20 : BitVec 1 := Scalar.cmpi .ne v19 c0_i32_12
  v20

def k0_cond2 (i : grid0.Coords) : BitVec 1 :=
  let arg0 : BitVec 32 := BitVec.ofNat 32 (i 0).val
  let c0_i32_1 : BitVec 32 := 0#32
  let v3 : BitVec 1 := Scalar.cmpi .eq arg0 c0_i32_1
  let arg1 : BitVec 32 := BitVec.ofNat 32 (i 1).val
  let c0_i32_2 : BitVec 32 := 0#32
  let v4 : BitVec 1 := Scalar.cmpi .eq arg1 c0_i32_2
  let v5 : BitVec 1 := Scalar.andi v3 v4
  let v6 : BitVec 32 := Scalar.extui v5
  let c0_i32_3 : BitVec 32 := 0#32
  let v7 : BitVec 1 := Scalar.cmpi .ne v6 c0_i32_3
  v7

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  ![v0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== Reference14Ideal.lean ====
abbrev S8192x2048 : Shape := ⟨2, ![8192, 2048]⟩
abbrev S2048x3072 : Shape := ⟨2, ![2048, 3072]⟩
abbrev S2048 : Shape := ⟨1, ![2048]⟩
abbrev S8192x3072 : Shape := ⟨2, ![8192, 3072]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x2048 : Shape := ⟨2, ![1, 2048]⟩
abbrev S4096x3072 : Shape := ⟨2, ![4096, 3072]⟩

abbrev nBuf : Space → Nat
  | .hbm => 60
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S2048, .f32⟩
  | .hbm, ⟨3, _⟩ => ⟨S8192x3072, .f32⟩
  | .hbm, ⟨4, _⟩ => ⟨S8192x2048, .f32⟩
  | .hbm, ⟨5, _⟩ => ⟨S8192x2048, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x2048, .f32⟩
  | .hbm, ⟨23, _⟩ => ⟨S4096x2048, .f32⟩
  | .hbm, ⟨24, _⟩ => ⟨S1x2048, .f32⟩
  | .hbm, ⟨25, _⟩ => ⟨S4096x2048, .f32⟩
  | .hbm, ⟨26, _⟩ => ⟨S4096x2048, .f32⟩
  | .hbm, ⟨27, _⟩ => ⟨S4096x3072, .f32⟩
  | .hbm, ⟨28, _⟩ => ⟨S4096x2048, .f32⟩
  | .hbm, ⟨29, _⟩ => ⟨S4096x3072, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S1x2048, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S2048, .f32⟩
  | .hbm, ⟨39, _⟩ => ⟨S4096x2048, .f32⟩
  | .hbm, ⟨40, _⟩ => ⟨S_, .f32⟩
  | .hbm, ⟨41, _⟩ => ⟨S4096, .f32⟩
  | .hbm, ⟨42, _⟩ => ⟨S4096x1, .f32⟩
  | .hbm, ⟨43, _⟩ => ⟨S4096x2048, .f32⟩
  | .hbm, ⟨44, _⟩ => ⟨S4096x2048, .f32⟩
  | .hbm, ⟨45, _⟩ => ⟨S4096x2048, .f32⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S_, .f32⟩
  | .hbm, ⟨51, _⟩ => ⟨S4096, .f32⟩
  | .hbm, ⟨52, _⟩ => ⟨S4096x2048, .f32⟩
  | .hbm, ⟨53, _⟩ => ⟨S4096x2048, .f32⟩
  | .hbm, ⟨54, _⟩ => ⟨S4096x2048, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S8192x2048, .f32⟩
  | .hbm, ⟨59, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_cst_3 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel15.lean ====
abbrev S8192x2048 : Shape := ⟨2, ![8192, 2048]⟩
abbrev S2048x8192 : Shape := ⟨2, ![2048, 8192]⟩
abbrev S8192x8192 : Shape := ⟨2, ![8192, 8192]⟩
abbrev S4x2x1024x2048 : Shape := ⟨4, ![4, 2, 1024, 2048]⟩
abbrev S512x1024 : Shape := ⟨2, ![512, 1024]⟩
abbrev S512x2048 : Shape := ⟨2, ![512, 2048]⟩
abbrev S1x1x1024x2048 : Shape := ⟨4, ![1, 1, 1024, 2048]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x2048, .bf16⟩
  | .hbm, ⟨4, _⟩ => ⟨S8192x8192, .bf16⟩
  | .hbm, ⟨5, _⟩ => ⟨S4x2x1024x2048, .bf16⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S1x1x1024x2048, .bf16⟩
  | .local _ .vmem, ⟨5, _⟩ => ⟨S1x1x1024x2048, .bf16⟩
  | .local _ .vmem, ⟨6, _⟩ => ⟨S1024x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let v17 : BitVec 32 := Scalar.divsi arg0 c1_i32_5
  let c0_i32_6 : BitVec 32 := 0#32
  let v18 : BitVec 1 := Scalar.cmpi .sgt arg0 c0_i32_6
  let v19 : BitVec 32 := Scalar.extui v18
  let c0_i32_7 : BitVec 32 := 0#32
  let v20 : BitVec 1 := Scalar.cmpi .slt arg0 c0_i32_7
  let v21 : BitVec 32 := Scalar.extui v20
  let v22 : BitVec 32 := Scalar.subi v19 v21
  let c0_i32_8 : BitVec 32 := 0#32
  let v23 : BitVec 1 := Scalar.cmpi .sgt c1_i32_5 c0_i32_8
  let v24 : BitVec 32 := Scalar.extui v23
  let c0_i32_9 : BitVec 32 := 0#32
  let v25 : BitVec 1 := Scalar.cmpi .slt c1_i32_5 c0_i32_9
  let v26 : BitVec 32 := Scalar.extui v25
  let v27 : BitVec 32 := Scalar.subi v24 v26
  let v28 : BitVec 1 := Scalar.cmpi .ne v22 v27
  let v29 : BitVec 32 := Scalar.remsi arg0 c1_i32_5
  let c0_i32_10 : BitVec 32 := 0#32
  let v30 : BitVec 1 := Scalar.cmpi .ne v29 c0_i32_10
  let v31 : BitVec 1 := Scalar.andi v28 v30
  let c1_i32_11 : BitVec 32 := 1#32
  let v32 : BitVec 32 := Scalar.subi v17 c1_i32_11
  let v33 : BitVec 32 := Scalar.select v31 v32 v17
  let c1_i32_12 : BitVec 32 := 1#32
  let c0_i32_13 : BitVec 32 := 0#32
  let v34 : BitVec 1 := Scalar.cmpi .eq c1_i32_12 c0_i32_13
  let c1_i32_14 : BitVec 32 := 1#32
  let v35 : BitVec 32 := Scalar.select v34 c1_i32_14 c1_i32_12
  let v36 : BitVec 32 := Scalar.remsi arg0 v35
  let c0_i32_15 : BitVec 32 := 0#32
  let v37 : BitVec 1 := Scalar.cmpi .ne v36 c0_i32_15
  let c0_i32_16 : BitVec 32 := 0#32
  let v38 : BitVec 1 := Scalar.cmpi .slt v36 c0_i32_16
  let c0_i32_17 : BitVec 32 := 0#32
  let v39 : BitVec 1 := Scalar.cmpi .slt v35 c0_i32_17
  let v40 : BitVec 1 := Scalar.xori v38 v39
  let v41 : BitVec 1 := Scalar.andi v40 v37
  let v42 : BitVec 32 := Scalar.addi v36 v35
  let v43 : BitVec 32 := Scalar.select v41 v42 v36
  let c1_i32_18 : BitVec 32 := 1#32
  let c0_i32_19 : BitVec 32 := 0#32
  let v44 : BitVec 1 := Scalar.cmpi .eq c1_i32_18 c0_i32_19
  let c1_i32_20 : BitVec 32 := 1#32
  let v45 : BitVec 32 := Scalar.select v44 c1_i32_20 c1_i32_18
  let v46 : BitVec 32 := Scalar.remsi arg1 v45
  let c0_i32_21 : BitVec 32 := 0#32
  let v47 : BitVec 1 := Scalar.cmpi .ne v46 c0_i32_21
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let v51 : BitVec 1 := Scalar.andi v50 v47
  let v52 : BitVec 32 := Scalar.addi v46 v45
  let v53 : BitVec 32 := Scalar.select v51 v52 v46
  let c0_i32_24 : BitVec 32 := 0#32
  ![v16.toNat, v33.toNat, v43.toNat, v53.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x2048 : Shape := ⟨2, ![8192, 2048]⟩
abbrev S2048x8192 : Shape := ⟨2, ![2048, 8192]⟩
abbrev S8192x8192 : Shape := ⟨2, ![8192, 8192]⟩
abbrev S2x1024x4x2048 : Shape := ⟨4, ![2, 1024, 4, 2048]⟩
abbrev S4x2x1024x2048 : Shape := ⟨4, ![4, 2, 1024, 2048]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x8192, .f32⟩
  | .hbm, ⟨2, _⟩ => ⟨S8192x8192, .f32⟩
  | .hbm, ⟨3, _⟩ => ⟨S8192x8192, .f32⟩
  | .hbm, ⟨4, _⟩ => ⟨S8192x2048, .f32⟩
  | .hbm, ⟨5, _⟩ => ⟨S2048x8192, .f32⟩
  | .hbm, ⟨6, _⟩ => ⟨S2x1024x4x2048, .f32⟩
  | .hbm, ⟨7, _⟩ => ⟨S4x2x1024x2048, .f32⟩
  | .hbm, ⟨8, _⟩ => ⟨S4x2x1024x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel16.lean ====
abbrev S8192x2048 : Shape := ⟨2, ![8192, 2048]⟩
abbrev S2048x2048 : Shape := ⟨2, ![2048, 2048]⟩
abbrev S4x2x256x2048 : Shape := ⟨4, ![4, 2, 256, 2048]⟩
abbrev S512x256 : Shape := ⟨2, ![512, 256]⟩
abbrev S512x2048 : Shape := ⟨2, ![512, 2048]⟩
abbrev S1x1x256x2048 : Shape := ⟨4, ![1, 1, 256, 2048]⟩
abbrev S256x2048 : Shape := ⟨2, ![256, 2048]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .bf16⟩
  | .hbm, ⟨4, _⟩ => ⟨S8192x2048, .bf16⟩
  | .hbm, ⟨5, _⟩ => ⟨S4x2x256x2048, .bf16⟩
  | .local _ .vmem, ⟨0, _⟩ => ⟨S512x256, .bf16⟩
  | .local _ .vmem, ⟨1, _⟩ => ⟨S512x256, .bf16⟩
  | .local _ .vmem, ⟨2, _⟩ => ⟨S512x2048, .bf16⟩
  | .local _ .vmem, ⟨3, _⟩ => ⟨S512x2048, .bf16⟩
  | .local _ .vmem, ⟨4, _⟩ => ⟨S1x1x256x2048, .bf16⟩
  | .local _ .vmem, ⟨5, _⟩ => ⟨S1x1x256x2048, .bf16⟩
  | .local _ .vmem, ⟨6, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat, arg1.toNat]

abbrev stage0_0 : Fin 2 → Memref sig .tc .vmem S512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x2048 : Shape := ⟨2, ![8192, 2048]⟩
abbrev S2048x2048 : Shape := ⟨2, ![2048, 2048]⟩
abbrev S4x2x256x2048 : Shape := ⟨4, ![4, 2, 256, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x2048, .f32⟩
  | .hbm, ⟨2, _⟩ => ⟨S8192x2048, .f32⟩
  | .hbm, ⟨3, _⟩ => ⟨S8192x2048, .f32⟩
  | .hbm, ⟨4, _⟩ => ⟨S2048x2048, .f32⟩
  | .hbm, ⟨5, _⟩ => ⟨S2048x2048, .f32⟩
  | .hbm, ⟨6, _⟩ => ⟨S4x2x256x2048, .f32⟩
  | .hbm, ⟨7, _⟩ => ⟨S4x2x256x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x2048 : Shape := ⟨2, ![8192, 2048]⟩
abbrev S2048x3072 : Shape := ⟨2, ![2048, 3072]⟩
abbrev S8192x3072 : Shape := ⟨2, ![8192, 3072]⟩
abbrev S4x2x1024x768 : Shape := ⟨4, ![4, 2, 1024, 768]⟩
abbrev S512x1024 : Shape := ⟨2, ![512, 1024]⟩
abbrev S512x768 : Shape := ⟨2, ![512, 768]⟩
abbrev S1x1x1024x768 : Shape := ⟨4, ![1, 1, 1024, 768]⟩
abbrev S1024x768 : Shape := ⟨2, ![1024, 768]⟩

abbrev nBuf : Space → Nat
  | .hbm => 6
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x3072, .f32⟩
  | .hbm, ⟨3, _⟩ => ⟨S8192x2048, .bf16⟩
  | .hbm, ⟨4, _⟩ => ⟨S8192x3072, .bf16⟩
  | .hbm, ⟨5, _⟩ => ⟨S4x2x1024x768, .bf16⟩
  | .local _ .vmem, ⟨0, _⟩ => ⟨S512x1024, .bf16⟩
  | .local _ .vmem, ⟨1, _⟩ => ⟨S512x1024, .bf16⟩
  | .local _ .vmem, ⟨2, _⟩ => ⟨S512x768, .bf16⟩
  | .local _ .vmem, ⟨3, _⟩ => ⟨S512x768, .bf16⟩
  | .local _ .vmem, ⟨4, _⟩ => ⟨S1x1x1024x768, .bf16⟩
  | .local _ .vmem, ⟨5, _⟩ => ⟨S1x1x1024x768, .bf16⟩
  | .local _ .vmem, ⟨6, _⟩ => ⟨S1024x768, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg0 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  let c0_i32_12 : BitVec 32 := 0#32
  ![arg1.toNat, v16.toNat, v26.toNat, c0_i32_11.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1x1024x768 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x2048 : Shape := ⟨2, ![8192, 2048]⟩
abbrev S2048x3072 : Shape := ⟨2, ![2048, 3072]⟩
abbrev S8192x3072 : Shape := ⟨2, ![8192, 3072]⟩
abbrev S3072x2048 : Shape := ⟨2, ![3072, 2048]⟩
abbrev S2x1024x4x768 : Shape := ⟨4, ![2, 1024, 4, 768]⟩
abbrev S4x2x1024x768 : Shape := ⟨4, ![4, 2, 1024, 768]⟩

abbrev nBuf : Space → Nat
  | .hbm => 9
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048x3072, .f32⟩
  | .hbm, ⟨2, _⟩ => ⟨S8192x3072, .f32⟩
  | .hbm, ⟨3, _⟩ => ⟨S8192x3072, .f32⟩
  | .hbm, ⟨4, _⟩ => ⟨S3072x2048, .f32⟩
  | .hbm, ⟨5, _⟩ => ⟨S2048x3072, .f32⟩
  | .hbm, ⟨6, _⟩ => ⟨S2x1024x4x768, .f32⟩
  | .hbm, ⟨7, _⟩ => ⟨S4x2x1024x768, .f32⟩
  | .hbm, ⟨8, _⟩ => ⟨S4x2x1024x768, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel18.lean ====
abbrev S8192x1024 : Shape := ⟨2, ![8192, 1024]⟩
abbrev S1024x1024 : Shape := ⟨2, ![1024, 1024]⟩
abbrev S1024 : Shape := ⟨1, ![1024]⟩
abbrev S8192x2048 : Shape := ⟨2, ![8192, 2048]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S1024, .f32⟩
  | .hbm, ⟨4, _⟩ => ⟨S8192x2048, .f32⟩
  | .hbm, ⟨5, _⟩ => ⟨S1024x1024, .bf16⟩
  | .hbm, ⟨6, _⟩ => ⟨S1x1024, .f32⟩
  | .hbm, ⟨7, _⟩ => ⟨S1x1024, .f32⟩
  | .hbm, ⟨8, _⟩ => ⟨S8192x1024, .f32⟩
  | .hbm, ⟨9, _⟩ => ⟨S1024x1024, .bf16⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S1024x1024, .bf16⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v121 : BitVec 1 := Scalar.cmpi .eq arg0 c15_i32
  let v122 : BitVec 32 := Scalar.extui v121
  let c0_i32_52 : BitVec 32 := 0#32
  let v123 : BitVec 1 := Scalar.cmpi .ne v122 c0_i32_52
  v123

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== Kernel18Ideal.lean ====
variable {F : FTy → Type} [FloatOps F] [Named F]
def κ : String → Option EReal := fun
  | "gelu_3c" => some ((26829 / 200000 : ℝ) : EReal)
  | "gelu_c" => some ((8943 / 200000 : ℝ) : EReal)
  | _ => none
-- ==== Reference18Ideal.lean ====
abbrev S8192x1024 : Shape := ⟨2, ![8192, 1024]⟩
abbrev S1024x1024 : Shape := ⟨2, ![1024, 1024]⟩
abbrev S1024 : Shape := ⟨1, ![1024]⟩
abbrev S8192x2048 : Shape := ⟨2, ![8192, 2048]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 155
  | .vmem => 0
  | .smem => 0
  | _ => 0

abbrev hbmTy0_0 (i : Nat) : BufTy := match i % 128 with
  | 0 => ⟨S8192x1024, .f32⟩
  | 1 => ⟨S1024x1024, .f32⟩
  | 2 => ⟨S1024, .f32⟩
  | 3 => ⟨S1024, .f32⟩
  | 4 => ⟨S8192x2048, .f32⟩
  | 5 => ⟨S8192x1024, .f32⟩
  | 6 => ⟨S8192x1024, .f32⟩
  | 7 => ⟨S_, .f32⟩
  | 8 => ⟨S8192x1024, .f32⟩
  | 9 => ⟨S8192x1024, .f32⟩
  | 10 => ⟨S_, .f32⟩
  | 11 => ⟨S8192x1024, .f32⟩
  | 12 => ⟨S8192x1024, .f32⟩
  | 13 => ⟨S8192x1024, .f32⟩
  | 14 => ⟨S_, .f32⟩
  | 15 => ⟨S8192x1024, .f32⟩
  | 16 => ⟨S8192x1024, .f32⟩
  | 17 => ⟨S8192x1024, .f32⟩
  | 18 => ⟨S_, .f32⟩
  | 19 => ⟨S8192x1024, .f32⟩
  | 20 => ⟨S8192x1024, .f32⟩
  | 21 => ⟨S_, .f32⟩
  | 22 => ⟨S8192x1024, .f32⟩
  | 23 => ⟨S8192x1024, .f32⟩
  | 24 => ⟨S8192x1024, .f32⟩
  | 25 => ⟨S8192x1024, .f32⟩
  | 26 => ⟨S8192x1024, .f32⟩
  | 27 => ⟨S8192x1024, .f32⟩
  | 28 => ⟨S_, .f32⟩
  | 29 => ⟨S8192x1024, .f32⟩
  | 30 => ⟨S8192x1024, .f32⟩
  | 31 => ⟨S_, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S8192x1024, .f32⟩
  | 38 => ⟨S_, .f32⟩
  | 39 => ⟨S8192x1024, .f32⟩
  | 40 => ⟨S8192x1024, .f32⟩
  | 41 => ⟨S8192x1024, .f32⟩
  | 42 => ⟨S_, .f32⟩
  | 43 => ⟨S8192x1024, .f32⟩
  | 44 => ⟨S8192x1024, .f32⟩
  | 45 => ⟨S_, .f32⟩
  | 46 => ⟨S8192x1024, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S8192x1024, .f32⟩
  | 56 => ⟨S_, .f32⟩
  | 57 => ⟨S8192x1024, .f32⟩
  | 58 => ⟨S8192x1024, .f32⟩
  | 59 => ⟨S8192x1024, .f32⟩
  | 60 => ⟨S_, .f32⟩
  | 61 => ⟨S8192x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x1024, .f32⟩
  | 68 => ⟨S_, .f32⟩
  | 69 => ⟨S8192x1024, .f32⟩
  | 70 => ⟨S8192x1024, .f32⟩
  | 71 => ⟨S_, .f32⟩
  | 72 => ⟨S8192x1024, .f32⟩
  | 73 => ⟨S8192x1024, .f32⟩
  | 74 => ⟨S8192x1024, .f32⟩
  | 75 => ⟨S8192x1024, .f32⟩
  | 76 => ⟨S8192x1024, .f32⟩
  | 77 => ⟨S1x1024, .f32⟩
  | 78 => ⟨S8192x1024, .f32⟩
  | 79 => ⟨S8192x1024, .f32⟩
  | 80 => ⟨S8192x1024, .f32⟩
  | 81 => ⟨S8192x1024, .f32⟩
  | 82 => ⟨S_, .f32⟩
  | 83 => ⟨S8192x1024, .f32⟩
  | 84 => ⟨S8192x1024, .f32⟩
  | 85 => ⟨S_, .f32⟩
  | 86 => ⟨S8192x1024, .f32⟩
  | 87 => ⟨S8192x1024, .f32⟩
  | 88 => ⟨S_, .f32⟩
  | 89 => ⟨S8192x1024, .f32⟩
  | 90 => ⟨S8192x1024, .f32⟩
  | 91 => ⟨S8192x1024, .f32⟩
  | 92 => ⟨S8192x1024, .f32⟩
  | 93 => ⟨S8192x1024, .f32⟩
  | 94 => ⟨S_, .f32⟩
  | 95 => ⟨S8192, .f32⟩
  | 96 => ⟨S8192x1, .f32⟩
  | 97 => ⟨S_, .f32⟩
  | 98 => ⟨S8192x1, .f32⟩
  | 99 => ⟨S8192x1, .f32⟩
  | 100 => ⟨S_, .f32⟩
  | 101 => ⟨S8192x1, .f32⟩
  | 102 => ⟨S8192x1, .f32⟩
  | 103 => ⟨S8192x1, .f32⟩
  | 104 => ⟨S8192x1, .f32⟩
  | 105 => ⟨S_, .f32⟩
  | 106 => ⟨S8192x1, .f32⟩
  | 107 => ⟨S8192x1, .f32⟩
  | 108 => ⟨S8192x1024, .f32⟩
  | 109 => ⟨S8192x1024, .f32⟩
  | 110 => ⟨S1x1024, .f32⟩
  | 111 => ⟨S8192x1024, .f32⟩
  | 112 => ⟨S8192x1024, .f32⟩
  | 113 => ⟨S8192x1024, .f32⟩
  | 114 => ⟨S8192x1024, .f32⟩
  | 115 => ⟨S_, .f32⟩
  | 116 => ⟨S1024, .f32⟩
  | 117 => ⟨S1x1024, .f32⟩
  | 118 => ⟨S8192x1024, .f32⟩
  | 119 => ⟨S8192x1024, .f32⟩
  | 120 => ⟨S_, .f32⟩
  | 121 => ⟨S1024, .f32⟩
  | 122 => ⟨S8192x1024, .f32⟩
  | 123 => ⟨S_, .f32⟩
  | 124 => ⟨S8192, .f32⟩
  | 125 => ⟨S8192x1, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1, .f32⟩
  | 1 => ⟨S_, .f32⟩
  | 2 => ⟨S8192x1, .f32⟩
  | 3 => ⟨S8192x1, .f32⟩
  | 4 => ⟨S_, .f32⟩
  | 5 => ⟨S8192, .f32⟩
  | 6 => ⟨S8192x1024, .f32⟩
  | 7 => ⟨S8192x1024, .f32⟩
  | 8 => ⟨S8192x1024, .f32⟩
  | 9 => ⟨S8192x1024, .f32⟩
  | 10 => ⟨S8192x1024, .f32⟩
  | 11 => ⟨S8192x1024, .f32⟩
  | 12 => ⟨S8192x1024, .f32⟩
  | 13 => ⟨S8192x1024, .f32⟩
  | 14 => ⟨S_, .f32⟩
  | 15 => ⟨S1024, .f32⟩
  | 16 => ⟨S1x1024, .f32⟩
  | 17 => ⟨S_, .f32⟩
  | 18 => ⟨S1024, .f32⟩
  | 19 => ⟨S1024x1024, .f32⟩
  | 20 => ⟨S1024x1024, .f32⟩
  | 21 => ⟨S8192x1024, .f32⟩
  | 22 => ⟨S8192x1024, .f32⟩
  | 23 => ⟨S8192x1024, .f32⟩
  | 24 => ⟨S1024x1024, .bf16⟩
  | 25 => ⟨S1x1024, .f32⟩
  | 26 => ⟨S1x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_8 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_10 : Ref sig .tc := ⟨.hbm, 49, rfl⟩
abbrev main_v33 : Ref sig .tc := ⟨.hbm, 50, rfl⟩
abbrev main_v34 : Ref sig .tc := ⟨.hbm, 51, rfl⟩
abbrev main_cst_11 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_12 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_13 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_14 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_15 : Ref sig .tc := ⟨.hbm, 68, rfl⟩
abbrev main_v47 : Ref sig .tc := ⟨.hbm, 69, rfl⟩
abbrev main_v48 : Ref sig .tc := ⟨.hbm, 70, rfl⟩
abbrev main_cst_16 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_17 : Ref sig .tc := ⟨.hbm, 82, rfl⟩
abbrev main_v59 : Ref sig .tc := ⟨.hbm, 83, rfl⟩
abbrev main_v60 : Ref sig .tc := ⟨.hbm, 84, rfl⟩
abbrev main_cst_18 : Ref sig .tc := ⟨.hbm, 85, rfl⟩
abbrev main_v61 : Ref sig .tc := ⟨.hbm, 86, rfl⟩
abbrev main_v62 : Ref sig .tc := ⟨.hbm, 87, rfl⟩
abbrev main_cst_19 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_cst_20 : Ref sig .tc := ⟨.hbm, 94, rfl⟩
abbrev main_v68 : Ref sig .tc := ⟨.hbm, 95, rfl⟩
abbrev main_v69 : Ref sig .tc := ⟨.hbm, 96, rfl⟩
abbrev main_cst_21 : Ref sig .tc := ⟨.hbm, 97, rfl⟩
abbrev main_v70 : Ref sig .tc := ⟨.hbm, 98, rfl⟩
abbrev main_v71 : Ref sig .tc := ⟨.hbm, 99, rfl⟩
abbrev main_cst_22 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_cst_23 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_cst_24 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_cst_25 : Ref sig .tc := ⟨.hbm, 120, rfl⟩
abbrev main_v89 : Ref sig .tc := ⟨.hbm, 121, rfl⟩
abbrev main_v90 : Ref sig .tc := ⟨.hbm, 122, rfl⟩
abbrev main_cst_26 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_cst_27 : Ref sig .tc := ⟨.hbm, 129, rfl⟩
abbrev main_v96 : Ref sig .tc := ⟨.hbm, 130, rfl⟩
abbrev main_v97 : Ref sig .tc := ⟨.hbm, 131, rfl⟩
abbrev main_cst_28 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_cst_29 : Ref sig .tc := ⟨.hbm, 142, rfl⟩
abbrev main_v107 : Ref sig .tc := ⟨.hbm, 143, rfl⟩
abbrev main_v108 : Ref sig .tc := ⟨.hbm, 144, rfl⟩
abbrev main_cst_30 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩

abbrev nD : Nat := 1
abbrev τ : Topo := Topo.v7x

variable {F : FTy → Type} [FloatOps F]
-- ==== Kernel19.lean ====
abbrev S2048x3072 : Shape := ⟨2, ![2048, 3072]⟩
abbrev S8192x3072 : Shape := ⟨2, ![8192, 3072]⟩
abbrev S2048x4x768 : Shape := ⟨3, ![2048, 4, 768]⟩
abbrev S4x2048x768 : Shape := ⟨3, ![4, 2048, 768]⟩
abbrev S8192x2048 : Shape := ⟨2, ![8192, 2048]⟩
abbrev S512x768 : Shape := ⟨2, ![512, 768]⟩
abbrev S1x2048x768 : Shape := ⟨3, ![1, 2048, 768]⟩
abbrev S512x2048 : Shape := ⟨2, ![512, 2048]⟩
abbrev S2048x768 : Shape := ⟨2, ![2048, 768]⟩

abbrev nBuf : Space → Nat
  | .hbm => 7
  | .vmem => 6
  | .smem => 0
  | _ => 0

abbrev bufTy : (tb : Table) → Fin (tcTables nBuf tb) → BufTy
  | .hbm, ⟨0, _⟩ => ⟨S2048x3072, .f32⟩
  | .hbm, ⟨1, _⟩ => ⟨S8192x3072, .f32⟩
  | .hbm, ⟨2, _⟩ => ⟨S2048x4x768, .f32⟩
  | .hbm, ⟨3, _⟩ => ⟨S4x2048x768, .f32⟩
  | .hbm, ⟨4, _⟩ => ⟨S4x2048x768, .bf16⟩
  | .hbm, ⟨5, _⟩ => ⟨S8192x3072, .bf16⟩
  | .hbm, ⟨6, _⟩ => ⟨S8192x2048, .f32⟩
  | .local _ .vmem, ⟨0, _⟩ => ⟨S512x768, .bf16⟩
  | .local _ .vmem, ⟨1, _⟩ => ⟨S512x768, .bf16⟩
  | .local _ .vmem, ⟨2, _⟩ => ⟨S1x2048x768, .bf16⟩
  | .local _ .vmem, ⟨3, _⟩ => ⟨S1x2048x768, .bf16⟩
  | .local _ .vmem, ⟨4, _⟩ => ⟨S512x2048, .f32⟩
  | .local _ .vmem, ⟨5, _⟩ => ⟨S512x2048, .f32⟩
  | _, _ => ⟨S2048x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference19Ideal.lean ====
abbrev S2048x3072 : Shape := ⟨2, ![2048, 3072]⟩
abbrev S8192x3072 : Shape := ⟨2, ![8192, 3072]⟩
abbrev S_ : Shape := ⟨0, ![]⟩
abbrev S8192x2048 : Shape := ⟨2, ![8192, 2048]⟩

abbrev nBuf : Space → Nat
  | .hbm => 6
  | .vmem => 0
  | .smem => 0
  | _ => 0

abbrev bufTy : (tb : Table) → Fin (tcTables nBuf tb) → BufTy
  | .hbm, ⟨0, _⟩ => ⟨S2048x3072, .f32⟩
  | .hbm, ⟨1, _⟩ => ⟨S8192x3072, .f32⟩
  | .hbm, ⟨2, _⟩ => ⟨S_, .f32⟩
  | .hbm, ⟨3, _⟩ => ⟨S8192x2048, .f32⟩
  | .hbm, ⟨4, _⟩ => ⟨S8192x3072, .f32⟩
  | .hbm, ⟨5, _⟩ => ⟨S8192x2048, .f32⟩
  | _, _ => ⟨S2048x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Kernel20.lean ====
abbrev S8192x2048 : Shape := ⟨2, ![8192, 2048]⟩
abbrev S2048 : Shape := ⟨1, ![2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 8
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .bf16⟩
  | .local _ .vmem, ⟨10, _⟩ => ⟨S256x2048, .bf16⟩
  | .local _ .vmem, ⟨11, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference20Ideal.lean ====
abbrev S8192x2048 : Shape := ⟨2, ![8192, 2048]⟩
abbrev S2048 : Shape := ⟨1, ![2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩

abbrev nBuf : Space → Nat
  | .hbm => 52
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S2048, .f32⟩
  | .hbm, ⟨32, _⟩ => ⟨S8192x2048, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S8192x2048, .bf16⟩
  | .hbm, ⟨51, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Proof.Loop.lean ====
/- The backward recurrence over the chunks, as the kernel's counted loop runs it: what the loop carries before each
   trip, what the scratch of state gradients holds before each trip, and the loop's invariant. -/
module

public import proofs.«01_k».proof.Proof.Gen.KernelIdeal.Loops
public import Idealize.ShloMosaic.Lib.WritesUnit
public import Idealize.ShloMosaic.Lib.ValueIdx
public import Idealize.ShloMosaic.Lib.Pointwise

@[expose] public section

set_option maxRecDepth 16384

noncomputable section

namespace Cert.KernelIdeal.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx

variable {F : FTy → Type} [FloatOps F]

local notation "𝕄" => MT nD τ sig Unit (Elt F) ℕ (UR sig nD τ) ℕ

/-- Row `r` of a table of 1024 lanes, its first 512 lanes (`h = 0`) or its last 512 (`h = 1`), as one row. -/
def halfRow (x : FVec F S512x1024 .f32) (r : ℕ) (h : Fin 2) : FVec F S1x512 .f32 := fun j =>
  x (ValueIdx.ix2 (⟨r % 512, Nat.mod_lt _ (by omega)⟩ : Fin 512) (⟨512 * h.val + (j 1).val, by have := idx2_lt1 j; have := h.isLt; omega⟩ : Fin 1024))

/-- A load of half a row is `halfRow` of what the buffer reads. -/
theorem readAt_half {κ : Kind} {sp : Space} (v : View sig κ sp S512x1024 .f32) (X : v.ty.Contents (Elt F)) (off : Fin 2 → ℕ)
    (inb : ∀ a, off a + S1x512.size a ≤ S512x1024.size a) (r : ℕ) (h : Fin 2) (hr : r < 512) (hoff : off = ![r, 512 * h.val]) :
    View.readAt (Elt F) v (Rect.unit (s := S512x1024) off S1x512.size inb).toLoadRect X = halfRow (v.read (Elt F) X) r h := by
  subst hoff
  funext j
  show v.read (Elt F) X _ = v.read (Elt F) X _
  congr 1
  funext a
  apply Fin.ext
  have h0 := idx2_lt0 j
  match a with
  | ⟨0, _⟩ => show r + 1 * (j 0).val = r % 512; rw [Nat.mod_eq_of_lt hr]; omega
  | ⟨1, _⟩ => show 512 * h.val + 1 * (j 1).val = 512 * h.val + (j 1).val; omega

/-- The pair of rows (real half, imaginary half) the loop carries before trip `k`: the gradient of the state that
   enters chunk `511 - k`, from the per-chunk gradients `dx` and the two rows of `al`. -/
def carried (a0 a1 : Vec F S1x1x512 .f32) (dx : FVec F S512x1024 .f32) : ℕ → FVec F S1x512 .f32 × FVec F S1x512 .f32
  | 0 => (k0_pay25, k0_pay25)
  | k + 1 => (k0_pay28 a0 a1 (carried a0 a1 dx k).1 (carried a0 a1 dx k).2 (halfRow dx (511 - k) 0),
              k0_pay29 a0 a1 (carried a0 a1 dx k).1 (carried a0 a1 dx k).2 (halfRow dx (511 - k) 1))

/-- Every chunk's state gradient, chunk `r` in row `r`: what the loop carries before trip `511 - r`. -/
def grads (a0 a1 : Vec F S1x1x512 .f32) (dx : FVec F S512x1024 .f32) : FVec F S512x1024 .f32 := fun y =>
  if h : (y 1).val < 512 then
    (carried a0 a1 dx (511 - (y 0).val)).1 (ValueIdx.ix2 (0 : Fin 1) (⟨(y 1).val, h⟩ : Fin 512))
  else
    (carried a0 a1 dx (511 - (y 0).val)).2 (ValueIdx.ix2 (0 : Fin 1) (⟨(y 1).val - 512, by have := idx2_lt1 y; omega⟩ : Fin 512))

/-- One trip's two stores: the rows of the scratch that were right stay right, and the row the trip stores joins them. -/
theorem after_trip {κ : Kind} {sp : Space} (v : View sig κ sp S512x1024 .f32) (f : v.ty.Contents (Elt F))
    (a0 a1 : Vec F S1x1x512 .f32) (dx : FVec F S512x1024 .f32) (k : ℕ) (hk : k < 511) (o3 o4 : Fin 2 → ℕ)
    (inb3 : ∀ a, o3 a + S1x512.size a ≤ S512x1024.size a) (inb4 : ∀ a, o4 a + S1x512.size a ≤ S512x1024.size a)
    (h3 : o3 = ![510 - k, 0]) (h4 : o4 = ![510 - k, 512])
    (hf : ∀ y : S512x1024.Idx, 511 ≤ (y 0).val + k → v.read (Elt F) f y = grads a0 a1 dx y) :
    ∀ y : S512x1024.Idx, 511 ≤ (y 0).val + (k + 1) →
      v.read (Elt F) (v.writes (Elt F) f
        [⟨Rect.unit (s := S512x1024) o4 S1x512.size inb4, k0_pay31 a0 a1 (carried a0 a1 dx k).1 (carried a0 a1 dx k).2 (halfRow dx (511 - k) 1)⟩,
         ⟨Rect.unit (s := S512x1024) o3 S1x512.size inb3, k0_pay30 a0 a1 (carried a0 a1 dx k).1 (carried a0 a1 dx k).2 (halfRow dx (511 - k) 0)⟩]) y
        = grads a0 a1 dx y := by
  intro y hy
  have h0 := idx2_lt0 y
  have h1 := idx2_lt1 y
  by_cases hr : (y 0).val = 510 - k
  · have hk1 : 511 - (y 0).val = k + 1 := by omega
    by_cases hc : (y 1).val < 512
    · rw [View.read_writes_cons_unit_of_not_mem v f inb4 _ _ y h4 1 (Or.inl (show (y 1).val < 512 from hc)),
        View.read_writes_cons_unit_of_mem v f inb3 _ _ y (ValueIdx.ix2 (0 : Fin 1) (⟨(y 1).val, hc⟩ : Fin 512)) h3
          (Fin.forall_fin_two.mpr ⟨by show (y 0).val = 510 - k + 0; omega, by show (y 1).val = 0 + (y 1).val; omega⟩)]
      unfold grads
      rw [dif_pos hc, hk1]
      unfold k0_pay30
      exact congrFun (shapeCast_id _ _) _
    · rw [View.read_writes_cons_unit_of_mem v f inb4 _ _ y (ValueIdx.ix2 (0 : Fin 1) (⟨(y 1).val - 512, by omega⟩ : Fin 512)) h4
          (Fin.forall_fin_two.mpr ⟨by show (y 0).val = 510 - k + 0; omega, by show (y 1).val = 512 + ((y 1).val - 512); omega⟩)]
      unfold grads
      rw [dif_neg hc, hk1]
      unfold k0_pay31
      exact congrFun (shapeCast_id _ _) _
  · rw [View.read_writes_cons_unit_of_not_mem v f inb4 _ _ y h4 0 (Or.inr (by show 510 - k + 1 ≤ (y 0).val; omega)),
      View.read_writes_cons_unit_of_not_mem v f inb3 _ _ y h3 0 (Or.inr (by show 510 - k + 1 ≤ (y 0).val; omega))]
    exact hf y (by omega)

/-- Half row `h` of row `r` lies inside the table. -/
theorem half_inb (r : ℕ) (hr : r < 512) (h : Fin 2) : ∀ a, (![r, 512 * h.val] : Fin 2 → ℕ) a + S1x512.size a ≤ S512x1024.size a :=
  Fin.forall_fin_two.mpr ⟨by show r + 1 ≤ 512; omega, by show 512 * h.val + 512 ≤ 1024; have := h.isLt; omega⟩

/-- The scratch of state gradients before trip `k`: entered with contents `g`, each trip before wrote its row's two
   halves. -/
def held {κ : Kind} {sp : Space} (v : View sig κ sp S512x1024 .f32) (g : v.ty.Contents (Elt F)) (a0 a1 : Vec F S1x1x512 .f32)
    (dx : FVec F S512x1024 .f32) : ℕ → v.ty.Contents (Elt F)
  | 0 => g
  | k + 1 => v.writes (Elt F) (held v g a0 a1 dx k)
      [⟨Rect.unit (s := S512x1024) ![510 - k, 512 * (1 : Fin 2).val] S1x512.size (half_inb _ (by omega) 1), k0_pay31 a0 a1 (carried a0 a1 dx k).1 (carried a0 a1 dx k).2 (halfRow dx (511 - k) 1)⟩,
       ⟨Rect.unit (s := S512x1024) ![510 - k, 512 * (0 : Fin 2).val] S1x512.size (half_inb _ (by omega) 0), k0_pay30 a0 a1 (carried a0 a1 dx k).1 (carried a0 a1 dx k).2 (halfRow dx (511 - k) 0)⟩]

/-- Entered with its last row zero, the scratch holds the right rows from `511 - k` on before trip `k`. -/
theorem held_read {κ : Kind} {sp : Space} (v : View sig κ sp S512x1024 .f32) (g : v.ty.Contents (Elt F)) (a0 a1 : Vec F S1x1x512 .f32)
    (dx : FVec F S512x1024 .f32) (hg : ∀ y : S512x1024.Idx, 511 ≤ (y 0).val → v.read (Elt F) g y = grads a0 a1 dx y) (k : ℕ) (hk : k ≤ 511) :
    ∀ y : S512x1024.Idx, 511 ≤ (y 0).val + k → v.read (Elt F) (held v g a0 a1 dx k) y = grads a0 a1 dx y := by
  induction k with
  | zero => intro y hy; exact hg y hy
  | succ k ih => exact after_trip v _ a0 a1 dx k (by omega) _ _ _ _ rfl rfl (ih (by omega))

/-- Two lists of two pieces at equal offsets are equal. -/
theorem pieces_congr (o3 o4 o3' o4' : Fin 2 → ℕ) (h3 : o3 = o3') (h4 : o4 = o4')
    (i3 : ∀ a, o3 a + S1x512.size a ≤ S512x1024.size a) (i4 : ∀ a, o4 a + S1x512.size a ≤ S512x1024.size a)
    (i3' : ∀ a, o3' a + S1x512.size a ≤ S512x1024.size a) (i4' : ∀ a, o4' a + S1x512.size a ≤ S512x1024.size a) (w3 w4 : FVec F S1x512 .f32) :
    ([⟨Rect.unit (s := S512x1024) o4 S1x512.size i4, w4⟩, ⟨Rect.unit (s := S512x1024) o3 S1x512.size i3, w3⟩] : List (View.Piece (Elt F) S512x1024 .f32))
      = [⟨Rect.unit (s := S512x1024) o4' S1x512.size i4', w4⟩, ⟨Rect.unit (s := S512x1024) o3' S1x512.size i3', w3⟩] := by
  subst h3; subst h4; rfl

/-- What the loop holds before trip `k`, entered with the scratch of state gradients at `G9`: the per-chunk gradients
   `X8` as they were, the scratch with the rows of the trips before written, and the carried pair. -/
abbrev inv (c : Dev nD) (arg8 : Memref sig .tc .vmem S512x1024 .f32) (arg9 : Memref sig .tc .vmem S512x1024 .f32)
    (a0 a1 : Vec F S1x1x512 .f32) (X8 : BufTy.Contents (Elt F) arg8.view.ty) (G9 : BufTy.Contents (Elt F) arg9.view.ty)
    (k : ℕ) (acc : FVec F S1x512 .f32 × FVec F S1x512 .f32) : sProp 𝕄 :=
  iprop((arg8.view.loc (c : Thread nD τ) ↦[arg8.view.set]{fullShare} X8)
    ∗ (∃ f, (arg9.view.loc (c : Thread nD τ) ↦[arg9.view.set]{fullShare} f)
        ∗ ⌜f = held arg9.view G9 a0 a1 (arg8.view.read (Elt F) X8) k⌝)
    ∗ ⌜acc = carried a0 a1 (arg8.view.read (Elt F) X8) k⌝)

set_option warn.classDefReducibility false in
set_option maxHeartbeats 1000000 in
/-- The loop by its invariant. -/
@[sl_loop] def loopInv (𝒱 : Variants) (c : Dev nD) (bd : Option 𝒱.V) (E : Set ℕ) (i : grid0.Coords) (arg1 : Memref sig .tc .vmem S8192x128 .f32) (harg1 : arg1.IsWhole) (arg2 : Memref sig .tc .vmem S1x8x256x1024 .bf16) (harg2 : arg2.IsWhole) (arg3 : Memref sig .tc .vmem S1x2x512 .f32) (harg3 : arg3.IsWhole) (arg4 : Memref sig .tc .vmem S1x512x1024 .f32) (harg4 : arg4.IsWhole) (arg5 : Memref sig .tc .vmem S1x8x512x256 .bf16) (harg5 : arg5.IsWhole) (arg6 : Memref sig .tc .vmem S1x512x1024 .bf16) (harg6 : arg6.IsWhole) (arg7 : Memref sig .tc .vmem S1x2x512 .f32) (harg7 : arg7.IsWhole) (arg8 : Memref sig .tc .vmem S512x1024 .f32) (harg8 : arg8.IsWhole) (arg9 : Memref sig .tc .vmem S512x1024 .f32) (harg9 : arg9.IsWhole)
    (v120 : FVec F S512x1024 .f32) (v130 v132 : Vec F S1x1x512 .f32) (X8 : BufTy.Contents (Elt F) arg8.view.ty) (G9 : BufTy.Contents (Elt F) arg9.view.ty) :
    LoopInvTy_k0_t1 (F := F) Unit ℕ (UR sig nD τ) ℕ 𝒱 c bd E i arg1 harg1 arg2 harg2 arg3 harg3 arg4 harg4 arg5 harg5 arg6 harg6 arg7 harg7 arg8 harg8 arg9 harg9 v120 v130 v132 (k0_pay25, k0_pay25) where
  inv := inv c arg8 arg9 v130 v132 X8 G9
  step k acc := by
    have hk : k.val < 511 := Nat.lt_of_lt_of_le k.isLt k0_t1_abs.2.1
    iintro ⟨H8, ⟨%f, H9, %hf⟩, %hacc⟩
    subst hacc; subst hf
    unfold k0_t1_body
    sl_exec
    sl_step
    isplitl [H8]; · iexact H8
    rw [readAt_half arg8.view X8 (k0_off1 k) _ (511 - k.val) 0 (by omega) (by rw [k0_off1_eq]; rfl),
      readAt_half arg8.view X8 (k0_off2 k) _ (511 - k.val) 1 (by omega) (by rw [k0_off2_eq]; rfl)]
    isplitl [H9]
    · iexists _
      isplitl [H9]; · iexact H9
      ipureintro
      exact congrArg (arg9.view.writes (Elt F) _) (pieces_congr _ _ _ _ (k0_off3_eq k) (k0_off4_eq k) _ _ _ _ _ _)
    ipureintro; rfl

end Cert.KernelIdeal.Ssm

end
-- ==== Proof.Values.lean ====
/- What one grid point of the kernel leaves in its three output tiles, as plain functions of its four input tiles; and
   the sixteen stores of the cotangent's tile read back. -/
module

public import proofs.«01_k».proof.Proof.Loop
public import Idealize.ShloMosaic.Lib.ValueLayout
public import Idealize.ShloMosaic.Lib.Pipeline.ReadBack
public import Idealize.ShloMosaic.Lib.Ring

@[expose] public section

set_option maxRecDepth 16384

noncomputable section

namespace Cert.KernelIdeal.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx

variable {F : FTy → Type} [FloatOps F]

local notation "𝕄" => MT nD τ sig Unit (Elt F) ℕ (UR sig nD τ) ℕ

/-- The cotangent `dy` of one tile of lanes, token `16 c + 2 q + p` of chunk `c` at row `c` of pair `q`, lanes
   `128 p` to `128 p + 127`. -/
def dysOf (x0 : Vec F S8192x128 .f32) : Vec F S1x8x512x256 .bf16 := truncf .bf16 (fun y =>
  x0 (ValueIdx.ix2 (⟨16 * (y 2).val + 2 * (y 1).val + (y 3).val / 128, by have : (y 1).val < 8 := (y 1).isLt; have : (y 2).val < 512 := (y 2).isLt; have : (y 3).val < 256 := (y 3).isLt; omega⟩ : Fin 8192)
    (⟨(y 3).val % 128, Nat.mod_lt _ (by omega)⟩ : Fin 128))) bitsLt_bf16_f32

/-- Pair `q` of a tile's cotangent. -/
def dysPair (d : Vec F S1x8x512x256 .bf16) (q : Fin 8) : Vec F S1x1x512x256 .bf16 := fun j => d (ValueIdx.ix4 (0 : Fin 1) q (j 2) (j 3))

/-- Pair `q` of a tile's readout weights. -/
def wPair (x1 : Vec F S1x8x256x1024 .bf16) (q : Fin 8) : Vec F S1x1x256x1024 .bf16 := fun j => x1 (ValueIdx.ix4 (0 : Fin 1) q (j 2) (j 3))

/-- Row `h` of a tile's `al`. -/
def alRow (x2 : Vec F S1x2x512 .f32) (h : Fin 2) : Vec F S1x1x512 .f32 := fun j => x2 (ValueIdx.ix3 (0 : Fin 1) h (j 2))

/-- What each chunk's outputs alone give the state before it: the eight pairs' products, summed. -/
def dxOf (x0 : Vec F S8192x128 .f32) (x1 : Vec F S1x8x256x1024 .bf16) : FVec F S512x1024 .f32 :=
  k0_pay22 (k0_pay21 (k0_pay20 (dysPair (dysOf x0) 0) (wPair x1 0) (dysPair (dysOf x0) 1) (wPair x1 1) (dysPair (dysOf x0) 2) (wPair x1 2))
    (dysPair (dysOf x0) 3) (wPair x1 3) (dysPair (dysOf x0) 4) (wPair x1 4) (dysPair (dysOf x0) 5) (wPair x1 5) (dysPair (dysOf x0) 6) (wPair x1 6))
    (dysPair (dysOf x0) 7) (wPair x1 7)

/-- A tile's state gradients, chunk by chunk. -/
def gOf (x0 : Vec F S8192x128 .f32) (x1 : Vec F S1x8x256x1024 .bf16) (x2 : Vec F S1x2x512 .f32) : FVec F S512x1024 .f32 :=
  grads (alRow x2 0) (alRow x2 1) (dxOf x0 x1)

/-- A tile's gradient of `al`. -/
def dalOf (x0 : Vec F S8192x128 .f32) (x1 : Vec F S1x8x256x1024 .bf16) (x2 : Vec F S1x2x512 .f32) (x3 : Vec F S1x512x1024 .f32) : Vec F S1x2x512 .f32 := fun y =>
  if (y 1).val = 0 then
    k0_pay1 (k0_pay33 (gOf x0 x1 x2)) (k0_pay34 (gOf x0 x1 x2)) (k0_pay35 x3) (k0_pay36 x3) (ValueIdx.ix3 (0 : Fin 1) (0 : Fin 1) (y 2))
  else
    k0_pay2 (k0_pay33 (gOf x0 x1 x2)) (k0_pay34 (gOf x0 x1 x2)) (k0_pay35 x3) (k0_pay36 x3) (ValueIdx.ix3 (0 : Fin 1) (0 : Fin 1) (y 2))

/-- The cast of a table to a block with two leading unit axes, read at an index. -/
theorem cast2_apply {α : Type} (x : S512x128.Idx → α) (h : S512x128.ShapeCasts S1x1x512x128) (j : S1x1x512x128.Idx) :
    shapeCast S1x1x512x128 x h j = x (ValueIdx.ix2 (j 2) (j 3)) :=
  shapeCast_apply x h _ _ (by
    rw [Shape.rowMajor_val_two, Shape.rowMajor_val_four]
    have h0 : (j 0).val < 1 := (j 0).isLt
    have h1 : (j 1).val < 1 := (j 1).isLt
    show (j 2).val * 128 + (j 3).val = (((j 0).val * 1 + (j 1).val) * 512 + (j 2).val) * 128 + (j 3).val
    omega)

/-- The tokens `n`, `n + 16`, …, rounded and stored as position `p` of pair `q`, `n = 2 q + p`, are that block of the
   tile's cotangent. -/
theorem piece_eq {κ : Kind} {sp : Space} (v1 : View sig κ sp S8192x128 .f32) (f0 : v1.ty.Contents (Elt F)) (n q p : ℕ) (hq : q < 8) (hp : p < 2)
    (hn : n = 2 * q + p) (off : Fin 4 → ℕ) (hoff : off = ![0, q, 0, 128 * p])
    (inb1 : ∀ a, S512x128.size a = 0 ∨ (![n, 0] : Fin 2 → Nat) a + (![16, 1] : Fin 2 → Nat) a * (S512x128.size a - 1) < S8192x128.size a)
    (inb5 : ∀ a, off a + S1x1x512x128.size a ≤ S1x8x512x256.size a)
    (x : (Rect.unit (s := S1x8x512x256) off S1x1x512x128.size inb5).shape.Idx) :
    k0_pay4 (View.readAt (Elt F) v1 ⟨![n, 0], S512x128.size, ![16, 1], inb1⟩ f0) x
      = dysOf (v1.read (Elt F) f0) ((Rect.unit (s := S1x8x512x256) off S1x1x512x128.size inb5).emb x) := by
  subst hoff
  unfold k0_pay4 dysOf
  refine (cast2_apply _ _ _).trans ?_
  refine congrArg (FloatOps.truncf (F := F) .bf16 bitsLt_bf16_f32) ?_
  show v1.read (Elt F) f0 _ = v1.read (Elt F) f0 _
  congr 1
  funext a
  apply Fin.ext
  have h1 : (x 1).val < 1 := (x 1).isLt
  have h2 : (x 2).val < 512 := (x 2).isLt
  have h3 : (x 3).val < 128 := (x 3).isLt
  match a with
  | ⟨0, _⟩ => show n + 16 * (x 2).val = 16 * (0 + 1 * (x 2).val) + 2 * (q + 1 * (x 1).val) + (128 * p + 1 * (x 3).val) / 128; omega
  | ⟨1, _⟩ => show 0 + 1 * (x 3).val = (128 * p + 1 * (x 3).val) % 128; omega

/-- The sixteen stores of the tile's cotangent, last first. -/
abbrev dyPieces {κ : Kind} {sp : Space} (v1 : View sig κ sp S8192x128 .f32) (f0 : v1.ty.Contents (Elt F)) : List (View.Piece (Elt F) S1x8x512x256 .bf16) :=
  [⟨Rect.unit ![0, 7, 0, 128] S1x1x512x128.size inb_S1x8x512x256_S1x1x512x128_0_7_0_128, k0_pay19 (View.readAt (Elt F) v1 ⟨![15, 0], S512x128.size, ![16, 1], inb_S8192x128_S512x128_15_0_s_16_1⟩ f0)⟩,
   ⟨Rect.unit ![0, 7, 0, 0] S1x1x512x128.size inb_S1x8x512x256_S1x1x512x128_0_7_0_0, k0_pay18 (View.readAt (Elt F) v1 ⟨![14, 0], S512x128.size, ![16, 1], inb_S8192x128_S512x128_14_0_s_16_1⟩ f0)⟩,
   ⟨Rect.unit ![0, 6, 0, 128] S1x1x512x128.size inb_S1x8x512x256_S1x1x512x128_0_6_0_128, k0_pay17 (View.readAt (Elt F) v1 ⟨![13, 0], S512x128.size, ![16, 1], inb_S8192x128_S512x128_13_0_s_16_1⟩ f0)⟩,
   ⟨Rect.unit ![0, 6, 0, 0] S1x1x512x128.size inb_S1x8x512x256_S1x1x512x128_0_6_0_0, k0_pay16 (View.readAt (Elt F) v1 ⟨![12, 0], S512x128.size, ![16, 1], inb_S8192x128_S512x128_12_0_s_16_1⟩ f0)⟩,
   ⟨Rect.unit ![0, 5, 0, 128] S1x1x512x128.size inb_S1x8x512x256_S1x1x512x128_0_5_0_128, k0_pay15 (View.readAt (Elt F) v1 ⟨![11, 0], S512x128.size, ![16, 1], inb_S8192x128_S512x128_11_0_s_16_1⟩ f0)⟩,
   ⟨Rect.unit ![0, 5, 0, 0] S1x1x512x128.size inb_S1x8x512x256_S1x1x512x128_0_5_0_0, k0_pay14 (View.readAt (Elt F) v1 ⟨![10, 0], S512x128.size, ![16, 1], inb_S8192x128_S512x128_10_0_s_16_1⟩ f0)⟩,
   ⟨Rect.unit ![0, 4, 0, 128] S1x1x512x128.size inb_S1x8x512x256_S1x1x512x128_0_4_0_128, k0_pay13 (View.readAt (Elt F) v1 ⟨![9, 0], S512x128.size, ![16, 1], inb_S8192x128_S512x128_9_0_s_16_1⟩ f0)⟩,
   ⟨Rect.unit ![0, 4, 0, 0] S1x1x512x128.size inb_S1x8x512x256_S1x1x512x128_0_4_0_0, k0_pay12 (View.readAt (Elt F) v1 ⟨![8, 0], S512x128.size, ![16, 1], inb_S8192x128_S512x128_8_0_s_16_1⟩ f0)⟩,
   ⟨Rect.unit ![0, 3, 0, 128] S1x1x512x128.size inb_S1x8x512x256_S1x1x512x128_0_3_0_128, k0_pay11 (View.readAt (Elt F) v1 ⟨![7, 0], S512x128.size, ![16, 1], inb_S8192x128_S512x128_7_0_s_16_1⟩ f0)⟩,
   ⟨Rect.unit ![0, 3, 0, 0] S1x1x512x128.size inb_S1x8x512x256_S1x1x512x128_0_3_0_0, k0_pay10 (View.readAt (Elt F) v1 ⟨![6, 0], S512x128.size, ![16, 1], inb_S8192x128_S512x128_6_0_s_16_1⟩ f0)⟩,
   ⟨Rect.unit ![0, 2, 0, 128] S1x1x512x128.size inb_S1x8x512x256_S1x1x512x128_0_2_0_128, k0_pay9 (View.readAt (Elt F) v1 ⟨![5, 0], S512x128.size, ![16, 1], inb_S8192x128_S512x128_5_0_s_16_1⟩ f0)⟩,
   ⟨Rect.unit ![0, 2, 0, 0] S1x1x512x128.size inb_S1x8x512x256_S1x1x512x128_0_2_0_0, k0_pay8 (View.readAt (Elt F) v1 ⟨![4, 0], S512x128.size, ![16, 1], inb_S8192x128_S512x128_4_0_s_16_1⟩ f0)⟩,
   ⟨Rect.unit ![0, 1, 0, 128] S1x1x512x128.size inb_S1x8x512x256_S1x1x512x128_0_1_0_128, k0_pay7 (View.readAt (Elt F) v1 ⟨![3, 0], S512x128.size, ![16, 1], inb_S8192x128_S512x128_3_0_s_16_1⟩ f0)⟩,
   ⟨Rect.unit ![0, 1, 0, 0] S1x1x512x128.size inb_S1x8x512x256_S1x1x512x128_0_1_0_0, k0_pay6 (View.readAt (Elt F) v1 ⟨![2, 0], S512x128.size, ![16, 1], inb_S8192x128_S512x128_2_0_s_16_1⟩ f0)⟩,
   ⟨Rect.unit ![0, 0, 0, 128] S1x1x512x128.size inb_S1x8x512x256_S1x1x512x128_0_0_0_128, k0_pay5 (View.readAt (Elt F) v1 ⟨![1, 0], S512x128.size, ![16, 1], inb_S8192x128_S512x128_1_0_s_16_1⟩ f0)⟩,
   ⟨Rect.unit ![0, 0, 0, 0] S1x1x512x128.size inb_S1x8x512x256_S1x1x512x128_0_0_0_0, k0_pay4 (View.readAt (Elt F) v1 ⟨![0, 0], S512x128.size, ![16, 1], inb_S8192x128_S512x128_0_0_s_16_1⟩ f0)⟩]

/-- Each of the sixteen stores is its block of the tile's cotangent. -/
theorem dyPieces_of {κ : Kind} {sp : Space} (v1 : View sig κ sp S8192x128 .f32) (f0 : v1.ty.Contents (Elt F)) :
    View.PiecesOf (dysOf (v1.read (Elt F) f0)) (dyPieces v1 f0) :=
  ⟨fun x => piece_eq v1 f0 15 7 1 (by omega) (by omega) rfl ![0, 7, 0, 128] rfl inb_S8192x128_S512x128_15_0_s_16_1 inb_S1x8x512x256_S1x1x512x128_0_7_0_128 x,
   fun x => piece_eq v1 f0 14 7 0 (by omega) (by omega) rfl ![0, 7, 0, 0] rfl inb_S8192x128_S512x128_14_0_s_16_1 inb_S1x8x512x256_S1x1x512x128_0_7_0_0 x,
   fun x => piece_eq v1 f0 13 6 1 (by omega) (by omega) rfl ![0, 6, 0, 128] rfl inb_S8192x128_S512x128_13_0_s_16_1 inb_S1x8x512x256_S1x1x512x128_0_6_0_128 x,
   fun x => piece_eq v1 f0 12 6 0 (by omega) (by omega) rfl ![0, 6, 0, 0] rfl inb_S8192x128_S512x128_12_0_s_16_1 inb_S1x8x512x256_S1x1x512x128_0_6_0_0 x,
   fun x => piece_eq v1 f0 11 5 1 (by omega) (by omega) rfl ![0, 5, 0, 128] rfl inb_S8192x128_S512x128_11_0_s_16_1 inb_S1x8x512x256_S1x1x512x128_0_5_0_128 x,
   fun x => piece_eq v1 f0 10 5 0 (by omega) (by omega) rfl ![0, 5, 0, 0] rfl inb_S8192x128_S512x128_10_0_s_16_1 inb_S1x8x512x256_S1x1x512x128_0_5_0_0 x,
   fun x => piece_eq v1 f0 9 4 1 (by omega) (by omega) rfl ![0, 4, 0, 128] rfl inb_S8192x128_S512x128_9_0_s_16_1 inb_S1x8x512x256_S1x1x512x128_0_4_0_128 x,
   fun x => piece_eq v1 f0 8 4 0 (by omega) (by omega) rfl ![0, 4, 0, 0] rfl inb_S8192x128_S512x128_8_0_s_16_1 inb_S1x8x512x256_S1x1x512x128_0_4_0_0 x,
   fun x => piece_eq v1 f0 7 3 1 (by omega) (by omega) rfl ![0, 3, 0, 128] rfl inb_S8192x128_S512x128_7_0_s_16_1 inb_S1x8x512x256_S1x1x512x128_0_3_0_128 x,
   fun x => piece_eq v1 f0 6 3 0 (by omega) (by omega) rfl ![0, 3, 0, 0] rfl inb_S8192x128_S512x128_6_0_s_16_1 inb_S1x8x512x256_S1x1x512x128_0_3_0_0 x,
   fun x => piece_eq v1 f0 5 2 1 (by omega) (by omega) rfl ![0, 2, 0, 128] rfl inb_S8192x128_S512x128_5_0_s_16_1 inb_S1x8x512x256_S1x1x512x128_0_2_0_128 x,
   fun x => piece_eq v1 f0 4 2 0 (by omega) (by omega) rfl ![0, 2, 0, 0] rfl inb_S8192x128_S512x128_4_0_s_16_1 inb_S1x8x512x256_S1x1x512x128_0_2_0_0 x,
   fun x => piece_eq v1 f0 3 1 1 (by omega) (by omega) rfl ![0, 1, 0, 128] rfl inb_S8192x128_S512x128_3_0_s_16_1 inb_S1x8x512x256_S1x1x512x128_0_1_0_128 x,
   fun x => piece_eq v1 f0 2 1 0 (by omega) (by omega) rfl ![0, 1, 0, 0] rfl inb_S8192x128_S512x128_2_0_s_16_1 inb_S1x8x512x256_S1x1x512x128_0_1_0_0 x,
   fun x => piece_eq v1 f0 1 0 1 (by omega) (by omega) rfl ![0, 0, 0, 128] rfl inb_S8192x128_S512x128_1_0_s_16_1 inb_S1x8x512x256_S1x1x512x128_0_0_0_128 x,
   fun x => piece_eq v1 f0 0 0 0 (by omega) (by omega) rfl ![0, 0, 0, 0] rfl inb_S8192x128_S512x128_0_0_s_16_1 inb_S1x8x512x256_S1x1x512x128_0_0_0_0 x, trivial⟩

/-- The sixteen stores cover the tile. -/
theorem dyPieces_cover {κ : Kind} {sp : Space} (v1 : View sig κ sp S8192x128 .f32) (f0 : v1.ty.Contents (Elt F)) (y : S1x8x512x256.Idx) :
    ∃ p ∈ dyPieces v1 f0, y ∈ p.1.set :=
  View.cover_of_tiledL (dyPieces v1 f0) ![1, 1, 512, 128] (by sl_kernel_rfl) y

/-- The tile read whole after the sixteen stores. -/
theorem dyPieces_read {κ κ' : Kind} {sp sp' : Space} (v1 : View sig κ sp S8192x128 .f32) (f0 : v1.ty.Contents (Elt F))
    (v5 : View sig κ' sp' S1x8x512x256 .bf16) (g : v5.ty.Contents (Elt F)) :
    v5.read (Elt F) (v5.writes (Elt F) g (dyPieces v1 f0)) = dysOf (v1.read (Elt F) f0) :=
  funext fun y => View.read_writes_apply_of_pieces v5 g _ _ (dyPieces_of v1 f0).mem y (dyPieces_cover v1 f0 y)

/-- A pair of the tile loaded after the sixteen stores. -/
theorem dyPieces_load {κ κ' : Kind} {sp sp' : Space} (v1 : View sig κ sp S8192x128 .f32) (f0 : v1.ty.Contents (Elt F))
    (v5 : View sig κ' sp' S1x8x512x256 .bf16) (q : Fin 8)
    (inb : ∀ a, (![0, q.val, 0, 0] : Fin 4 → Nat) a + S1x1x512x256.size a ≤ S1x8x512x256.size a) :
    v5.readCov (dyPieces v1 f0) (Rect.unit (s := S1x8x512x256) ![0, q.val, 0, 0] S1x1x512x256.size inb).toLoadRect = dysPair (dysOf (v1.read (Elt F) f0)) q := by
  funext j
  refine (congrFun (dyPieces_read v1 f0 v5 _) _).trans ?_
  unfold dysPair
  congr 1
  funext a
  apply Fin.ext
  have h0 : (j 0).val < 1 := (j 0).isLt
  have h1 : (j 1).val < 1 := (j 1).isLt
  match a with
  | ⟨0, _⟩ => show 0 + 1 * (j 0).val = 0; omega
  | ⟨1, _⟩ => show q.val + 1 * (j 1).val = q.val; omega
  | ⟨2, _⟩ => show 0 + 1 * (j 2).val = (j 2).val; omega
  | ⟨3, _⟩ => show 0 + 1 * (j 3).val = (j 3).val; omega

/-- A pair of the readout weights loaded. -/
theorem w_load {κ : Kind} {sp : Space} (v2 : View sig κ sp S1x8x256x1024 .bf16) (f1 : v2.ty.Contents (Elt F)) (q : Fin 8)
    (inb : ∀ a, (![0, q.val, 0, 0] : Fin 4 → Nat) a + S1x1x256x1024.size a ≤ S1x8x256x1024.size a) :
    v2.readAt (Elt F) (Rect.unit (s := S1x8x256x1024) ![0, q.val, 0, 0] S1x1x256x1024.size inb).toLoadRect f1 = wPair (v2.read (Elt F) f1) q := by
  funext j
  unfold wPair
  show v2.read (Elt F) f1 _ = _
  congr 1
  funext a
  apply Fin.ext
  have h0 : (j 0).val < 1 := (j 0).isLt
  have h1 : (j 1).val < 1 := (j 1).isLt
  match a with
  | ⟨0, _⟩ => show 0 + 1 * (j 0).val = 0; omega
  | ⟨1, _⟩ => show q.val + 1 * (j 1).val = q.val; omega
  | ⟨2, _⟩ => show 0 + 1 * (j 2).val = (j 2).val; omega
  | ⟨3, _⟩ => show 0 + 1 * (j 3).val = (j 3).val; omega

/-- A row of `al` loaded. -/
theorem al_load {κ : Kind} {sp : Space} (v3 : View sig κ sp S1x2x512 .f32) (f2 : v3.ty.Contents (Elt F)) (h : Fin 2)
    (inb : ∀ a, (![0, h.val, 0] : Fin 3 → Nat) a + S1x1x512.size a ≤ S1x2x512.size a) :
    v3.readAt (Elt F) (Rect.unit (s := S1x2x512) ![0, h.val, 0] S1x1x512.size inb).toLoadRect f2 = alRow (v3.read (Elt F) f2) h := by
  funext j
  unfold alRow
  show v3.read (Elt F) f2 _ = _
  congr 1
  funext a
  apply Fin.ext
  have h0 : (j 0).val < 1 := (j 0).isLt
  have h1 : (j 1).val < 1 := (j 1).isLt
  match a with
  | ⟨0, _⟩ => show 0 + 1 * (j 0).val = 0; omega
  | ⟨1, _⟩ => show h.val + 1 * (j 1).val = h.val; omega
  | ⟨2, _⟩ => show 0 + 1 * (j 2).val = (j 2).val; omega

/-- The loads of pair `q` stay inside the tile. -/
theorem pair_inb (q : Fin 8) : ∀ a, (![0, q.val, 0, 0] : Fin 4 → Nat) a + S1x1x512x256.size a ≤ S1x8x512x256.size a := by
  intro a
  have := q.isLt
  match a with
  | ⟨0, _⟩ => show 0 + 1 ≤ 1; omega
  | ⟨1, _⟩ => show q.val + 1 ≤ 8; omega
  | ⟨2, _⟩ => show 0 + 512 ≤ 512; omega
  | ⟨3, _⟩ => show 0 + 256 ≤ 256; omega

/-- The loads of pair `q` stay inside the weights. -/
theorem wpair_inb (q : Fin 8) : ∀ a, (![0, q.val, 0, 0] : Fin 4 → Nat) a + S1x1x256x1024.size a ≤ S1x8x256x1024.size a := by
  intro a
  have := q.isLt
  match a with
  | ⟨0, _⟩ => show 0 + 1 ≤ 1; omega
  | ⟨1, _⟩ => show q.val + 1 ≤ 8; omega
  | ⟨2, _⟩ => show 0 + 256 ≤ 256; omega
  | ⟨3, _⟩ => show 0 + 1024 ≤ 1024; omega

section Loads
variable {κ1 κ2 κ3 κ5 κ8 κ9 : Kind} {sp1 sp2 sp3 sp5 sp8 sp9 : Space}
  (v1 : View sig κ1 sp1 S8192x128 .f32) (f0 : v1.ty.Contents (Elt F)) (v2 : View sig κ2 sp2 S1x8x256x1024 .bf16) (f1 : v2.ty.Contents (Elt F))
  (v3 : View sig κ3 sp3 S1x2x512 .f32) (f2 : v3.ty.Contents (Elt F)) (v5 : View sig κ5 sp5 S1x8x512x256 .bf16)
  (v8 : View sig κ8 sp8 S512x1024 .f32) (v9 : View sig κ9 sp9 S512x1024 .f32)

/-- Pair `q` of the cotangent, as loaded. -/
def dLoad (q : Fin 8) : Vec F S1x1x512x256 .bf16 :=
  v5.readCov (dyPieces v1 f0) (Rect.unit (s := S1x8x512x256) ![0, q.val, 0, 0] S1x1x512x256.size (pair_inb q)).toLoadRect

/-- Pair `q` of the weights, as loaded. -/
def wLoad (q : Fin 8) : Vec F S1x1x256x1024 .bf16 :=
  v2.readAt (Elt F) (Rect.unit (s := S1x8x256x1024) ![0, q.val, 0, 0] S1x1x256x1024.size (wpair_inb q)).toLoadRect f1

/-- The eight pairs' products summed, over the loads. -/
theorem dx_load :
    k0_pay22 (k0_pay21 (k0_pay20 (dLoad v1 f0 v5 0) (wLoad v2 f1 0) (dLoad v1 f0 v5 1) (wLoad v2 f1 1) (dLoad v1 f0 v5 2) (wLoad v2 f1 2))
      (dLoad v1 f0 v5 3) (wLoad v2 f1 3) (dLoad v1 f0 v5 4) (wLoad v2 f1 4) (dLoad v1 f0 v5 5) (wLoad v2 f1 5) (dLoad v1 f0 v5 6) (wLoad v2 f1 6))
      (dLoad v1 f0 v5 7) (wLoad v2 f1 7) = dxOf (v1.read (Elt F) f0) (v2.read (Elt F) f1) := by
  have hd : ∀ q, dLoad v1 f0 v5 q = dysPair (dysOf (v1.read (Elt F) f0)) q := fun q => dyPieces_load v1 f0 v5 q _
  have hw : ∀ q, wLoad v2 f1 q = wPair (v2.read (Elt F) f1) q := fun q => w_load v2 f1 q _
  simp only [hd, hw]
  rfl

/-- A table stored whole reads back. -/
theorem whole_read (g : v8.ty.Contents (Elt F)) (inb : ∀ a, (![0, 0] : Fin 2 → Nat) a + S512x1024.size a ≤ S512x1024.size a) (w : FVec F S512x1024 .f32) :
    v8.read (Elt F) (v8.writes (Elt F) g [⟨Rect.unit (s := S512x1024) ![0, 0] S512x1024.size inb, w⟩]) = w := by
  funext y
  exact View.read_writes_cons_unit_of_mem v8 g inb w [] y y rfl (Fin.forall_fin_two.mpr ⟨(Nat.zero_add _).symm, (Nat.zero_add _).symm⟩)

/-- The scratch of state gradients loaded whole after the loop, its last row zeroed before it. -/
theorem g_load (fs : v9.ty.Contents (Elt F)) (a0 a1 : Vec F S1x1x512 .f32) (dx : FVec F S512x1024 .f32) (n : ℕ) (hn : n = 511)
    (inb : ∀ a, (![0, 0] : Fin 2 → Nat) a + S512x1024.size a ≤ S512x1024.size a) :
    v9.readAt (Elt F) (Rect.unit (s := S512x1024) ![0, 0] S512x1024.size inb).toLoadRect
      (held v9 (v9.writes (Elt F) fs
        [⟨Rect.unit (s := S512x1024) ![511, 512] S1x512.size inb_S512x1024_S1x512_511_512, k0_pay27 (F := F)⟩,
         ⟨Rect.unit (s := S512x1024) ![511, 0] S1x512.size inb_S512x1024_S1x512_511_0, k0_pay26 (F := F)⟩]) a0 a1 dx n) = grads a0 a1 dx := by
  subst hn
  funext y
  have hy : (Rect.unit (s := S512x1024) ![0, 0] S512x1024.size inb).toLoadRect.idx y = y := funext fun a => Fin.ext (by
    match a with
    | ⟨0, _⟩ => show 0 + 1 * (y 0).val = (y 0).val; omega
    | ⟨1, _⟩ => show 0 + 1 * (y 1).val = (y 1).val; omega)
  show v9.read (Elt F) _ ((Rect.unit (s := S512x1024) ![0, 0] S512x1024.size inb).toLoadRect.idx y) = _
  rw [hy]
  refine held_read v9 _ a0 a1 dx ?_ 511 (le_refl _) y (by omega)
  intro y hy
  have h0 := ValueIdx.idx2_lt0 y
  have h1 := ValueIdx.idx2_lt1 y
  have hk : 511 - (y 0).val = 0 := by omega
  unfold grads
  rw [hk]
  by_cases hc : (y 1).val < 512
  · rw [dif_pos hc]
    refine (View.read_writes_cons_unit_of_not_mem v9 fs inb_S512x1024_S1x512_511_512 _ _ y rfl 1 (Or.inl (show (y 1).val < 512 from hc))).trans ?_
    refine (View.read_writes_cons_unit_of_mem v9 fs inb_S512x1024_S1x512_511_0 _ _ y (ValueIdx.ix2 (0 : Fin 1) (⟨(y 1).val, hc⟩ : Fin 512)) rfl
      (Fin.forall_fin_two.mpr ⟨by show (y 0).val = 511 + 0; omega, by show (y 1).val = 0 + (y 1).val; omega⟩)).trans ?_
    rfl
  · rw [dif_neg hc]
    refine (View.read_writes_cons_unit_of_mem v9 fs inb_S512x1024_S1x512_511_512 _ _ y (ValueIdx.ix2 (0 : Fin 1) (⟨(y 1).val - 512, by omega⟩ : Fin 512)) rfl
      (Fin.forall_fin_two.mpr ⟨by show (y 0).val = 511 + 0; omega, by show (y 1).val = 512 + ((y 1).val - 512); omega⟩)).trans ?_
    rfl

/-- The loads of row `h` stay inside `al`. -/
theorem al_inb (h : Fin 2) : ∀ a, (![0, h.val, 0] : Fin 3 → Nat) a + S1x1x512.size a ≤ S1x2x512.size a := by
  intro a
  have := h.isLt
  match a with
  | ⟨0, _⟩ => show 0 + 1 ≤ 1; omega
  | ⟨1, _⟩ => show h.val + 1 ≤ 2; omega
  | ⟨2, _⟩ => show 0 + 512 ≤ 512; omega

/-- The state gradients the kernel loads after its loop, over everything it loaded before. -/
theorem state_load (x0 : Vec F S8192x128 .f32) (x1 : Vec F S1x8x256x1024 .bf16) (x2 : Vec F S1x2x512 .f32)
    (h0 : v1.read (Elt F) f0 = x0) (h1 : v2.read (Elt F) f1 = x1) (h2 : v3.read (Elt F) f2 = x2)
    (fs : v9.ty.Contents (Elt F)) (g8 : v8.ty.Contents (Elt F)) (n : ℕ) (hn : n = 511)
    (inb inb8 : ∀ a, (![0, 0] : Fin 2 → Nat) a + S512x1024.size a ≤ S512x1024.size a) :
    v9.readAt (Elt F) (Rect.unit (s := S512x1024) ![0, 0] S512x1024.size inb).toLoadRect
      (held v9 (v9.writes (Elt F) fs
        [⟨Rect.unit (s := S512x1024) ![511, 512] S1x512.size inb_S512x1024_S1x512_511_512, k0_pay27 (F := F)⟩,
         ⟨Rect.unit (s := S512x1024) ![511, 0] S1x512.size inb_S512x1024_S1x512_511_0, k0_pay26 (F := F)⟩])
        (v3.readAt (Elt F) (Rect.unit (s := S1x2x512) ![0, (0 : Fin 2).val, 0] S1x1x512.size (al_inb 0)).toLoadRect f2)
        (v3.readAt (Elt F) (Rect.unit (s := S1x2x512) ![0, (1 : Fin 2).val, 0] S1x1x512.size (al_inb 1)).toLoadRect f2)
        (v8.read (Elt F) (v8.writes (Elt F) g8 [⟨Rect.unit (s := S512x1024) ![0, 0] S512x1024.size inb8,
          k0_pay22 (k0_pay21 (k0_pay20 (dLoad v1 f0 v5 0) (wLoad v2 f1 0) (dLoad v1 f0 v5 1) (wLoad v2 f1 1) (dLoad v1 f0 v5 2) (wLoad v2 f1 2))
            (dLoad v1 f0 v5 3) (wLoad v2 f1 3) (dLoad v1 f0 v5 4) (wLoad v2 f1 4) (dLoad v1 f0 v5 5) (wLoad v2 f1 5) (dLoad v1 f0 v5 6) (wLoad v2 f1 6))
            (dLoad v1 f0 v5 7) (wLoad v2 f1 7)⟩])) n)
      = gOf x0 x1 x2 := by
  rw [g_load v9 fs _ _ _ n hn, al_load, al_load, whole_read, dx_load, h0, h1, h2]
  rfl

end Loads

/-- The state gradients' output tile, stored whole, reads back. -/
theorem out_read {κ : Kind} {sp : Space} (v : View sig κ sp S1x512x1024 .bf16) (g : v.ty.Contents (Elt F))
    (inb : ∀ a, (![0, 0, 0] : Fin 3 → Nat) a + S1x512x1024.size a ≤ S1x512x1024.size a) (w : FVec F S1x512x1024 .bf16) :
    v.read (Elt F) (v.writes (Elt F) g [⟨Rect.unit (s := S1x512x1024) ![0, 0, 0] S1x512x1024.size inb, w⟩]) = w := by
  funext y
  refine View.read_writes_cons_unit_of_mem v g inb w [] y y rfl fun a => ?_
  match a with
  | ⟨0, _⟩ => exact (Nat.zero_add _).symm
  | ⟨1, _⟩ => exact (Nat.zero_add _).symm
  | ⟨2, _⟩ => exact (Nat.zero_add _).symm

/-- The two rows of `al`'s gradient, stored one after the other, read back. -/
theorem dal_read {κ : Kind} {sp : Space} (v : View sig κ sp S1x2x512 .f32) (g : v.ty.Contents (Elt F))
    (inb0 : ∀ a, (![0, 0, 0] : Fin 3 → Nat) a + S1x1x512.size a ≤ S1x2x512.size a)
    (inb1 : ∀ a, (![0, 1, 0] : Fin 3 → Nat) a + S1x1x512.size a ≤ S1x2x512.size a) (w0 w1 : FVec F S1x1x512 .f32) :
    v.read (Elt F) (v.writes (Elt F) g [⟨Rect.unit (s := S1x2x512) ![0, 1, 0] S1x1x512.size inb1, w1⟩, ⟨Rect.unit (s := S1x2x512) ![0, 0, 0] S1x1x512.size inb0, w0⟩])
      = fun y => if (y 1).val = 0 then w0 (ValueIdx.ix3 (0 : Fin 1) (0 : Fin 1) (y 2)) else w1 (ValueIdx.ix3 (0 : Fin 1) (0 : Fin 1) (y 2)) := by
  funext y
  have h0 : (y 0).val < 1 := (y 0).isLt
  have h1 : (y 1).val < 2 := (y 1).isLt
  by_cases hy : (y 1).val = 0
  · rw [if_pos hy, View.read_writes_cons_unit_of_not_mem v g _ _ _ y rfl 1 (Or.inl (by show (y 1).val < 1; omega))]
    refine View.read_writes_cons_unit_of_mem v g _ _ _ y (ValueIdx.ix3 (0 : Fin 1) (0 : Fin 1) (y 2)) rfl fun a => ?_
    match a with
    | ⟨0, _⟩ => show (y 0).val = 0 + 0; omega
    | ⟨1, _⟩ => show (y 1).val = 0 + 0; omega
    | ⟨2, _⟩ => exact (Nat.zero_add _).symm
  · rw [if_neg hy]
    refine View.read_writes_cons_unit_of_mem v g _ _ _ y (ValueIdx.ix3 (0 : Fin 1) (0 : Fin 1) (y 2)) rfl fun a => ?_
    match a with
    | ⟨0, _⟩ => show (y 0).val = 0 + 0; omega
    | ⟨1, _⟩ => show (y 1).val = 1 + 0; omega
    | ⟨2, _⟩ => exact (Nat.zero_add _).symm

/-- The chunk states loaded whole are the tile. -/
theorem x_load {κ : Kind} {sp : Space} (v : View sig κ sp S1x512x1024 .f32) (f : v.ty.Contents (Elt F))
    (inb : ∀ a, (![0, 0, 0] : Fin 3 → Nat) a + S1x512x1024.size a ≤ S1x512x1024.size a) :
    v.readAt (Elt F) (Rect.unit (s := S1x512x1024) ![0, 0, 0] S1x512x1024.size inb).toLoadRect f = v.read (Elt F) f := by
  funext y
  refine congrArg (v.read (Elt F) f) (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The gradient of `al` from a table equal to the state gradients and a table equal to the chunk states. -/
theorem dal_of (x0 : Vec F S8192x128 .f32) (x1 : Vec F S1x8x256x1024 .bf16) (x2 : Vec F S1x2x512 .f32) (x3 : Vec F S1x512x1024 .f32)
    {G : Vec F S512x1024 .f32} {X : Vec F S1x512x1024 .f32} (hG : G = gOf x0 x1 x2) (hX : X = x3) :
    (fun y : S1x2x512.Idx => if (y 1).val = 0 then k0_pay1 (k0_pay33 G) (k0_pay34 G) (k0_pay35 X) (k0_pay36 X) (ValueIdx.ix3 (0 : Fin 1) (0 : Fin 1) (y 2))
      else k0_pay2 (k0_pay33 G) (k0_pay34 G) (k0_pay35 X) (k0_pay36 X) (ValueIdx.ix3 (0 : Fin 1) (0 : Fin 1) (y 2))) = dalOf x0 x1 x2 x3 := by
  subst hG hX
  rfl

end Cert.KernelIdeal.Ssm

end
-- ==== Proof.Body.lean ====
module

public import proofs.«01_k».proof.Proof.Values
public import proofs.«01_k».proof.Proof.Gen.KernelIdeal.Launch

@[expose] public section

set_option maxRecDepth 16384

noncomputable section

namespace Cert.KernelIdeal.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Idealize.ShloMosaic.ValueIdx

variable {F : FTy → Type} [FloatOps F]

local notation "𝕄" => MT nD τ sig Unit (Elt F) ℕ (UR sig nD τ) ℕ

set_option maxHeartbeats 4000000 in
/-- The kernel body's triple: on whole memrefs holding the four input tiles, it ends with the three output tiles
   holding the tile's cotangent by pairs, its state gradients and its gradient of `al`. -/
theorem body_run (c : Dev nD) (i : grid0.Coords) (arg1 : Memref sig .tc .vmem S8192x128 .f32) (harg1 : arg1.IsWhole) (arg2 : Memref sig .tc .vmem S1x8x256x1024 .bf16) (harg2 : arg2.IsWhole) (arg3 : Memref sig .tc .vmem S1x2x512 .f32) (harg3 : arg3.IsWhole) (arg4 : Memref sig .tc .vmem S1x512x1024 .f32) (harg4 : arg4.IsWhole) (arg5 : Memref sig .tc .vmem S1x8x512x256 .bf16) (harg5 : arg5.IsWhole) (arg6 : Memref sig .tc .vmem S1x512x1024 .bf16) (harg6 : arg6.IsWhole) (arg7 : Memref sig .tc .vmem S1x2x512 .f32) (harg7 : arg7.IsWhole) (arg8 : Memref sig .tc .vmem S512x1024 .f32) (harg8 : arg8.IsWhole) (arg9 : Memref sig .tc .vmem S512x1024 .f32) (harg9 : arg9.IsWhole)
    (x0 : Vec F S8192x128 .f32) (x1 : Vec F S1x8x256x1024 .bf16) (x2 : Vec F S1x2x512 .f32) (x3 : Vec F S1x512x1024 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (dysOf x0) ∗ owns (c : Thread nD τ) arg6 fullShare (k0_pay3 (gOf x0 x1 x2)) ∗ owns (c : Thread nD τ) arg7 fullShare (dalOf x0 x1 x2 x3) ∗ (∃ d, owns (c : Thread nD τ) arg8 fullShare d) ∗ (∃ d, owns (c : Thread nD τ) arg9 fullShare d)) -∗ K ⟨⟩))
          ⊢ wp frame (wpE (defs₀ (F := F)) Variants.none c none) E (cc0_ssm_bwd_state i arg1 harg1 arg2 harg2 arg3 harg3 arg4 harg4 arg5 harg5 arg6 harg6 arg7 harg7 arg8 harg8 arg9 harg9) K := by
    intro E K
    simp only [cc0_ssm_bwd_state_eq_skeleton]; unfold cc0_ssm_bwd_state_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%d5, %f5, -, H5⟩, ⟨%d6, %f6, -, H6⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; swap; · iexact H4
      ipureintro
      sl_unfold_words
      exact (dyPieces_read arg1.view _ arg5.view _).trans (congrArg dysOf hf0)
    isplitl [H5]
    · iexists _; isplitr; swap; · iexact H5
      ipureintro
      sl_unfold_words
      exact (out_read arg6.view _ _ _).trans (congrArg k0_pay3 (state_load arg1.view _ arg2.view _ arg3.view _ arg5.view arg8.view arg9.view x0 x1 x2 hf0 hf1 hf2 _ _ _ rfl _ _))
    isplitl [H6]
    · iexists _; isplitr; swap; · iexact H6
      ipureintro
      sl_unfold_words
      refine (dal_read arg7.view _ _ _ _ _).trans ?_
      have hg := state_load arg1.view _ arg2.view _ arg3.view _ arg5.view arg8.view arg9.view x0 x1 x2 hf0 hf1 hf2 fs1 arg8.view.junk _ (rfl : Scf.trips k0_t1_loop.lb k0_t1_loop.ub k0_t1_loop.st = 511) inb_S512x1024_S512x1024_0_0 inb_S512x1024_S512x1024_0_0
      have hx := (x_load arg4.view _ inb_S1x512x1024_S1x512x1024_0_0_0).trans hf3
      exact dal_of x0 x1 x2 x3 hg hx
    isplitl [HS0]
    · iexists _, _; isplitr; swap; · iexact HS0
      ipureintro; rfl
    iexists _, _; isplitr; swap; · iexact HS1
    ipureintro; rfl

end Cert.KernelIdeal.Ssm

end
-- ==== Proof.Run.lean ====
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Ssm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: the arrays as launched; after the body at tile `t` the inputs' buffers at their blocks, the
    outputs' at the tile's cotangent by pairs, its state gradients and its gradient of `al`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dysOf (iblk m c 0 t)
    | ⟨5, _⟩ => k0_pay3 (gOf (iblk m c 0 t) (iblk m c 1 t) (iblk m c 2 t))
    | ⟨6, _⟩ => dalOf (iblk m c 0 t) (iblk m c 1 t) (iblk m c 2 t) (iblk m c 3 t)
  Φ _ := Pipeline.ΦA spec0 c
  q _ := fullShare
  owed _ := 0

/-- The proof data's arrays are the arrays as launched. -/
theorem A_eq (c : Dev nD) (w : Fin cfg0.W) : (dats m 0 c).A w = V m c (Pipeline.arrRef spec0 w) := by
  dsimp only [dats]

/-! What the body leaves, window by window. -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = dysOf (iblk m c 0 t) := by dsimp only [dats]
theorem after_5 (c : Dev nD) (t : Fin cfg0.N) : (dats m 0 c).after 5 t = k0_pay3 (gOf (iblk m c 0 t) (iblk m c 1 t) (iblk m c 2 t)) := by dsimp only [dats]
theorem after_6 (c : Dev nD) (t : Fin cfg0.N) : (dats m 0 c).after 6 t = dalOf (iblk m c 0 t) (iblk m c 1 t) (iblk m c 2 t) (iblk m c 3 t) := by dsimp only [dats]

/-! Each input's current buffer holds its block when the body runs. -/

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d

/-- Window `w`'s current staging memref at tile `t`. -/
abbrev stg (w : Fin cfg0.W) (t : Fin cfg0.N) := (cfg0.win w).stage (cfg0.slots t w)

/-- The invariant between tiles: both scratch tables and the generator register, at some contents. -/
theorem scratch_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-- What the body is called with at tile `t`. -/
def bodyPre (c : Dev nD) (t : Fin cfg0.N) : sProp 𝕄 :=
  iprop((dats m 0 c).Φ t.castSucc ∗ (dats m 0 c).owesAt () t.castSucc
    ∗ (∃ d, owns (c : Thread nD τ) (stg 0 t) fullShare ((dats m 0 c).before 0 t d))
    ∗ (∃ d, owns (c : Thread nD τ) (stg 1 t) fullShare ((dats m 0 c).before 1 t d))
    ∗ (∃ d, owns (c : Thread nD τ) (stg 2 t) fullShare ((dats m 0 c).before 2 t d))
    ∗ (∃ d, owns (c : Thread nD τ) (stg 3 t) fullShare ((dats m 0 c).before 3 t d))
    ∗ (∃ d, owns (c : Thread nD τ) (stg 4 t) fullShare ((dats m 0 c).before 4 t d))
    ∗ (∃ d, owns (c : Thread nD τ) (stg 5 t) fullShare ((dats m 0 c).before 5 t d))
    ∗ (∃ d, owns (c : Thread nD τ) (stg 6 t) fullShare ((dats m 0 c).before 6 t d)))

/-- What the body returns at tile `t`. -/
def bodyPost (c : Dev nD) (t : Fin cfg0.N) : sProp 𝕄 :=
  iprop((dats m 0 c).Φ t.succ ∗ (dats m 0 c).owesAt () t.succ
    ∗ owns (c : Thread nD τ) (stg 0 t) fullShare ((dats m 0 c).after 0 t)
    ∗ owns (c : Thread nD τ) (stg 1 t) fullShare ((dats m 0 c).after 1 t)
    ∗ owns (c : Thread nD τ) (stg 2 t) fullShare ((dats m 0 c).after 2 t)
    ∗ owns (c : Thread nD τ) (stg 3 t) fullShare ((dats m 0 c).after 3 t)
    ∗ owns (c : Thread nD τ) (stg 4 t) fullShare ((dats m 0 c).after 4 t)
    ∗ owns (c : Thread nD τ) (stg 5 t) fullShare ((dats m 0 c).after 5 t)
    ∗ owns (c : Thread nD τ) (stg 6 t) fullShare ((dats m 0 c).after 6 t))

set_option maxHeartbeats 800000 in
/-- The body at any tile, from the body's triple. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  rw [show (dats m 0 c).Φ t.castSucc = Pipeline.ΦA spec0 c from rfl, scratch_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩⟩
  iapply ((body_run c (grid0.coords t) _ _ _ _ _ _ _ _ _ _ _ _ _ _ _ _ _ _ (iblk m c 0 t) (iblk m c 1 t) (iblk m c 2 t) (iblk m c 3 t)) Set.univ _)
  isplitl [H0]; · iexact H0
  isplitl [H1]; · iexact H1
  isplitl [H2]; · iexact H2
  isplitl [H3]; · iexact H3
  isplitl [H4]; · iexists _; iexact H4
  isplitl [H5]; · iexists _; iexact H5
  isplitl [H6]; · iexists _; iexact H6
  isplitl [HS0]; · iexact HS0
  isplitl [HS1]; · iexact HS1
  iintro ⟨H0, H1, H2, H3, H4, H5, H6, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at tile `t`'s slots is the body at `t`. -/
theorem row_eq (t : Fin cfg0.N) : defs₀ (F := F) .tc cfg0.body (cfg0.bodyArgs t (cfg0.slots t)) = bodyAt0 t := by
  unfold defs₀; rw [Defs.onTc_tc]

/-- The pipeline's body obligation at every tile. -/
theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

set_option backward.isDefEq.respectTransparency.types false in
/-- The launch: every array at what the proof data say, and every counter at zero. -/
theorem run_main : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hΦ := fun _ _ => rfl)

/-- The frame: the arguments unchanged, and every counter at zero. -/
theorem run_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  θ_run_and (frame_of m ρ (dats m) (A_eq m) ((θ_run defs _ _).mono (fun _ h => h.1) (run_main m ρ))) ((θ_run defs _ _).mono (fun _ h => h.2) (run_main m ρ))

end Cert.KernelIdeal.Ssm

end
-- ==== Proof.Algebra.lean ====
module

public import proofs.«01_k».proof.Proof.Values
public import proofs.«01_k».proof.Proof.Gen.ReferenceIdeal.Step
public import Idealize.ShloMosaic.Lib.Pointwise

@[expose] public section

set_option maxRecDepth 16384

noncomputable section

namespace Cert.KernelIdeal.Ssm

open Idealize.ShloMosaic Idealize.ShloMosaic.TcCoe Idealize.ShloMosaic.Tactic
open Cert.KernelIdeal.Gen

/-- One lane of the backward recurrence over the chunks, real and imaginary half: the state gradient after `k` chunks,
    last chunk first, from the chunks' own gradients `dr`, `di` and the two entries of `al`. -/
def back (a0 a1 : EReal) (dr di : ℕ → EReal) : ℕ → EReal × EReal
  | 0 => (0, 0)
  | k + 1 => (dr (511 - k) + a0 * (back a0 a1 dr di k).1 + a1 * (back a0 a1 dr di k).2,
              di (511 - k) + a0 * (back a0 a1 dr di k).2 - a1 * (back a0 a1 dr di k).1)

/-- A table's lane `s` as a sequence over its rows. -/
def lane (dx : FVec Ideal S512x1024 .f32) (s : Fin 1024) (r : ℕ) : EReal := dx (ix2 (⟨r % 512, Nat.mod_lt _ (by omega)⟩ : Fin 512) s)

/-- Lane `l` of the first half, and of the second. -/
abbrev lo (l : Fin 512) : Fin 1024 := ⟨l.val, by omega⟩
abbrev hi (l : Fin 512) : Fin 1024 := ⟨512 + l.val, by omega⟩

/-- What the kernel's loop carries is the recurrence, lane by lane. -/
theorem carried_eq (a0 a1 : Vec Ideal S1x1x512 .f32) (dx : FVec Ideal S512x1024 .f32) (l : Fin 512) : ∀ k,
    (carried a0 a1 dx k).1 (ix2 (0 : Fin 1) l) = (back (a0 (ix3 (0 : Fin 1) (0 : Fin 1) l)) (a1 (ix3 (0 : Fin 1) (0 : Fin 1) l)) (lane dx (lo l)) (lane dx (hi l)) k).1
    ∧ (carried a0 a1 dx k).2 (ix2 (0 : Fin 1) l) = (back (a0 (ix3 (0 : Fin 1) (0 : Fin 1) l)) (a1 (ix3 (0 : Fin 1) (0 : Fin 1) l)) (lane dx (lo l)) (lane dx (hi l)) k).2
  | 0 => by
    have h0 : k0_pay25 (F := Ideal) (ix2 (0 : Fin 1) l) = (0 : EReal) := by pointwise [k0_pay25]
    exact ⟨h0, h0⟩
  | k + 1 => by
    obtain ⟨h1, h2⟩ := carried_eq a0 a1 dx l k
    constructor
    · show k0_pay28 a0 a1 (carried a0 a1 dx k).1 (carried a0 a1 dx k).2 (halfRow dx (511 - k) 0) (ix2 (0 : Fin 1) l) = _
      pointwise [k0_pay28, k0_pay23, k0_pay24]
      rw [h1, h2]
      refine congrArg (fun z => z + _ + _) (congrArg dx (congrArg (ix2 _) (Fin.ext ?_)))
      show 512 * 0 + l.val = l.val
      omega
    · show k0_pay29 a0 a1 (carried a0 a1 dx k).1 (carried a0 a1 dx k).2 (halfRow dx (511 - k) 1) (ix2 (0 : Fin 1) l) = _
      pointwise [k0_pay29, k0_pay23, k0_pay24]
      rw [h1, h2]
      rfl

/-- The kernel's state gradients are the recurrence: chunk `r` holds step `511 - r`. -/
theorem grads_lo (a0 a1 : Vec Ideal S1x1x512 .f32) (dx : FVec Ideal S512x1024 .f32) (r : Fin 512) (l : Fin 512) :
    grads a0 a1 dx (ix2 r (lo l)) = (back (a0 (ix3 (0 : Fin 1) (0 : Fin 1) l)) (a1 (ix3 (0 : Fin 1) (0 : Fin 1) l)) (lane dx (lo l)) (lane dx (hi l)) (511 - r.val)).1 :=
  (dif_pos (show l.val < 512 from l.isLt)).trans (carried_eq a0 a1 dx l (511 - r.val)).1

theorem grads_hi (a0 a1 : Vec Ideal S1x1x512 .f32) (dx : FVec Ideal S512x1024 .f32) (r : Fin 512) (l : Fin 512) :
    grads a0 a1 dx (ix2 r (hi l)) = (back (a0 (ix3 (0 : Fin 1) (0 : Fin 1) l)) (a1 (ix3 (0 : Fin 1) (0 : Fin 1) l)) (lane dx (lo l)) (lane dx (hi l)) (511 - r.val)).2 := by
  refine (dif_neg (show ¬ (512 + l.val < 512) by omega)).trans (Eq.trans ?_ (carried_eq a0 a1 dx l (511 - r.val)).2)
  refine congrArg (carried a0 a1 dx (511 - r.val)).2 (congrArg (ix2 (0 : Fin 1)) (Fin.ext ?_))
  show 512 + l.val - 512 = l.val
  omega

/-- The chunk gradients of a tile, an element. -/
theorem dxOf_eq (x0 : Vec Ideal S8192x128 .f32) (x1 : Vec Ideal S1x8x256x1024 .bf16) (r : Fin 512) (s : Fin 1024) :
    dxOf x0 x1 (ix2 r s) = ∑ q : Fin 8, ∑ k : Fin 256,
      x0 (ix2 (⟨16 * r.val + 2 * q.val + k.val / 128, by omega⟩ : Fin 8192) (⟨k.val % 128, by omega⟩ : Fin 128)) * x1 (ix4 (0 : Fin 1) q k s) := by
  have hq : ∀ q : Fin 8, ∑ k : Fin 256,
      x0 (ix2 (⟨16 * r.val + 2 * q.val + k.val / 128, by omega⟩ : Fin 8192) (⟨k.val % 128, by omega⟩ : Fin 128)) * x1 (ix4 (0 : Fin 1) q k s)
      = ∑ k : Fin 256, dysPair (dysOf x0) q (ix4 0 0 r k) * wPair x1 q (ix4 0 0 k s) := fun q => rfl
  simp only [hq]
  rw [Fin.sum_univ_eight]
  pointwise [dxOf, k0_pay22, k0_pay21, k0_pay20]

/-- The two sums over the chunks that make a tile's gradient of `al`. -/
theorem dal_lo (G : FVec Ideal S512x1024 .f32) (x3 : Vec Ideal S1x512x1024 .f32) (l : Fin 512) :
    k0_pay1 (k0_pay33 G) (k0_pay34 G) (k0_pay35 x3) (k0_pay36 x3) (ix3 (0 : Fin 1) (0 : Fin 1) l)
      = ∑ r : Fin 512, (G (ix2 r (lo l)) * x3 (ix3 (0 : Fin 1) r (lo l)) + G (ix2 r (hi l)) * x3 (ix3 (0 : Fin 1) r (hi l))) := by
  pointwise [k0_pay1, k0_pay33, k0_pay34, k0_pay35, k0_pay36, k0_pay32]

theorem dal_hi (G : FVec Ideal S512x1024 .f32) (x3 : Vec Ideal S1x512x1024 .f32) (l : Fin 512) :
    k0_pay2 (k0_pay33 G) (k0_pay34 G) (k0_pay35 x3) (k0_pay36 x3) (ix3 (0 : Fin 1) (0 : Fin 1) l)
      = ∑ r : Fin 512, (G (ix2 r (hi l)) * x3 (ix3 (0 : Fin 1) r (lo l)) - G (ix2 r (lo l)) * x3 (ix3 (0 : Fin 1) r (hi l))) := by
  pointwise [k0_pay2, k0_pay33, k0_pay34, k0_pay35, k0_pay36, k0_pay32]

end Cert.KernelIdeal.Ssm

namespace Cert.ReferenceIdeal.Ssm

open Idealize.ShloMosaic Idealize.ShloMosaic.TcCoe
open Cert.ReferenceIdeal.Gen Cert.ReferenceIdeal.Step
open Cert.KernelIdeal.Ssm (back lo hi)

/-- The row trip `j` of the reference's reverse scan reads and writes. -/
theorem row_eq : ∀ j : Fin 512, (min (max ((IntOp.subi (IntOp.subi 512#32 (BitVec.ofNat 32 j.val)) 1#32)).toInt 0) ((512 - 1 : Nat) : Int)).toNat = 511 - j.val := by decide +kernel

/-- The reference's chunk gradients, an element. -/
theorem dx_eq (dy : (⟨S8192x1024, .f32⟩ : BufTy).Contents (Elt Ideal)) (v2 : (⟨S8x8x256x1024, .bf16⟩ : BufTy).Contents (Elt Ideal)) (xp : (⟨S8x512x1024, .f32⟩ : BufTy).Contents (Elt Ideal))
    (t : Fin 8) (r : Fin 512) (s : Fin 1024) :
    A_main_v12 dy v2 xp (ix3 r t s) = ∑ q : Fin 8, ∑ k : Fin 256,
      dy (ix2 (⟨16 * r.val + 2 * q.val + k.val / 128, by omega⟩ : Fin 8192) (⟨128 * t.val + k.val % 128, by omega⟩ : Fin 1024)) * v2 (ix4 t q k s) := by
  pointwise [A_main_v12, A_main_v8, A_main_v7, A_main_v6, A_main_v5, A_main_v0]
  refine Finset.sum_congr rfl fun q _ => Finset.sum_congr rfl fun k _ => ?_
  refine congrArg (fun z => z * _) (congrArg dy (congrArg₂ ix2 (Fin.ext ?_) (Fin.ext ?_)))
  · show r.val * 16 + q.val * 2 + k.val / 128 = 16 * r.val + 2 * q.val + k.val / 128
    omega
  · show t.val * 128 + k.val % 128 = 128 * t.val + k.val % 128
    omega

/-- Row `511 - j` of a table of 512 rows. -/
abbrev row (j : ℕ) : Fin 512 := ⟨511 - j, by omega⟩

/-- Where trip `j`'s slices start: row `511 - j`, the first entry of the other two axes. -/
abbrev starts (j : ℕ) (s : State Ideal) (k : Fin 3) : Int :=
  (((![(b3 j s), (b4 j s), (b5 j s)] : Fin 3 → (⟨S_, .i32⟩ : BufTy).Contents (Elt Ideal))) k (Shape.Idx.first h_S_)).toInt

theorem start_0 (j : ℕ) (hj : j < 512) (s : State Ideal) (h : S1x8x1024.rank = S512x8x1024.rank) : Host.clampedStart S512x8x1024 S1x8x1024 h (starts j s) 0 = 511 - j :=
  row_eq ⟨j, hj⟩
theorem start_1 (j : ℕ) (s : State Ideal) (h : S1x8x1024.rank = S512x8x1024.rank) : Host.clampedStart S512x8x1024 S1x8x1024 h (starts j s) 1 = 0 := rfl
theorem start_2 (j : ℕ) (s : State Ideal) (h : S1x8x1024.rank = S512x8x1024.rank) : Host.clampedStart S512x8x1024 S1x8x1024 h (starts j s) 2 = 0 := rfl

/-- What trip `j` reads of a table: its row `511 - j`. -/
theorem read_row (x : FVec Ideal S512x8x1024 .f32) (j : ℕ) (hj : j < 512) (s : State Ideal) (t : Fin 8) (u : Fin 1024) :
    shapeCast S8x1024 (Host.dynamicSlice S1x8x1024 x (starts j s) sliceFits_S512x8x1024_S1x8x1024) shapeCasts_S1x8x1024_S8x1024 (ix2 t u)
      = x (ix3 (row j) t u) := by
  pointwise
  refine congrArg x (congr (congr (congrArg ix3 (Fin.ext ?_)) (Fin.ext ?_)) (Fin.ext ?_))
  · exact start_0 j hj s rfl
  · exact (congrArg (· + t.val) (start_1 j s rfl)).trans (Nat.zero_add _)
  · exact (congrArg (· + u.val) (start_2 j s rfl)).trans (Nat.zero_add _)

theorem b7_eq (j : ℕ) (hj : j < 512) (s : State Ideal) (t : Fin 8) (u : Fin 1024) : b7 j s (ix2 t u) = s.main_v14_0 (ix3 (row j) t u) := read_row _ j hj s t u
theorem b11_eq (j : ℕ) (hj : j < 512) (s : State Ideal) (t : Fin 8) (u : Fin 1024) : b11 j s (ix2 t u) = s.main_v14_1 (ix3 (row j) t u) := read_row _ j hj s t u

/-- The state gradient after a trip, its first half and its second. -/
theorem carry_lo (j : ℕ) (hj : j < 512) (s : State Ideal) (t : Fin 8) (l : Fin 512) :
    (step j s).main_v14_5 (ix2 t (lo l)) = s.main_v14_1 (ix3 (row j) t (lo l)) + s.main_v14_2 (ix3 t (0 : Fin 2) l) * s.main_v14_5 (ix2 t (lo l))
      + s.main_v14_2 (ix3 t (1 : Fin 2) l) * s.main_v14_5 (ix2 t (hi l)) := by
  show b53 j s _ = _
  rw [← b11_eq j hj s t (lo l)]
  have hl := l.isLt
  pointwise [b53, b52, b51, b49, b38, b28, b37, b34, b15, b17, b14, b16, b26, b27, b48, b50]
  rw [dif_neg (fun h => h.1), zero_add, add_comm, add_comm (_ * _) (_ * _), add_assoc]

theorem carry_hi (j : ℕ) (hj : j < 512) (s : State Ideal) (t : Fin 8) (l : Fin 512) :
    (step j s).main_v14_5 (ix2 t (hi l)) = s.main_v14_1 (ix3 (row j) t (hi l)) + s.main_v14_2 (ix3 t (0 : Fin 2) l) * s.main_v14_5 (ix2 t (hi l))
      - s.main_v14_2 (ix3 t (1 : Fin 2) l) * s.main_v14_5 (ix2 t (lo l)) := by
  show b53 j s _ = _
  rw [← b11_eq j hj s t (hi l)]
  have hl := l.isLt
  pointwise [b53, b52, b51, b49, b38, b28, b37, b34, b30, b33, b32, b15, b17, b14, b16, b26, b27, b48, b50]
  rw [add_comm, mul_neg, ← add_assoc, sub_eq_add_neg]

/-- The gradient of `al` after a trip, its first row and its second. -/
theorem dal_lo (j : ℕ) (hj : j < 512) (s : State Ideal) (t : Fin 8) (l : Fin 512) :
    (step j s).main_v14_6 (ix3 t (0 : Fin 2) l) = s.main_v14_6 (ix3 t (0 : Fin 2) l)
      + (s.main_v14_5 (ix2 t (lo l)) * s.main_v14_0 (ix3 (row j) t (lo l)) + s.main_v14_5 (ix2 t (hi l)) * s.main_v14_0 (ix3 (row j) t (hi l))) := by
  show b54 j s _ = _
  rw [← b7_eq j hj s t (lo l), ← b7_eq j hj s t (hi l)]
  have hl := l.isLt
  pointwise [b54, b47, b46, b45, b44, b43, b42, b41, b40, b39, b36, b35, b32, b31, b29, b27, b26, b13, b12]
  exact congrArg (_ + ·) (add_comm _ _)

theorem dal_hi (j : ℕ) (hj : j < 512) (s : State Ideal) (t : Fin 8) (l : Fin 512) :
    (step j s).main_v14_6 (ix3 t (1 : Fin 2) l) = s.main_v14_6 (ix3 t (1 : Fin 2) l)
      + (s.main_v14_5 (ix2 t (hi l)) * s.main_v14_0 (ix3 (row j) t (lo l)) - s.main_v14_5 (ix2 t (lo l)) * s.main_v14_0 (ix3 (row j) t (hi l))) := by
  show b54 j s _ = _
  rw [← b7_eq j hj s t (lo l), ← b7_eq j hj s t (hi l)]
  have hl := l.isLt
  pointwise [b54, b47, b46, b45, b44, b43, b42, b41, b40, b39, b36, b35, b32, b31, b29, b27, b26, b13, b12]
  rw [neg_mul, ← sub_eq_add_neg]

/-- The state gradients stacked by a trip: its row `511 - j` is the state gradient before it, the others stay. -/
theorem stack_eq (j : ℕ) (hj : j < 512) (s : State Ideal) (r : Fin 512) (t : Fin 8) (u : Fin 1024) :
    (step j s).main_v14_7 (ix3 r t u) = if r.val = 511 - j then s.main_v14_5 (ix2 t u) else s.main_v14_7 (ix3 r t u) := by
  have c0 := start_0 j hj s rfl
  refine (Host.dynamicUpdateSlice_apply s.main_v14_7 (b55 j s) (starts j s) updateFits_S512x8x1024_S1x8x1024 (ix3 r t u)).trans ?_
  by_cases hr : r.val = 511 - j
  · rw [if_pos hr, dif_pos]
    · unfold b55
      rw [broadcastInDim_apply]
      intro a
      match a with
      | ⟨0, _⟩ => exact ((if_neg (by decide : ¬ (8 = 1))).trans (Nat.sub_zero _)).symm
      | ⟨1, _⟩ => exact ((if_neg (by decide : ¬ (1024 = 1))).trans (Nat.sub_zero _)).symm
    · intro a
      match a with
      | ⟨0, _⟩ =>
        show Host.clampedStart S512x8x1024 S1x8x1024 rfl (starts j s) 0 ≤ r.val ∧ r.val < Host.clampedStart S512x8x1024 S1x8x1024 rfl (starts j s) 0 + 1
        rw [c0]; omega
      | ⟨1, _⟩ => exact ⟨Nat.zero_le _, by show t.val < 0 + 8; omega⟩
      | ⟨2, _⟩ => exact ⟨Nat.zero_le _, by show u.val < 0 + 1024; omega⟩
  · rw [if_neg hr, dif_neg]
    intro h
    have h0 := h 0
    have : Host.clampedStart S512x8x1024 S1x8x1024 rfl (starts j s) 0 ≤ r.val ∧ r.val < Host.clampedStart S512x8x1024 S1x8x1024 rfl (starts j s) 0 + 1 := h0
    rw [c0] at this
    omega

/-! ## The reference's loop over its trips -/

variable (dy : (⟨S8192x1024, .f32⟩ : BufTy).Contents (Elt Ideal)) (v2 : (⟨S8x8x256x1024, .bf16⟩ : BufTy).Contents (Elt Ideal))
  (al : (⟨S8x2x512, .f32⟩ : BufTy).Contents (Elt Ideal)) (xp : (⟨S8x512x1024, .f32⟩ : BufTy).Contents (Elt Ideal))

/-- The reference's states, trip by trip. -/
def iter : ℕ → State Ideal
  | 0 => init al dy v2 xp
  | n + 1 => step n (iter n)

/-! No trip changes what the loop reads. -/

theorem iter_x : ∀ n, (iter dy v2 al xp n).main_v14_0 = A_main_v11 dy v2 xp
  | 0 => rfl
  | n + 1 => iter_x n
theorem iter_dx : ∀ n, (iter dy v2 al xp n).main_v14_1 = A_main_v12 dy v2 xp
  | 0 => rfl
  | n + 1 => iter_dx n
theorem iter_al : ∀ n, (iter dy v2 al xp n).main_v14_2 = al
  | 0 => rfl
  | n + 1 => iter_al n

/-- Tile `t`'s chunk gradients in lane `s`, over the chunks. -/
def lane (t : Fin 8) (s : Fin 1024) (r : ℕ) : EReal := A_main_v12 dy v2 xp (ix3 (⟨r % 512, Nat.mod_lt _ (by omega)⟩ : Fin 512) t s)

/-- The recurrence in lane pair `l` of tile `t`. -/
abbrev grad (t : Fin 8) (l : Fin 512) : ℕ → EReal × EReal :=
  back (al (ix3 t (0 : Fin 2) l)) (al (ix3 t (1 : Fin 2) l)) (lane dy v2 xp t (lo l)) (lane dy v2 xp t (hi l))

/-- The carried state gradient is the recurrence. -/
theorem carry_eq (t : Fin 8) (l : Fin 512) : ∀ n, n ≤ 512 →
    (iter dy v2 al xp n).main_v14_5 (ix2 t (lo l)) = (grad dy v2 al xp t l n).1
    ∧ (iter dy v2 al xp n).main_v14_5 (ix2 t (hi l)) = (grad dy v2 al xp t l n).2
  | 0, _ => by
    have h0 : ∀ u : Fin 1024, K_main_v9 (F := Ideal) (ix2 t u) = (0 : EReal) := fun u => by pointwise [K_main_v9, K_main_cst]
    exact ⟨h0 (lo l), h0 (hi l)⟩
  | n + 1, h => by
    obtain ⟨h1, h2⟩ := carry_eq t l n (by omega)
    have hr : ∀ u : Fin 1024, A_main_v12 dy v2 xp (ix3 (row n) t u) = lane dy v2 xp t u (511 - n) := fun u =>
      congrArg (A_main_v12 dy v2 xp) (congrArg (fun a => ix3 a t u) (Fin.ext (Nat.mod_eq_of_lt (by omega : 511 - n < 512)).symm))
    constructor
    · refine (carry_lo n (by omega) (iter dy v2 al xp n) t l).trans ?_
      rw [h1, h2, iter_dx, iter_al, hr]
      rfl
    · refine (carry_hi n (by omega) (iter dy v2 al xp n) t l).trans ?_
      rw [h1, h2, iter_dx, iter_al, hr]
      rfl

/-- The stacked state gradients: after `n` trips the last `n` rows are the recurrence's. -/
theorem stack_rows (t : Fin 8) (u : Fin 1024) (r : Fin 512) : ∀ n, n ≤ 512 → 512 ≤ r.val + n →
    (iter dy v2 al xp n).main_v14_7 (ix3 r t u) = (iter dy v2 al xp (511 - r.val)).main_v14_5 (ix2 t u)
  | 0, _, h => by omega
  | n + 1, hn, h => by
    refine (stack_eq n (by omega) (iter dy v2 al xp n) r t u).trans ?_
    by_cases hr : r.val = 511 - n
    · rw [if_pos hr, show 511 - r.val = n by omega]
    · rw [if_neg hr]
      exact stack_rows t u r n (by omega) (by omega)

/-- A table's rows read by trip `j`, lane `u` of tile `t`. -/
theorem x_eq (t : Fin 8) (u : Fin 1024) (r : Fin 512) : A_main_v11 dy v2 xp (ix3 r t u) = xp (ix3 t r u) := by
  pointwise [A_main_v11]

/-- The gradient of `al` after `n` trips: the sum of the trips' contributions. -/
theorem dal_eq (t : Fin 8) (l : Fin 512) : ∀ n, n ≤ 512 →
    (iter dy v2 al xp n).main_v14_6 (ix3 t (0 : Fin 2) l) = ∑ j ∈ Finset.range n, ((grad dy v2 al xp t l j).1 * xp (ix3 t (row j) (lo l)) + (grad dy v2 al xp t l j).2 * xp (ix3 t (row j) (hi l)))
    ∧ (iter dy v2 al xp n).main_v14_6 (ix3 t (1 : Fin 2) l) = ∑ j ∈ Finset.range n, ((grad dy v2 al xp t l j).2 * xp (ix3 t (row j) (lo l)) - (grad dy v2 al xp t l j).1 * xp (ix3 t (row j) (hi l)))
  | 0, _ => by
    have h0 : ∀ u : Fin 2, K_main_v10 (F := Ideal) (ix3 t u l) = (0 : EReal) := fun u => by pointwise [K_main_v10, K_main_cst_0]
    exact ⟨h0 0, h0 1⟩
  | n + 1, h => by
    obtain ⟨h1, h2⟩ := dal_eq t l n (by omega)
    obtain ⟨g1, g2⟩ := carry_eq dy v2 al xp t l n (by omega)
    constructor
    · refine (dal_lo n (by omega) (iter dy v2 al xp n) t l).trans ?_
      rw [h1, g1, g2, iter_x, x_eq, x_eq, Finset.sum_range_succ]
    · refine (dal_hi n (by omega) (iter dy v2 al xp n) t l).trans ?_
      rw [h2, g1, g2, iter_x, x_eq, x_eq, Finset.sum_range_succ]

/-- A sum over the trips is the sum over the rows they read. -/
theorem sum_rows (f : ℕ → Fin 512 → EReal) : ∑ j ∈ Finset.range 512, f j (row j) = ∑ r : Fin 512, f (511 - r.val) r := by
  rw [← Fin.sum_univ_eq_sum_range (fun j => f j (row j)), ← Equiv.sum_comp Fin.revPerm]
  refine Finset.sum_congr rfl fun r _ => ?_
  have h1 : (Fin.revPerm r : Fin 512).val = 511 - r.val := by
    show 512 - (r.val + 1) = 511 - r.val
    omega
  have h2 : row (Fin.revPerm r : Fin 512).val = r := Fin.ext (by rw [h1]; show 511 - (511 - r.val) = r.val; omega)
  rw [h2, h1]

/-- The rearranged cotangent, an element. -/
theorem dys_eq (s : State Ideal) (t q : Fin 8) (c : Fin 512) (k : Fin 256) :
    R_main_v18 s dy (ix4 t q c k) = dy (ix2 (⟨16 * c.val + 2 * q.val + k.val / 128, by omega⟩ : Fin 8192) (⟨128 * t.val + k.val % 128, by omega⟩ : Fin 1024)) := by
  pointwise [R_main_v18]
  refine congrArg dy (congrArg₂ ix2 (Fin.ext ?_) (Fin.ext ?_))
  · show c.val * 16 + q.val * 2 + k.val / 128 = 16 * c.val + 2 * q.val + k.val / 128
    omega
  · show t.val * 128 + k.val % 128 = 128 * t.val + k.val % 128
    omega

/-- The state gradients' result, an element. -/
theorem g_eq (s : State Ideal) (t : Fin 8) (r : Fin 512) (u : Fin 1024) : R_main_v20 s (ix3 t r u) = s.main_v14_7 (ix3 r t u) := by
  pointwise [R_main_v20]

end Cert.ReferenceIdeal.Ssm

end
-- ==== Proof.RefRun.lean ====
module

public import proofs.«01_k».proof.Proof.Gen.ReferenceIdeal.Run
public import proofs.«01_k».proof.Proof.Gen.ReferenceIdeal.Step
public import proofs.«01_k».proof.Proof.Algebra

@[expose] public section

set_option maxRecDepth 16384

noncomputable section

namespace Cert.ReferenceIdeal.Ssm

open Idealize.ShloMosaic Idealize.ShloMosaic.TcCoe Idealize.SL.Sem Idealize.ShloMosaic.StableHlo
open Cert.ReferenceIdeal.Gen Cert.ReferenceIdeal.Value
open Cert.ReferenceIdeal.Step (State step init)

/-- The loop's state in a valuation of the buffers. -/
def stateAt (V0 : Valuation τ sig (Elt Ideal)) : State Ideal :=
  { main_v14_5 := V0 (Proc.devRef .tc main_v14_5), main_v14_6 := V0 (Proc.devRef .tc main_v14_6), main_v14_7 := V0 (Proc.devRef .tc main_v14_7),
    main_v14_0 := V0 (Proc.devRef .tc main_v14_0), main_v14_1 := V0 (Proc.devRef .tc main_v14_1), main_v14_2 := V0 (Proc.devRef .tc main_v14_2) }

variable (V0 : Valuation τ sig (Elt Ideal)) (j : ℕ) (h : V0 (Proc.devRef .tc main_v14_4) = constantI S_ 32 (BitVec.ofNat 32 j))

include h

/-- The row trip `j` works on. -/
theorem row_of : res_main_while0b_v22 V0 = Step.b3 j (stateAt V0) := by
  unfold res_main_while0b_v22
  rw [h]
  rfl

/-- One trip's carry, gradient of `al` and stack are `step`'s. -/
theorem step_carry : step_main_v14_5 V0 = (step j (stateAt V0)).main_v14_5 := by
  unfold step_main_v14_5
  rw [row_of V0 j h]
  rfl

theorem step_dal : step_main_v14_6 V0 = (step j (stateAt V0)).main_v14_6 := by
  unfold step_main_v14_6 res_main_while0b_v25 res_main_while0b_v26 res_main_while0b_v23
  rw [row_of V0 j h]
  rfl

theorem step_stack : step_main_v14_7 V0 = (step j (stateAt V0)).main_v14_7 := by
  unfold step_main_v14_7
  rw [row_of V0 j h]
  rfl

/-- One trip of the loop is one `step` of the state, and counts. -/
theorem trip_eq : stateAt (STEP V0) = step j (stateAt V0) ∧ STEP V0 (Proc.devRef .tc main_v14_4) = constantI S_ 32 (BitVec.ofNat 32 (j + 1)) := by
  constructor
  · unfold stateAt
    rw [STEP_main_v14_5, STEP_main_v14_6, STEP_main_v14_7, STEP_main_v14_0, STEP_main_v14_1, STEP_main_v14_2, step_carry V0 j h, step_dal V0 j h, step_stack V0 j h]
    rfl
  · rw [STEP_main_v14_4]
    unfold step_main_v14_4
    rw [h]
    funext i
    show BitVec.ofNat 32 j + 1#32 = BitVec.ofNat 32 (j + 1)
    simp only [BitVec.ofNat_add]

omit h

variable (m : (ℓ : Loc nD τ sig) → Buf (Elt Ideal) ℓ) (ρ : Dev nD → PrngReg) (c : Dev nD)

/-- What the loop starts from. -/
theorem entry_eq : stateAt (entryContents preI m c) = iter (m ((c.tc : Thread nD τ).loc main_arg0)) (m ((c.tc : Thread nD τ).loc main_arg1)) (m ((c.tc : Thread nD τ).loc main_arg2)) (m ((c.tc : Thread nD τ).loc main_arg3)) 0
    ∧ (entryContents preI m c) (Proc.devRef .tc main_v14_4) = constantI S_ 32 (BitVec.ofNat 32 0) := by
  constructor
  · unfold stateAt
    simp only [entryContents, afterL_cons, afterL_nil]
    after_reads_simp
    rfl
  · simp only [entryContents, afterL_cons, afterL_nil]
    after_reads_simp
    rfl

/-- Before trip `k` the loop's buffers hold state `k`. -/
theorem iter_state : ∀ k, stateAt (STEP^[k] (entryContents preI m c)) = iter (m ((c.tc : Thread nD τ).loc main_arg0)) (m ((c.tc : Thread nD τ).loc main_arg1)) (m ((c.tc : Thread nD τ).loc main_arg2)) (m ((c.tc : Thread nD τ).loc main_arg3)) k
    ∧ (STEP^[k] (entryContents preI m c)) (Proc.devRef .tc main_v14_4) = constantI S_ 32 (BitVec.ofNat 32 k)
  | 0 => entry_eq m c
  | k + 1 => by
    rw [Function.iterate_succ_apply']
    obtain ⟨h1, h2⟩ := iter_state k
    obtain ⟨h3, h4⟩ := trip_eq _ k h2
    exact ⟨h3.trans (congrArg (step k) h1), h4⟩

/-! The results, of the state the loop ends in. -/

theorem out_0 (V : Valuation τ sig (Elt Ideal)) (s : State Ideal) (x : (⟨S8192x1024, .f32⟩ : BufTy).Contents (Elt Ideal))
    (hx : V (Proc.devRef .tc main_arg0) = x) (hs : stateAt V = s) : out_main_v18 V = Step.R_main_v18 s x := by
  unfold out_main_v18
  rw [hx]
  rfl

theorem out_1 (V : Valuation τ sig (Elt Ideal)) (s : State Ideal) (hs : stateAt V = s) : out_main_v20 V = Step.R_main_v20 s := by
  subst hs
  rfl

theorem out_2 (V : Valuation τ sig (Elt Ideal)) (s : State Ideal) (hs : stateAt V = s) : V (Proc.devRef .tc main_v14_6) = s.main_v14_6 := by
  subst hs
  rfl

/-- The reference's run: each result of the last state, and the arguments unchanged. -/
theorem run_ref : θ_run (defs (F := Ideal)) (onTc (τ := τ) (main (F := Ideal))) ⟨m, fun _ => 0, ρ⟩ fun r => ∀ c : Dev nD,
      r.2.mem ((c.tc : Thread nD τ).loc main_v18) = Step.R_main_v18 (iter (m ((c.tc : Thread nD τ).loc main_arg0)) (m ((c.tc : Thread nD τ).loc main_arg1)) (m ((c.tc : Thread nD τ).loc main_arg2)) (m ((c.tc : Thread nD τ).loc main_arg3)) 512) (m ((c.tc : Thread nD τ).loc main_arg0))
      ∧ r.2.mem ((c.tc : Thread nD τ).loc main_v20) = Step.R_main_v20 (iter (m ((c.tc : Thread nD τ).loc main_arg0)) (m ((c.tc : Thread nD τ).loc main_arg1)) (m ((c.tc : Thread nD τ).loc main_arg2)) (m ((c.tc : Thread nD τ).loc main_arg3)) 512)
      ∧ r.2.mem ((c.tc : Thread nD τ).loc main_v14_6) = (iter (m ((c.tc : Thread nD τ).loc main_arg0)) (m ((c.tc : Thread nD τ).loc main_arg1)) (m ((c.tc : Thread nD τ).loc main_arg2)) (m ((c.tc : Thread nD τ).loc main_arg3)) 512).main_v14_6
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  exact (θ_run defs _ _).mono (fun r h c =>
    ⟨(h c).1.trans (out_0 _ _ _ (iter_main_arg0 m c 512) (iter_state m c 512).1), (h c).2.1.trans (out_1 _ _ (iter_state m c 512).1),
      (h c).2.2.1.trans (out_2 _ _ (iter_state m c 512).1), (h c).2.2.2⟩) (Value.run m ρ)

end Cert.ReferenceIdeal.Ssm

end
-- ==== Proof.Value.lean ====
module

public import proofs.«01_k».proof.Proof.Run
public import proofs.«01_k».proof.Proof.Algebra
public import proofs.«01_k».proof.Proof.RefRun
public import proofs.«01_k».proof.Proof.Gen.ReferenceIdeal.Step
public import Idealize.ShloMosaic.Lib.Pipeline.ValueKit
public import Idealize.ShloMosaic.Lib.StableHlo.RunHlo

@[expose] public section

set_option maxRecDepth 16384

noncomputable section

namespace Cert.KernelIdeal.Ssm

open Idealize.ShloMosaic Idealize.ShloMosaic.TcCoe
open Idealize.SL.Sem
open Cert.KernelIdeal.Gen

variable (m : (ℓ : Loc nD τ sig) → Buf (Elt Ideal) ℓ) (c : Dev nD)

/-- Grid point `t` as a tile of lanes. -/
def tile (t : Fin cfg0.N) : Fin 8 := ⟨t.val, t.isLt.trans_eq N_0⟩

/-! ## The blocks read at an index -/

/-- The index maps at grid point `t`: the lane block for the cotangent, the leading axis for the others. -/
theorem idx_0 : ∀ t : Fin cfg0.N, win0_0.index t 0 = 0 ∧ win0_0.index t 1 = t.val := by decide +kernel
theorem idx_1 : ∀ t : Fin cfg0.N, win0_1.index t 0 = t.val ∧ win0_1.index t 1 = 0 ∧ win0_1.index t 2 = 0 ∧ win0_1.index t 3 = 0 := by decide +kernel
theorem idx_2 : ∀ t : Fin cfg0.N, win0_2.index t 0 = t.val ∧ win0_2.index t 1 = 0 ∧ win0_2.index t 2 = 0 := by decide +kernel
theorem idx_3 : ∀ t : Fin cfg0.N, win0_3.index t 0 = t.val ∧ win0_3.index t 1 = 0 ∧ win0_3.index t 2 = 0 := by decide +kernel
theorem idx_4 : ∀ t : Fin cfg0.N, win0_4.index t 0 = t.val ∧ win0_4.index t 1 = 0 ∧ win0_4.index t 2 = 0 ∧ win0_4.index t 3 = 0 := by decide +kernel
theorem idx_5 : ∀ t : Fin cfg0.N, win0_5.index t 0 = t.val ∧ win0_5.index t 1 = 0 ∧ win0_5.index t 2 = 0 := by decide +kernel
theorem idx_6 : ∀ t : Fin cfg0.N, win0_6.index t 0 = t.val ∧ win0_6.index t 1 = 0 ∧ win0_6.index t 2 = 0 := by decide +kernel

theorem iblk_0 (t : Fin cfg0.N) (r : Fin 8192) (k : Fin 128) :
    iblk m c 0 t (ix2 r k) = m ((c.tc : Thread nD τ).loc main_arg0) (ix2 r (⟨128 * (tile t).val + k.val, by omega⟩ : Fin 1024)) := by
  obtain ⟨e0, e1⟩ := idx_0 t
  unfold iblk
  rw [View.read_apply]
  show V m c main_arg0 _ = _
  unfold V
  refine congrArg (m ((c.tc : Thread nD τ).loc main_arg0)) (funext fun a => Fin.ext ?_)
  match a with
  | ⟨0, _⟩ => show win0_0.index t 0 * 8192 + 1 * r.val = r.val; rw [e0]; omega
  | ⟨1, _⟩ => show win0_0.index t 1 * 128 + 1 * k.val = 128 * t.val + k.val; rw [e1]; omega

theorem iblk_1 (t : Fin cfg0.N) (q : Fin 8) (k : Fin 256) (s : Fin 1024) :
    iblk m c 1 t (ix4 (0 : Fin 1) q k s) = m ((c.tc : Thread nD τ).loc main_arg1) (ix4 (tile t) q k s) := by
  obtain ⟨e0, e1, e2, e3⟩ := idx_1 t
  unfold iblk
  rw [View.read_apply]
  show V m c main_arg1 _ = _
  unfold V
  refine congrArg (m ((c.tc : Thread nD τ).loc main_arg1)) (funext fun a => Fin.ext ?_)
  match a with
  | ⟨0, _⟩ => show win0_1.index t 0 * 1 + 1 * 0 = t.val; rw [e0]; omega
  | ⟨1, _⟩ => show win0_1.index t 1 * 8 + 1 * q.val = q.val; rw [e1]; omega
  | ⟨2, _⟩ => show win0_1.index t 2 * 256 + 1 * k.val = k.val; rw [e2]; omega
  | ⟨3, _⟩ => show win0_1.index t 3 * 1024 + 1 * s.val = s.val; rw [e3]; omega

theorem iblk_2 (t : Fin cfg0.N) (h : Fin 2) (l : Fin 512) :
    iblk m c 2 t (ix3 (0 : Fin 1) h l) = m ((c.tc : Thread nD τ).loc main_arg2) (ix3 (tile t) h l) := by
  obtain ⟨e0, e1, e2⟩ := idx_2 t
  unfold iblk
  rw [View.read_apply]
  show V m c main_arg2 _ = _
  unfold V
  refine congrArg (m ((c.tc : Thread nD τ).loc main_arg2)) (funext fun a => Fin.ext ?_)
  match a with
  | ⟨0, _⟩ => show win0_2.index t 0 * 1 + 1 * 0 = t.val; rw [e0]; omega
  | ⟨1, _⟩ => show win0_2.index t 1 * 2 + 1 * h.val = h.val; rw [e1]; omega
  | ⟨2, _⟩ => show win0_2.index t 2 * 512 + 1 * l.val = l.val; rw [e2]; omega

theorem iblk_3 (t : Fin cfg0.N) (r : Fin 512) (s : Fin 1024) :
    iblk m c 3 t (ix3 (0 : Fin 1) r s) = m ((c.tc : Thread nD τ).loc main_arg3) (ix3 (tile t) r s) := by
  obtain ⟨e0, e1, e2⟩ := idx_3 t
  unfold iblk
  rw [View.read_apply]
  show V m c main_arg3 _ = _
  unfold V
  refine congrArg (m ((c.tc : Thread nD τ).loc main_arg3)) (funext fun a => Fin.ext ?_)
  match a with
  | ⟨0, _⟩ => show win0_3.index t 0 * 1 + 1 * 0 = t.val; rw [e0]; omega
  | ⟨1, _⟩ => show win0_3.index t 1 * 512 + 1 * r.val = r.val; rw [e1]; omega
  | ⟨2, _⟩ => show win0_3.index t 2 * 1024 + 1 * s.val = s.val; rw [e2]; omega

/-! ## The tile's values are the reference's -/

/-- The reference's states, of the arrays the kernel is launched on. -/
abbrev ref (n : ℕ) : Cert.ReferenceIdeal.Step.State Ideal :=
  Cert.ReferenceIdeal.Ssm.iter (m ((c.tc : Thread nD τ).loc main_arg0)) (m ((c.tc : Thread nD τ).loc main_arg1)) (m ((c.tc : Thread nD τ).loc main_arg2)) (m ((c.tc : Thread nD τ).loc main_arg3)) n

/-- The tile's chunk gradients are the reference's. -/
theorem lane_eq (t : Fin cfg0.N) (s : Fin 1024) :
    lane (dxOf (iblk m c 0 t) (iblk m c 1 t)) s
      = Cert.ReferenceIdeal.Ssm.lane (m ((c.tc : Thread nD τ).loc main_arg0)) (m ((c.tc : Thread nD τ).loc main_arg1)) (m ((c.tc : Thread nD τ).loc main_arg3)) (tile t) s := by
  funext r
  unfold lane Cert.ReferenceIdeal.Ssm.lane
  rw [dxOf_eq, Cert.ReferenceIdeal.Ssm.dx_eq]
  refine Finset.sum_congr rfl fun q _ => Finset.sum_congr rfl fun k _ => ?_
  rw [iblk_0, iblk_1]

/-- The tile's row `h` of `al`. -/
theorem al_eq (t : Fin cfg0.N) (h : Fin 2) (l : Fin 512) :
    alRow (iblk m c 2 t) h (ix3 (0 : Fin 1) (0 : Fin 1) l) = m ((c.tc : Thread nD τ).loc main_arg2) (ix3 (tile t) h l) := iblk_2 m c t h l

/-- The recurrence on the arrays the kernel is launched on. -/
abbrev grad (t : Fin 8) (l : Fin 512) : ℕ → EReal × EReal :=
  Cert.ReferenceIdeal.Ssm.grad (m ((c.tc : Thread nD τ).loc main_arg0)) (m ((c.tc : Thread nD τ).loc main_arg1)) (m ((c.tc : Thread nD τ).loc main_arg2)) (m ((c.tc : Thread nD τ).loc main_arg3)) t l

theorem g_lo (t : Fin cfg0.N) (r : Fin 512) (l : Fin 512) :
    gOf (iblk m c 0 t) (iblk m c 1 t) (iblk m c 2 t) (ix2 r (lo l)) = (grad m c (tile t) l (511 - r.val)).1 := by
  unfold gOf
  refine (grads_lo _ _ _ r l).trans ?_
  rw [lane_eq, lane_eq, al_eq, al_eq]

theorem g_hi (t : Fin cfg0.N) (r : Fin 512) (l : Fin 512) :
    gOf (iblk m c 0 t) (iblk m c 1 t) (iblk m c 2 t) (ix2 r (hi l)) = (grad m c (tile t) l (511 - r.val)).2 := by
  unfold gOf
  refine (grads_hi _ _ _ r l).trans ?_
  rw [lane_eq, lane_eq, al_eq, al_eq]

/-- The state gradients of tile `t` are the rows the reference stacks. -/
theorem g_stack (t : Fin cfg0.N) (r : Fin 512) (s : Fin 1024) :
    gOf (iblk m c 0 t) (iblk m c 1 t) (iblk m c 2 t) (ix2 r s) = (ref m c 512).main_v14_7 (ix3 r (tile t) s) := by
  unfold ref
  rw [Cert.ReferenceIdeal.Ssm.stack_rows _ _ _ _ (tile t) s r 512 le_rfl (by omega)]
  by_cases h : s.val < 512
  · obtain ⟨l, rfl⟩ : ∃ l : Fin 512, s = lo l := ⟨⟨s.val, h⟩, rfl⟩
    exact (g_lo m c t r l).trans (Cert.ReferenceIdeal.Ssm.carry_eq _ _ _ _ (tile t) _ (511 - r.val) (by omega)).1.symm
  · obtain ⟨l, rfl⟩ : ∃ l : Fin 512, s = hi l := ⟨⟨s.val - 512, by omega⟩, Fin.ext (by show s.val = 512 + (s.val - 512); omega)⟩
    exact (g_hi m c t r l).trans (Cert.ReferenceIdeal.Ssm.carry_eq _ _ _ _ (tile t) _ (511 - r.val) (by omega)).2.symm

/-- The gradient of `al` of tile `t` is the reference's. -/
theorem dal_0 (t : Fin cfg0.N) (l : Fin 512) :
    dalOf (iblk m c 0 t) (iblk m c 1 t) (iblk m c 2 t) (iblk m c 3 t) (ix3 (0 : Fin 1) (0 : Fin 2) l) = (ref m c 512).main_v14_6 (ix3 (tile t) (0 : Fin 2) l) := by
  unfold ref
  rw [(Cert.ReferenceIdeal.Ssm.dal_eq _ _ _ _ (tile t) l 512 le_rfl).1]
  refine Eq.trans ?_ (Cert.ReferenceIdeal.Ssm.sum_rows fun j r => (grad m c (tile t) l j).1 * m ((c.tc : Thread nD τ).loc main_arg3) (ix3 (tile t) r (lo l)) + (grad m c (tile t) l j).2 * m ((c.tc : Thread nD τ).loc main_arg3) (ix3 (tile t) r (hi l))).symm
  refine (dal_lo (gOf (iblk m c 0 t) (iblk m c 1 t) (iblk m c 2 t)) (iblk m c 3 t) l).trans (Finset.sum_congr rfl fun r _ => ?_)
  rw [g_lo, g_hi, iblk_3, iblk_3]

theorem dal_1 (t : Fin cfg0.N) (l : Fin 512) :
    dalOf (iblk m c 0 t) (iblk m c 1 t) (iblk m c 2 t) (iblk m c 3 t) (ix3 (0 : Fin 1) (1 : Fin 2) l) = (ref m c 512).main_v14_6 (ix3 (tile t) (1 : Fin 2) l) := by
  unfold ref
  rw [(Cert.ReferenceIdeal.Ssm.dal_eq _ _ _ _ (tile t) l 512 le_rfl).2]
  refine Eq.trans ?_ (Cert.ReferenceIdeal.Ssm.sum_rows fun j r => (grad m c (tile t) l j).2 * m ((c.tc : Thread nD τ).loc main_arg3) (ix3 (tile t) r (lo l)) - (grad m c (tile t) l j).1 * m ((c.tc : Thread nD τ).loc main_arg3) (ix3 (tile t) r (hi l))).symm
  refine (dal_hi (gOf (iblk m c 0 t) (iblk m c 1 t) (iblk m c 2 t)) (iblk m c 3 t) l).trans (Finset.sum_congr rfl fun r _ => ?_)
  rw [g_lo, g_hi, iblk_3, iblk_3]

/-! ## The result arrays -/

/-- The reference's results, of the arrays the kernel is launched on. -/
def res0 : Buf (Elt Ideal) ((c.tc : Thread nD τ).loc main_v0_0) := Cert.ReferenceIdeal.Step.R_main_v18 (ref m c 512) (m ((c.tc : Thread nD τ).loc main_arg0))
def res1 : Buf (Elt Ideal) ((c.tc : Thread nD τ).loc main_v0_1) := Cert.ReferenceIdeal.Step.R_main_v20 (ref m c 512)
def res2 : Buf (Elt Ideal) ((c.tc : Thread nD τ).loc main_v0_2) := (ref m c 512).main_v14_6

/-- Where the blocks of the results lie. -/
theorem emb_4 (t : Fin cfg0.N) (a : Fin 1) (q : Fin 8) (r : Fin 512) (k : Fin 256) : (win0_4.blk t).view.emb (ix4 a q r k) = ix4 (tile t) q r k := by
  obtain ⟨e0, e1, e2, e3⟩ := idx_4 t
  funext b
  apply Fin.ext
  match b with
  | ⟨0, _⟩ => show win0_4.index t 0 * 1 + 1 * a.val = t.val; rw [e0]; omega
  | ⟨1, _⟩ => show win0_4.index t 1 * 8 + 1 * q.val = q.val; rw [e1]; omega
  | ⟨2, _⟩ => show win0_4.index t 2 * 512 + 1 * r.val = r.val; rw [e2]; omega
  | ⟨3, _⟩ => show win0_4.index t 3 * 256 + 1 * k.val = k.val; rw [e3]; omega

theorem emb_5 (t : Fin cfg0.N) (a : Fin 1) (r : Fin 512) (s : Fin 1024) : (win0_5.blk t).view.emb (ix3 a r s) = ix3 (tile t) r s := by
  obtain ⟨e0, e1, e2⟩ := idx_5 t
  funext b
  apply Fin.ext
  match b with
  | ⟨0, _⟩ => show win0_5.index t 0 * 1 + 1 * a.val = t.val; rw [e0]; omega
  | ⟨1, _⟩ => show win0_5.index t 1 * 512 + 1 * r.val = r.val; rw [e1]; omega
  | ⟨2, _⟩ => show win0_5.index t 2 * 1024 + 1 * s.val = s.val; rw [e2]; omega

theorem emb_6 (t : Fin cfg0.N) (a : Fin 1) (h : Fin 2) (l : Fin 512) : (win0_6.blk t).view.emb (ix3 a h l) = ix3 (tile t) h l := by
  obtain ⟨e0, e1, e2⟩ := idx_6 t
  funext b
  apply Fin.ext
  match b with
  | ⟨0, _⟩ => show win0_6.index t 0 * 1 + 1 * a.val = t.val; rw [e0]; omega
  | ⟨1, _⟩ => show win0_6.index t 1 * 2 + 1 * h.val = h.val; rw [e1]; omega
  | ⟨2, _⟩ => show win0_6.index t 2 * 512 + 1 * l.val = l.val; rw [e2]; omega

/-- What the tiles write is the reference's result, element by element. -/
theorem point_0 (t : Fin cfg0.N) (a : Fin 1) (q : Fin 8) (r : Fin 512) (k : Fin 256) :
    dysOf (iblk m c 0 t) (ix4 a q r k) = res0 m c (ix4 (tile t) q r k) := by
  refine Eq.trans ?_ (Cert.ReferenceIdeal.Ssm.dys_eq (m ((c.tc : Thread nD τ).loc main_arg0)) (ref m c 512) (tile t) q r k).symm
  exact iblk_0 m c t _ _

theorem point_1 (t : Fin cfg0.N) (a : Fin 1) (r : Fin 512) (s : Fin 1024) :
    k0_pay3 (gOf (iblk m c 0 t) (iblk m c 1 t) (iblk m c 2 t)) (ix3 a r s) = res1 m c (ix3 (tile t) r s) := by
  refine Eq.trans ?_ ((g_stack m c t r s).trans (Cert.ReferenceIdeal.Ssm.g_eq (ref m c 512) (tile t) r s).symm)
  pointwise [k0_pay3]

theorem point_2 (t : Fin cfg0.N) (a : Fin 1) (h : Fin 2) (l : Fin 512) :
    dalOf (iblk m c 0 t) (iblk m c 1 t) (iblk m c 2 t) (iblk m c 3 t) (ix3 a h l) = res2 m c (ix3 (tile t) h l) := by
  obtain rfl : a = 0 := Fin.ext (by omega)
  match h with
  | ⟨0, _⟩ => exact dal_0 m c t l
  | ⟨1, _⟩ => exact dal_1 m c t l

/-- The result arrays after the run. -/
theorem final_0 : (dats m 0 c).arrAt 4 cfg0.N = res0 m c := by
  refine (dats m 0 c).arrAt_eq_of_covers 4 _ (by decide +kernel) fun t hf y => ?_
  blk_simp
  rw [after_4]
  exact (congrArg (dysOf (iblk m c 0 t)) (eq_ix4 y)).trans ((point_0 m c t _ _ _ _).trans (congrArg (res0 m c) ((emb_4 t _ _ _ _).symm.trans (congrArg _ (eq_ix4 y).symm))))

theorem final_1 : (dats m 0 c).arrAt 5 cfg0.N = res1 m c := by
  refine (dats m 0 c).arrAt_eq_of_covers 5 _ (by decide +kernel) fun t hf y => ?_
  blk_simp
  rw [after_5]
  exact (congrArg (k0_pay3 (gOf (iblk m c 0 t) (iblk m c 1 t) (iblk m c 2 t))) (eq_ix3 y)).trans ((point_1 m c t _ _ _).trans (congrArg (res1 m c) ((emb_5 t _ _ _).symm.trans (congrArg _ (eq_ix3 y).symm))))

theorem final_2 : (dats m 0 c).arrAt 6 cfg0.N = res2 m c := by
  refine (dats m 0 c).arrAt_eq_of_covers 6 _ (by decide +kernel) fun t hf y => ?_
  blk_simp
  rw [after_6]
  exact (congrArg (dalOf (iblk m c 0 t) (iblk m c 1 t) (iblk m c 2 t) (iblk m c 3 t)) (eq_ix3 y)).trans ((point_2 m c t _ _ _).trans (congrArg (res2 m c) ((emb_6 t _ _ _).symm.trans (congrArg _ (eq_ix3 y).symm))))

variable (ρ : Dev nD → PrngReg)

/-- The kernel's run: the reference's results in the result arrays, and the arguments unchanged. -/
theorem run_values : θ_run defs (onTc (τ := τ) (main (F := Ideal))) ⟨m, fun _ => 0, ρ⟩ fun r => ∀ c : Dev nD,
      r.2.mem ((c.tc : Thread nD τ).loc main_v0_0) = res0 m c
      ∧ r.2.mem ((c.tc : Thread nD τ).loc main_v0_1) = res1 m c
      ∧ r.2.mem ((c.tc : Thread nD τ).loc main_v0_2) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine θ_run_mono (run_main m ρ) fun r h c => ?_
  exact ⟨((h.1 c).1 4).trans (final_0 m c), ((h.1 c).1 5).trans (final_1 m c), ((h.1 c).1 6).trans (final_2 m c),
    ((h.1 c).1 0).trans (((dats m 0 c).arrAt_in 0 rfl _).trans ((A_eq m c 0).trans (V_main_arg0 m c))),
    ((h.1 c).1 1).trans (((dats m 0 c).arrAt_in 1 rfl _).trans ((A_eq m c 1).trans (V_main_arg1 m c))),
    ((h.1 c).1 2).trans (((dats m 0 c).arrAt_in 2 rfl _).trans ((A_eq m c 2).trans (V_main_arg2 m c))),
    ((h.1 c).1 3).trans (((dats m 0 c).arrAt_in 3 rfl _).trans ((A_eq m c 3).trans (V_main_arg3 m c)))⟩

end Cert.KernelIdeal.Ssm

end
-- ==== Proof.Same.lean ====
module

public import proofs.«01_k».proof.Proof.Gen.Kernel
public import proofs.«01_k».proof.Proof.Run
public import Idealize.ShloMosaic.Adequacy

@[expose] public section

/-! `Kernel` and `KernelIdeal` have the same text, so a run of one is a run of the other. -/

namespace Cert.Kernel.Ssm

open Idealize.ShloMosaic Idealize.SL.Sem

/-- The two body tables are the same. -/
theorem bodies_eq : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => rfl

/-- So are the tables with the pipeline's entries. -/
theorem defs_eq : Cert.Kernel.defs (F := Bits) = Cert.KernelIdeal.defs (F := Bits) := congrArg (Pipeline.defs _) bodies_eq

end Cert.Kernel.Ssm
-- ==== Proof.Mlp.lean ====
module

public import proofs.«01_k».proof.Defs
public import proofs.«01_k».proof.Proof.Gen.Kernel2Ideal.Value
public import proofs.«01_k».proof.Proof.Gen.Reference2Ideal.Run
public import Idealize.ShloMosaic.Lib.Pipeline.ValueKit
public import Idealize.ShloMosaic.Lib.StableHlo.RunHlo
public import Idealize.ShloMosaic.Lib.Pointwise
public import Idealize.ShloMosaic.Lib.Claim

@[expose] public section

set_option maxRecDepth 16384

noncomputable section

namespace Cert.Kernel2Ideal.Mlp

open Idealize.ShloMosaic Idealize.ShloMosaic.TcCoe
open Idealize.SL.Sem
open Cert.Kernel2Ideal Cert.Kernel2Ideal.Gen

variable (m : (ℓ : Loc nD τ sig) → Buf (Elt Ideal) ℓ) (c : Dev nD)

/-- The zero block that a row tile starts from. -/
theorem pay1_apply (j : S1024x2048.Idx) : k0_pay1 (F := Ideal) j = 0 := by
  rw [eq_ix2 j]; unfold k0_pay1; pointwise

/-- The tile of the gradient at the pre-activations: the cotangent against the rows of the second weight, times the
    derivative of the squared rectifier at the saved pre-activation. -/
theorem pay2_apply (dx wd : S1024x2048.Idx → Ideal .bf16) (up : S1024x1024.Idx → Ideal .bf16) (p q : Fin 1024) :
    k0_pay2 dx wd up (ix2 p q)
      = (∑ k : Fin 2048, dx (ix2 p k) * wd (ix2 q k)) * (Ideal.ofBits .f32 0x40000000#32 * max (up (ix2 p q)) 0) := by
  unfold k0_pay2; pointwise

/-- The row tile of the gradient at the input takes up one hidden tile's contribution. -/
theorem pay3_apply (dx wd : S1024x2048.Idx → Ideal .bf16) (up : S1024x1024.Idx → Ideal .bf16)
    (acc : S1024x2048.Idx → Ideal .f32) (wu : S1x2048x1024.Idx → Ideal .bf16) (p : Fin 1024) (q : Fin 2048) :
    k0_pay3 dx wd up acc wu (ix2 p q)
      = acc (ix2 p q) + ∑ k : Fin 1024, k0_pay2 dx wd up (ix2 p k) * wu (ix3 (0 : Fin 1) q k) := by
  unfold k0_pay3; pointwise

/-- The same at any index of the block. -/
theorem pay3_at (dx wd : S1024x2048.Idx → Ideal .bf16) (up : S1024x1024.Idx → Ideal .bf16)
    (acc : S1024x2048.Idx → Ideal .f32) (wu : S1x2048x1024.Idx → Ideal .bf16) (j : S1024x2048.Idx) :
    k0_pay3 dx wd up acc wu j
      = acc j + ∑ k : Fin 1024, k0_pay2 dx wd up (ix2 (j 0) k) * wu (ix3 (0 : Fin 1) (j 1) k) := by
  obtain ⟨p, q, rfl⟩ : ∃ (p : Fin 1024) (q : Fin 2048), j = ix2 p q := ⟨j 0, j 1, eq_ix2 j⟩
  exact pay3_apply dx wd up acc wu p q

/-- Where each window stands at grid point `t`, eight hidden tiles to a row tile. -/
theorem idx_ : ∀ t : Fin cfg0.N,
    win0_0.index t = ![t.val / 8, 0] ∧ win0_1.index t = ![t.val / 8, t.val % 8]
    ∧ win0_2.index t = ![t.val % 8 / 2, 0, t.val % 2]
    ∧ win0_3.index t = ![t.val % 8, 0] ∧ win0_4.index t = ![t.val / 8, t.val % 8] ∧ win0_5.index t = ![t.val / 8, 0] := by
  decide +kernel

theorem lt64 (t : Fin cfg0.N) : t.val < 64 := t.isLt.trans_eq N_0

/-- The row of the array that row `p` of the tile at grid point `t` is. -/
def row (t : Fin cfg0.N) (p : Fin 1024) : Fin 8192 := ⟨t.val / 8 * 1024 + p.val, by have := lt64 t; omega⟩

/-- The hidden lane that lane `q` of the tile at grid point `t` is. -/
def lane (t : Fin cfg0.N) (q : Fin 1024) : Fin 8192 := ⟨t.val % 8 * 1024 + q.val, by omega⟩

/-- The arguments by name: the input, the two weights, the cotangent. -/
def H : S8192x2048.Idx → Ideal .f32 := m ((c.tc : Thread nD τ).loc main_arg0)
def WU : S2048x8192.Idx → Ideal .f32 := m ((c.tc : Thread nD τ).loc main_arg1)
def WD : S8192x2048.Idx → Ideal .f32 := m ((c.tc : Thread nD τ).loc main_arg2)
def CT : S8192x2048.Idx → Ideal .f32 := m ((c.tc : Thread nD τ).loc main_arg3)

/-- The pre-activation. -/
def UP (i j : Fin 8192) : EReal := ∑ k : Fin 2048, H m c (ix2 i k) * WU m c (ix2 k j)

/-- The gradient at the pre-activation. -/
def DUP (i j : Fin 8192) : EReal :=
  (∑ k : Fin 2048, CT m c (ix2 i k) * WD m c (ix2 j k)) * (Ideal.ofBits .f32 0x40000000#32 * max (UP m c i j) 0)

/-- The gradient at the input. -/
def DH (i : Fin 8192) (q : Fin 2048) : EReal := ∑ l : Fin 8192, DUP m c i l * WU m c (ix2 q l)

theorem iblk_0 (t : Fin cfg0.N) (p : Fin 1024) (k : Fin 2048) :
    iblk m c 0 t (ix2 p k) = CT m c (ix2 (row t p) k) := by
  obtain ⟨e0, e1, e2, e3, e4, e5⟩ := idx_ t
  blk_simp [iblk, e0]
  entry_read
  pointwise
  unfold CT row
  blk_ext [e0]

theorem iblk_1 (t : Fin cfg0.N) (p q : Fin 1024) :
    iblk m c 1 t (ix2 p q) = UP m c (row t p) (lane t q) := by
  obtain ⟨e0, e1, e2, e3, e4, e5⟩ := idx_ t
  blk_simp [iblk, e1]
  entry_read
  pointwise
  unfold UP H WU row lane
  refine Fin.sum_fin_congr fun k => congrArg₂ (· * ·) (congrArg _ ?_) (congrArg _ ?_)
  · blk_ext [e1]
  · blk_ext [e1]

theorem iblk_2 (t : Fin cfg0.N) (p : Fin 2048) (q : Fin 1024) :
    iblk m c 2 t (ix3 (0 : Fin 1) p q) = WU m c (ix2 p (lane t q)) := by
  obtain ⟨e0, e1, e2, e3, e4, e5⟩ := idx_ t
  blk_simp [iblk, e2]
  entry_read
  pointwise
  unfold WU lane
  blk_ext [e2]

theorem iblk_3 (t : Fin cfg0.N) (q : Fin 1024) (k : Fin 2048) :
    iblk m c 3 t (ix2 q k) = WD m c (ix2 (lane t q) k) := by
  obtain ⟨e0, e1, e2, e3, e4, e5⟩ := idx_ t
  blk_simp [iblk, e3]
  entry_read
  pointwise
  unfold WD lane
  blk_ext [e3]

/-- The tile that grid point `t` computes is the gradient at the pre-activations on that tile. -/
theorem pay2_blk (t : Fin cfg0.N) (p q : Fin 1024) :
    k0_pay2 (iblk m c 0 t) (iblk m c 3 t) (iblk m c 1 t) (ix2 p q) = DUP m c (row t p) (lane t q) := by
  rw [pay2_apply, iblk_1]
  unfold DUP
  congr 1
  exact Finset.sum_congr rfl fun k _ => by rw [iblk_0, iblk_3]

/-- After any grid point the first output's block is that point's tile. -/
theorem outs_1 (t : Fin cfg0.N) :
    (outsAt0 m c t.val t.isLt).1 = k0_pay2 (iblk m c 0 t) (iblk m c 3 t) (iblk m c 1 t) := by
  by_cases h : t.val % 8 = 0
  · rw [outsAt0_A m c t h]; frame_out
  · rw [outsAt0_B m c t h]; frame_out

/-- The first result: the gradient at the pre-activations. -/
theorem arr_4 : (dats m 0 c).arrAt 4 cfg0.N = fun i : S8192x8192.Idx => DUP m c (i 0) (i 1) := by
  refine (dats m 0 c).arrAt_eq_of_covers 4 _ (by decide +kernel) fun t hf y => ?_
  obtain ⟨e0, e1, e2, e3, e4, e5⟩ := idx_ t
  rw [after0_4, outs_1]
  blk_simp
  obtain ⟨p, q, rfl⟩ : ∃ (p q : Fin 1024), y = ix2 p q := ⟨y 0, y 1, eq_ix2 y⟩
  refine (pay2_blk m c t p q).trans (congrArg₂ (DUP m c) (Fin.ext ?_) (Fin.ext ?_))
  · unfold row; blk_simp [e4]
  · unfold lane; blk_simp [e4]

/-- The second result: the gradient at the input, its hidden lanes taken up a tile at a time. -/
theorem arr_5 : (dats m 0 c).arrAt 5 cfg0.N = fun i : S8192x2048.Idx => DH m c (i 0) (i 1) := by
  refine (dats m 0 c).arrAt_eq_of_covers 5 _ (by decide +kernel) fun t hf y => ?_
  obtain ⟨e0, e1, e2, e3, e4, e5⟩ := idx_ t
  rw [after0_5]
  blk_simp
  obtain ⟨p, q, rfl⟩ : ∃ (p : Fin 1024) (q : Fin 2048), y = ix2 p q := ⟨y 0, y 1, eq_ix2 y⟩
  rw [Pipeline.eq_sum_fin_of_reset_step_apply_of_flush (fun n h => (outsAt0 m c n h).2) 8 (fun _ => 0)
    (fun t j => ∑ k : Fin 1024, k0_pay2 (iblk m c 0 t) (iblk m c 3 t) (iblk m c 1 t) (ix2 (j 0) k) * iblk m c 2 t (ix3 (0 : Fin 1) (j 1) k))
    (fun t h j => by rw [outsAt0_A m c t h]; frame_out; rw [pay3_at, pay1_apply])
    (fun t h j => by rw [outsAt0_B m c t h]; frame_out; rw [pay3_at]) t ((flush0_5 t).mp hf) (ix2 p q)]
  rw [zero_add]
  unfold DH
  refine Fin.sum_mul_add_congr fun s k hl => ?_
  refine (congrArg₂ (· * ·) (pay2_blk m c _ p k) (iblk_2 m c _ q k)).trans ?_
  have := lt64 t
  have hr : row ⟨8 * (t.val / 8) + s.val, by rw [show cfg0.N = 64 from N_0]; omega⟩ p = (win0_5.blk t).view.emb (ix2 p q) 0 := Fin.ext (by
    unfold row; blk_simp [e5]; dsimp only; omega)
  have hl' : lane ⟨8 * (t.val / 8) + s.val, by rw [show cfg0.N = 64 from N_0]; omega⟩ k = ⟨s.val * 1024 + k.val, hl⟩ := Fin.ext (by
    unfold lane; dsimp only; omega)
  have hq : q = (win0_5.blk t).view.emb (ix2 p q) 1 := Fin.ext (by blk_simp [e5])
  rw [hl', hr, ← hq]

end Cert.Kernel2Ideal.Mlp

namespace Cert.Reference2Ideal.Mlp

open Idealize.ShloMosaic Idealize.ShloMosaic.TcCoe
open Idealize.SL.Sem
open Cert.Reference2Ideal Cert.Reference2Ideal.Gen

/-- Where the rectifier is shut, its derivative is zero without the test. -/
theorem select_relu (x a u : EReal) :
    (if (0 : EReal) < u then x * (a * max u 0) else 0) = x * (a * max u 0) := by
  split
  · rfl
  · rename_i h
    rw [max_eq_right (not_lt.mp h), mul_zero, mul_zero]

end Cert.Reference2Ideal.Mlp

namespace Cert.Proof.Mlp

open Idealize.ShloMosaic Idealize.ShloMosaic.TcCoe
open Idealize.SL.Sem

/-- The kernel's two gradients are the reference's. -/
theorem algebraic : Cert.algebraic_Kernel2Ideal_Reference2Ideal (hKernel2Ideal := Cert.Kernel2Ideal.Gen.facts) (hReference2Ideal := Cert.Reference2Ideal.Gen.facts) := by
  intro m g m' g' _ hagree
  refine ⟨fun c => (fun i => Cert.Kernel2Ideal.Mlp.DUP m c (i 0) (i 1)), fun c => (fun i => Cert.Kernel2Ideal.Mlp.DH m c (i 0) (i 1)), ?_, ?_⟩
  · refine θ_run_mono (Cert.Kernel2Ideal.Value.run_blocks m g) fun r h c => ?_
    obtain ⟨h0, h1, ha⟩ := h c
    exact ⟨h0.trans (Cert.Kernel2Ideal.Mlp.arr_4 m c), h1.trans (Cert.Kernel2Ideal.Mlp.arr_5 m c), ha⟩
  · refine θ_run_mono (Cert.Reference2Ideal.Value.run m' g') fun r h c => ?_
    obtain ⟨h0, h1, ha⟩ := h c
    obtain ⟨a0, a1, a2, a3⟩ := hagree c
    refine ⟨h0.trans ?_, h1.trans ?_, ha⟩
    · rw [a0, a1, a2, a3]
      funext i
      rw [eq_ix2 i]
      pointwise
      exact Cert.Reference2Ideal.Mlp.select_relu _ _ _
    · rw [a0, a1, a2, a3]
      funext i
      rw [eq_ix2 i]
      pointwise
      exact Finset.sum_congr rfl fun l _ => congrArg (· * _) (Cert.Reference2Ideal.Mlp.select_relu _ _ _)

end Cert.Proof.Mlp

end
-- ==== Proof.GradDown.lean ====
module

public import proofs.«01_k».proof.Defs
public import proofs.«01_k».proof.Proof.Gen.Kernel3Ideal.Value
public import proofs.«01_k».proof.Proof.Gen.Reference3Ideal.Run
public import Idealize.ShloMosaic.Lib.Pipeline.ValueKit
public import Idealize.ShloMosaic.Lib.StableHlo.RunHlo
public import Idealize.ShloMosaic.Lib.Pointwise
public import Idealize.ShloMosaic.Lib.Claim
public import Idealize.ShloMosaic.Lib.Pipeline.ReadBack

@[expose] public section

set_option maxRecDepth 16384

noncomputable section

namespace Cert.Kernel3Ideal.GradDown

open Idealize.ShloMosaic Idealize.ShloMosaic.TcCoe
open Idealize.SL.Sem
open Cert.Kernel3Ideal Cert.Kernel3Ideal.Gen

variable (m : (ℓ : Loc nD τ sig) → Buf (Elt Ideal) ℓ) (c : Dev nD)

/-- The squared rectifier. -/
def relu2 (x : EReal) : EReal := max x 0 * max x 0

/-- The zero block that a sum over the rows starts from. -/
theorem pay1_apply (j : S1024x2048.Idx) : k0_pay1 (F := Ideal) j = 0 := by
  rw [eq_ix2 j]; unfold k0_pay1; pointwise

/-- One row tile's contribution: the squared rectifier of the saved pre-activations against the cotangent. -/
theorem pay2_apply (up : S2048x1024.Idx → Ideal .bf16) (acc : S1024x2048.Idx → Ideal .f32)
    (dx : S2048x2048.Idx → Ideal .bf16) (p : Fin 1024) (q : Fin 2048) :
    k0_pay2 up acc dx (ix2 p q)
      = acc (ix2 p q) + ∑ k : Fin 2048, relu2 (up (ix2 k p)) * dx (ix2 k q) := by
  unfold k0_pay2; pointwise; rfl

/-- The same at any index of the block. -/
theorem pay2_at (up : S2048x1024.Idx → Ideal .bf16) (acc : S1024x2048.Idx → Ideal .f32)
    (dx : S2048x2048.Idx → Ideal .bf16) (j : S1024x2048.Idx) :
    k0_pay2 up acc dx j
      = acc j + ∑ k : Fin 2048, relu2 (up (ix2 k (j 0))) * dx (ix2 k (j 1)) := by
  obtain ⟨p, q, rfl⟩ : ∃ (p : Fin 1024) (q : Fin 2048), j = ix2 p q := ⟨j 0, j 1, eq_ix2 j⟩
  exact pay2_apply up acc dx p q

/-- The block written back is the sum under two unit axes. -/
theorem pay3_apply (acc : S1024x2048.Idx → Ideal .f32) (p : Fin 1024) (q : Fin 2048) :
    k0_pay3 (F := Ideal) acc (ix4 (0 : Fin 1) (0 : Fin 1) p q) = (acc (ix2 p q) : EReal) := by
  unfold k0_pay3; pointwise

/-- Where each window stands at grid point `t`, four row tiles to a block of hidden lanes. -/
theorem idx_ : ∀ t : Fin cfg0.N,
    win0_0.index t = ![t.val % 4, t.val / 4] ∧ win0_1.index t = ![t.val % 4, 0]
    ∧ win0_2.index t = ![t.val / 4 / 2, t.val / 4 % 2, 0, 0] := by
  decide +kernel

theorem lt32 (t : Fin cfg0.N) : t.val < 32 := t.isLt.trans_eq N_0

/-- The row of the array that row `p` of the tile at grid point `t` is. -/
def row (t : Fin cfg0.N) (p : Fin 2048) : Fin 8192 := ⟨t.val % 4 * 2048 + p.val, by omega⟩

/-- The hidden lane that lane `q` of the tile at grid point `t` is. -/
def lane (t : Fin cfg0.N) (q : Fin 1024) : Fin 8192 := ⟨t.val / 4 * 1024 + q.val, by have := lt32 t; omega⟩

/-- The hidden lane of an index of the result, whose two leading axes are the chip and the half. -/
def lane4 (a : Fin 4) (b : Fin 2) (r : Fin 1024) : Fin 8192 := ⟨a.val * 2048 + b.val * 1024 + r.val, by omega⟩

/-- The arguments by name: the input, the first weight, the cotangent. -/
def H : S8192x2048.Idx → Ideal .f32 := m ((c.tc : Thread nD τ).loc main_arg0)
def WU : S2048x8192.Idx → Ideal .f32 := m ((c.tc : Thread nD τ).loc main_arg1)
def CT : S8192x2048.Idx → Ideal .f32 := m ((c.tc : Thread nD τ).loc main_arg3)

/-- The pre-activation. -/
def UP (i j : Fin 8192) : EReal := ∑ k : Fin 2048, H m c (ix2 i k) * WU m c (ix2 k j)

/-- The gradient at the second weight. -/
def DW (l : Fin 8192) (n : Fin 2048) : EReal :=
  ∑ r : Fin 8192, relu2 (UP m c r l) * CT m c (ix2 r n)

theorem iblk_0 (t : Fin cfg0.N) (p : Fin 2048) (q : Fin 1024) :
    iblk m c 0 t (ix2 p q) = UP m c (row t p) (lane t q) := by
  obtain ⟨e0, e1, e2⟩ := idx_ t
  blk_simp [iblk, e0]
  entry_read
  pointwise
  unfold UP H WU row lane
  refine Fin.sum_fin_congr fun k => congrArg₂ (· * ·) (congrArg _ ?_) (congrArg _ ?_)
  · blk_ext [e0]
  · blk_ext [e0]

theorem iblk_1 (t : Fin cfg0.N) (p : Fin 2048) (k : Fin 2048) :
    iblk m c 1 t (ix2 p k) = CT m c (ix2 (row t p) k) := by
  obtain ⟨e0, e1, e2⟩ := idx_ t
  blk_simp [iblk, e1]
  entry_read
  pointwise
  unfold CT row
  blk_ext [e1]

/-- The block that the last point of a run writes back is the running sum. -/
theorem outs_1 (t : Fin cfg0.N) (h1 : t.val % 4 = 3) :
    (outsAt0 m c t.val t.isLt).1 = k0_pay3 (outsAt0 m c t.val t.isLt).2 := by
  rw [outsAt0_C m c t (by omega) h1]; frame_out

/-- The result: the gradient at the second weight, its rows taken up a tile at a time. -/
theorem arr_2 : (dats m 0 c).arrAt 2 cfg0.N
    = fun i : S4x2x1024x2048.Idx => DW m c (lane4 (i 0) (i 1) (i 2)) (i 3) := by
  refine (dats m 0 c).arrAt_eq_of_covers 2 _ (by decide +kernel) fun t hf y => ?_
  obtain ⟨e0, e1, e2⟩ := idx_ t
  have h3 := (flush0_2 t).mp hf
  rw [after0_2, outs_1 m c t h3]
  blk_simp
  obtain ⟨p, q, rfl⟩ : ∃ (p : Fin 1024) (q : Fin 2048), y = ix4 (0 : Fin 1) (0 : Fin 1) p q :=
    ⟨y 2, y 3, (eq_ix4 y).trans (by
      rw [show y 0 = (0 : Fin 1) from Subsingleton.elim (α := Fin 1) _ _, show y 1 = (0 : Fin 1) from Subsingleton.elim (α := Fin 1) _ _])⟩
  refine (pay3_apply _ p q).trans ?_
  rw [Pipeline.eq_sum_fin_of_reset_step_apply_of_flush (fun n h => (outsAt0 m c n h).2) 4 (fun _ => 0)
    (fun t j => ∑ k : Fin 2048, relu2 (iblk m c 0 t (ix2 k (j 0))) * iblk m c 1 t (ix2 k (j 1)))
    (fun t h j => by rw [outsAt0_A m c t h (by omega)]; frame_out; rw [pay2_at, pay1_apply])
    (fun t h j => by
      by_cases h1 : t.val % 4 = 3
      · rw [outsAt0_C m c t h h1]; frame_out; rw [pay2_at]; simp only [read_unread_whole]
      · rw [outsAt0_B m c t h h1]; frame_out; rw [pay2_at]; simp only [read_unread_whole]) t h3 (ix2 p q)]
  rw [zero_add]
  unfold DW
  refine Fin.sum_mul_add_congr fun s k hl => ?_
  refine (congrArg₂ (· * ·) (congrArg relu2 (iblk_0 m c _ k p)) (iblk_1 m c _ k q)).trans ?_
  have := lt32 t
  have hr : lane ⟨4 * (t.val / 4) + s.val, by rw [show cfg0.N = 32 from N_0]; omega⟩ p
      = lane4 ((win0_2.blk t).view.emb (ix4 (0 : Fin 1) (0 : Fin 1) p q) 0) ((win0_2.blk t).view.emb (ix4 (0 : Fin 1) (0 : Fin 1) p q) 1) ((win0_2.blk t).view.emb (ix4 (0 : Fin 1) (0 : Fin 1) p q) 2) := Fin.ext (by
    unfold lane lane4; blk_simp [e2]; dsimp only; omega)
  have hl' : row ⟨4 * (t.val / 4) + s.val, by rw [show cfg0.N = 32 from N_0]; omega⟩ k = ⟨s.val * 2048 + k.val, hl⟩ := Fin.ext (by
    unfold row; dsimp only; omega)
  have hq : q = (win0_2.blk t).view.emb (ix4 (0 : Fin 1) (0 : Fin 1) p q) 3 := Fin.ext (by blk_simp [e2])
  rw [hl', hr, ← hq]

end Cert.Kernel3Ideal.GradDown

namespace Cert.Proof.GradDown

open Idealize.ShloMosaic Idealize.ShloMosaic.TcCoe
open Idealize.SL.Sem

/-- The kernel's gradient is the reference's. -/
theorem algebraic : Cert.algebraic_Kernel3Ideal_Reference3Ideal (hKernel3Ideal := Cert.Kernel3Ideal.Gen.facts) (hReference3Ideal := Cert.Reference3Ideal.Gen.facts) := by
  intro m g m' g' _ hagree
  refine ⟨fun c => (fun i => Cert.Kernel3Ideal.GradDown.DW m c (Cert.Kernel3Ideal.GradDown.lane4 (i 0) (i 1) (i 2)) (i 3)), ?_, ?_⟩
  · refine θ_run_mono (Cert.Kernel3Ideal.Value.run_blocks m g) fun r h c => ?_
    obtain ⟨h0, ha⟩ := h c
    exact ⟨h0.trans (Cert.Kernel3Ideal.GradDown.arr_2 m c), ha⟩
  · refine θ_run_mono (Cert.Reference3Ideal.Value.run m' g') fun r h c => ?_
    obtain ⟨h0, ha⟩ := h c
    obtain ⟨a0, a1, a2, a3⟩ := hagree c
    refine ⟨h0.trans ?_, ha⟩
    rw [a0, a1, a3]
    funext i
    rw [eq_ix4 i]
    pointwise
    exact Finset.sum_congr rfl fun r _ => mul_comm _ _

end Cert.Proof.GradDown

end
-- ==== Proof.Norm.lean ====
module

public import Idealize.ShloMosaic.Lib.Pointwise
public import Idealize.ShloMosaic.Lib.IdealHost

@[expose] public section

noncomputable section

namespace Cert.Proof.Norm

open Idealize.ShloMosaic

/-- The constant patterns as numbers. -/
theorem n_eq : Ideal.ofBits .f32 0x45000000#32 = ((2048 : ℝ) : EReal) := by
  simp [Ideal.ofBits, Ideal.ieee, -EReal.coe_mul]; norm_num
theorem negHalf_eq : Ideal.ofBits .f32 0xBF000000#32 = ((-(1 / 2) : ℝ) : EReal) := by
  simp [Ideal.ofBits, Ideal.ieee, -EReal.coe_mul, -EReal.coe_neg]; norm_num
theorem half_eq : Ideal.ofBits .f32 0x3F000000#32 = ((1 / 2 : ℝ) : EReal) := by
  simp [Ideal.ofBits, Ideal.ieee, -EReal.coe_mul]; norm_num
theorem two_eq : Ideal.ofBits .f32 0x40000000#32 = ((2 : ℝ) : EReal) := by
  simp [Ideal.ofBits, Ideal.ieee, -EReal.coe_mul]; norm_num
theorem invn_eq : Ideal.ofBits .f32 0x3A000000#32 = ((1 / 2048 : ℝ) : EReal) := by
  simp [Ideal.ofBits, Ideal.ieee, -EReal.coe_mul]; norm_num

/-- The small constant under the root is a positive real. -/
theorem eps_pos : ∃ e : ℝ, 0 < e ∧ Ideal.ofBits .f32 0x358637BD#32 = (e : EReal) := by
  refine ⟨_, ?_, by simp [Ideal.ofBits, Ideal.ieee, -EReal.coe_mul]; rfl⟩
  positivity

/-- Division by the row length is multiplication by its reciprocal. -/
theorem div_n (x : EReal) : Ideal.div x (Ideal.ofBits .f32 0x45000000#32) = x * ((1 / 2048 : ℝ) : EReal) := by
  rw [n_eq]
  unfold Ideal.div
  rw [if_neg (by norm_cast), ← EReal.coe_inv]
  norm_num

/-- A square is not negative. -/
theorem sq_nonneg (x : EReal) : 0 ≤ x * x := by
  induction x with
  | bot => simp
  | top => simp
  | coe r => exact_mod_cast mul_self_nonneg r

/-- The mean square of a row, with the small constant. -/
def var (f : Fin 2048 → EReal) : EReal :=
  Ideal.div (∑ k, f k * f k) (Ideal.ofBits .f32 0x45000000#32) + Ideal.ofBits .f32 0x358637BD#32

/-- One over the root mean square of a row. -/
def rms (f : Fin 2048 → EReal) : EReal := Ideal.rsqrt (var f)

/-- A mean square with the small constant is a positive real or infinite: `N` is the row's length, by which division
    is multiplication by `w`. -/
theorem var_cases_of {n : ℕ} (N : EReal) (w : ℝ) (hw : 0 < w) (hN : ∀ x, Ideal.div x N = x * (w : EReal)) (f : Fin n → EReal) :
    Ideal.div (∑ k, f k * f k) N + Ideal.ofBits .f32 0x358637BD#32 = ⊤
      ∨ ∃ v : ℝ, 0 < v ∧ Ideal.div (∑ k, f k * f k) N + Ideal.ofBits .f32 0x358637BD#32 = (v : EReal) := by
  obtain ⟨e, he, hE⟩ := eps_pos
  have h0 : (0 : EReal) ≤ ∑ k, f k * f k := Finset.sum_nonneg fun k _ => sq_nonneg _
  rw [hN, hE]
  generalize (∑ k, f k * f k) = s at h0
  induction s with
  | bot => simp at h0
  | top => left; rw [EReal.top_mul_coe_of_pos hw, EReal.top_add_coe]
  | coe r =>
    right
    have hr : 0 ≤ r := by exact_mod_cast h0
    exact ⟨r * w + e, by positivity, by push_cast; rfl⟩

/-- The same of a row of 2048. -/
theorem var_cases (f : Fin 2048 → EReal) : var f = ⊤ ∨ ∃ v : ℝ, 0 < v ∧ var f = (v : EReal) :=
  var_cases_of _ (1 / 2048) (by norm_num) div_n f

/-- Minus a half of a real, taken twice, is minus the real, against any factor. -/
theorem twice_half (y : EReal) (k : ℝ) (hk : 0 < k) :
    y * ((-(k / 2) : ℝ) : EReal) + y * ((-(k / 2) : ℝ) : EReal) = -(y * (k : EReal)) := by
  have hn : -(k / 2) < 0 := by linarith
  induction y with
  | bot => rw [EReal.bot_mul_coe_of_neg hn, EReal.bot_mul_coe_of_pos hk]; rfl
  | top => rw [EReal.top_mul_coe_of_neg hn, EReal.top_mul_coe_of_pos hk]; rfl
  | coe r => norm_cast; ring

/-- The correction of a normalisation's gradient: the row's factor the derivative of the root gives, entered at
    both factors of the square, is the closed form with the third power of the normaliser. -/
theorem corr_of (N : EReal) (w : ℝ) (hw : 0 < w) (hN : ∀ x, Ideal.div x N = x * (w : EReal)) (V : EReal)
    (hV : V = ⊤ ∨ ∃ v : ℝ, 0 < v ∧ V = (v : EReal)) (x S : EReal) :
    x * Ideal.div (S * (Ideal.ofBits .f32 0xBF000000#32 * Ideal.div (Ideal.rsqrt V) V)) N
      + Ideal.div (S * (Ideal.ofBits .f32 0xBF000000#32 * Ideal.div (Ideal.rsqrt V) V)) N * x
      = -(x * (Ideal.rsqrt V * Ideal.rsqrt V * Ideal.rsqrt V) * Ideal.div S N) := by
  rw [hN, hN, negHalf_eq]
  obtain hv | ⟨v, hv, hV⟩ := hV
  · rw [hv, Ideal.rsqrt_top]
    simp [Ideal.div]
  · rw [hV, Ideal.rsqrt_coe, if_neg (not_lt.mpr hv.le), if_neg hv.ne']
    have hs : 0 < Real.sqrt v := Real.sqrt_pos.mpr hv
    have hd : Ideal.div (((Real.sqrt v)⁻¹ : ℝ) : EReal) (v : EReal) = (((Real.sqrt v)⁻¹ * v⁻¹ : ℝ) : EReal) := by
      unfold Ideal.div
      rw [if_neg (by exact_mod_cast hv.ne'), ← EReal.coe_inv, ← EReal.coe_mul]
    have hk : (Real.sqrt v)⁻¹ * v⁻¹ = (Real.sqrt v)⁻¹ * (Real.sqrt v)⁻¹ * (Real.sqrt v)⁻¹ := by
      rw [mul_assoc _ _ (Real.sqrt v)⁻¹, ← mul_inv (Real.sqrt v) (Real.sqrt v), Real.mul_self_sqrt hv.le]
    rw [hd, hk]
    set r : ℝ := (Real.sqrt v)⁻¹ with hr
    have hp : 0 < r * r * r * w := by have : 0 < r := inv_pos.mpr hs; positivity
    have e1 : x * (S * (((-(1 / 2) : ℝ) : EReal) * ((r * r * r : ℝ) : EReal)) * (w : EReal))
        = x * S * ((-(r * r * r * w / 2) : ℝ) : EReal) := by
      rw [← EReal.coe_mul, mul_assoc S, ← EReal.coe_mul, mul_assoc x]
      congr 3; ring
    have e2 : x * ((r : EReal) * r * r) * (S * (w : EReal)) = x * S * ((r * r * r * w : ℝ) : EReal) := by
      rw [EReal.coe_mul, EReal.coe_mul, EReal.coe_mul]; ac_rfl
    rw [mul_comm _ x, e1, e2]
    exact twice_half (x * S) _ hp

/-- The same of a row of 2048. -/
theorem corr (f : Fin 2048 → EReal) (x S : EReal) :
    x * Ideal.div (S * (Ideal.ofBits .f32 0xBF000000#32 * Ideal.div (rms f) (var f))) (Ideal.ofBits .f32 0x45000000#32)
      + Ideal.div (S * (Ideal.ofBits .f32 0xBF000000#32 * Ideal.div (rms f) (var f))) (Ideal.ofBits .f32 0x45000000#32) * x
      = -(x * (rms f * rms f * rms f) * Ideal.div S (Ideal.ofBits .f32 0x45000000#32)) :=
  corr_of _ (1 / 2048) (by norm_num) div_n (var f) (var_cases f) x S

/-- A normalisation's gradient at its row `x`, of a cotangent `a` that the gain has entered. -/
def dnorm (x a : Fin 2048 → EReal) (q : Fin 2048) : EReal :=
  rms x * a q - x q * (rms x * rms x * rms x) * Ideal.div (∑ k, a k * x k) (Ideal.ofBits .f32 0x45000000#32)

/-- The gradient a row at a time, as the derivative of the forward lines gives it, is the closed form. -/
theorem dnorm_eq (x a : Fin 2048 → EReal) (q : Fin 2048) :
    a q * rms x
      + x q * (∑ _z : Fin 1, Ideal.div ((∑ k, x k * a k) * (Ideal.ofBits .f32 0xBF000000#32 * Ideal.div (rms x) (var x))) (Ideal.ofBits .f32 0x45000000#32))
      + (∑ _z : Fin 1, Ideal.div ((∑ k, x k * a k) * (Ideal.ofBits .f32 0xBF000000#32 * Ideal.div (rms x) (var x))) (Ideal.ofBits .f32 0x45000000#32)) * x q
      = dnorm x a q := by
  rw [Fin.sum_univ_one, add_assoc, corr, mul_comm (a q), show (∑ k, x k * a k) = ∑ k, a k * x k from Finset.sum_congr rfl fun k _ => mul_comm _ _]
  rfl

/-- A positive real enters a sum. -/
theorem coe_mul_sum {ι : Type} (s : Finset ι) (k : ℝ) (hk : 0 ≤ k) (f : ι → EReal) :
    (k : EReal) * ∑ i ∈ s, f i = ∑ i ∈ s, (k : EReal) * f i := by
  induction s using Finset.cons_induction with
  | empty => simp
  | cons a s h ih =>
    rw [Finset.sum_cons, Finset.sum_cons,
      EReal.left_distrib_of_nonneg_of_ne_top (by exact_mod_cast hk) (EReal.coe_ne_top k), ih]

/-- The cotangent of a squared difference's mean, under a half: the factors' product is one over the row length. -/
theorem cot (y : EReal) :
    Ideal.div (Ideal.ofBits .f32 0x3F000000#32) (Ideal.ofBits .f32 0x45000000#32)
      * (Ideal.ofBits .f32 0x40000000#32 * y) = y * Ideal.ofBits .f32 0x3A000000#32 := by
  rw [div_n, half_eq, two_eq, invn_eq, ← mul_assoc, ← EReal.coe_mul, ← EReal.coe_mul, mul_comm y]
  congr 2; norm_num

end Cert.Proof.Norm

end
-- ==== Proof.NormBwd.lean ====
module

public import proofs.«01_k».proof.Defs
public import proofs.«01_k».proof.Proof.Gen.Kernel4Ideal.Value
public import proofs.«01_k».proof.Proof.Gen.Reference4Ideal.Run
public import proofs.«01_k».proof.Proof.Norm
public import Idealize.ShloMosaic.Lib.Pipeline.ValueKit
public import Idealize.ShloMosaic.Lib.StableHlo.RunHlo
public import Idealize.ShloMosaic.Lib.Pointwise
public import Idealize.ShloMosaic.Lib.Claim
public import Idealize.ShloMosaic.Lib.Pipeline.ReadBack

@[expose] public section

set_option maxRecDepth 16384

noncomputable section

namespace Cert.Kernel4Ideal.NormBwd

open Idealize.ShloMosaic Idealize.ShloMosaic.TcCoe
open Idealize.SL.Sem
open Cert.Kernel4Ideal Cert.Kernel4Ideal.Gen
open Cert.Proof.Norm

variable (m : (ℓ : Loc nD τ sig) → Buf (Elt Ideal) ℓ) (c : Dev nD)

/-- The residual stream's gradient, a tile. -/
theorem pay7_apply (x d : S512x2048.Idx → Ideal .f32) (g : S1x2048.Idx → Ideal .f32) (r : S512x2048.Idx → Ideal .f32)
    (p : Fin 512) (q : Fin 2048) :
    k0_pay7 (F := Ideal) x d g r (ix2 p q)
      = (r (ix2 p q) + dnorm (fun k => x (ix2 p k)) (fun k => d (ix2 p k) * g (ix2 (0 : Fin 1) k)) q : EReal) := by
  unfold k0_pay7 k0_pay5 k0_pay4; pointwise; rfl

theorem pay8_apply (x d : S512x2048.Idx → Ideal .f32) (g : S1x2048.Idx → Ideal .f32) (r : S512x2048.Idx → Ideal .f32)
    (p : Fin 512) (q : Fin 2048) :
    k0_pay8 (F := Ideal) x d g r (ix2 p q) = (k0_pay7 (F := Ideal) x d g r (ix2 p q) : EReal) := by
  unfold k0_pay8; pointwise

/-- The gain's gradient before its sum over the rows. -/
theorem pay6_apply (x d : S512x2048.Idx → Ideal .f32) (p : Fin 512) (q : Fin 2048) :
    k0_pay6 (F := Ideal) x d (ix2 p q) = (d (ix2 p q) * x (ix2 p q) * rms (fun k => x (ix2 p k)) : EReal) := by
  unfold k0_pay6 k0_pay5 k0_pay4; pointwise; rfl

theorem pay3_apply (j : S1x2048.Idx) : k0_pay3 (F := Ideal) j = 0 := by
  rw [eq_ix2 j]; unfold k0_pay3; pointwise

theorem pay1_apply (v : S512x2048.Idx → Ideal .f32) (acc : S1x2048.Idx → Ideal .f32) (p : Fin 1) (q : Fin 2048) :
    k0_pay1 (F := Ideal) v acc (ix2 p q) = (acc (ix2 p q) + ∑ k : Fin 512, v (ix2 k q) : EReal) := by
  unfold k0_pay1; pointwise

theorem pay1_at (v : S512x2048.Idx → Ideal .f32) (acc : S1x2048.Idx → Ideal .f32) (j : S1x2048.Idx) :
    k0_pay1 (F := Ideal) v acc j = (acc j + ∑ k : Fin 512, v (ix2 k (j 1)) : EReal) := by
  obtain ⟨p, q, rfl⟩ : ∃ (p : Fin 1) (q : Fin 2048), j = ix2 p q := ⟨j 0, j 1, eq_ix2 j⟩
  exact pay1_apply v acc p q

/-- The product with the transposed weight. -/
theorem pay2_apply (v : S512x2048.Idx → Ideal .bf16) (w : S2048x2048.Idx → Ideal .bf16) (p : Fin 512) (q : Fin 2048) :
    k0_pay2 (F := Ideal) v w (ix2 p q) = (∑ k : Fin 2048, v (ix2 p k) * w (ix2 q k) : EReal) := by
  unfold k0_pay2; pointwise

/-- Where each window stands at grid point `t`. -/
theorem idx_ : ∀ t : Fin cfg0.N,
    win0_0.index t = ![t.val, 0] ∧ win0_1.index t = ![t.val, 0] ∧ win0_2.index t = ![t.val, 0] ∧ win0_3.index t = ![0, 0]
    ∧ win0_4.index t = ![0, 0] ∧ win0_5.index t = ![t.val, 0] ∧ win0_6.index t = ![t.val, 0] ∧ win0_7.index t = ![0, 0]
    ∧ win0_8.index t = ![t.val, 0] := by
  decide +kernel

theorem lt16 (t : Fin cfg0.N) : t.val < 16 := t.isLt.trans_eq N_0

/-- The row of the array that row `p` of the tile at grid point `t` is. -/
def row (t : Fin cfg0.N) (p : Fin 512) : Fin 8192 := ⟨t.val * 512 + p.val, by have := lt16 t; omega⟩

/-- The arguments by name: the residual stream, the mixers' output, the weight, the norm's gain, the cotangent of the
    normalised stream and that of the residual. -/
def X : S8192x2048.Idx → Ideal .f32 := m ((c.tc : Thread nD τ).loc main_arg0)
def MX : S8192x2048.Idx → Ideal .f32 := m ((c.tc : Thread nD τ).loc main_arg1)
def W : S2048x2048.Idx → Ideal .f32 := m ((c.tc : Thread nD τ).loc main_arg2)
def G : S2048.Idx → Ideal .f32 := m ((c.tc : Thread nD τ).loc main_arg3)
def DH : S8192x2048.Idx → Ideal .f32 := m ((c.tc : Thread nD τ).loc main_arg4)
def DR : S8192x2048.Idx → Ideal .f32 := m ((c.tc : Thread nD τ).loc main_arg5)

/-- The residual stream after the mixers. -/
def X1 (i : Fin 8192) (j : Fin 2048) : EReal := X m c (ix2 i j) + ∑ k : Fin 2048, MX m c (ix2 i k) * W m c (ix2 k j)

/-- The gradient at the residual stream. -/
def DX (i : Fin 8192) (j : Fin 2048) : EReal :=
  DR m c (ix2 i j) + dnorm (X1 m c i) (fun k => DH m c (ix2 i k) * G m c (ix1 k)) j

/-- One row's part of the gain's gradient. -/
def DGr (i : Fin 8192) (j : Fin 2048) : EReal := DH m c (ix2 i j) * X1 m c i j * rms (X1 m c i)

/-- The gain's gradient. -/
def DG (j : Fin 2048) : EReal := ∑ i : Fin 8192, DGr m c i j

/-- The gradient at the mixers' output. -/
def DM (i : Fin 8192) (j : Fin 2048) : EReal := ∑ k : Fin 2048, DX m c i k * W m c (ix2 j k)

theorem iblk_0 (t : Fin cfg0.N) (p : Fin 512) (k : Fin 2048) : iblk m c 0 t (ix2 p k) = DH m c (ix2 (row t p) k) := by
  obtain ⟨e0, e1, e2, e3, e4, e5, e6, e7, e8⟩ := idx_ t
  blk_simp [iblk, e0]
  entry_read
  pointwise
  unfold DH row
  blk_ext [e0]

theorem iblk_1 (t : Fin cfg0.N) (p : Fin 512) (k : Fin 2048) : iblk m c 1 t (ix2 p k) = X1 m c (row t p) k := by
  obtain ⟨e0, e1, e2, e3, e4, e5, e6, e7, e8⟩ := idx_ t
  blk_simp [iblk, e1]
  entry_read
  pointwise
  unfold X1 X MX W row
  refine congrArg₂ (· + ·) (congrArg _ ?_) (Fin.sum_fin_congr fun k => congrArg₂ (· * ·) (congrArg _ ?_) (congrArg _ ?_))
  · blk_ext [e1]
  · blk_ext [e1]
  · blk_ext [e1]

theorem iblk_2 (t : Fin cfg0.N) (p : Fin 512) (k : Fin 2048) : iblk m c 2 t (ix2 p k) = DR m c (ix2 (row t p) k) := by
  obtain ⟨e0, e1, e2, e3, e4, e5, e6, e7, e8⟩ := idx_ t
  blk_simp [iblk, e2]
  entry_read
  pointwise
  unfold DR row
  blk_ext [e2]

theorem iblk_3 (t : Fin cfg0.N) (k : Fin 2048) : iblk m c 3 t (ix2 (0 : Fin 1) k) = G m c (ix1 k) := by
  obtain ⟨e0, e1, e2, e3, e4, e5, e6, e7, e8⟩ := idx_ t
  blk_simp [iblk, e3]
  entry_read
  pointwise
  unfold G
  blk_ext [e3]

theorem iblk_4 (t : Fin cfg0.N) (p : Fin 2048) (k : Fin 2048) : iblk m c 4 t (ix2 p k) = W m c (ix2 p k) := by
  obtain ⟨e0, e1, e2, e3, e4, e5, e6, e7, e8⟩ := idx_ t
  blk_simp [iblk, e4]
  entry_read
  pointwise
  unfold W
  blk_ext [e4]

/-- The residual stream's gradient, the tile at grid point `t`. -/
theorem pay7_blk (t : Fin cfg0.N) (p : Fin 512) (q : Fin 2048) :
    k0_pay7 (iblk m c 1 t) (iblk m c 0 t) (iblk m c 3 t) (iblk m c 2 t) (ix2 p q) = DX m c (row t p) q := by
  rw [pay7_apply, iblk_2]
  unfold DX
  rw [show (fun k => iblk m c 1 t (ix2 p k)) = X1 m c (row t p) from funext fun k => iblk_1 m c t p k]
  exact congrArg (fun a => DR m c (ix2 (row t p) q) + dnorm (X1 m c (row t p)) a q)
    (funext fun k => congrArg₂ (fun a b : EReal => a * b) (iblk_0 m c t p k) (iblk_3 m c t k))

/-- A row's part of the gain's gradient, in the tile at grid point `t`. -/
theorem pay6_blk (t : Fin cfg0.N) (p : Fin 512) (q : Fin 2048) :
    k0_pay6 (iblk m c 1 t) (iblk m c 0 t) (ix2 p q) = DGr m c (row t p) q := by
  rw [pay6_apply, iblk_0, iblk_1]
  unfold DGr
  rw [show (fun k => iblk m c 1 t (ix2 p k)) = X1 m c (row t p) from funext fun k => iblk_1 m c t p k]

/-- What a point leaves in each of the tiles it writes. -/
theorem outs_5 (t : Fin cfg0.N) : (outsAt0 m c t.val t.isLt).1
    = k0_pay7 (iblk m c 1 t) (iblk m c 0 t) (iblk m c 3 t) (iblk m c 2 t) := by
  by_cases h : t.val % 16 = 0
  · rw [outsAt0_A m c t h]; frame_out
  · rw [outsAt0_B m c t h]; frame_out

theorem outs_6 (t : Fin cfg0.N) : (outsAt0 m c t.val t.isLt).2.1
    = k0_pay8 (iblk m c 1 t) (iblk m c 0 t) (iblk m c 3 t) (iblk m c 2 t) := by
  by_cases h : t.val % 16 = 0
  · rw [outsAt0_A m c t h]; frame_out
  · rw [outsAt0_B m c t h]; frame_out

theorem outs_8 (t : Fin cfg0.N) : (outsAt0 m c t.val t.isLt).2.2.2
    = k0_pay2 (k0_pay8 (iblk m c 1 t) (iblk m c 0 t) (iblk m c 3 t) (iblk m c 2 t)) (iblk m c 4 t) := by
  by_cases h : t.val % 16 = 0
  · rw [outsAt0_A m c t h]; frame_out
  · rw [outsAt0_B m c t h]; frame_out

/-- The first result: the residual stream's gradient. -/
theorem arr_5 : (dats m 0 c).arrAt 5 cfg0.N = fun i : S8192x2048.Idx => DX m c (i 0) (i 1) := by
  refine (dats m 0 c).arrAt_eq_of_covers 5 _ (by decide +kernel) fun t hf y => ?_
  obtain ⟨e0, e1, e2, e3, e4, e5, e6, e7, e8⟩ := idx_ t
  rw [after0_5, outs_5]
  blk_simp
  obtain ⟨p, q, rfl⟩ : ∃ (p : Fin 512) (q : Fin 2048), y = ix2 p q := ⟨y 0, y 1, eq_ix2 y⟩
  refine (pay7_blk m c t p q).trans (congrArg₂ (DX m c) (Fin.ext ?_) (Fin.ext ?_))
  · unfold row; blk_simp [e5]
  · blk_simp [e5]

/-- The second result: the same in the narrow format. -/
theorem arr_6 : (dats m 0 c).arrAt 6 cfg0.N = fun i : S8192x2048.Idx => DX m c (i 0) (i 1) := by
  refine (dats m 0 c).arrAt_eq_of_covers 6 _ (by decide +kernel) fun t hf y => ?_
  obtain ⟨e0, e1, e2, e3, e4, e5, e6, e7, e8⟩ := idx_ t
  rw [after0_6, outs_6]
  blk_simp
  obtain ⟨p, q, rfl⟩ : ∃ (p : Fin 512) (q : Fin 2048), y = ix2 p q := ⟨y 0, y 1, eq_ix2 y⟩
  refine ((pay8_apply _ _ _ _ p q).trans (pay7_blk m c t p q)).trans (congrArg₂ (DX m c) (Fin.ext ?_) (Fin.ext ?_))
  · unfold row; blk_simp [e6]
  · blk_simp [e6]

/-- The fourth result: the gradient at the mixers' output. -/
theorem arr_8 : (dats m 0 c).arrAt 8 cfg0.N = fun i : S8192x2048.Idx => DM m c (i 0) (i 1) := by
  refine (dats m 0 c).arrAt_eq_of_covers 8 _ (by decide +kernel) fun t hf y => ?_
  obtain ⟨e0, e1, e2, e3, e4, e5, e6, e7, e8⟩ := idx_ t
  rw [after0_8, outs_8]
  blk_simp
  obtain ⟨p, q, rfl⟩ : ∃ (p : Fin 512) (q : Fin 2048), y = ix2 p q := ⟨y 0, y 1, eq_ix2 y⟩
  refine ((pay2_apply _ _ p q).trans (Fin.sum_fin_congr fun k => congrArg₂ (· * ·)
    ((pay8_apply _ _ _ _ p k).trans (pay7_blk m c t p k)) (iblk_4 m c t q k))).trans
    (congrArg₂ (DM m c) (Fin.ext ?_) (Fin.ext ?_))
  · unfold row; blk_simp [e8]
  · blk_simp [e8]

/-- The third result: the gain's gradient, a tile of rows at a time. -/
theorem arr_7 : (dats m 0 c).arrAt 7 cfg0.N = fun i : S1x2048.Idx => DG m c (i 1) := by
  refine (dats m 0 c).arrAt_eq_of_covers 7 _ (by decide +kernel) fun t hf y => ?_
  obtain ⟨e0, e1, e2, e3, e4, e5, e6, e7, e8⟩ := idx_ t
  rw [after0_7]
  blk_simp
  obtain ⟨p, q, rfl⟩ : ∃ (p : Fin 1) (q : Fin 2048), y = ix2 p q := ⟨y 0, y 1, eq_ix2 y⟩
  rw [Pipeline.eq_sum_fin_of_reset_step_apply_of_flush (fun n h => (outsAt0 m c n h).2.2.1) 16 (fun _ => 0)
    (fun t j => ∑ k : Fin 512, k0_pay6 (iblk m c 1 t) (iblk m c 0 t) (ix2 k (j 1)))
    (fun t h j => by rw [outsAt0_A m c t h]; frame_out; rw [pay1_at, pay3_apply])
    (fun t h j => by rw [outsAt0_B m c t h]; frame_out; rw [pay1_at]) t ((flush0_7 t).mp hf) (ix2 p q)]
  rw [zero_add]
  unfold DG
  refine Fin.sum_mul_add_congr fun s k hl => ?_
  refine (pay6_blk m c _ k q).trans ?_
  have := lt16 t
  have hl' : row ⟨16 * (t.val / 16) + s.val, by rw [show cfg0.N = 16 from N_0]; omega⟩ k = ⟨s.val * 512 + k.val, hl⟩ := Fin.ext (by
    unfold row; dsimp only; omega)
  have hq : q = (win0_7.blk t).view.emb (ix2 p q) 1 := Fin.ext (by blk_simp [e7])
  rw [hl', ← hq]

end Cert.Kernel4Ideal.NormBwd

namespace Cert.Proof.NormBwd

open Idealize.ShloMosaic Idealize.ShloMosaic.TcCoe
open Idealize.SL.Sem
open Cert.Proof.Norm

/-- The same beside the residual's cotangent. -/
theorem dx_eq (x a : Fin 2048 → EReal) (d : EReal) (q : Fin 2048) :
    d + a q * rms x
      + x q * (∑ _z : Fin 1, Ideal.div ((∑ k, x k * a k) * (Ideal.ofBits .f32 0xBF000000#32 * Ideal.div (rms x) (var x))) (Ideal.ofBits .f32 0x45000000#32))
      + (∑ _z : Fin 1, Ideal.div ((∑ k, x k * a k) * (Ideal.ofBits .f32 0xBF000000#32 * Ideal.div (rms x) (var x))) (Ideal.ofBits .f32 0x45000000#32)) * x q
      = d + dnorm x a q := by
  rw [← dnorm_eq, add_assoc, add_assoc, add_assoc]

/-- The kernel's four results are the reference's. -/
theorem algebraic : Cert.algebraic_Kernel4Ideal_Reference4Ideal (hKernel4Ideal := Cert.Kernel4Ideal.Gen.facts) (hReference4Ideal := Cert.Reference4Ideal.Gen.facts) := by
  intro m g m' g' _ hagree
  refine ⟨fun c => (fun i => Cert.Kernel4Ideal.NormBwd.DX m c (i 0) (i 1)), fun c => (fun i => Cert.Kernel4Ideal.NormBwd.DX m c (i 0) (i 1)),
    fun c => (fun i => Cert.Kernel4Ideal.NormBwd.DG m c (i 1)), fun c => (fun i => Cert.Kernel4Ideal.NormBwd.DM m c (i 0) (i 1)), ?_, ?_⟩
  · refine θ_run_mono (Cert.Kernel4Ideal.Value.run_blocks m g) fun r h c => ?_
    obtain ⟨h0, h1, h2, h3, ha⟩ := h c
    exact ⟨h0.trans (Cert.Kernel4Ideal.NormBwd.arr_5 m c), h1.trans (Cert.Kernel4Ideal.NormBwd.arr_6 m c),
      h2.trans (Cert.Kernel4Ideal.NormBwd.arr_7 m c), h3.trans (Cert.Kernel4Ideal.NormBwd.arr_8 m c), ha⟩
  · refine θ_run_mono (Cert.Reference4Ideal.Value.run m' g') fun r h c => ?_
    obtain ⟨h0, h1, h2, h3, ha⟩ := h c
    obtain ⟨a0, a1, a2, a3, a4, a5⟩ := hagree c
    refine ⟨h0.trans ?_, h1.trans ?_, h2.trans ?_, h3.trans ?_, ha⟩
    · unfold Cert.Reference4Ideal.Value.res_main_v38
      rw [a0, a1, a2, a3, a4, a5]
      funext i
      obtain ⟨p, q, rfl⟩ : ∃ (p : Fin 8192) (q : Fin 2048), i = ix2 p q := ⟨i 0, i 1, eq_ix2 i⟩
      pointwise
      exact dx_eq (Cert.Kernel4Ideal.NormBwd.X1 m c p) (fun k => Cert.Kernel4Ideal.NormBwd.DH m c (ix2 p k) * Cert.Kernel4Ideal.NormBwd.G m c (ix1 k)) (Cert.Kernel4Ideal.NormBwd.DR m c (ix2 p q)) q
    · unfold Cert.Reference4Ideal.Value.res_main_v40
      rw [a0, a1, a2, a3, a4, a5]
      funext i
      obtain ⟨p, q, rfl⟩ : ∃ (p : Fin 8192) (q : Fin 2048), i = ix2 p q := ⟨i 0, i 1, eq_ix2 i⟩
      pointwise
      exact dx_eq (Cert.Kernel4Ideal.NormBwd.X1 m c p) (fun k => Cert.Kernel4Ideal.NormBwd.DH m c (ix2 p k) * Cert.Kernel4Ideal.NormBwd.G m c (ix1 k)) (Cert.Kernel4Ideal.NormBwd.DR m c (ix2 p q)) q
    · rw [a0, a1, a2, a4]
      funext i
      obtain ⟨p, q, rfl⟩ : ∃ (p : Fin 1) (q : Fin 2048), i = ix2 p q := ⟨i 0, i 1, eq_ix2 i⟩
      pointwise
      rw [Fin.sum_univ_one]
      exact Finset.sum_congr rfl fun i _ => (mul_comm _ _).trans (mul_assoc _ _ _).symm
    · unfold Cert.Reference4Ideal.Value.res_main_v39
      rw [a0, a1, a2, a3, a4, a5]
      funext i
      obtain ⟨p, q, rfl⟩ : ∃ (p : Fin 8192) (q : Fin 2048), i = ix2 p q := ⟨i 0, i 1, eq_ix2 i⟩
      pointwise
      exact Finset.sum_congr rfl fun k _ => congrArg (· * (m ((c.tc : Thread Cert.Kernel4Ideal.nD Cert.Kernel4Ideal.τ).loc Cert.Kernel4Ideal.main_arg2) (ix2 q k) : EReal)) (dx_eq (Cert.Kernel4Ideal.NormBwd.X1 m c p) (fun k => Cert.Kernel4Ideal.NormBwd.DH m c (ix2 p k) * Cert.Kernel4Ideal.NormBwd.G m c (ix1 k)) (Cert.Kernel4Ideal.NormBwd.DR m c (ix2 p k)) k)

end Cert.Proof.NormBwd

end
-- ==== Proof.Loss.lean ====
module

public import proofs.«01_k».proof.Defs
public import proofs.«01_k».proof.Proof.Gen.Kernel5Ideal.Value
public import proofs.«01_k».proof.Proof.Gen.Reference5Ideal.Run
public import proofs.«01_k».proof.Proof.Norm
public import Idealize.ShloMosaic.Lib.Pipeline.ValueKit
public import Idealize.ShloMosaic.Lib.StableHlo.RunHlo
public import Idealize.ShloMosaic.Lib.Pointwise
public import Idealize.ShloMosaic.Lib.Claim
public import Idealize.ShloMosaic.Lib.Pipeline.ReadBack

@[expose] public section

set_option maxRecDepth 16384

noncomputable section

namespace Cert.Kernel5Ideal.Loss

open Idealize.ShloMosaic Idealize.ShloMosaic.TcCoe
open Idealize.SL.Sem
open Cert.Kernel5Ideal Cert.Kernel5Ideal.Gen
open Cert.Proof.Norm

variable (m : (ℓ : Loc nD τ sig) → Buf (Elt Ideal) ℓ) (c : Dev nD)

/-- The squared rectifier. -/
def relu2 (x : EReal) : EReal := max x 0 * max x 0

/-- The difference of the normalised row `x`, under the gain `g`, from the target `y`. -/
def dif (x g y : Fin 2048 → EReal) (q : Fin 2048) : EReal := x q * rms x * g q - y q

/-- The difference's mean square over the row. -/
def msq (x g y : Fin 2048 → EReal) : EReal :=
  Ideal.div (∑ k, dif x g y k * dif x g y k) (Ideal.ofBits .f32 0x45000000#32)

/-- The loss's cotangent at the normalised row. -/
def cotan (x g y : Fin 2048 → EReal) (q : Fin 2048) : EReal := dif x g y q * Ideal.ofBits .f32 0x3A000000#32

/-! ### The tiles -/

theorem pay1_apply (x : S512x2048.Idx → Ideal .f32) (j : S512x2048.Idx) : k0_pay1 (F := Ideal) x j = x j := by
  obtain ⟨p, q, rfl⟩ : ∃ (p : Fin 512) (q : Fin 2048), j = ix2 p q := ⟨j 0, j 1, eq_ix2 j⟩
  unfold k0_pay1; pointwise

theorem pay2_apply (j : S1x1.Idx) : k0_pay2 (F := Ideal) j = 0 := by
  rw [eq_ix2 j]; unfold k0_pay2; pointwise

theorem pay3_apply (j : S1x2048.Idx) : k0_pay3 (F := Ideal) j = 0 := by
  rw [eq_ix2 j]; unfold k0_pay3; pointwise

/-- One block of hidden lanes, added to the running sum. -/
theorem pay4_apply (up : S512x1024.Idx → Ideal .bf16) (acc : S512x2048.Idx → Ideal .f32) (w : S1024x2048.Idx → Ideal .bf16)
    (p : Fin 512) (q : Fin 2048) :
    k0_pay4 up acc w (ix2 p q) = (acc (ix2 p q) + ∑ k : Fin 1024, relu2 (up (ix2 p k)) * w (ix2 k q) : EReal) := by
  unfold k0_pay4; pointwise; rfl

theorem pay4_at (up : S512x1024.Idx → Ideal .bf16) (acc : S512x2048.Idx → Ideal .f32) (w : S1024x2048.Idx → Ideal .bf16)
    (j : S512x2048.Idx) :
    k0_pay4 up acc w j = (acc j + ∑ k : Fin 1024, relu2 (up (ix2 (j 0) k)) * w (ix2 k (j 1)) : EReal) := by
  obtain ⟨p, q, rfl⟩ : ∃ (p : Fin 512) (q : Fin 2048), j = ix2 p q := ⟨j 0, j 1, eq_ix2 j⟩
  exact pay4_apply up acc w p q

/-- The difference from the target, a tile. -/
theorem pay10_apply (x : S512x2048.Idx → Ideal .f32) (g : S1x2048.Idx → Ideal .f32) (y : S512x2048.Idx → Ideal .f32)
    (p : Fin 512) (q : Fin 2048) :
    k0_pay10 (F := Ideal) x g y (ix2 p q)
      = dif (fun k => x (ix2 p k)) (fun k => g (ix2 (0 : Fin 1) k)) (fun k => y (ix2 p k)) q := by
  unfold k0_pay10 k0_pay9 k0_pay8; pointwise; rfl

/-- A tile's part of the loss, added to what stood there. -/
theorem pay11_apply (x : S512x2048.Idx → Ideal .f32) (g : S1x2048.Idx → Ideal .f32) (y : S512x2048.Idx → Ideal .f32)
    (l : S1x1.Idx → Ideal .f32) (j : S1x1.Idx) :
    k0_pay11 (F := Ideal) x g y l j
      = (l j + Ideal.ofBits .f32 0x3F000000#32
          * ∑ p : Fin 512, msq (fun k => x (ix2 p k)) (fun k => g (ix2 (0 : Fin 1) k)) (fun k => y (ix2 p k)) : EReal) := by
  obtain ⟨p, q, rfl⟩ : ∃ (p : Fin 1) (q : Fin 1), j = ix2 p q := ⟨j 0, j 1, eq_ix2 j⟩
  unfold k0_pay11; pointwise
  refine congrArg₂ (fun a b : EReal => a + Ideal.ofBits .f32 0x3F000000#32 * b) ?_ (Finset.sum_congr rfl fun i _ => ?_)
  · rw [show q = 0 from Subsingleton.elim _ _, show p = 0 from Subsingleton.elim _ _]
  · unfold msq
    exact congrArg (Ideal.div · _) (Finset.sum_congr rfl fun k _ => congrArg₂ (fun a b : EReal => a * b)
      (pay10_apply x g y i k) (pay10_apply x g y i k))

/-- The cotangent at the normalised tile. -/
theorem pay12_apply (x : S512x2048.Idx → Ideal .f32) (g : S1x2048.Idx → Ideal .f32) (y : S512x2048.Idx → Ideal .f32)
    (p : Fin 512) (q : Fin 2048) :
    k0_pay12 (F := Ideal) x g y (ix2 p q)
      = cotan (fun k => x (ix2 p k)) (fun k => g (ix2 (0 : Fin 1) k)) (fun k => y (ix2 p k)) q := by
  unfold k0_pay12 cotan; pointwise
  exact congrArg (fun a : EReal => a * Ideal.ofBits .f32 0x3A000000#32) (pay10_apply x g y p q)

/-- The same with the gain entered. -/
theorem pay13_apply (x : S512x2048.Idx → Ideal .f32) (g : S1x2048.Idx → Ideal .f32) (y : S512x2048.Idx → Ideal .f32)
    (p : Fin 512) (q : Fin 2048) :
    k0_pay13 (F := Ideal) x g y (ix2 p q)
      = (cotan (fun k => x (ix2 p k)) (fun k => g (ix2 (0 : Fin 1) k)) (fun k => y (ix2 p k)) q * g (ix2 (0 : Fin 1) q) : EReal) := by
  unfold k0_pay13 k0_pay9; pointwise
  exact congrArg (fun a : EReal => a * g (ix2 (0 : Fin 1) q)) (pay12_apply x g y p q)

/-- The gradient at the last activations, a tile. -/
theorem pay5_apply (x : S512x2048.Idx → Ideal .f32) (g : S1x2048.Idx → Ideal .f32) (y : S512x2048.Idx → Ideal .f32)
    (p : Fin 512) (q : Fin 2048) :
    k0_pay5 (F := Ideal) (k0_pay14 x g y) (k0_pay15 x) (k0_pay16 x g y) (ix2 p q)
      = dnorm (fun k => x (ix2 p k))
          (fun q => cotan (fun k => x (ix2 p k)) (fun k => g (ix2 (0 : Fin 1) k)) (fun k => y (ix2 p k)) q * g (ix2 (0 : Fin 1) q)) q := by
  have e : ∀ k : Fin 2048, k0_pay13 (F := Ideal) x g y (ix2 p k) = _ := fun k => pay13_apply x g y p k
  unfold k0_pay5 k0_pay14 k0_pay15 k0_pay16 k0_pay8; pointwise
  unfold dnorm
  refine congrArg₂ (fun a b : EReal => a - b) ?_ ?_
  · exact congrArg (fun a : EReal => _ * a) (e q)
  · refine congrArg (fun a : EReal => _ * a) (congrArg (Ideal.div · _) ?_)
    exact Finset.sum_congr rfl fun k _ => congrArg (fun a : EReal => a * x (ix2 p k)) (e k)

theorem pay6_apply (a b d : S512x2048.Idx → Ideal .f32) (p : Fin 512) (q : Fin 2048) :
    k0_pay6 (F := Ideal) a b d (ix2 p q) = (k0_pay5 (F := Ideal) a b d (ix2 p q) : EReal) := by
  unfold k0_pay6; pointwise

/-- A tile's part of the gain's gradient, added to what stood there. -/
theorem pay7_apply (x : S512x2048.Idx → Ideal .f32) (g : S1x2048.Idx → Ideal .f32) (y : S512x2048.Idx → Ideal .f32)
    (acc : S1x2048.Idx → Ideal .f32) (j : S1x2048.Idx) :
    k0_pay7 (F := Ideal) x (k0_pay8 x) (k0_pay12 x g y) acc j
      = (acc j + ∑ p : Fin 512, cotan (fun k => x (ix2 p k)) (fun k => g (ix2 (0 : Fin 1) k)) (fun k => y (ix2 p k)) (j 1)
          * x (ix2 p (j 1)) * rms (fun k => x (ix2 p k)) : EReal) := by
  obtain ⟨p, q, rfl⟩ : ∃ (p : Fin 1) (q : Fin 2048), j = ix2 p q := ⟨j 0, j 1, eq_ix2 j⟩
  unfold k0_pay7 k0_pay8; pointwise
  refine congrArg (fun b : EReal => _ + b) (Finset.sum_congr rfl fun i _ => ?_)
  exact congrArg (fun a : EReal => a * x (ix2 i q) * rms (fun k => x (ix2 i k))) (pay12_apply x g y i q)

/-! ### The blocks -/

/-- Where each window stands at grid point `t`, eight blocks of hidden lanes to a tile of rows. -/
theorem idx_ : ∀ t : Fin cfg0.N,
    win0_0.index t = ![t.val / 8, 0] ∧ win0_1.index t = ![t.val / 8, t.val % 8] ∧ win0_2.index t = ![t.val % 8, 0]
    ∧ win0_3.index t = ![t.val / 8, 0] ∧ win0_4.index t = ![0, 0] ∧ win0_5.index t = ![0, 0]
    ∧ win0_6.index t = ![t.val / 8, 0] ∧ win0_7.index t = ![t.val / 8, 0] ∧ win0_8.index t = ![0, 0] := by
  decide +kernel

theorem lt128 (t : Fin cfg0.N) : t.val < 128 := t.isLt.trans_eq N_0

/-- The row of the array that row `p` of the tile at grid point `t` is. -/
def row (t : Fin cfg0.N) (p : Fin 512) : Fin 8192 := ⟨t.val / 8 * 512 + p.val, by have := lt128 t; omega⟩

/-- The hidden lane that lane `q` of the block at grid point `t` is. -/
def lane (t : Fin cfg0.N) (q : Fin 1024) : Fin 8192 := ⟨t.val % 8 * 1024 + q.val, by omega⟩

/-- The arguments by name: the residual stream, the normalised stream, the two weights, the target, the last norm's gain. -/
def X1 : S8192x2048.Idx → Ideal .f32 := m ((c.tc : Thread nD τ).loc main_arg0)
def H : S8192x2048.Idx → Ideal .f32 := m ((c.tc : Thread nD τ).loc main_arg1)
def WU : S2048x8192.Idx → Ideal .f32 := m ((c.tc : Thread nD τ).loc main_arg2)
def WD : S8192x2048.Idx → Ideal .f32 := m ((c.tc : Thread nD τ).loc main_arg3)
def T : S8192x2048.Idx → Ideal .f32 := m ((c.tc : Thread nD τ).loc main_arg4)
def G : S2048.Idx → Ideal .f32 := m ((c.tc : Thread nD τ).loc main_arg5)

/-- The pre-activation. -/
def UP (i j : Fin 8192) : EReal := ∑ k : Fin 2048, H m c (ix2 i k) * WU m c (ix2 k j)

/-- The last activations. -/
def X2 (i : Fin 8192) (j : Fin 2048) : EReal :=
  X1 m c (ix2 i j) + ∑ l : Fin 8192, relu2 (UP m c i l) * WD m c (ix2 l j)

/-- The gain and a row of the target, as rows of numbers. -/
def Gr (q : Fin 2048) : EReal := G m c (ix1 q)
def Tr (i : Fin 8192) (q : Fin 2048) : EReal := T m c (ix2 i q)

/-- The loss. -/
def LOSS : EReal := Ideal.ofBits .f32 0x3F000000#32 * ∑ i : Fin 8192, msq (X2 m c i) (Gr m c) (Tr m c i)

/-- The gradient at the last activations. -/
def DX (i : Fin 8192) (j : Fin 2048) : EReal :=
  dnorm (X2 m c i) (fun q => cotan (X2 m c i) (Gr m c) (Tr m c i) q * Gr m c q) j

/-- One row's part of the gain's gradient, and the whole. -/
def DGr (i : Fin 8192) (j : Fin 2048) : EReal := cotan (X2 m c i) (Gr m c) (Tr m c i) j * X2 m c i j * rms (X2 m c i)
def DG (j : Fin 2048) : EReal := ∑ i : Fin 8192, DGr m c i j

theorem iblk_0 (t : Fin cfg0.N) (p : Fin 512) (k : Fin 2048) : iblk m c 0 t (ix2 p k) = X1 m c (ix2 (row t p) k) := by
  obtain ⟨e0, e1, e2, e3, e4, e5, e6, e7, e8⟩ := idx_ t
  blk_simp [iblk, e0]
  entry_read
  pointwise
  unfold X1 row
  blk_ext [e0]

theorem iblk_1 (t : Fin cfg0.N) (p : Fin 512) (q : Fin 1024) : iblk m c 1 t (ix2 p q) = UP m c (row t p) (lane t q) := by
  obtain ⟨e0, e1, e2, e3, e4, e5, e6, e7, e8⟩ := idx_ t
  blk_simp [iblk, e1]
  entry_read
  pointwise
  unfold UP H WU row lane
  refine Fin.sum_fin_congr fun k => congrArg₂ (· * ·) (congrArg _ ?_) (congrArg _ ?_)
  · blk_ext [e1]
  · blk_ext [e1]

theorem iblk_2 (t : Fin cfg0.N) (p : Fin 1024) (k : Fin 2048) : iblk m c 2 t (ix2 p k) = WD m c (ix2 (lane t p) k) := by
  obtain ⟨e0, e1, e2, e3, e4, e5, e6, e7, e8⟩ := idx_ t
  blk_simp [iblk, e2]
  entry_read
  pointwise
  unfold WD lane
  blk_ext [e2]

theorem iblk_3 (t : Fin cfg0.N) (p : Fin 512) (k : Fin 2048) : iblk m c 3 t (ix2 p k) = Tr m c (row t p) k := by
  obtain ⟨e0, e1, e2, e3, e4, e5, e6, e7, e8⟩ := idx_ t
  blk_simp [iblk, e3]
  entry_read
  pointwise
  unfold Tr T row
  blk_ext [e3]

theorem iblk_4 (t : Fin cfg0.N) (k : Fin 2048) : iblk m c 4 t (ix2 (0 : Fin 1) k) = Gr m c k := by
  obtain ⟨e0, e1, e2, e3, e4, e5, e6, e7, e8⟩ := idx_ t
  blk_simp [iblk, e4]
  entry_read
  pointwise
  unfold Gr G
  blk_ext [e4]

/-! ### The running sum over the hidden lanes -/

/-- What a point adds to the running sum: at the first point of a tile the residual stream's tile too. -/
def part (t : Fin cfg0.N) (p : Fin 512) (q : Fin 2048) : EReal :=
  (if t.val % 8 = 0 then X1 m c (ix2 (row t p) q) else 0)
    + ∑ k : Fin 1024, relu2 (UP m c (row t p) (lane t k)) * WD m c (ix2 (lane t k) q)

/-- One block of hidden lanes at grid point `t`. -/
theorem pay4_blk (t : Fin cfg0.N) (acc : S512x2048.Idx → Ideal .f32) (p : Fin 512) (q : Fin 2048) :
    k0_pay4 (iblk m c 1 t) acc (iblk m c 2 t) (ix2 p q)
      = (acc (ix2 p q) + ∑ k : Fin 1024, relu2 (UP m c (row t p) (lane t k)) * WD m c (ix2 (lane t k) q) : EReal) := by
  refine (pay4_apply _ _ _ p q).trans (congrArg (fun b : EReal => acc (ix2 p q) + b) (Finset.sum_congr rfl fun k _ => ?_))
  exact congrArg₂ (fun a b : EReal => relu2 a * b) (iblk_1 m c t p k) (iblk_2 m c t k q)

/-- The running sum where a tile starts. -/
theorem acc_first (t : Fin cfg0.N) (h : t.val % 8 = 0) (p : Fin 512) (q : Fin 2048) :
    (outsAt0 m c t.val t.isLt).2.2.2.2 (ix2 p q) = part m c t p q := by
  have e : (outsAt0 m c t.val t.isLt).2.2.2.2 = k0_pay4 (iblk m c 1 t) (k0_pay1 (iblk m c 0 t)) (iblk m c 2 t) := by
    by_cases h1 : t.val % 128 = 0
    · rw [outsAt0_A m c t h h1 (by omega)]; frame_out
    · rw [outsAt0_D m c t h h1 (by omega)]; frame_out
  rw [e]
  refine (pay4_blk m c t _ p q).trans ?_
  unfold part
  rw [if_pos h]
  exact congrArg (fun a : EReal => a + _) ((pay1_apply _ _).trans (iblk_0 m c t p q))

/-- The running sum at a later point of a tile. -/
theorem acc_step (t : Fin cfg0.N) (h : ¬t.val % 8 = 0) (p : Fin 512) (q : Fin 2048) :
    (outsAt0 m c t.val t.isLt).2.2.2.2 (ix2 p q)
      = ((outsAt0 m c (t.val - 1) (Nat.lt_of_le_of_lt (Nat.sub_le _ _) t.isLt)).2.2.2.2 (ix2 p q) + part m c t p q : EReal) := by
  have e : (outsAt0 m c t.val t.isLt).2.2.2.2 = k0_pay4 (iblk m c 1 t)
      (outsAt0 m c (t.val - 1) (Nat.lt_of_le_of_lt (Nat.sub_le _ _) t.isLt)).2.2.2.2 (iblk m c 2 t) := by
    by_cases h1 : t.val % 8 = 7
    · rw [outsAt0_C m c t h (by omega) h1]; frame_out; simp only [read_unread_whole]
    · rw [outsAt0_B m c t h (by omega) h1]; frame_out; simp only [read_unread_whole]
  rw [e]
  refine (pay4_blk m c t _ p q).trans ?_
  unfold part
  rw [if_neg h, zero_add]

/-- The points of the tile that grid point `t` belongs to. -/
def pt (t : Fin cfg0.N) (s : Fin 8) : Fin cfg0.N :=
  ⟨8 * (t.val / 8) + s.val, lt_of_lt_of_eq (b := 128) (by have := lt128 t; omega) N_0.symm⟩

/-- At a tile's last point the running sum is the last activations' tile. -/
theorem acc_last (t : Fin cfg0.N) (h : t.val % 8 = 7) (p : Fin 512) (q : Fin 2048) :
    (outsAt0 m c t.val t.isLt).2.2.2.2 (ix2 p q) = X2 m c (row t p) q := by
  have key := Pipeline.eq_sum_fin_of_reset_step_apply_of_flush
    (fun n hn (j : Fin 512 × Fin 2048) => ((outsAt0 m c n hn).2.2.2.2 (ix2 j.1 j.2) : EReal)) 8 (fun _ => 0)
    (fun t j => part m c t j.1 j.2)
    (fun t h j => by rw [acc_first m c t h, zero_add])
    (fun t h j => acc_step m c t h j.1 j.2) t h (p, q)
  refine key.trans ?_
  rw [zero_add]
  show ∑ s, part m c (pt t s) p q = _
  have := lt128 t
  have hr : ∀ s : Fin 8, row (pt t s) p = row t p := fun s =>
    Fin.ext (by unfold row pt; dsimp only; omega)
  have hp : ∀ s : Fin 8, part m c (pt t s) p q
      = (if s = 0 then X1 m c (ix2 (row t p) q) else 0)
        + ∑ k : Fin 1024, relu2 (UP m c (row t p) ⟨s.val * 1024 + k.val, by omega⟩) * WD m c (ix2 ⟨s.val * 1024 + k.val, by omega⟩ q) := by
    intro s
    have hl : ∀ k : Fin 1024, lane (pt t s) k = ⟨s.val * 1024 + k.val, by omega⟩ :=
      fun k => Fin.ext (by unfold lane pt; dsimp only; omega)
    unfold part
    rw [hr s]
    refine congrArg₂ (fun a b : EReal => a + b) ?_ (Finset.sum_congr rfl fun k _ => by rw [hl k])
    by_cases hs : s = 0
    · subst hs; rw [if_pos rfl, if_pos (by unfold pt; dsimp only [Fin.val_zero]; omega)]
    · have : s.val ≠ 0 := fun h => hs (Fin.ext h)
      rw [if_neg hs, if_neg (by unfold pt; dsimp only; omega)]
  rw [Finset.sum_congr rfl fun s _ => hp s, Finset.sum_add_distrib, Finset.sum_ite_eq' Finset.univ (0 : Fin 8), if_pos (Finset.mem_univ _)]
  unfold X2
  refine congrArg (fun b : EReal => _ + b) ?_
  exact Fin.sum_mul_add_congr fun s k hl => rfl

/-! ### The results -/

/-- The last activations' tile, a row at a time, at a tile's last point; and the gain's and the target's. -/
theorem rows (t : Fin cfg0.N) (h : t.val % 8 = 7) (p : Fin 512) :
    (fun k => (outsAt0 m c t.val t.isLt).2.2.2.2 (ix2 p k)) = X2 m c (row t p) := funext fun k => acc_last m c t h p k
theorem gains (t : Fin cfg0.N) : (fun k => iblk m c 4 t (ix2 (0 : Fin 1) k)) = Gr m c := funext fun k => iblk_4 m c t k
theorem targets (t : Fin cfg0.N) (p : Fin 512) : (fun k => iblk m c 3 t (ix2 p k)) = Tr m c (row t p) := funext fun k => iblk_3 m c t p k

/-- What a tile's last point writes, of the running sum it ends on. -/
theorem outs_C (t : Fin cfg0.N) (h : t.val % 8 = 7) :
    (outsAt0 m c t.val t.isLt).1 = k0_pay11 (outsAt0 m c t.val t.isLt).2.2.2.2 (iblk m c 4 t) (iblk m c 3 t)
        (outsAt0 m c (t.val - 1) (Nat.lt_of_le_of_lt (Nat.sub_le _ _) t.isLt)).1
    ∧ (outsAt0 m c t.val t.isLt).2.1 = k0_pay5 (k0_pay14 (outsAt0 m c t.val t.isLt).2.2.2.2 (iblk m c 4 t) (iblk m c 3 t))
        (k0_pay15 (outsAt0 m c t.val t.isLt).2.2.2.2) (k0_pay16 (outsAt0 m c t.val t.isLt).2.2.2.2 (iblk m c 4 t) (iblk m c 3 t))
    ∧ (outsAt0 m c t.val t.isLt).2.2.1 = k0_pay6 (k0_pay14 (outsAt0 m c t.val t.isLt).2.2.2.2 (iblk m c 4 t) (iblk m c 3 t))
        (k0_pay15 (outsAt0 m c t.val t.isLt).2.2.2.2) (k0_pay16 (outsAt0 m c t.val t.isLt).2.2.2.2 (iblk m c 4 t) (iblk m c 3 t))
    ∧ (outsAt0 m c t.val t.isLt).2.2.2.1 = k0_pay7 (outsAt0 m c t.val t.isLt).2.2.2.2 (k0_pay8 (outsAt0 m c t.val t.isLt).2.2.2.2)
        (k0_pay12 (outsAt0 m c t.val t.isLt).2.2.2.2 (iblk m c 4 t) (iblk m c 3 t))
        (outsAt0 m c (t.val - 1) (Nat.lt_of_le_of_lt (Nat.sub_le _ _) t.isLt)).2.2.2.1 := by
  refine ⟨?_, ?_, ?_, ?_⟩
  · rw [outsAt0_C m c t (by omega) (by omega) h]; frame_out
  · rw [outsAt0_C m c t (by omega) (by omega) h]; frame_out
  · rw [outsAt0_C m c t (by omega) (by omega) h]; frame_out
  · rw [outsAt0_C m c t (by omega) (by omega) h]; frame_out

/-- A sum over the points in which only each tile's last counts is a sum over the tiles. -/
theorem sum_last (F : Fin 16 → EReal) :
    ∑ s : Fin 128, (if s.val % 8 = 7 then F ⟨s.val / 8, by omega⟩ else 0) = ∑ i : Fin 16, F i := by
  have e : ∀ i : Fin 16, F i = ∑ r : Fin 8, if r.val = 7 then F i else 0 := by
    intro i
    have h7 : (∑ r : Fin 8, if r.val = 7 then F i else 0) = if (7 : Fin 8).val = 7 then F i else 0 :=
      Finset.sum_eq_single (7 : Fin 8) (fun r _ hr => if_neg fun h => hr (Fin.ext h)) (fun h => absurd (Finset.mem_univ _) h)
    rw [h7]
    exact (if_pos rfl).symm
  rw [Finset.sum_congr rfl fun i _ => e i]
  exact Fin.sum_divmod_congr fun t ha hs => rfl

/-- The grid is one run of 128 points. -/
theorem run_pt (t : Fin cfg0.N) (s : Fin 128) (h : 128 * (t.val / 128) + s.val < cfg0.N) :
    (⟨128 * (t.val / 128) + s.val, h⟩ : Fin cfg0.N) = ⟨s.val, lt_of_lt_of_eq (b := 128) s.isLt N_0.symm⟩ :=
  Fin.ext (by have := lt128 t; dsimp only; omega)

/-- A tile's part of the loss and of the gain's gradient. -/
def lossT (i : Fin 16) : EReal :=
  Ideal.ofBits .f32 0x3F000000#32 * ∑ p : Fin 512, msq (X2 m c ⟨i.val * 512 + p.val, by omega⟩) (Gr m c) (Tr m c ⟨i.val * 512 + p.val, by omega⟩)
def dgT (i : Fin 16) (q : Fin 2048) : EReal := ∑ p : Fin 512, DGr m c ⟨i.val * 512 + p.val, by omega⟩ q

/-- The same at a grid point, which counts at a tile's last. -/
def lossP (t : Fin cfg0.N) : EReal := if t.val % 8 = 7 then lossT m c ⟨t.val / 8, by have := lt128 t; omega⟩ else 0
def dgP (t : Fin cfg0.N) (q : Fin 2048) : EReal := if t.val % 8 = 7 then dgT m c ⟨t.val / 8, by have := lt128 t; omega⟩ q else 0

theorem loss_first (t : Fin cfg0.N) (h : t.val % 128 = 0) (j : S1x1.Idx) :
    (outsAt0 m c t.val t.isLt).1 j = (0 + lossP m c t : EReal) := by
  rw [outsAt0_A m c t (by omega) h (by omega)]; frame_out
  unfold lossP
  rw [if_neg (by omega), zero_add]
  exact pay2_apply j

theorem loss_step (t : Fin cfg0.N) (h : ¬t.val % 128 = 0) (j : S1x1.Idx) :
    (outsAt0 m c t.val t.isLt).1 j
      = ((outsAt0 m c (t.val - 1) (Nat.lt_of_le_of_lt (Nat.sub_le _ _) t.isLt)).1 j + lossP m c t : EReal) := by
  unfold lossP
  by_cases h7 : t.val % 8 = 7
  · rw [(outs_C m c t h7).1, if_pos h7]
    refine (pay11_apply _ _ _ _ j).trans (congrArg (fun b : EReal => _ + b) ?_)
    unfold lossT
    refine congrArg (fun b : EReal => _ * b) (Finset.sum_congr rfl fun p _ => ?_)
    rw [rows m c t h7 p, gains, targets]
    rfl
  · rw [if_neg h7, add_zero]
    by_cases h0 : t.val % 8 = 0
    · rw [outsAt0_D m c t h0 h h7]; rfl
    · rw [outsAt0_B m c t h0 h h7]; rfl

theorem dg_first (t : Fin cfg0.N) (h : t.val % 128 = 0) (j : S1x2048.Idx) :
    (outsAt0 m c t.val t.isLt).2.2.2.1 j = (0 + dgP m c t (j 1) : EReal) := by
  rw [outsAt0_A m c t (by omega) h (by omega)]; frame_out
  unfold dgP
  rw [if_neg (by omega), zero_add]
  exact pay3_apply j

theorem dg_step (t : Fin cfg0.N) (h : ¬t.val % 128 = 0) (j : S1x2048.Idx) :
    (outsAt0 m c t.val t.isLt).2.2.2.1 j
      = ((outsAt0 m c (t.val - 1) (Nat.lt_of_le_of_lt (Nat.sub_le _ _) t.isLt)).2.2.2.1 j + dgP m c t (j 1) : EReal) := by
  unfold dgP
  by_cases h7 : t.val % 8 = 7
  · rw [(outs_C m c t h7).2.2.2, if_pos h7]
    refine (pay7_apply _ _ _ _ j).trans (congrArg (fun b : EReal => _ + b) ?_)
    unfold dgT
    refine Finset.sum_congr rfl fun p _ => ?_
    rw [rows m c t h7 p, gains, targets]
    exact congrArg (fun a : EReal => cotan (X2 m c (row t p)) (Gr m c) (Tr m c (row t p)) (j 1) * a * rms (X2 m c (row t p)))
      (acc_last m c t h7 p (j 1))
  · rw [if_neg h7, add_zero]
    by_cases h0 : t.val % 8 = 0
    · rw [outsAt0_D m c t h0 h h7]; rfl
    · rw [outsAt0_B m c t h0 h h7]; rfl

/-- The first result: the loss. -/
theorem arr_5 : (dats m 0 c).arrAt 5 cfg0.N = fun _ : S1x1.Idx => LOSS m c := by
  refine (dats m 0 c).arrAt_eq_of_covers 5 _ (by decide +kernel) fun t hf y => ?_
  rw [after0_5]
  refine Eq.trans (b := (∑ s : Fin 128, lossP m c ⟨s.val, lt_of_lt_of_eq (b := 128) s.isLt N_0.symm⟩ : EReal)) ?_ ?_
  · have key := Pipeline.eq_sum_fin_of_reset_step_apply_of_flush
      (fun n hn (j : S1x1.Idx) => ((outsAt0 m c n hn).1 j : EReal)) 128 (fun _ => 0) (fun t j => lossP m c t)
      (loss_first m c) (loss_step m c) t ((flush0_5 t).mp hf) y
    refine key.trans ?_
    rw [zero_add]
    exact Finset.sum_congr rfl fun s _ => congrArg (lossP m c) (run_pt t s _)
  · refine (sum_last (lossT m c)).trans ?_
    unfold lossT LOSS
    rw [half_eq, ← coe_mul_sum _ _ (by norm_num)]
    exact congrArg (fun b : EReal => _ * b) (Fin.sum_mul_add_congr fun s k hl => rfl)

/-- The second result: the gradient at the last activations. -/
theorem arr_6 : (dats m 0 c).arrAt 6 cfg0.N = fun i : S8192x2048.Idx => DX m c (i 0) (i 1) := by
  refine (dats m 0 c).arrAt_eq_of_covers 6 _ (by decide +kernel) fun t hf y => ?_
  obtain ⟨e0, e1, e2, e3, e4, e5, e6, e7, e8⟩ := idx_ t
  have h7 := (flush0_6 t).mp hf
  rw [after0_6, (outs_C m c t h7).2.1]
  blk_simp
  obtain ⟨p, q, rfl⟩ : ∃ (p : Fin 512) (q : Fin 2048), y = ix2 p q := ⟨y 0, y 1, eq_ix2 y⟩
  refine (pay5_apply _ _ _ p q).trans ?_
  rw [rows m c t h7 p, gains, targets]
  refine Eq.trans (b := DX m c (row t p) q) (congrArg (fun a => dnorm (X2 m c (row t p)) a q)
    (funext fun k => congrArg (fun b : EReal => cotan (X2 m c (row t p)) (Gr m c) (Tr m c (row t p)) k * b) (iblk_4 m c t k))) (congrArg₂ (DX m c) (Fin.ext ?_) (Fin.ext ?_))
  · unfold row; blk_simp [e6]
  · blk_simp [e6]

/-- The third result: the same in the narrow format. -/
theorem arr_7 : (dats m 0 c).arrAt 7 cfg0.N = fun i : S8192x2048.Idx => DX m c (i 0) (i 1) := by
  refine (dats m 0 c).arrAt_eq_of_covers 7 _ (by decide +kernel) fun t hf y => ?_
  obtain ⟨e0, e1, e2, e3, e4, e5, e6, e7, e8⟩ := idx_ t
  have h7 := (flush0_7 t).mp hf
  rw [after0_7, (outs_C m c t h7).2.2.1]
  blk_simp
  obtain ⟨p, q, rfl⟩ : ∃ (p : Fin 512) (q : Fin 2048), y = ix2 p q := ⟨y 0, y 1, eq_ix2 y⟩
  refine ((pay6_apply _ _ _ p q).trans (pay5_apply _ _ _ p q)).trans ?_
  rw [rows m c t h7 p, gains, targets]
  refine Eq.trans (b := DX m c (row t p) q) (congrArg (fun a => dnorm (X2 m c (row t p)) a q)
    (funext fun k => congrArg (fun b : EReal => cotan (X2 m c (row t p)) (Gr m c) (Tr m c (row t p)) k * b) (iblk_4 m c t k))) (congrArg₂ (DX m c) (Fin.ext ?_) (Fin.ext ?_))
  · unfold row; blk_simp [e7]
  · blk_simp [e7]

/-- The fourth result: the gain's gradient. -/
theorem arr_8 : (dats m 0 c).arrAt 8 cfg0.N = fun i : S1x2048.Idx => DG m c (i 1) := by
  refine (dats m 0 c).arrAt_eq_of_covers 8 _ (by decide +kernel) fun t hf y => ?_
  obtain ⟨e0, e1, e2, e3, e4, e5, e6, e7, e8⟩ := idx_ t
  rw [after0_8]
  blk_simp
  obtain ⟨p, q, rfl⟩ : ∃ (p : Fin 1) (q : Fin 2048), y = ix2 p q := ⟨y 0, y 1, eq_ix2 y⟩
  refine Eq.trans (b := DG m c q) ?_ (congrArg (DG m c) (Fin.ext (by blk_simp [e8])))
  refine Eq.trans (b := (∑ s : Fin 128, dgP m c ⟨s.val, lt_of_lt_of_eq (b := 128) s.isLt N_0.symm⟩ q : EReal)) ?_ ?_
  · have key := Pipeline.eq_sum_fin_of_reset_step_apply_of_flush
      (fun n hn (j : S1x2048.Idx) => ((outsAt0 m c n hn).2.2.2.1 j : EReal)) 128 (fun _ => 0) (fun t j => dgP m c t (j 1))
      (dg_first m c) (dg_step m c) t ((flush0_8 t).mp hf) (ix2 p q)
    refine key.trans ?_
    rw [zero_add]
    exact Finset.sum_congr rfl fun s _ => congrArg (fun t => dgP m c t q) (run_pt t s _)
  · refine (sum_last (fun i => dgT m c i q)).trans ?_
    unfold dgT DG
    exact Fin.sum_mul_add_congr fun s k hl => rfl

end Cert.Kernel5Ideal.Loss

namespace Cert.Proof.Loss

open Idealize.ShloMosaic Idealize.ShloMosaic.TcCoe
open Idealize.SL.Sem
open Cert.Proof.Norm

/-- The gradient as the derivative of the loss's lines gives it. -/
theorem dx_eq (x g y : Fin 2048 → EReal) (q : Fin 2048) :
    Ideal.div (Ideal.ofBits .f32 0x3F000000#32) (Ideal.ofBits .f32 0x45000000#32)
          * (Ideal.ofBits .f32 0x40000000#32 * Cert.Kernel5Ideal.Loss.dif x g y q) * g q * rms x
      + x q * (∑ _z : Fin 1, Ideal.div ((∑ k, x k * (Ideal.div (Ideal.ofBits .f32 0x3F000000#32) (Ideal.ofBits .f32 0x45000000#32)
          * (Ideal.ofBits .f32 0x40000000#32 * Cert.Kernel5Ideal.Loss.dif x g y k) * g k)) * (Ideal.ofBits .f32 0xBF000000#32 * Ideal.div (rms x) (var x))) (Ideal.ofBits .f32 0x45000000#32))
      + (∑ _z : Fin 1, Ideal.div ((∑ k, x k * (Ideal.div (Ideal.ofBits .f32 0x3F000000#32) (Ideal.ofBits .f32 0x45000000#32)
          * (Ideal.ofBits .f32 0x40000000#32 * Cert.Kernel5Ideal.Loss.dif x g y k) * g k)) * (Ideal.ofBits .f32 0xBF000000#32 * Ideal.div (rms x) (var x))) (Ideal.ofBits .f32 0x45000000#32)) * x q
      = dnorm x (fun q => Cert.Kernel5Ideal.Loss.cotan x g y q * g q) q :=
  (dnorm_eq x (fun k => Ideal.div (Ideal.ofBits .f32 0x3F000000#32) (Ideal.ofBits .f32 0x45000000#32)
    * (Ideal.ofBits .f32 0x40000000#32 * Cert.Kernel5Ideal.Loss.dif x g y k) * g k) q).trans
    (congrArg (fun a => dnorm x a q) (funext fun k => by rw [cot]; rfl))

/-- The gain's gradient as the derivative of the loss's lines gives it. -/
theorem dg_eq (m : (ℓ : Loc Cert.Kernel5Ideal.nD Cert.Kernel5Ideal.τ Cert.Kernel5Ideal.sig) → Buf (Elt Ideal) ℓ)
    (c : Dev Cert.Kernel5Ideal.nD) (q : Fin 2048) :
    ∑ _z : Fin 1, ∑ i : Fin 8192, Cert.Kernel5Ideal.Loss.X2 m c i q * rms (Cert.Kernel5Ideal.Loss.X2 m c i)
        * (Ideal.div (Ideal.ofBits .f32 0x3F000000#32) (Ideal.ofBits .f32 0x45000000#32)
          * (Ideal.ofBits .f32 0x40000000#32 * Cert.Kernel5Ideal.Loss.dif (Cert.Kernel5Ideal.Loss.X2 m c i) (Cert.Kernel5Ideal.Loss.Gr m c) (Cert.Kernel5Ideal.Loss.Tr m c i) q))
      = Cert.Kernel5Ideal.Loss.DG m c q := by
  rw [Fin.sum_univ_one]
  unfold Cert.Kernel5Ideal.Loss.DG
  refine Finset.sum_congr rfl fun i _ => ?_
  rw [cot]
  unfold Cert.Kernel5Ideal.Loss.DGr
  exact (mul_comm _ _).trans (mul_assoc _ _ _).symm

set_option maxHeartbeats 2000000 in
/-- The kernel's four results are the reference's. -/
theorem algebraic : Cert.algebraic_Kernel5Ideal_Reference5Ideal (hKernel5Ideal := Cert.Kernel5Ideal.Gen.facts) (hReference5Ideal := Cert.Reference5Ideal.Gen.facts) := by
  intro m g m' g' _ hagree
  refine ⟨fun c => (fun _ => Cert.Kernel5Ideal.Loss.LOSS m c), fun c => (fun i => Cert.Kernel5Ideal.Loss.DX m c (i 0) (i 1)),
    fun c => (fun i => Cert.Kernel5Ideal.Loss.DX m c (i 0) (i 1)), fun c => (fun i => Cert.Kernel5Ideal.Loss.DG m c (i 1)), ?_, ?_⟩
  · refine θ_run_mono (Cert.Kernel5Ideal.Value.run_blocks m g) fun r h c => ?_
    obtain ⟨h0, h1, h2, h3, ha⟩ := h c
    exact ⟨h0.trans (Cert.Kernel5Ideal.Loss.arr_5 m c), h1.trans (Cert.Kernel5Ideal.Loss.arr_6 m c),
      h2.trans (Cert.Kernel5Ideal.Loss.arr_7 m c), h3.trans (Cert.Kernel5Ideal.Loss.arr_8 m c), ha⟩
  · refine θ_run_mono (Cert.Reference5Ideal.Value.run m' g') fun r h c => ?_
    obtain ⟨h0, h1, h2, h3, ha⟩ := h c
    obtain ⟨a0, a1, a2, a3, a4, a5⟩ := hagree c
    refine ⟨h0.trans ?_, h1.trans ?_, h2.trans ?_, h3.trans ?_, ha⟩
    · unfold Cert.Reference5Ideal.Value.res_main_v56
      rw [a0, a1, a2, a3, a4, a5]
      funext i
      obtain ⟨p, q, rfl⟩ : ∃ (p : Fin 1) (q : Fin 1), i = ix2 p q := ⟨i 0, i 1, eq_ix2 i⟩
      pointwise
      rfl
    · unfold Cert.Reference5Ideal.Value.res_main_v55
      rw [a0, a1, a2, a3, a4, a5]
      funext i
      obtain ⟨p, q, rfl⟩ : ∃ (p : Fin 8192) (q : Fin 2048), i = ix2 p q := ⟨i 0, i 1, eq_ix2 i⟩
      pointwise
      exact dx_eq (Cert.Kernel5Ideal.Loss.X2 m c p) (Cert.Kernel5Ideal.Loss.Gr m c) (Cert.Kernel5Ideal.Loss.Tr m c p) q
    · unfold Cert.Reference5Ideal.Value.res_main_v57
      rw [a0, a1, a2, a3, a4, a5]
      funext i
      obtain ⟨p, q, rfl⟩ : ∃ (p : Fin 8192) (q : Fin 2048), i = ix2 p q := ⟨i 0, i 1, eq_ix2 i⟩
      pointwise
      exact dx_eq (Cert.Kernel5Ideal.Loss.X2 m c p) (Cert.Kernel5Ideal.Loss.Gr m c) (Cert.Kernel5Ideal.Loss.Tr m c p) q
    · unfold Cert.Reference5Ideal.Value.res_main_v58
      rw [a0, a1, a2, a3, a4, a5]
      funext i
      obtain ⟨p, q, rfl⟩ : ∃ (p : Fin 1) (q : Fin 2048), i = ix2 p q := ⟨i 0, i 1, eq_ix2 i⟩
      pointwise
      exact dg_eq m c q

end Cert.Proof.Loss

end
-- ==== Proof.OutProj.lean ====
module

public import proofs.«01_k».proof.Defs
public import proofs.«01_k».proof.Proof.Gen.Kernel6Ideal.Value
public import proofs.«01_k».proof.Proof.Gen.Reference6Ideal.Run
public import Idealize.ShloMosaic.Lib.Pipeline.ValueKit
public import Idealize.ShloMosaic.Lib.StableHlo.RunHlo
public import Idealize.ShloMosaic.Lib.Pointwise
public import Idealize.ShloMosaic.Lib.Claim

@[expose] public section

set_option maxRecDepth 16384

noncomputable section

namespace Cert.Kernel6Ideal.OutProj

open Idealize.ShloMosaic Idealize.ShloMosaic.TcCoe
open Idealize.SL.Sem
open Cert.Kernel6Ideal Cert.Kernel6Ideal.Gen

variable (m : (ℓ : Loc nD τ sig) → Buf (Elt Ideal) ℓ) (c : Dev nD)

/-- The residual stream's tile. -/
theorem pay1_apply (x : S512x2048.Idx → Ideal .f32) (mx : S512x2048.Idx → Ideal .bf16) (w : S2048x2048.Idx → Ideal .bf16)
    (p : Fin 512) (q : Fin 2048) :
    k0_pay1 (F := Ideal) x mx w (ix2 p q) = x (ix2 p q) + ∑ k : Fin 2048, mx (ix2 p k) * w (ix2 k q) := by
  unfold k0_pay1; pointwise

/-- One over the root mean square of a row, as both programs compute it. -/
def rms (f : Fin 2048 → EReal) : EReal :=
  Ideal.rsqrt (Ideal.div (∑ k, f k * f k) (Ideal.ofBits .f32 0x45000000#32) + Ideal.ofBits .f32 0x358637BD#32)

/-- The normalised tile. -/
theorem pay2_apply (x : S512x2048.Idx → Ideal .f32) (mx : S512x2048.Idx → Ideal .bf16) (w : S2048x2048.Idx → Ideal .bf16)
    (g : S1x2048.Idx → Ideal .f32) (p : Fin 512) (q : Fin 2048) :
    k0_pay2 (F := Ideal) x mx w g (ix2 p q)
      = (k0_pay1 (F := Ideal) x mx w (ix2 p q) * rms (fun k => k0_pay1 (F := Ideal) x mx w (ix2 p k)) * g (ix2 (0 : Fin 1) q) : EReal) := by
  unfold k0_pay2; pointwise; rfl

/-- Where each window stands at grid point `t`. -/
theorem idx_ : ∀ t : Fin cfg0.N,
    win0_0.index t = ![t.val, 0] ∧ win0_1.index t = ![t.val, 0] ∧ win0_2.index t = ![0, 0] ∧ win0_3.index t = ![0, 0]
    ∧ win0_4.index t = ![t.val, 0] ∧ win0_5.index t = ![t.val, 0] := by
  decide +kernel

theorem lt16 (t : Fin cfg0.N) : t.val < 16 := t.isLt.trans_eq N_0

/-- The row of the array that row `p` of the tile at grid point `t` is. -/
def row (t : Fin cfg0.N) (p : Fin 512) : Fin 8192 := ⟨t.val * 512 + p.val, by have := lt16 t; omega⟩

/-- The arguments by name: the residual stream, the mixers' output, the weight, the norm's gain. -/
def X : S8192x2048.Idx → Ideal .f32 := m ((c.tc : Thread nD τ).loc main_arg0)
def MX : S8192x2048.Idx → Ideal .f32 := m ((c.tc : Thread nD τ).loc main_arg1)
def W : S2048x2048.Idx → Ideal .f32 := m ((c.tc : Thread nD τ).loc main_arg2)
def G : S2048.Idx → Ideal .f32 := m ((c.tc : Thread nD τ).loc main_arg3)

/-- The residual stream after the mixers. -/
def X1 (i : Fin 8192) (j : Fin 2048) : EReal := X m c (ix2 i j) + ∑ k : Fin 2048, MX m c (ix2 i k) * W m c (ix2 k j)

/-- The same, normalised for the feed-forward layer. -/
def HN (i : Fin 8192) (j : Fin 2048) : EReal := X1 m c i j * rms (X1 m c i) * G m c (ix1 j)

theorem iblk_0 (t : Fin cfg0.N) (p : Fin 512) (k : Fin 2048) : iblk m c 0 t (ix2 p k) = X m c (ix2 (row t p) k) := by
  obtain ⟨e0, e1, e2, e3, e4, e5⟩ := idx_ t
  blk_simp [iblk, e0]
  entry_read
  pointwise
  unfold X row
  blk_ext [e0]

theorem iblk_1 (t : Fin cfg0.N) (p : Fin 512) (k : Fin 2048) : iblk m c 1 t (ix2 p k) = MX m c (ix2 (row t p) k) := by
  obtain ⟨e0, e1, e2, e3, e4, e5⟩ := idx_ t
  blk_simp [iblk, e1]
  entry_read
  pointwise
  unfold MX row
  blk_ext [e1]

theorem iblk_2 (t : Fin cfg0.N) (p : Fin 2048) (k : Fin 2048) : iblk m c 2 t (ix2 p k) = W m c (ix2 p k) := by
  obtain ⟨e0, e1, e2, e3, e4, e5⟩ := idx_ t
  blk_simp [iblk, e2]
  entry_read
  pointwise
  unfold W
  blk_ext [e2]

theorem iblk_3 (t : Fin cfg0.N) (k : Fin 2048) : iblk m c 3 t (ix2 (0 : Fin 1) k) = G m c (ix1 k) := by
  obtain ⟨e0, e1, e2, e3, e4, e5⟩ := idx_ t
  blk_simp [iblk, e3]
  entry_read
  pointwise
  unfold G
  blk_ext [e3]

/-- The residual stream's tile at grid point `t`. -/
theorem pay1_blk (t : Fin cfg0.N) (p : Fin 512) (q : Fin 2048) :
    k0_pay1 (iblk m c 0 t) (iblk m c 1 t) (iblk m c 2 t) (ix2 p q) = X1 m c (row t p) q := by
  rw [pay1_apply, iblk_0]
  unfold X1
  congr 1
  exact Finset.sum_congr rfl fun k _ => by rw [iblk_1, iblk_2]

/-- The normalised tile at grid point `t`. -/
theorem pay2_blk (t : Fin cfg0.N) (p : Fin 512) (q : Fin 2048) :
    k0_pay2 (iblk m c 0 t) (iblk m c 1 t) (iblk m c 2 t) (iblk m c 3 t) (ix2 p q) = HN m c (row t p) q := by
  rw [pay2_apply, iblk_3, pay1_blk]
  unfold HN
  rw [show (fun k => k0_pay1 (iblk m c 0 t) (iblk m c 1 t) (iblk m c 2 t) (ix2 p k)) = X1 m c (row t p) from
    funext fun k => pay1_blk m c t p k]

/-- The first result: the residual stream. -/
theorem arr_4 : (dats m 0 c).arrAt 4 cfg0.N = fun i : S8192x2048.Idx => X1 m c (i 0) (i 1) := by
  refine (dats m 0 c).arrAt_eq_of_covers 4 _ (by decide +kernel) fun t hf y => ?_
  obtain ⟨e0, e1, e2, e3, e4, e5⟩ := idx_ t
  rw [after0_4]
  frame_out
  blk_simp
  obtain ⟨p, q, rfl⟩ : ∃ (p : Fin 512) (q : Fin 2048), y = ix2 p q := ⟨y 0, y 1, eq_ix2 y⟩
  refine (pay1_blk m c t p q).trans (congrArg₂ (X1 m c) (Fin.ext ?_) (Fin.ext ?_))
  · unfold row; blk_simp [e4]
  · blk_simp [e4]

/-- The second result: the same normalised. -/
theorem arr_5 : (dats m 0 c).arrAt 5 cfg0.N = fun i : S8192x2048.Idx => HN m c (i 0) (i 1) := by
  refine (dats m 0 c).arrAt_eq_of_covers 5 _ (by decide +kernel) fun t hf y => ?_
  obtain ⟨e0, e1, e2, e3, e4, e5⟩ := idx_ t
  rw [after0_5]
  frame_out
  blk_simp
  obtain ⟨p, q, rfl⟩ : ∃ (p : Fin 512) (q : Fin 2048), y = ix2 p q := ⟨y 0, y 1, eq_ix2 y⟩
  refine (pay2_blk m c t p q).trans (congrArg₂ (HN m c) (Fin.ext ?_) (Fin.ext ?_))
  · unfold row; blk_simp [e5]
  · blk_simp [e5]

end Cert.Kernel6Ideal.OutProj

namespace Cert.Proof.OutProj

open Idealize.ShloMosaic Idealize.ShloMosaic.TcCoe
open Idealize.SL.Sem

/-- The kernel's two results are the reference's. -/
theorem algebraic : Cert.algebraic_Kernel6Ideal_Reference6Ideal (hKernel6Ideal := Cert.Kernel6Ideal.Gen.facts) (hReference6Ideal := Cert.Reference6Ideal.Gen.facts) := by
  intro m g m' g' _ hagree
  refine ⟨fun c => (fun i => Cert.Kernel6Ideal.OutProj.X1 m c (i 0) (i 1)), fun c => (fun i => Cert.Kernel6Ideal.OutProj.HN m c (i 0) (i 1)), ?_, ?_⟩
  · refine θ_run_mono (Cert.Kernel6Ideal.Value.run_blocks m g) fun r h c => ?_
    obtain ⟨h0, h1, ha⟩ := h c
    exact ⟨h0.trans (Cert.Kernel6Ideal.OutProj.arr_4 m c), h1.trans (Cert.Kernel6Ideal.OutProj.arr_5 m c), ha⟩
  · refine θ_run_mono (Cert.Reference6Ideal.Value.run m' g') fun r h c => ?_
    obtain ⟨h0, h1, ha⟩ := h c
    obtain ⟨a0, a1, a2, a3⟩ := hagree c
    refine ⟨h0.trans ?_, h1.trans ?_, ha⟩
    · rw [a0, a1, a2]
      funext i
      obtain ⟨p, q, rfl⟩ : ∃ (p : Fin 8192) (q : Fin 2048), i = ix2 p q := ⟨i 0, i 1, eq_ix2 i⟩
      pointwise
      rfl
    · rw [a0, a1, a2, a3]
      funext i
      obtain ⟨p, q, rfl⟩ : ∃ (p : Fin 8192) (q : Fin 2048), i = ix2 p q := ⟨i 0, i 1, eq_ix2 i⟩
      pointwise
      rfl

end Cert.Proof.OutProj

end
-- ==== Proof.Adam.lean ====
module

public import Idealize.ShloMosaic.Lib.Pointwise

@[expose] public section

noncomputable section

namespace Cert.Adam

open Idealize.ShloMosaic

/-- A word's value. -/
abbrev lit (b : BitVec 32) : EReal := Ideal.ofBits .f32 b

/-- The first moment after the step. -/
def newM (g m : EReal) : EReal := lit 0x3F666666#32 * m + lit 0x3DCCCCCD#32 * g

/-- The second moment after the step. -/
def newV (g v : EReal) : EReal := lit 0x3F7FBE77#32 * v + lit 0x3A83126F#32 * (g * g)

/-- What the step adds to the weight. -/
def delta (w g m v : EReal) : EReal :=
  lit 0xBA83126F#32 * (Ideal.div (Ideal.div (newM g m) (lit 0x3F26BD02#32))
    (Ideal.sqrt (Ideal.div (newV g v) (lit 0x3C231ACC#32)) + lit 0x322BCC77#32) + lit 0x3C23D70A#32 * w)

end Cert.Adam

end
-- ==== Proof.AdamCalls.lean ====
module

public import proofs.«01_k».proof.Defs
public import proofs.«01_k».proof.Proof.Gen.Kernel7Ideal.Value
public import proofs.«01_k».proof.Proof.Gen.Reference7Ideal.Run
public import proofs.«01_k».proof.Proof.Gen.Kernel8Ideal.Value
public import proofs.«01_k».proof.Proof.Gen.Reference8Ideal.Run
public import proofs.«01_k».proof.Proof.Gen.Kernel9Ideal.Value
public import proofs.«01_k».proof.Proof.Gen.Reference9Ideal.Run
public import proofs.«01_k».proof.Proof.Gen.Kernel10Ideal.Value
public import proofs.«01_k».proof.Proof.Gen.Reference10Ideal.Run
public import proofs.«01_k».proof.Proof.Gen.Kernel11Ideal.Value
public import proofs.«01_k».proof.Proof.Gen.Reference11Ideal.Run
public import proofs.«01_k».proof.Proof.Adam
public import Idealize.ShloMosaic.Lib.Pipeline.ValueKit
public import Idealize.ShloMosaic.Lib.StableHlo.RunHlo
public import Idealize.ShloMosaic.Lib.Claim

@[expose] public section

set_option maxRecDepth 16384

noncomputable section

namespace Cert.Proof.Adam

open Idealize.ShloMosaic Idealize.ShloMosaic.TcCoe
open Idealize.SL.Sem
open Cert.Adam

section
open Cert.Kernel7Ideal Cert.Kernel7Ideal.Gen

/-- A device's part of w_in: the kernel's four results are the reference's. -/
theorem algebraic7 : Cert.algebraic_Kernel7Ideal_Reference7Ideal (hKernel7Ideal := Cert.Kernel7Ideal.Gen.facts) (hReference7Ideal := Cert.Reference7Ideal.Gen.facts) := by
  intro m g m' g' _ hagree
  let X (r : Ref sig .tc) (c : Dev nD) := m ((c.tc : Thread nD τ).loc r)
  refine ⟨X main_arg1, fun c i => delta (X main_arg0 c i) (X main_arg1 c i) (X main_arg2 c i) (X main_arg3 c i),
    fun c i => newM (X main_arg1 c i) (X main_arg2 c i), fun c i => newV (X main_arg1 c i) (X main_arg3 c i), ?_, ?_⟩
  · refine θ_run_mono (Value.run_blocks m g) fun r h c => ?_
    obtain ⟨h0, h1, h2, h3, ha⟩ := h c
    refine ⟨h0.trans ((dats m 0 c).arrAt_eq_of_covers 4 _ (by decide +kernel) fun t hf y => ?_),
      h1.trans ((dats m 0 c).arrAt_eq_of_covers 5 _ (by decide +kernel) fun t hf y => ?_),
      h2.trans ((dats m 0 c).arrAt_eq_of_covers 6 _ (by decide +kernel) fun t hf y => ?_),
      h3.trans ((dats m 0 c).arrAt_eq_of_covers 7 _ (by decide +kernel) fun t hf y => ?_), ha⟩
    · rw [after0_4]; frame_out; rfl
    · rw [after0_5]; frame_out; rfl
    · rw [after0_6]; frame_out; rfl
    · rw [after0_7]; frame_out; rfl
  · refine θ_run_mono (Cert.Reference7Ideal.Value.run m' g') fun r h c => ?_
    obtain ⟨h0, h1, h2, h3, ha⟩ := h c
    obtain ⟨a0, a1, a2, a3⟩ := hagree c
    exact ⟨h0.trans a1, h1.trans (by rw [a0, a1, a2, a3]; rfl), h2.trans (by rw [a1, a2]; rfl), h3.trans (by rw [a1, a3]; rfl), ha⟩
end

section
open Cert.Kernel8Ideal Cert.Kernel8Ideal.Gen

/-- A device's part of the gate's weight: the kernel's four results are the reference's. -/
theorem algebraic8 : Cert.algebraic_Kernel8Ideal_Reference8Ideal (hKernel8Ideal := Cert.Kernel8Ideal.Gen.facts) (hReference8Ideal := Cert.Reference8Ideal.Gen.facts) := by
  intro m g m' g' _ hagree
  let X (r : Ref sig .tc) (c : Dev nD) := m ((c.tc : Thread nD τ).loc r)
  refine ⟨X main_arg1, fun c i => delta (X main_arg0 c i) (X main_arg1 c i) (X main_arg2 c i) (X main_arg3 c i),
    fun c i => newM (X main_arg1 c i) (X main_arg2 c i), fun c i => newV (X main_arg1 c i) (X main_arg3 c i), ?_, ?_⟩
  · refine θ_run_mono (Value.run_blocks m g) fun r h c => ?_
    obtain ⟨h0, h1, h2, h3, ha⟩ := h c
    refine ⟨h0.trans ((dats m 0 c).arrAt_eq_of_covers 4 _ (by decide +kernel) fun t hf y => ?_),
      h1.trans ((dats m 0 c).arrAt_eq_of_covers 5 _ (by decide +kernel) fun t hf y => ?_),
      h2.trans ((dats m 0 c).arrAt_eq_of_covers 6 _ (by decide +kernel) fun t hf y => ?_),
      h3.trans ((dats m 0 c).arrAt_eq_of_covers 7 _ (by decide +kernel) fun t hf y => ?_), ha⟩
    · rw [after0_4]; frame_out; rfl
    · rw [after0_5]; frame_out; rfl
    · rw [after0_6]; frame_out; rfl
    · rw [after0_7]; frame_out; rfl
  · refine θ_run_mono (Cert.Reference8Ideal.Value.run m' g') fun r h c => ?_
    obtain ⟨h0, h1, h2, h3, ha⟩ := h c
    obtain ⟨a0, a1, a2, a3⟩ := hagree c
    exact ⟨h0.trans a1, h1.trans (by rw [a0, a1, a2, a3]; rfl), h2.trans (by rw [a1, a2]; rfl), h3.trans (by rw [a1, a3]; rfl), ha⟩
end

section
open Cert.Kernel9Ideal Cert.Kernel9Ideal.Gen

/-- A device's part of w_out: the kernel's four results are the reference's. -/
theorem algebraic9 : Cert.algebraic_Kernel9Ideal_Reference9Ideal (hKernel9Ideal := Cert.Kernel9Ideal.Gen.facts) (hReference9Ideal := Cert.Reference9Ideal.Gen.facts) := by
  intro m g m' g' _ hagree
  let X (r : Ref sig .tc) (c : Dev nD) := m ((c.tc : Thread nD τ).loc r)
  refine ⟨X main_arg1, fun c i => delta (X main_arg0 c i) (X main_arg1 c i) (X main_arg2 c i) (X main_arg3 c i),
    fun c i => newM (X main_arg1 c i) (X main_arg2 c i), fun c i => newV (X main_arg1 c i) (X main_arg3 c i), ?_, ?_⟩
  · refine θ_run_mono (Value.run_blocks m g) fun r h c => ?_
    obtain ⟨h0, h1, h2, h3, ha⟩ := h c
    refine ⟨h0.trans ((dats m 0 c).arrAt_eq_of_covers 4 _ (by decide +kernel) fun t hf y => ?_),
      h1.trans ((dats m 0 c).arrAt_eq_of_covers 5 _ (by decide +kernel) fun t hf y => ?_),
      h2.trans ((dats m 0 c).arrAt_eq_of_covers 6 _ (by decide +kernel) fun t hf y => ?_),
      h3.trans ((dats m 0 c).arrAt_eq_of_covers 7 _ (by decide +kernel) fun t hf y => ?_), ha⟩
    · rw [after0_4]; frame_out; rfl
    · rw [after0_5]; frame_out; rfl
    · rw [after0_6]; frame_out; rfl
    · rw [after0_7]; frame_out; rfl
  · refine θ_run_mono (Cert.Reference9Ideal.Value.run m' g') fun r h c => ?_
    obtain ⟨h0, h1, h2, h3, ha⟩ := h c
    obtain ⟨a0, a1, a2, a3⟩ := hagree c
    exact ⟨h0.trans a1, h1.trans (by rw [a0, a1, a2, a3]; rfl), h2.trans (by rw [a1, a2]; rfl), h3.trans (by rw [a1, a3]; rfl), ha⟩
end

section
open Cert.Kernel10Ideal Cert.Kernel10Ideal.Gen

/-- A device's part of w_up or of w_down: the kernel's four results are the reference's. -/
theorem algebraic10 : Cert.algebraic_Kernel10Ideal_Reference10Ideal (hKernel10Ideal := Cert.Kernel10Ideal.Gen.facts) (hReference10Ideal := Cert.Reference10Ideal.Gen.facts) := by
  intro m g m' g' _ hagree
  let X (r : Ref sig .tc) (c : Dev nD) := m ((c.tc : Thread nD τ).loc r)
  refine ⟨X main_arg1, fun c i => delta (X main_arg0 c i) (X main_arg1 c i) (X main_arg2 c i) (X main_arg3 c i),
    fun c i => newM (X main_arg1 c i) (X main_arg2 c i), fun c i => newV (X main_arg1 c i) (X main_arg3 c i), ?_, ?_⟩
  · refine θ_run_mono (Value.run_blocks m g) fun r h c => ?_
    obtain ⟨h0, h1, h2, h3, ha⟩ := h c
    refine ⟨h0.trans ((dats m 0 c).arrAt_eq_of_covers 4 _ (by decide +kernel) fun t hf y => ?_),
      h1.trans ((dats m 0 c).arrAt_eq_of_covers 5 _ (by decide +kernel) fun t hf y => ?_),
      h2.trans ((dats m 0 c).arrAt_eq_of_covers 6 _ (by decide +kernel) fun t hf y => ?_),
      h3.trans ((dats m 0 c).arrAt_eq_of_covers 7 _ (by decide +kernel) fun t hf y => ?_), ha⟩
    · rw [after0_4]; frame_out; rfl
    · rw [after0_5]; frame_out; rfl
    · rw [after0_6]; frame_out; rfl
    · rw [after0_7]; frame_out; rfl
  · refine θ_run_mono (Cert.Reference10Ideal.Value.run m' g') fun r h c => ?_
    obtain ⟨h0, h1, h2, h3, ha⟩ := h c
    obtain ⟨a0, a1, a2, a3⟩ := hagree c
    exact ⟨h0.trans a1, h1.trans (by rw [a0, a1, a2, a3]; rfl), h2.trans (by rw [a1, a2]; rfl), h3.trans (by rw [a1, a3]; rfl), ha⟩
end

section
open Cert.Kernel11Ideal Cert.Kernel11Ideal.Gen

/-- The small weights, packed into rows: the kernel's four results are the reference's. -/
theorem algebraic11 : Cert.algebraic_Kernel11Ideal_Reference11Ideal (hKernel11Ideal := Cert.Kernel11Ideal.Gen.facts) (hReference11Ideal := Cert.Reference11Ideal.Gen.facts) := by
  intro m g m' g' _ hagree
  let X (r : Ref sig .tc) (c : Dev nD) := m ((c.tc : Thread nD τ).loc r)
  refine ⟨X main_arg1, fun c i => delta (X main_arg0 c i) (X main_arg1 c i) (X main_arg2 c i) (X main_arg3 c i),
    fun c i => newM (X main_arg1 c i) (X main_arg2 c i), fun c i => newV (X main_arg1 c i) (X main_arg3 c i), ?_, ?_⟩
  · refine θ_run_mono (Value.run_blocks m g) fun r h c => ?_
    obtain ⟨h0, h1, h2, h3, ha⟩ := h c
    refine ⟨h0.trans ((dats m 0 c).arrAt_eq_of_covers 4 _ (by decide +kernel) fun t hf y => ?_),
      h1.trans ((dats m 0 c).arrAt_eq_of_covers 5 _ (by decide +kernel) fun t hf y => ?_),
      h2.trans ((dats m 0 c).arrAt_eq_of_covers 6 _ (by decide +kernel) fun t hf y => ?_),
      h3.trans ((dats m 0 c).arrAt_eq_of_covers 7 _ (by decide +kernel) fun t hf y => ?_), ha⟩
    · rw [after0_4]; frame_out; rfl
    · rw [after0_5]; frame_out; rfl
    · rw [after0_6]; frame_out; rfl
    · rw [after0_7]; frame_out; rfl
  · refine θ_run_mono (Cert.Reference11Ideal.Value.run m' g') fun r h c => ?_
    obtain ⟨h0, h1, h2, h3, ha⟩ := h c
    obtain ⟨a0, a1, a2, a3⟩ := hagree c
    exact ⟨h0.trans a1, h1.trans (by rw [a0, a1, a2, a3]; rfl), h2.trans (by rw [a1, a2]; rfl), h3.trans (by rw [a1, a3]; rfl), ha⟩
end

end Cert.Proof.Adam

end
-- ==== Proof.Gelu.lean ====
module

public import Idealize.ShloMosaic.Lib.Pointwise
public import Idealize.ShloMosaic.Lib.IdealHost
public import proofs.«01_k».proof.Proof.Norm

@[expose] public section

noncomputable section

namespace Cert.Proof.Gelu

open Idealize.ShloMosaic Cert.Proof.Norm

/-- The product of the two coefficients of gelu's argument. -/
def kc : EReal := ((80338380498831 / 2251799813685248 : ℝ) : EReal)

/-- Gelu with its cubic term's coefficient multiplied out, as the kernel has it. -/
def geluK (x : EReal) : EReal :=
  Ideal.ofBits .f32 0x3F000000#32 * x
    * (1 + Ideal.tanh (x * (Ideal.ofBits .f32 0x3F4C422A#32 + kc * (x * x))))

/-- Gelu as the reference has it. -/
def gelu (x : EReal) : EReal :=
  x * (Ideal.ofBits .f32 0x3F000000#32
    * (1
      + Ideal.tanh (Ideal.ofBits .f32 0x3F4C422A#32 * (x + Ideal.ofBits .f32 0x3D372713#32 * (x * x * x)))))

theorem k_eq : Ideal.ofBits .f32 0x3F4C422A#32 = ((6693141 / 8388608 : ℝ) : EReal) := by
  simp [Ideal.ofBits, Ideal.ieee, -EReal.coe_mul]; norm_num
theorem c_eq : Ideal.ofBits .f32 0x3D372713#32 = ((12003091 / 268435456 : ℝ) : EReal) := by
  simp [Ideal.ofBits, Ideal.ieee, -EReal.coe_mul]; norm_num

/-- The two spellings agree, on infinite values too. -/
theorem gelu_eq (x : EReal) : geluK x = gelu x := by
  unfold geluK gelu kc
  rw [half_eq, show (1 : EReal) = ((1 : ℝ) : EReal) from rfl, k_eq, c_eq]
  induction x with
  | bot =>
    have e1 : (⊥ : EReal) * ⊥ = ⊤ := EReal.bot_mul_bot
    have e2 : (⊤ : EReal) * ⊥ = ⊥ := EReal.top_mul_bot
    have e3 : (⊥ : EReal) * ⊤ = ⊥ := EReal.bot_mul_top
    rw [e1, e2, EReal.coe_mul_top_of_pos (by norm_num), EReal.coe_mul_bot_of_pos (by norm_num), EReal.coe_add_top, e3, EReal.bot_add,
      EReal.coe_mul_bot_of_pos (by norm_num), Ideal.tanh_bot]
    have e4 : ((1 : ℝ) : EReal) + (-1) = 0 := by
      rw [show (-1 : EReal) = ((-1 : ℝ) : EReal) by rw [EReal.coe_neg, EReal.coe_one], ← EReal.coe_add]; norm_num
    rw [e4]; simp
  | top =>
    have e1 : (⊤ : EReal) * ⊤ = ⊤ := EReal.top_mul_top
    rw [e1, e1, EReal.coe_mul_top_of_pos (by norm_num), EReal.coe_mul_top_of_pos (by norm_num), EReal.coe_add_top, e1, EReal.coe_mul_top_of_pos (by norm_num), EReal.top_add_top,
      EReal.coe_mul_top_of_pos (by norm_num), Ideal.tanh_top]
    have e4 : ((1 : ℝ) : EReal) + 1 = ((2 : ℝ) : EReal) := by norm_cast
    rw [e4, EReal.top_mul_coe_of_pos (by norm_num), ← EReal.coe_mul, EReal.top_mul_coe_of_pos (by norm_num)]
  | coe r =>
    norm_cast
    rw [Ideal.tanh_coe, Ideal.tanh_coe]
    norm_cast
    rw [show r * (6693141 / 8388608 + 80338380498831 / 2251799813685248 * (r * r)) = 6693141 / 8388608 * (r + 12003091 / 268435456 * (r * r * r)) by ring]
    ring

/-- The logistic function, with the argument's sign taken by subtraction or by negation. -/
def logiK (x : EReal) : EReal :=
  Ideal.div (1) (1 + Ideal.exp (0 - x))
def logi (x : EReal) : EReal :=
  Ideal.div (1) (1 + Ideal.exp (-x))

theorem logi_eq (x : EReal) : logiK x = logi x := by
  unfold logiK logi
  rw [zero_sub]

/-- One over the root mean square of a row of 1024, as both programs compute it. -/
def rms (f : Fin 1024 → EReal) : EReal :=
  Ideal.rsqrt (Ideal.div (∑ k, f k * f k) (Ideal.ofBits .f32 0x44800000#32) + Ideal.ofBits .f32 0x358637BD#32)

end Cert.Proof.Gelu

end
-- ==== Proof.Glu.lean ====
module

public import proofs.«01_k».proof.Defs
public import proofs.«01_k».proof.Proof.Gen.Kernel12Ideal.Value
public import proofs.«01_k».proof.Proof.Gen.Reference12Ideal.Run
public import proofs.«01_k».proof.Proof.Gen.On_ssm_half
public import proofs.«01_k».proof.Proof.Gelu
public import Idealize.ShloMosaic.Lib.Pipeline.ValueKit
public import Idealize.ShloMosaic.Lib.StableHlo.RunHlo
public import Idealize.ShloMosaic.Lib.Pointwise
public import Idealize.ShloMosaic.Lib.Claim

@[expose] public section

set_option maxRecDepth 16384

noncomputable section

namespace Cert.Kernel12Ideal.Glu

open Idealize.ShloMosaic Idealize.ShloMosaic.TcCoe
open Idealize.SL.Sem
open Cert.Kernel12Ideal Cert.Kernel12Ideal.Gen
open Cert.Proof.Gelu

variable (m : (ℓ : Loc nD τ sig) → Buf (Elt Ideal) ℓ) (c : Dev nD)

/-- A row's gate: gelu of the row against the gate's weight, through the logistic function. -/
def gated (φ σ : EReal → EReal) (y : Fin 1024 → EReal) (w : Fin 1024 → Fin 1024 → EReal) (b : Fin 1024 → EReal) (q : Fin 1024) : EReal :=
  φ (y q) * σ ((∑ k, φ (y k) * w k q) + b q)

/-- The gated tile before the gain. -/
theorem pay2_apply (y : S512x1024.Idx → Ideal .f32) (w : S1024x1024.Idx → Ideal .bf16) (b : S1x1024.Idx → Ideal .f32) (p : Fin 512) (q : Fin 1024) :
    k0_pay2 (F := Ideal) y w b (ix2 p q)
      = (gated geluK logiK (fun k => y (ix2 p k)) (fun k q => w (ix2 k q)) (fun q => b (ix2 (0 : Fin 1) q)) q
        * rms (gated geluK logiK (fun k => y (ix2 p k)) (fun k q => w (ix2 k q)) (fun q => b (ix2 (0 : Fin 1) q))) : EReal) := by
  unfold k0_pay2; pointwise; rfl

theorem pay1_apply (x : S512x1024.Idx → Ideal .f32) (g : S1x1024.Idx → Ideal .f32) (p : Fin 512) (q : Fin 1024) :
    k0_pay1 (F := Ideal) x g (ix2 p q) = (x (ix2 p q) * g (ix2 (0 : Fin 1) q) : EReal) := by
  unfold k0_pay1; pointwise

/-- Where each window stands at grid point `t`. -/
theorem idx_ : ∀ t : Fin cfg0.N,
    win0_0.index t = ![t.val, 0] ∧ win0_1.index t = ![0, 0] ∧ win0_2.index t = ![0, 0] ∧ win0_3.index t = ![0, 0]
    ∧ win0_4.index t = ![t.val, 0] := by
  decide +kernel

theorem lt16 (t : Fin cfg0.N) : t.val < 16 := t.isLt.trans_eq N_0

/-- The row of the array that row `p` of the tile at grid point `t` is. -/
def row (t : Fin cfg0.N) (p : Fin 512) : Fin 8192 := ⟨t.val * 512 + p.val, by have := lt16 t; omega⟩

/-- The arguments by name: the S5 mixer's output, the gate's weight and bias, the norm's gain. -/
def Y : S8192x1024.Idx → Ideal .f32 := m ((c.tc : Thread nD τ).loc main_arg0)
def W : S1024x1024.Idx → Ideal .f32 := m ((c.tc : Thread nD τ).loc main_arg1)
def B : S1024.Idx → Ideal .f32 := m ((c.tc : Thread nD τ).loc main_arg2)
def G : S1024.Idx → Ideal .f32 := m ((c.tc : Thread nD τ).loc main_arg3)

/-- The mixers' output at its first half, in the kernel's spelling or the reference's. -/
def half (φ σ : EReal → EReal) (i : Fin 8192) (q : Fin 1024) : EReal :=
  gated φ σ (fun k => Y m c (ix2 i k)) (fun k q => W m c (ix2 k q)) (fun q => B m c (ix1 q)) q
    * rms (gated φ σ (fun k => Y m c (ix2 i k)) (fun k q => W m c (ix2 k q)) (fun q => B m c (ix1 q))) * G m c (ix1 q)

theorem half_eq (i : Fin 8192) (q : Fin 1024) : half m c geluK logiK i q = half m c gelu logi i q := by
  rw [show geluK = gelu from funext gelu_eq, show logiK = logi from funext logi_eq]

theorem iblk_0 (t : Fin cfg0.N) (p : Fin 512) (k : Fin 1024) : iblk m c 0 t (ix2 p k) = Y m c (ix2 (row t p) k) := by
  obtain ⟨e0, e1, e2, e3, e4⟩ := idx_ t
  blk_simp [iblk, e0]; entry_read; pointwise; unfold Y row; blk_ext [e0]
theorem iblk_1 (t : Fin cfg0.N) (p k : Fin 1024) : iblk m c 1 t (ix2 p k) = W m c (ix2 p k) := by
  obtain ⟨e0, e1, e2, e3, e4⟩ := idx_ t
  blk_simp [iblk, e1]; entry_read; pointwise; unfold W; blk_ext [e1]
theorem iblk_2 (t : Fin cfg0.N) (k : Fin 1024) : iblk m c 2 t (ix2 (0 : Fin 1) k) = B m c (ix1 k) := by
  obtain ⟨e0, e1, e2, e3, e4⟩ := idx_ t
  blk_simp [iblk, e2]; entry_read; pointwise; unfold B; blk_ext [e2]
theorem iblk_3 (t : Fin cfg0.N) (k : Fin 1024) : iblk m c 3 t (ix2 (0 : Fin 1) k) = G m c (ix1 k) := by
  obtain ⟨e0, e1, e2, e3, e4⟩ := idx_ t
  blk_simp [iblk, e3]; entry_read; pointwise; unfold G; blk_ext [e3]

/-- What the body writes at grid point `t`. -/
theorem pay_blk (t : Fin cfg0.N) (p : Fin 512) (q : Fin 1024) :
    k0_pay1 (k0_pay2 (iblk m c 0 t) (iblk m c 1 t) (iblk m c 2 t)) (iblk m c 3 t) (ix2 p q) = half m c gelu logi (row t p) q := by
  rw [pay1_apply, pay2_apply, iblk_3, ← half_eq]
  unfold half
  simp only [iblk_0, iblk_1, iblk_2]

/-- The first half of the array in the arguments. -/
theorem arr_4 : (dats m 0 c).arrAt 4 cfg0.N
    = fun i : S8192x2048.Idx => if (i 1 : ℕ) / 1024 = 0 then half m c gelu logi (i 0) ⟨(i 1 : ℕ) % 1024, Nat.mod_lt _ (by norm_num)⟩
      else (dats m 0 c).A 4 i := by
  refine (dats m 0 c).arrAt_eq_of_coversWhere 4
    (fun i : S8192x2048.Idx => half m c gelu logi (i 0) ⟨(i 1 : ℕ) % 1024, Nat.mod_lt _ (by norm_num)⟩)
    (fun β => β (1 : Fin 2) = 0) (by decide +kernel) (fun t hf y => ?_) (fun j => Iff.rfl)
  obtain ⟨e0, e1, e2, e3, e4⟩ := idx_ t
  rw [after0_4]
  frame_out
  blk_simp
  obtain ⟨p, q, rfl⟩ : ∃ (p : Fin 512) (q : Fin 1024), y = ix2 p q := ⟨y 0, y 1, eq_ix2 y⟩
  refine (pay_blk m c t p q).trans (congrArg₂ (half m c gelu logi) (Fin.ext ?_) (Fin.ext ?_))
  · unfold row; blk_simp [e4]
  · blk_simp [e4]; exact (Nat.mod_eq_of_lt q.isLt).symm

end Cert.Kernel12Ideal.Glu

namespace Cert.On_ssm_half

open Idealize.ShloMosaic

variable [Facts]

/-- The mask: a column below 1024. -/
theorem fn_apply (x : FVec Ideal S8192x1024 .f32) (w : FVec Ideal S1024x1024 .f32) (b g : FVec Ideal S1024 .f32) (i : S8192x2048.Idx)
    (h : fn x w b g i = 1#1) : (i 1 : ℕ) < 1024 := by
  have key : ∀ r < 2048, IntOp.cmpi .slt (BitVec.ofNat 32 r) 1024#32 = 1#1 → r < 1024 := by decide +kernel
  exact key _ (i 1).isLt h

end Cert.On_ssm_half

namespace Cert.Proof.Glu

open Idealize.ShloMosaic Idealize.ShloMosaic.TcCoe
open Idealize.SL.Sem
open Cert.Proof.Gelu
open Cert.Kernel12Ideal.Glu (half)

/-- The constant that the kernel folds is the product that the reference takes. -/
theorem preserves : Cert.preserves_Kernel12_Kernel12Ideal :=
  IdealRules.named_const.statement Cert.Kernel12Ideal.κ "gelu_cubic" .f32 0x3D122279#32 ((80338380498831 / 2251799813685248 : ℝ) : EReal) rfl

/-- The first halves agree. -/
theorem algebraic : Cert.algebraic_Kernel12Ideal_Reference12Ideal_on_ssm_half (hKernel12Ideal := Cert.Kernel12Ideal.Gen.facts)
    (hReference12Ideal := Cert.Reference12Ideal.Gen.facts) (hOn_ssm_half := Cert.On_ssm_half.Gen.facts) := by
  intro m g m' g' _ hagree
  refine ⟨fun c i => half m c gelu logi (i 0) ⟨(i 1 : ℕ) % 1024, Nat.mod_lt _ (by norm_num)⟩, ?_, ?_⟩
  · refine θ_run_mono (Cert.Kernel12Ideal.Value.run_blocks m g) fun r h c => ⟨fun i hi => ?_, (h c).2⟩
    have hlt := Cert.On_ssm_half.fn_apply _ _ _ _ i hi
    rw [(h c).1, Cert.Kernel12Ideal.Glu.arr_4]
    exact if_pos (Nat.div_eq_of_lt hlt)
  · refine θ_run_mono (Cert.Reference12Ideal.Value.run m' g') fun r h c => ⟨fun i hi => ?_, (h c).2⟩
    have hlt := Cert.On_ssm_half.fn_apply _ _ _ _ i hi
    obtain ⟨a0, a1, a2, a3⟩ := hagree c
    rw [(h c).1]
    unfold Cert.Reference12Ideal.Value.res_main_v39
    rw [a0, a1, a2, a3]
    obtain ⟨p, q, rfl⟩ : ∃ (p : Fin 8192) (q : Fin 2048), i = ix2 p q := ⟨i 0, i 1, eq_ix2 i⟩
    pointwise
    have hq : (q : ℕ) < 1024 := hlt
    rw [dif_pos hq]
    exact (show _ = half m c gelu logi p ⟨q, hq⟩ from rfl).trans (congrArg _ (Fin.ext (Nat.mod_eq_of_lt hq).symm))

end Cert.Proof.Glu

end
-- ==== Proof.Sgu.lean ====
module

public import proofs.«01_k».proof.Defs
public import proofs.«01_k».proof.Proof.Gen.Kernel13Ideal.Value
public import proofs.«01_k».proof.Proof.Gen.Reference13Ideal.Run
public import proofs.«01_k».proof.Proof.Gelu
public import Idealize.ShloMosaic.Lib.Pipeline.ValueKit
public import Idealize.ShloMosaic.Lib.StableHlo.RunHlo
public import Idealize.ShloMosaic.Lib.Pointwise
public import Idealize.ShloMosaic.Lib.Claim
public import Idealize.ShloMosaic.Lib.Pipeline.ReadBack

@[expose] public section

set_option maxRecDepth 16384

noncomputable section

namespace Cert.Kernel13Ideal.Sgu

open Idealize.ShloMosaic Idealize.ShloMosaic.TcCoe
open Idealize.SL.Sem
open Cert.Kernel13Ideal Cert.Kernel13Ideal.Gen
open Cert.Proof.Gelu

variable (m : (ℓ : Loc nD τ sig) → Buf (Elt Ideal) ℓ) (c : Dev nD)

/-- The normalised and scaled gate of a chunk of 128 rows. -/
def vhat (zv : Vec Ideal S128x1024 .f32) (lg lb : Vec Ideal S1x1024 .f32) : FVec Ideal S128x1024 .bf16 :=
  k0_pay6 (k0_pay1 lg) (k0_pay2 lb) (k0_pay4 zv) (k0_pay5 zv) (Scalar.ofBits .f32 0x44800000#32)

/-- What the body stores for a chunk of 128 rows. -/
def chunk (zu zv : Vec Ideal S128x1024 .f32) (lg lb : Vec Ideal S1x1024 .f32) (w : Fin 8 → Vec Ideal S1x128x128 .bf16)
    (b : Fin 8 → Vec Ideal S1x128x128 .f32) (go : Vec Ideal S1x1024 .f32) : FVec Ideal S128x1024 .bf16 :=
  k0_pay16 (k0_pay3 zu)
    (k0_pay7 (k0_pay1 lg) (k0_pay2 lb) (k0_pay4 zv) (k0_pay5 zv) (Scalar.ofBits .f32 0x44800000#32) (w 0) (b 0))
    (k0_pay8 (k0_pay1 lg) (k0_pay2 lb) (k0_pay4 zv) (k0_pay5 zv) (Scalar.ofBits .f32 0x44800000#32) (w 1) (b 1))
    (k0_pay9 (k0_pay1 lg) (k0_pay2 lb) (k0_pay4 zv) (k0_pay5 zv) (Scalar.ofBits .f32 0x44800000#32) (w 2) (b 2))
    (k0_pay11 (vhat zv lg lb) (k0_pay10 (w 3)) (b 3)) (k0_pay12 (vhat zv lg lb) (w 4) (b 4)) (k0_pay13 (vhat zv lg lb) (w 5) (b 5))
    (k0_pay14 (vhat zv lg lb) (w 6) (b 6)) (k0_pay15 (vhat zv lg lb) (w 7)) (b 7) go

/-- The same chunk as the second and fourth passes spell it. -/
def chunk' (zu zv : Vec Ideal S128x1024 .f32) (lg lb : Vec Ideal S1x1024 .f32) (w : Fin 8 → Vec Ideal S1x128x128 .bf16)
    (b : Fin 8 → Vec Ideal S1x128x128 .f32) (go : Vec Ideal S1x1024 .f32) : FVec Ideal S128x1024 .bf16 :=
  k0_pay30 (k0_pay21 (k0_pay19 zu) (k0_pay20 zu)) (k0_pay22 zv (k0_pay17 lg) (k0_pay18 lb))
    (k0_pay23 zv (k0_pay17 lg) (k0_pay18 lb) (w 0) (b 0))
    (k0_pay24 (k0_pay22 zv (k0_pay17 lg) (k0_pay18 lb)) (w 1) (b 1)) (k0_pay25 (k0_pay22 zv (k0_pay17 lg) (k0_pay18 lb)) (w 2) (b 2))
    (k0_pay26 (k0_pay22 zv (k0_pay17 lg) (k0_pay18 lb)) (w 3) (b 3)) (k0_pay27 (k0_pay22 zv (k0_pay17 lg) (k0_pay18 lb)) (w 4) (b 4))
    (k0_pay28 (w 5)) (k0_pay29 (k0_pay22 zv (k0_pay17 lg) (k0_pay18 lb))) (constant S128x128 .f32 0x00000000#32) (b 5) (w 6) (b 6) (w 7) (b 7) go

theorem vhat_eq (zv : Vec Ideal S128x1024 .f32) (lg lb : Vec Ideal S1x1024 .f32) :
    k0_pay22 zv (k0_pay17 lg) (k0_pay18 lb) = vhat zv lg lb := by
  unfold vhat k0_pay22 k0_pay17 k0_pay18 k0_pay6 k0_pay1 k0_pay2 k0_pay5 k0_pay4; rfl

theorem chunk'_eq (zu zv : Vec Ideal S128x1024 .f32) (lg lb : Vec Ideal S1x1024 .f32) (w : Fin 8 → Vec Ideal S1x128x128 .bf16)
    (b : Fin 8 → Vec Ideal S1x128x128 .f32) (go : Vec Ideal S1x1024 .f32) : chunk' zu zv lg lb w b go = chunk zu zv lg lb w b go := by
  unfold chunk' chunk k0_pay23 k0_pay7 k0_pay8 k0_pay9
  simp only [vhat_eq]
  show _ = k0_pay16 _ _ _ _ _ _ _ _ _ _ _
  have hv : k0_pay6 (k0_pay1 lg) (k0_pay2 lb) (k0_pay4 zv) (k0_pay5 zv) (Scalar.ofBits .f32 0x44800000#32) = vhat zv lg lb := rfl
  simp only [hv]
  generalize vhat zv lg lb = V
  unfold k0_pay30 k0_pay16 k0_pay21 k0_pay19 k0_pay20 k0_pay3 k0_pay24 k0_pay25 k0_pay26 k0_pay27 k0_pay28 k0_pay29 k0_pay10 k0_pay11 k0_pay12 k0_pay13 k0_pay14 k0_pay15
  rfl

theorem inb_h (h : Fin 8) : ∀ a, (![h.val, 0, 0] : Fin 3 → ℕ) a + S1x128x128.size a ≤ S8x128x128.size a := by
  revert h; decide +kernel

/-- The pieces that the body writes of its block, one for each chunk of 128 rows. -/
theorem pieces (i : grid0.Coords) (arg1 : Memref sig .tc .vmem S512x1024 .f32) (harg1 : arg1.IsWhole) (arg2 : Memref sig .tc .vmem S512x1024 .f32) (harg2 : arg2.IsWhole) (arg4 : Memref sig .tc .vmem S1x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S8x128x128 .f32) (harg7 : arg7.IsWhole) (arg8 : Memref sig .tc .vmem S1x1024 .f32) (harg8 : arg8.IsWhole) (arg9 : Memref sig .tc .vmem S512x1024 .bf16) (harg9 : arg9.IsWhole)
    (x0 : Vec Ideal S512x1024 .f32) (x1 : Vec Ideal S512x1024 .f32) (x2 : Vec Ideal S1x1024 .f32) (x3 : Vec Ideal S1x1024 .f32) (x4 : Vec Ideal S8x128x128 .bf16) (x5 : Vec Ideal S8x128x128 .f32) (x6 : Vec Ideal S1x1024 .f32) :
    (kernelRun0_A (F := Ideal) c i arg1 harg1 arg2 harg2 arg4 harg4 arg5 harg5 arg6 harg6 arg7 harg7 arg8 harg8 arg9 harg9 x0 x1 x2 x3 x4 x5 x6).1
      = [
        ⟨(Rect.unit (s := S512x1024) ![384, 0] S128x1024.size inb_S512x1024_S128x1024_384_0), chunk' (arg1.view.readAt (Elt Ideal) (Rect.unit (s := S512x1024) ![384, 0] S128x1024.size inb_S512x1024_S128x1024_384_0).toLoadRect (harg1.unread x0))
          (arg2.view.readAt (Elt Ideal) (Rect.unit (s := S512x1024) ![384, 0] S128x1024.size inb_S512x1024_S128x1024_384_0).toLoadRect (harg2.unread x1))
          (arg4.view.readAt (Elt Ideal) (Rect.unit (s := S1x1024) ![0, 0] S1x1024.size inb_S1x1024_S1x1024_0_0).toLoadRect (harg4.unread x2))
          (arg5.view.readAt (Elt Ideal) (Rect.unit (s := S1x1024) ![0, 0] S1x1024.size inb_S1x1024_S1x1024_0_0).toLoadRect (harg5.unread x3))
          (fun h => (arg6.view.readAt (Elt Ideal) (Rect.unit (s := S8x128x128) ![h.val, 0, 0] S1x128x128.size (inb_h h)).toLoadRect (harg6.unread x4)))
          (fun h => (arg7.view.readAt (Elt Ideal) (Rect.unit (s := S8x128x128) ![h.val, 0, 0] S1x128x128.size (inb_h h)).toLoadRect (harg7.unread x5)))
          (arg8.view.readAt (Elt Ideal) (Rect.unit (s := S1x1024) ![0, 0] S1x1024.size inb_S1x1024_S1x1024_0_0).toLoadRect (harg8.unread x6))⟩,
        ⟨(Rect.unit (s := S512x1024) ![256, 0] S128x1024.size inb_S512x1024_S128x1024_256_0), chunk (arg1.view.readAt (Elt Ideal) (Rect.unit (s := S512x1024) ![256, 0] S128x1024.size inb_S512x1024_S128x1024_256_0).toLoadRect (harg1.unread x0))
          (arg2.view.readAt (Elt Ideal) (Rect.unit (s := S512x1024) ![256, 0] S128x1024.size inb_S512x1024_S128x1024_256_0).toLoadRect (harg2.unread x1))
          (arg4.view.readAt (Elt Ideal) (Rect.unit (s := S1x1024) ![0, 0] S1x1024.size inb_S1x1024_S1x1024_0_0).toLoadRect (harg4.unread x2))
          (arg5.view.readAt (Elt Ideal) (Rect.unit (s := S1x1024) ![0, 0] S1x1024.size inb_S1x1024_S1x1024_0_0).toLoadRect (harg5.unread x3))
          (fun h => (arg6.view.readAt (Elt Ideal) (Rect.unit (s := S8x128x128) ![h.val, 0, 0] S1x128x128.size (inb_h h)).toLoadRect (harg6.unread x4)))
          (fun h => (arg7.view.readAt (Elt Ideal) (Rect.unit (s := S8x128x128) ![h.val, 0, 0] S1x128x128.size (inb_h h)).toLoadRect (harg7.unread x5)))
          (arg8.view.readAt (Elt Ideal) (Rect.unit (s := S1x1024) ![0, 0] S1x1024.size inb_S1x1024_S1x1024_0_0).toLoadRect (harg8.unread x6))⟩,
        ⟨(Rect.unit (s := S512x1024) ![128, 0] S128x1024.size inb_S512x1024_S128x1024_128_0), chunk' (arg1.view.readAt (Elt Ideal) (Rect.unit (s := S512x1024) ![128, 0] S128x1024.size inb_S512x1024_S128x1024_128_0).toLoadRect (harg1.unread x0))
          (arg2.view.readAt (Elt Ideal) (Rect.unit (s := S512x1024) ![128, 0] S128x1024.size inb_S512x1024_S128x1024_128_0).toLoadRect (harg2.unread x1))
          (arg4.view.readAt (Elt Ideal) (Rect.unit (s := S1x1024) ![0, 0] S1x1024.size inb_S1x1024_S1x1024_0_0).toLoadRect (harg4.unread x2))
          (arg5.view.readAt (Elt Ideal) (Rect.unit (s := S1x1024) ![0, 0] S1x1024.size inb_S1x1024_S1x1024_0_0).toLoadRect (harg5.unread x3))
          (fun h => (arg6.view.readAt (Elt Ideal) (Rect.unit (s := S8x128x128) ![h.val, 0, 0] S1x128x128.size (inb_h h)).toLoadRect (harg6.unread x4)))
          (fun h => (arg7.view.readAt (Elt Ideal) (Rect.unit (s := S8x128x128) ![h.val, 0, 0] S1x128x128.size (inb_h h)).toLoadRect (harg7.unread x5)))
          (arg8.view.readAt (Elt Ideal) (Rect.unit (s := S1x1024) ![0, 0] S1x1024.size inb_S1x1024_S1x1024_0_0).toLoadRect (harg8.unread x6))⟩,
        ⟨(Rect.unit (s := S512x1024) ![0, 0] S128x1024.size inb_S512x1024_S128x1024_0_0), chunk (arg1.view.readAt (Elt Ideal) (Rect.unit (s := S512x1024) ![0, 0] S128x1024.size inb_S512x1024_S128x1024_0_0).toLoadRect (harg1.unread x0))
          (arg2.view.readAt (Elt Ideal) (Rect.unit (s := S512x1024) ![0, 0] S128x1024.size inb_S512x1024_S128x1024_0_0).toLoadRect (harg2.unread x1))
          (arg4.view.readAt (Elt Ideal) (Rect.unit (s := S1x1024) ![0, 0] S1x1024.size inb_S1x1024_S1x1024_0_0).toLoadRect (harg4.unread x2))
          (arg5.view.readAt (Elt Ideal) (Rect.unit (s := S1x1024) ![0, 0] S1x1024.size inb_S1x1024_S1x1024_0_0).toLoadRect (harg5.unread x3))
          (fun h => (arg6.view.readAt (Elt Ideal) (Rect.unit (s := S8x128x128) ![h.val, 0, 0] S1x128x128.size (inb_h h)).toLoadRect (harg6.unread x4)))
          (fun h => (arg7.view.readAt (Elt Ideal) (Rect.unit (s := S8x128x128) ![h.val, 0, 0] S1x128x128.size (inb_h h)).toLoadRect (harg7.unread x5)))
          (arg8.view.readAt (Elt Ideal) (Rect.unit (s := S1x1024) ![0, 0] S1x1024.size inb_S1x1024_S1x1024_0_0).toLoadRect (harg8.unread x6))⟩] := by
  unfold kernelRun0_A
  rfl

/-! ## A chunk's values -/

/-- A row's layer norm with gain and bias. -/
def ln (f g b : Fin 1024 → EReal) (k : Fin 1024) : EReal :=
  (f k - Ideal.div (∑ k, f k) (Ideal.ofBits .f32 0x44800000#32))
    * Ideal.rsqrt (Ideal.div (∑ k, (f k - Ideal.div (∑ k, f k) (Ideal.ofBits .f32 0x44800000#32))
        * (f k - Ideal.div (∑ k, f k) (Ideal.ofBits .f32 0x44800000#32))) (Ideal.ofBits .f32 0x44800000#32) + Ideal.ofBits .f32 0x358637BD#32)
    * g k + b k

/-- The head that a column belongs to, and its place in the head. -/
def hd (q : Fin 1024) : Fin 8 := ⟨q.val / 128, by omega⟩
def dm (q : Fin 1024) : Fin 128 := ⟨q.val % 128, by omega⟩

/-- A row of the mixed and gated values, before the norm. -/
def gate (φ : EReal → EReal) (zu : Fin 1024 → EReal) (zv : Fin 128 → Fin 1024 → EReal) (lg lb : Fin 1024 → EReal) (w : Fin 8 → Fin 128 → EReal)
    (b : Fin 8 → EReal) (q : Fin 1024) : EReal :=
  φ (zu q) * ((∑ s, w (hd q) s * ln (fun k => φ (zv s k)) lg lb q) + b (hd q))

theorem cat_apply (f : Fin 8 → (S128x128.Idx → Ideal .f32)) (p : Fin 128) (q : Fin 1024) :
    concatenate S128x1024 1 [⟨S128x128, f 0⟩, ⟨S128x128, f 1⟩, ⟨S128x128, f 2⟩, ⟨S128x128, f 3⟩, ⟨S128x128, f 4⟩, ⟨S128x128, f 5⟩,
      ⟨S128x128, f 6⟩, ⟨S128x128, f 7⟩] concatenates_S128x128_S128x128_S128x128_S128x128_S128x128_S128x128_S128x128_S128x128_S128x1024_d1 (ix2 p q)
      = f (hd q) (ix2 p (dm q)) := by
  refine Idealize.ShloMosaic.concatenate_ofFn_apply (s₁ := S128x128) (1 : Fin S128x1024.rank) f
    concatenates_S128x128_S128x128_S128x128_S128x128_S128x128_S128x128_S128x128_S128x128_S128x1024_d1 rfl 128 rfl (ix2 p q) (hd q) rfl (ix2 p (dm q)) rfl ?_
  intro b hb
  match b with
  | ⟨0, _⟩ => rfl
  | ⟨1, _⟩ => exact absurd rfl hb

/-- A head's product with its weight, with its bias. -/
def head (V : FVec Ideal S128x1024 .bf16) (w : Vec Ideal S1x128x128 .bf16) (b : Vec Ideal S1x128x128 .f32) (h : Fin 8) (i : S128x128.Idx) : Ideal .f32 :=
  ((∑ s : Fin 128, w (ix3 (0 : Fin 1) (i 0) s) * V (ix2 s (⟨128 * h.val + (i 1).val, by have : (i 1).val < 128 := (i 1).isLt; omega⟩ : Fin 1024)))
    + b (ix3 (0 : Fin 1) (i 0) (i 1)) : EReal)

theorem vhat_apply (zv : Vec Ideal S128x1024 .f32) (lg lb : Vec Ideal S1x1024 .f32) (s : Fin 128) (k : Fin 1024) :
    vhat zv lg lb (ix2 s k)
      = ln (fun k => geluK (zv (ix2 s k))) (fun k => lg (ix2 (0 : Fin 1) k)) (fun k => lb (ix2 (0 : Fin 1) k)) k := by
  unfold vhat k0_pay6 k0_pay1 k0_pay2 k0_pay5 k0_pay4; pointwise; rfl

theorem pay3_apply (zu : Vec Ideal S128x1024 .f32) (s : Fin 128) (k : Fin 1024) : k0_pay3 zu (ix2 s k) = geluK (zu (ix2 s k)) := by
  unfold k0_pay3; pointwise; rfl

theorem pay7_eq (zv : Vec Ideal S128x1024 .f32) (lg lb : Vec Ideal S1x1024 .f32) (w : Vec Ideal S1x128x128 .bf16) (b : Vec Ideal S1x128x128 .f32) :
    k0_pay7 (k0_pay1 lg) (k0_pay2 lb) (k0_pay4 zv) (k0_pay5 zv) (Scalar.ofBits .f32 0x44800000#32) w b = head (vhat zv lg lb) w b 0 := by
  have hv : k0_pay6 (k0_pay1 lg) (k0_pay2 lb) (k0_pay4 zv) (k0_pay5 zv) (Scalar.ofBits .f32 0x44800000#32) = vhat zv lg lb := rfl
  unfold k0_pay7; rw [hv]; generalize vhat zv lg lb = V
  funext i; rw [eq_ix2 i]; pointwise
  refine congrArg (· + _) (Finset.sum_congr rfl fun s _ => congrArg (_ * ·) (congrArg V (congrArg (ix2 s) (Fin.ext (Nat.zero_add _).symm))))

theorem pay8_eq (zv : Vec Ideal S128x1024 .f32) (lg lb : Vec Ideal S1x1024 .f32) (w : Vec Ideal S1x128x128 .bf16) (b : Vec Ideal S1x128x128 .f32) :
    k0_pay8 (k0_pay1 lg) (k0_pay2 lb) (k0_pay4 zv) (k0_pay5 zv) (Scalar.ofBits .f32 0x44800000#32) w b = head (vhat zv lg lb) w b 1 := by
  have hv : k0_pay6 (k0_pay1 lg) (k0_pay2 lb) (k0_pay4 zv) (k0_pay5 zv) (Scalar.ofBits .f32 0x44800000#32) = vhat zv lg lb := rfl
  unfold k0_pay8; rw [hv]; generalize vhat zv lg lb = V
  funext i; rw [eq_ix2 i]; pointwise; rfl

theorem pay9_eq (zv : Vec Ideal S128x1024 .f32) (lg lb : Vec Ideal S1x1024 .f32) (w : Vec Ideal S1x128x128 .bf16) (b : Vec Ideal S1x128x128 .f32) :
    k0_pay9 (k0_pay1 lg) (k0_pay2 lb) (k0_pay4 zv) (k0_pay5 zv) (Scalar.ofBits .f32 0x44800000#32) w b = head (vhat zv lg lb) w b 2 := by
  have hv : k0_pay6 (k0_pay1 lg) (k0_pay2 lb) (k0_pay4 zv) (k0_pay5 zv) (Scalar.ofBits .f32 0x44800000#32) = vhat zv lg lb := rfl
  unfold k0_pay9; rw [hv]; generalize vhat zv lg lb = V
  funext i; rw [eq_ix2 i]; pointwise; rfl

section
variable (V : FVec Ideal S128x1024 .bf16) (w : Vec Ideal S1x128x128 .bf16) (b : Vec Ideal S1x128x128 .f32)

theorem pay11_eq : k0_pay11 V (k0_pay10 w) b = head V w b 3 := by
  funext i; rw [eq_ix2 i]; unfold k0_pay11 k0_pay10; pointwise; rfl
theorem pay12_eq : k0_pay12 V w b = head V w b 4 := by
  funext i; rw [eq_ix2 i]; unfold k0_pay12; pointwise; rfl
theorem pay13_eq : k0_pay13 V w b = head V w b 5 := by
  funext i; rw [eq_ix2 i]; unfold k0_pay13; pointwise; rfl
theorem pay14_eq : k0_pay14 V w b = head V w b 6 := by
  funext i; rw [eq_ix2 i]; unfold k0_pay14; pointwise; rfl
theorem pay15_eq : addf (k0_pay15 V w) (shapeCast S128x128 b shapeCasts_S1x128x128_S128x128 : FVec Ideal S128x128 .f32) = head V w b 7 := by
  funext i; rw [eq_ix2 i]; unfold k0_pay15; pointwise; rfl
end

theorem pay16_apply (u : FVec Ideal S128x1024 .f32) (f : Fin 8 → (S128x128.Idx → Ideal .f32)) (v : FVec Ideal S128x128 .f32) (b : Vec Ideal S1x128x128 .f32)
    (go : Vec Ideal S1x1024 .f32) (h7 : addf v (shapeCast S128x128 b shapeCasts_S1x128x128_S128x128 : FVec Ideal S128x128 .f32) = f 7) (p : Fin 128) (q : Fin 1024) :
    k0_pay16 u (f 0) (f 1) (f 2) (f 3) (f 4) (f 5) (f 6) v b go (ix2 p q)
      = ((u (ix2 p q) * f (hd q) (ix2 p (dm q))) * rms (fun k => u (ix2 p k) * f (hd k) (ix2 p (dm k))) * go (ix2 (0 : Fin 1) q) : EReal) := by
  have hc : concatenate S128x1024 1 [⟨S128x128, f 0⟩, ⟨S128x128, f 1⟩, ⟨S128x128, f 2⟩, ⟨S128x128, f 3⟩, ⟨S128x128, f 4⟩, ⟨S128x128, f 5⟩,
      ⟨S128x128, f 6⟩, ⟨S128x128, f 7⟩] concatenates_S128x128_S128x128_S128x128_S128x128_S128x128_S128x128_S128x128_S128x128_S128x1024_d1
      = fun i : S128x1024.Idx => f (hd (i 1)) (ix2 (i 0) (dm (i 1))) := by
    funext i; rw [eq_ix2 i]; exact cat_apply f _ _
  unfold k0_pay16
  dsimp only
  rw [h7, hc]
  pointwise; rfl

/-- What the body stores for a chunk, at an index. -/
theorem chunk_apply (zu zv : Vec Ideal S128x1024 .f32) (lg lb : Vec Ideal S1x1024 .f32) (w : Fin 8 → Vec Ideal S1x128x128 .bf16)
    (b : Fin 8 → Vec Ideal S1x128x128 .f32) (go : Vec Ideal S1x1024 .f32) (p : Fin 128) (q : Fin 1024) (bb : Fin 8 → EReal)
    (hb : ∀ h d, b h (ix3 (0 : Fin 1) p d) = bb h) :
    chunk zu zv lg lb w b go (ix2 p q)
      = (gate geluK (fun k => zu (ix2 p k)) (fun s k => zv (ix2 s k)) (fun k => lg (ix2 (0 : Fin 1) k)) (fun k => lb (ix2 (0 : Fin 1) k))
            (fun h s => w h (ix3 (0 : Fin 1) p s)) bb q
          * rms (gate geluK (fun k => zu (ix2 p k)) (fun s k => zv (ix2 s k)) (fun k => lg (ix2 (0 : Fin 1) k)) (fun k => lb (ix2 (0 : Fin 1) k))
            (fun h s => w h (ix3 (0 : Fin 1) p s)) bb)
          * go (ix2 (0 : Fin 1) q) : EReal) := by
  have hg : ∀ k : Fin 1024, ((k0_pay3 zu) (ix2 p k) * head (vhat zv lg lb) (w (hd k)) (b (hd k)) (hd k) (ix2 p (dm k)) : EReal)
      = gate geluK (fun k => zu (ix2 p k)) (fun s k => zv (ix2 s k)) (fun k => lg (ix2 (0 : Fin 1) k)) (fun k => lb (ix2 (0 : Fin 1) k))
            (fun h s => w h (ix3 (0 : Fin 1) p s)) bb k := by
    intro k
    refine congrArg₂ (· * ·) (pay3_apply zu p k) (congrArg₂ (· + ·) (Finset.sum_congr rfl fun s _ => congrArg₂ (· * ·) rfl ?_) (hb _ _))
    refine (congrArg (fun k => vhat zv lg lb (ix2 s k)) (Fin.ext (Nat.div_add_mod k.val 128))).trans (vhat_apply zv lg lb s k)
  unfold chunk
  rw [pay7_eq, pay8_eq, pay9_eq, pay11_eq, pay12_eq, pay13_eq, pay14_eq]
  refine (pay16_apply _ (fun h => head (vhat zv lg lb) (w h) (b h) h) _ _ _ (pay15_eq _ _ _) p q).trans ?_
  simp only [hg]

/-! ## The blocks -/

/-- Where each window stands at grid point `t`. -/
theorem idx_ : ∀ t : Fin cfg0.N,
    win0_0.index t = ![t.val, 1] ∧ win0_1.index t = ![t.val, 2] ∧ win0_2.index t = ![0, 0] ∧ win0_3.index t = ![0, 0]
    ∧ win0_4.index t = ![0, 0, 0] ∧ win0_5.index t = ![0, 0, 0] ∧ win0_6.index t = ![0, 0] ∧ win0_7.index t = ![t.val, 1] := by
  decide +kernel

theorem lt16 (t : Fin cfg0.N) : t.val < 16 := t.isLt.trans_eq N_0

/-- The row of the array that row `p` of the tile at grid point `t` is. -/
def row (t : Fin cfg0.N) (p : Fin 512) : Fin 8192 := ⟨t.val * 512 + p.val, by have := lt16 t; omega⟩

/-- The arguments by name: the feed-forward's wide array, the mixers' output, the layer norm's gain and bias, the mixing weights and
    their bias, the norm's gain. -/
def Z : S8192x3072.Idx → Ideal .f32 := m ((c.tc : Thread nD τ).loc main_arg0)
def MX : S8192x2048.Idx → Ideal .f32 := m ((c.tc : Thread nD τ).loc main_arg1)
def LG : S1024.Idx → Ideal .f32 := m ((c.tc : Thread nD τ).loc main_arg2)
def LB : S1024.Idx → Ideal .f32 := m ((c.tc : Thread nD τ).loc main_arg3)
def WS : S8x128x128.Idx → Ideal .f32 := m ((c.tc : Thread nD τ).loc main_arg4)
def BS : S8x128.Idx → Ideal .f32 := m ((c.tc : Thread nD τ).loc main_arg5)
def GO : S1024.Idx → Ideal .f32 := m ((c.tc : Thread nD τ).loc main_arg6)

theorem iblk_0 (t : Fin cfg0.N) (p : Fin 512) (k : Fin 1024) :
    iblk m c 0 t (ix2 p k) = Z m c (ix2 (row t p) (⟨1024 + k.val, by omega⟩ : Fin 3072)) := by
  obtain ⟨e0, e1, e2, e3, e4, e5, e6, e7⟩ := idx_ t
  blk_simp [iblk, e0]; entry_read; pointwise; unfold Z row; blk_ext [e0]
theorem iblk_1 (t : Fin cfg0.N) (p : Fin 512) (k : Fin 1024) :
    iblk m c 1 t (ix2 p k) = Z m c (ix2 (row t p) (⟨1024 + (1024 + k.val), by omega⟩ : Fin 3072)) := by
  obtain ⟨e0, e1, e2, e3, e4, e5, e6, e7⟩ := idx_ t
  blk_simp [iblk, e1]; entry_read; pointwise; unfold Z row; blk_ext [e1]
/-! What the region finds in the buffers that the host fills. -/

theorem V_6 : V m c main_v11 = truncf .bf16 (MX m c : FVec Ideal S8192x2048 .f32) bitsLt_bf16_f32 := by
  unfold V
  simp only [hostOps0, hostOps0_1, hostOps0_2, hostOps0_3, hostOps0_4, List.flatten_cons, List.flatten_nil, List.append_nil, List.cons_append, List.nil_append]
  after_results
  rfl
theorem V_7 : V m c main_v7 = shapeCast S1x1024 (LG m c) shapeCasts_S1024_S1x1024 := by
  unfold V
  simp only [hostOps0, hostOps0_1, hostOps0_2, hostOps0_3, hostOps0_4, List.flatten_cons, List.flatten_nil, List.append_nil, List.cons_append, List.nil_append]
  after_results
  rfl
theorem V_8 : V m c main_v8 = shapeCast S1x1024 (LB m c) shapeCasts_S1024_S1x1024 := by
  unfold V
  simp only [hostOps0, hostOps0_1, hostOps0_2, hostOps0_3, hostOps0_4, List.flatten_cons, List.flatten_nil, List.append_nil, List.cons_append, List.nil_append]
  after_results
  rfl
theorem V_10 : V m c main_v10 = shapeCast S1x1024 (GO m c) shapeCasts_S1024_S1x1024 := by
  unfold V
  simp only [hostOps0, hostOps0_1, hostOps0_2, hostOps0_3, hostOps0_4, List.flatten_cons, List.flatten_nil, List.append_nil, List.cons_append, List.nil_append]
  after_results
  rfl
theorem V_5 : V m c main_v5 = broadcastInDim S8x128x128 ![0, 1, 2] bcast_S8x128x1_S8x128x128_0_1_2
    (broadcastInDim S8x128x1 ![0, 1] bcast_S8x128_S8x128x1_0_1 (BS m c)) := by
  unfold V
  simp only [hostOps0, hostOps0_1, hostOps0_2, hostOps0_3, hostOps0_4, List.flatten_cons, List.flatten_nil, List.append_nil, List.cons_append, List.nil_append]
  after_results
  rfl
/-- The weight with its upper triangle cleared. -/
theorem V_9 : V m c main_v9 = truncf .bf16 (select (broadcastInDim S8x128x128 ![0, 1, 2] bcast_S1x128x128_S8x128x128_0_1_2
      (broadcastInDim S1x128x128 ![1, 2] bcast_S128x128_S1x128x128_1_2
        (select (cmpi .sge (addi (iotaInDim S128x128 32 0) (broadcastInDim S128x128 ![] bcast_S_S128x128 (constantI S_ 32 0#32))) (iotaInDim S128x128 32 1))
          (broadcastInDim S128x128 ![] bcast_S_S128x128 (constantI S_ 1 1#1)) (broadcastInDim S128x128 ![] bcast_S_S128x128 (constantI S_ 1 0#1)))))
      (WS m c : FVec Ideal S8x128x128 .f32) (broadcastInDim S8x128x128 ![] bcast_S_S8x128x128 (constant S_ .f32 0x00000000#32))) bitsLt_bf16_f32 := by
  unfold V
  simp only [hostOps0, hostOps0_1, hostOps0_2, hostOps0_3, hostOps0_4, List.flatten_cons, List.flatten_nil, List.append_nil, List.cons_append, List.nil_append]
  after_results
  rfl

/-- The weight with its upper triangle cleared, at an index. -/
def WT (h : Fin 8) (p s : Fin 128) : EReal :=
  Scalar.select (Scalar.select (IntOp.cmpi CmpIPredicate.sge (IntOp.addi (BitVec.ofNat 32 p.val) 0#32) (BitVec.ofNat 32 s.val)) 1#1 0#1)
    (WS m c (ix3 h p s)) (0 : EReal)

theorem V_9_apply (h : Fin 8) (p s : Fin 128) : V m c main_v9 (ix3 h p s) = WT m c h p s := by
  rw [V_9]; pointwise; rfl

theorem iblk_2 (t : Fin cfg0.N) (k : Fin 1024) : iblk m c 2 t (ix2 (0 : Fin 1) k) = LG m c (ix1 k) := by
  obtain ⟨e0, e1, e2, e3, e4, e5, e6, e7⟩ := idx_ t
  blk_simp [iblk, e2]; rw [V_7]; pointwise; blk_ext [e2]
theorem iblk_3 (t : Fin cfg0.N) (k : Fin 1024) : iblk m c 3 t (ix2 (0 : Fin 1) k) = LB m c (ix1 k) := by
  obtain ⟨e0, e1, e2, e3, e4, e5, e6, e7⟩ := idx_ t
  blk_simp [iblk, e3]; rw [V_8]; pointwise; blk_ext [e3]
theorem iblk_5 (t : Fin cfg0.N) (h : Fin 8) (p d : Fin 128) : iblk m c 5 t (ix3 h p d) = BS m c (ix2 h p) := by
  obtain ⟨e0, e1, e2, e3, e4, e5, e6, e7⟩ := idx_ t
  blk_simp [iblk, e5]; rw [V_5]; pointwise; blk_ext [e5]
theorem iblk_6 (t : Fin cfg0.N) (k : Fin 1024) : iblk m c 6 t (ix2 (0 : Fin 1) k) = GO m c (ix1 k) := by
  obtain ⟨e0, e1, e2, e3, e4, e5, e6, e7⟩ := idx_ t
  blk_simp [iblk, e6]; rw [V_10]; pointwise; blk_ext [e6]
theorem iblk_4 (t : Fin cfg0.N) (h : Fin 8) (p s : Fin 128) : iblk m c 4 t (ix3 h p s) = WT m c h p s := by
  obtain ⟨e0, e1, e2, e3, e4, e5, e6, e7⟩ := idx_ t
  refine Eq.trans (b := V m c main_v9 (ix3 h p s)) ?_ (V_9_apply m c h p s)
  blk_simp [iblk, e4]; blk_ext [e4]

/-- Row `p` of the block's chunk `n`. -/
def crow (n : Fin 4) (p : Fin 128) : Fin 512 := ⟨128 * n.val + p.val, by omega⟩

/-- What the body leaves in its block at row `p`. -/
def blk (z1 z2 : Fin 512 → Fin 1024 → EReal) (lg lb go : Fin 1024 → EReal) (w : Fin 8 → Fin 128 → Fin 128 → EReal) (b : Fin 8 → Fin 128 → EReal)
    (p : Fin 512) (q : Fin 1024) : EReal :=
  gate geluK (z1 p) (fun s => z2 (crow ⟨p.val / 128, by omega⟩ s)) lg lb (fun h s => w h ⟨p.val % 128, by omega⟩ s) (fun h => b h ⟨p.val % 128, by omega⟩) q
    * rms (gate geluK (z1 p) (fun s => z2 (crow ⟨p.val / 128, by omega⟩ s)) lg lb (fun h s => w h ⟨p.val % 128, by omega⟩ s) (fun h => b h ⟨p.val % 128, by omega⟩))
    * go q

/-- A chunk of the block in the whole block's inputs. -/
theorem chunk_blk (n : Fin 4) (zu zv : Vec Ideal S128x1024 .f32) (lg lb : Vec Ideal S1x1024 .f32) (w : Fin 8 → Vec Ideal S1x128x128 .bf16)
    (b : Fin 8 → Vec Ideal S1x128x128 .f32) (go : Vec Ideal S1x1024 .f32)
    (z1 z2 : Fin 512 → Fin 1024 → EReal) (lg' lb' go' : Fin 1024 → EReal) (w' : Fin 8 → Fin 128 → Fin 128 → EReal) (b' : Fin 8 → Fin 128 → EReal)
    (h1 : ∀ p k, zu (ix2 p k) = z1 (crow n p) k) (h2 : ∀ p k, zv (ix2 p k) = z2 (crow n p) k) (h3 : ∀ k, lg (ix2 (0 : Fin 1) k) = lg' k)
    (h4 : ∀ k, lb (ix2 (0 : Fin 1) k) = lb' k) (h5 : ∀ h p s, w h (ix3 (0 : Fin 1) p s) = w' h p s)
    (h6 : ∀ h p d, b h (ix3 (0 : Fin 1) p d) = b' h p) (h7 : ∀ k, go (ix2 (0 : Fin 1) k) = go' k) (p : Fin 128) (q : Fin 1024) :
    chunk zu zv lg lb w b go (ix2 p q) = blk z1 z2 lg' lb' go' w' b' (crow n p) q := by
  have e1 : (⟨(crow n p).val / 128, by omega⟩ : Fin 4) = n := Fin.ext (by simp only [crow]; omega)
  have e2 : (⟨(crow n p).val % 128, by omega⟩ : Fin 128) = p := Fin.ext (by simp only [crow]; omega)
  rw [chunk_apply zu zv lg lb w b go p q (fun h => b' h p) (fun h d => h6 h p d)]
  unfold blk
  rw [e1, e2]
  simp only [h1, h2, h3, h4, h5, h7]

/-- A chunk's index in its block. -/
theorem ix_row (o : ℕ) (h : ∀ a, (![o, 0] : Fin 2 → ℕ) a + S128x1024.size a ≤ S512x1024.size a) (n : Fin 4) (hn : o = 128 * n.val) (p : Fin 128) (k : Fin 1024) :
    (Rect.unit (s := S512x1024) ![o, 0] S128x1024.size h).idx (ix2 p k) = ix2 (crow n p) k := by
  funext a; apply Fin.ext
  match a with
  | ⟨0, _⟩ => show o + 1 * p.val = 128 * n.val + p.val; omega
  | ⟨1, _⟩ => show 0 + 1 * k.val = k.val; omega

theorem ix_all (h : ∀ a, (![0, 0] : Fin 2 → ℕ) a + S1x1024.size a ≤ S1x1024.size a) (k : Fin 1024) :
    (Rect.unit (s := S1x1024) ![0, 0] S1x1024.size h).idx (ix2 (0 : Fin 1) k) = ix2 (0 : Fin 1) k := by
  funext a; apply Fin.ext
  match a with
  | ⟨0, _⟩ => rfl
  | ⟨1, _⟩ => show 0 + 1 * k.val = k.val; omega

theorem ix_head (h : Fin 8) (p s : Fin 128) :
    (Rect.unit (s := S8x128x128) ![h.val, 0, 0] S1x128x128.size (inb_h h)).idx (ix3 (0 : Fin 1) p s) = ix3 h p s := by
  funext a; apply Fin.ext
  match a with
  | ⟨0, _⟩ => show h.val + 1 * 0 = h.val; omega
  | ⟨1, _⟩ => show 0 + 1 * p.val = p.val; omega
  | ⟨2, _⟩ => show 0 + 1 * s.val = s.val; omega

/-- What the body leaves in its block. -/
theorem out_apply (i : grid0.Coords) (arg1 : Memref sig .tc .vmem S512x1024 .f32) (harg1 : arg1.IsWhole) (arg2 : Memref sig .tc .vmem S512x1024 .f32) (harg2 : arg2.IsWhole) (arg4 : Memref sig .tc .vmem S1x1024 .f32) (harg4 : arg4.IsWhole) (arg5 : Memref sig .tc .vmem S1x1024 .f32) (harg5 : arg5.IsWhole) (arg6 : Memref sig .tc .vmem S8x128x128 .bf16) (harg6 : arg6.IsWhole) (arg7 : Memref sig .tc .vmem S8x128x128 .f32) (harg7 : arg7.IsWhole) (arg8 : Memref sig .tc .vmem S1x1024 .f32) (harg8 : arg8.IsWhole) (arg9 : Memref sig .tc .vmem S512x1024 .bf16) (harg9 : arg9.IsWhole)
    (x0 : Vec Ideal S512x1024 .f32) (x1 : Vec Ideal S512x1024 .f32) (x2 : Vec Ideal S1x1024 .f32) (x3 : Vec Ideal S1x1024 .f32) (x4 : Vec Ideal S8x128x128 .bf16) (x5 : Vec Ideal S8x128x128 .f32) (x6 : Vec Ideal S1x1024 .f32)
    (b' : Fin 8 → Fin 128 → EReal) (hb : ∀ h p d, x5 (ix3 h p d) = b' h p) (y : S512x1024.Idx) :
    out0_A_7 (F := Ideal) c i arg1 harg1 arg2 harg2 arg4 harg4 arg5 harg5 arg6 harg6 arg7 harg7 arg8 harg8 arg9 harg9 x0 x1 x2 x3 x4 x5 x6 y
      = blk (fun p k => x0 (ix2 p k)) (fun p k => x1 (ix2 p k)) (fun k => x2 (ix2 (0 : Fin 1) k)) (fun k => x3 (ix2 (0 : Fin 1) k))
          (fun k => x6 (ix2 (0 : Fin 1) k)) (fun h p s => x4 (ix3 h p s)) b' (y 0) (y 1) := by
  have hcov := cover0_A_7 (F := Ideal) c i arg1 harg1 arg2 harg2 arg4 harg4 arg5 harg5 arg6 harg6 arg7 harg7 arg8 harg8 arg9 harg9 x0 x1 x2 x3 x4 x5 x6 y
  have key : ∀ (o : ℕ) (h : ∀ a, (![o, 0] : Fin 2 → ℕ) a + S128x1024.size a ≤ S512x1024.size a) (n : Fin 4) (hn : o = 128 * n.val) (x : S128x1024.Idx),
      chunk (arg1.view.readAt (Elt Ideal) (Rect.unit (s := S512x1024) ![o, 0] S128x1024.size h).toLoadRect (harg1.unread x0))
          (arg2.view.readAt (Elt Ideal) (Rect.unit (s := S512x1024) ![o, 0] S128x1024.size h).toLoadRect (harg2.unread x1))
          (arg4.view.readAt (Elt Ideal) (Rect.unit (s := S1x1024) ![0, 0] S1x1024.size inb_S1x1024_S1x1024_0_0).toLoadRect (harg4.unread x2))
          (arg5.view.readAt (Elt Ideal) (Rect.unit (s := S1x1024) ![0, 0] S1x1024.size inb_S1x1024_S1x1024_0_0).toLoadRect (harg5.unread x3))
          (fun h => arg6.view.readAt (Elt Ideal) (Rect.unit (s := S8x128x128) ![h.val, 0, 0] S1x128x128.size (inb_h h)).toLoadRect (harg6.unread x4))
          (fun h => arg7.view.readAt (Elt Ideal) (Rect.unit (s := S8x128x128) ![h.val, 0, 0] S1x128x128.size (inb_h h)).toLoadRect (harg7.unread x5))
          (arg8.view.readAt (Elt Ideal) (Rect.unit (s := S1x1024) ![0, 0] S1x1024.size inb_S1x1024_S1x1024_0_0).toLoadRect (harg8.unread x6)) x
        = (fun y : S512x1024.Idx => blk (fun p k => x0 (ix2 p k)) (fun p k => x1 (ix2 p k)) (fun k => x2 (ix2 (0 : Fin 1) k)) (fun k => x3 (ix2 (0 : Fin 1) k))
          (fun k => x6 (ix2 (0 : Fin 1) k)) (fun h p s => x4 (ix3 h p s)) b' (y 0) (y 1))
            ((Rect.unit (s := S512x1024) ![o, 0] S128x1024.size h).emb x) := by
    intro o h n hn x
    obtain ⟨p, q, rfl⟩ : ∃ (p : Fin 128) (q : Fin 1024), x = ix2 p q := ⟨x 0, x 1, eq_ix2 x⟩
    rw [show (Rect.unit (s := S512x1024) ![o, 0] S128x1024.size h).emb (ix2 p q) = ix2 (crow n p) q from ix_row o h n hn p q]
    refine chunk_blk n _ _ _ _ _ _ _ _ _ _ _ _ _ _ ?_ ?_ ?_ ?_ ?_ ?_ ?_ p q
    · intro p k; rw [View.readAt_apply, harg1.read_unread]; exact congrArg x0 (ix_row o h n hn p k)
    · intro p k; rw [View.readAt_apply, harg2.read_unread]; exact congrArg x1 (ix_row o h n hn p k)
    · intro k; rw [View.readAt_apply, harg4.read_unread]; exact congrArg x2 (ix_all _ k)
    · intro k; rw [View.readAt_apply, harg5.read_unread]; exact congrArg x3 (ix_all _ k)
    · intro h p s; rw [View.readAt_apply, harg6.read_unread]; exact congrArg x4 (ix_head h p s)
    · intro h p d; rw [View.readAt_apply, harg7.read_unread]; exact (congrArg x5 (ix_head h p d)).trans (hb h p d)
    · intro k; rw [View.readAt_apply, harg8.read_unread]; exact congrArg x6 (ix_all _ k)
  unfold out0_A_7
  rw [pieces, chunk'_eq, chunk'_eq] at hcov ⊢
  refine View.read_writes_apply_of_pieces (v := VO0_7) (f := VO0_7.junk) (fun y : S512x1024.Idx => blk (fun p k => x0 (ix2 p k)) (fun p k => x1 (ix2 p k)) (fun k => x2 (ix2 (0 : Fin 1) k)) (fun k => x3 (ix2 (0 : Fin 1) k))
          (fun k => x6 (ix2 (0 : Fin 1) k)) (fun h p s => x4 (ix3 h p s)) b' (y 0) (y 1)) _ ?_ y hcov
  intro pc hpc
  rcases List.mem_cons.mp hpc with h | h
  · subst h; exact key 384 inb_S512x1024_S128x1024_384_0 3 rfl
  rcases List.mem_cons.mp h with h | h
  · subst h; exact key 256 inb_S512x1024_S128x1024_256_0 2 rfl
  rcases List.mem_cons.mp h with h | h
  · subst h; exact key 128 inb_S512x1024_S128x1024_128_0 1 rfl
  rcases List.mem_singleton.mp h with h
  subst h; exact key 0 inb_S512x1024_S128x1024_0_0 0 rfl

/-- Row `s` of the chunk of 128 rows that holds row `i`. -/
def srow (i : Fin 8192) (s : Fin 128) : Fin 8192 := ⟨i.val / 128 * 128 + s.val, by omega⟩
/-- Row `i`'s place in its chunk. -/
def pm (i : Fin 8192) : Fin 128 := ⟨i.val % 128, by omega⟩

/-- A row before the norm, in the kernel's spelling of gelu or the reference's. -/
def pre (φ : EReal → EReal) (i : Fin 8192) : Fin 1024 → EReal :=
  gate φ (fun k => Z m c (ix2 i (⟨1024 + k.val, by omega⟩ : Fin 3072))) (fun s k => Z m c (ix2 (srow i s) (⟨1024 + (1024 + k.val), by omega⟩ : Fin 3072)))
    (fun k => LG m c (ix1 k)) (fun k => LB m c (ix1 k)) (fun h s => WT m c h (pm i) s) (fun h => BS m c (ix2 h (pm i)))

/-- The mixers' output at its second half. -/
def half (φ : EReal → EReal) (i : Fin 8192) (q : Fin 1024) : EReal := pre m c φ i q * rms (pre m c φ i) * GO m c (ix1 q)

theorem half_eq (i : Fin 8192) (q : Fin 1024) : half m c geluK i q = half m c gelu i q := by
  rw [show geluK = gelu from funext gelu_eq]

/-- A row before the norm, as the reference has it: each product with a weight is cleared above the diagonal. -/
def preR (i : Fin 8192) (q : Fin 1024) : EReal :=
  gelu (Z m c (ix2 i (⟨1024 + q.val, by omega⟩ : Fin 3072)))
    * ((∑ s, Scalar.select (Scalar.select (IntOp.cmpi CmpIPredicate.sge (IntOp.addi (BitVec.ofNat 32 (pm i).val) 0#32) (BitVec.ofNat 32 s.val)) 1#1 0#1)
          (ln (fun k => gelu (Z m c (ix2 (srow i s) (⟨1024 + (1024 + k.val), by omega⟩ : Fin 3072)))) (fun k => LG m c (ix1 k)) (fun k => LB m c (ix1 k)) q
            * WS m c (ix3 (hd q) (pm i) s)) (0 : EReal))
      + BS m c (ix2 (hd q) (pm i)))

theorem select_mul (c : BitVec 1) (a w : EReal) : Scalar.select c (a * w) 0 = Scalar.select c w 0 * a := by
  unfold Scalar.select
  split
  · exact mul_comm a w
  · exact (zero_mul a).symm

theorem preR_eq (i : Fin 8192) : preR m c i = pre m c gelu i := by
  funext q
  exact congrArg (_ * ·) (congrArg (· + _) (Finset.sum_congr rfl fun s _ => select_mul _ _ _))

/-- The mixers' output. -/
def Out (i : Fin 8192) (q : Fin 2048) : EReal :=
  if h : q.val < 1024 then MX m c (ix2 i q) else half m c gelu i ⟨q.val - 1024, by omega⟩

theorem blk_row (t : Fin cfg0.N) (p : Fin 512) (q : Fin 1024) :
    blk (fun p k => iblk m c 0 t (ix2 p k)) (fun p k => iblk m c 1 t (ix2 p k)) (fun k => iblk m c 2 t (ix2 (0 : Fin 1) k))
        (fun k => iblk m c 3 t (ix2 (0 : Fin 1) k)) (fun k => iblk m c 6 t (ix2 (0 : Fin 1) k)) (fun h p s => iblk m c 4 t (ix3 h p s))
        (fun h p => BS m c (ix2 h p)) p q
      = half m c gelu (row t p) q := by
  have e1 : ∀ s, row t (crow ⟨p.val / 128, by omega⟩ s) = srow (row t p) s := fun s => Fin.ext (by simp only [row, crow, srow]; omega)
  have e2 : (⟨p.val % 128, by omega⟩ : Fin 128) = pm (row t p) := Fin.ext (by simp only [row, pm]; omega)
  rw [← half_eq]
  unfold blk half pre
  simp only [iblk_0, iblk_1, iblk_2, iblk_3, iblk_4, iblk_6, e1, e2]

/-- The result in the arguments. -/
theorem arr_7 : (dats m 0 c).arrAt 7 cfg0.N = fun i : S8192x2048.Idx => Out m c (i 0) (i 1) := by
  have h : (dats m 0 c).arrAt 7 cfg0.N
      = fun i : S8192x2048.Idx => if (i 1 : ℕ) / 1024 = 1 then half m c gelu (i 0) ⟨(i 1 : ℕ) % 1024, Nat.mod_lt _ (by norm_num)⟩
        else (dats m 0 c).A 7 i := by
    refine (dats m 0 c).arrAt_eq_of_coversWhere 7
      (fun i : S8192x2048.Idx => half m c gelu (i 0) ⟨(i 1 : ℕ) % 1024, Nat.mod_lt _ (by norm_num)⟩)
      (fun β => β (1 : Fin 2) = 1) (by decide +kernel) (fun t hf y => ?_) (fun j => Iff.rfl)
    obtain ⟨e0, e1, e2, e3, e4, e5, e6, e7⟩ := idx_ t
    rw [after0_7]
    unfold outsAt0
    blk_simp
    obtain ⟨p, q, rfl⟩ : ∃ (p : Fin 512) (q : Fin 1024), y = ix2 p q := ⟨y 0, y 1, eq_ix2 y⟩
    refine (out_apply c _ _ _ _ _ _ _ _ _ _ _ _ _ _ _ _ _ _ _ _ _ _ _ _ (fun h p => BS m c (ix2 h p)) (fun h p d => iblk_5 m c t h p d) (ix2 p q)).trans ?_
    refine (blk_row m c t p q).trans (congrArg₂ (half m c gelu) (Fin.ext ?_) (Fin.ext ?_))
    · unfold row; blk_simp [e7]
    · blk_simp [e7]; exact (by omega : q.val = (1024 + q.val) % 1024)
  rw [h]
  funext i
  have hlt : (i 1).val < 2048 := (i 1).isLt
  show (if (i 1 : ℕ) / 1024 = 1 then _ else _) = _
  unfold Out
  by_cases hq : (i 1).val < 1024
  · rw [dif_pos hq, if_neg (by omega), A_eq]
    refine (congrFun (V_6 m c) i).trans ?_
    rw [eq_ix2 i]; pointwise
  · rw [dif_neg hq, if_pos (by omega)]
    exact congrArg _ (Fin.ext (by show (i 1).val % 1024 = (i 1).val - 1024; omega))

end Cert.Kernel13Ideal.Sgu

namespace Cert.Proof.Sgu

open Idealize.ShloMosaic Idealize.ShloMosaic.TcCoe
open Idealize.SL.Sem
open Cert.Proof.Gelu
open Cert.Kernel13Ideal.Sgu

/-- The constant that the kernel folds is the product that the reference takes. -/
theorem preserves : Cert.preserves_Kernel13_Kernel13Ideal :=
  IdealRules.named_const.statement Cert.Kernel13Ideal.κ "gelu_cubic" .f32 0x3D122279#32 ((80338380498831 / 2251799813685248 : ℝ) : EReal) rfl

end Cert.Proof.Sgu

end
-- ==== Proof.SguRef.lean ====
module

public import proofs.«01_k».proof.Defs
public import proofs.«01_k».proof.Proof.Gen.Reference13Ideal.Run
public import proofs.«01_k».proof.Proof.Sgu

@[expose] public section

set_option maxRecDepth 16384

noncomputable section

namespace Cert.Reference13Ideal.Sgu

open Idealize.ShloMosaic Idealize.ShloMosaic.TcCoe
open Idealize.SL.Sem
open Cert.Reference13Ideal Cert.Reference13Ideal.Gen
open Cert.Proof.Gelu
open Cert.Kernel13Ideal.Sgu (ln hd srow pm)

/-- Gelu of the columns that the gating unit takes. -/
def gArr (z : FVec Ideal S8192x3072 .f32) : FVec Ideal S8192x2048 .f32 :=
  let x := extractStridedSlice S8192x2048 ![0, 1024] z slices_S8192x3072_S8192x2048_0_1024
  mulf x (mulf (broadcastInDim S8192x2048 ![] bcast_S_S8192x2048 (constant S_ .f32 0x3F000000#32))
    (addf (broadcastInDim S8192x2048 ![] bcast_S_S8192x2048 (constant S_ .f32 0x3F800000#32))
      (Host.tanh (mulf (broadcastInDim S8192x2048 ![] bcast_S_S8192x2048 (constant S_ .f32 0x3F4C422A#32))
        (addf x (mulf (broadcastInDim S8192x2048 ![] bcast_S_S8192x2048 (constant S_ .f32 0x3D372713#32)) (mulf (mulf x x) x)))))))

/-- The mean of each row, in each of its columns. -/
def mArr (x : FVec Ideal S8192x1024 .f32) : FVec Ideal S8192x1 .f32 :=
  Host.divf (broadcastInDim S8192x1 ![0] bcast_S8192_S8192x1_0
    (Host.reduceAdd x (constant S_ .f32 0x00000000#32) reducesTo_S8192x1024_S8192_d1 h_S_))
    (broadcastInDim S8192x1 ![] bcast_S_S8192x1 (constant S_ .f32 0x44800000#32))

/-- The inverse root of each row's mean square. -/
def rArr (x : FVec Ideal S8192x1024 .f32) : FVec Ideal S8192x1024 .f32 :=
  broadcastInDim S8192x1024 ![0, 1] bcast_S8192x1_S8192x1024_0_1
    (Host.rsqrt (addf (mArr (mulf x x)) (broadcastInDim S8192x1 ![] bcast_S_S8192x1 (constant S_ .f32 0x358637BD#32))))

/-- Rows with their mean taken away. -/
def cArr (x : FVec Ideal S8192x1024 .f32) : FVec Ideal S8192x1024 .f32 :=
  subf x (broadcastInDim S8192x1024 ![0, 1] bcast_S8192x1_S8192x1024_0_1 (mArr x))

/-- A vector along every row. -/
def along (x : FVec Ideal S1024 .f32) : FVec Ideal S8192x1024 .f32 :=
  broadcastInDim S8192x1024 ![0, 1] bcast_S1x1024_S8192x1024_0_1 (broadcastInDim S1x1024 ![1] bcast_S1024_S1x1024_1 x)

/-- The normalised gate. -/
def vArr (x : FVec Ideal S8192x1024 .f32) (lg lb : FVec Ideal S1024 .f32) : FVec Ideal S8192x1024 .f32 :=
  addf (mulf (mulf (cArr x) (rArr (cArr x))) (along lg)) (along lb)

/-- The weights, cleared above the diagonal. -/
def wArr (ws : FVec Ideal S8x128x128 .f32) : FVec Ideal S8x128x128 .f32 :=
  select (broadcastInDim S8x128x128 ![0, 1, 2] bcast_S1x128x128_S8x128x128_0_1_2 (broadcastInDim S1x128x128 ![1, 2] bcast_S128x128_S1x128x128_1_2
    (select (cmpi .sge (addi (iotaInDim S128x128 32 0) (broadcastInDim S128x128 ![] bcast_S_S128x128 (constantI S_ 32 0#32))) (iotaInDim S128x128 32 1))
      (broadcastInDim S128x128 ![] bcast_S_S128x128 (constantI S_ 1 1#1)) (broadcastInDim S128x128 ![] bcast_S_S128x128 (constantI S_ 1 0#1)))))
    ws (broadcastInDim S8x128x128 ![] bcast_S_S8x128x128 (constant S_ .f32 0x00000000#32))

/-- The mixed gate. -/
def xArr (v : FVec Ideal S8192x1024 .f32) (w : FVec Ideal S8x128x128 .f32) (bs : FVec Ideal S8x128 .f32) : FVec Ideal S8192x1024 .f32 :=
  shapeCast _ (addf (transpose S64x128x8x128 [1, 3, 0, 2] (Host.dotGeneral dot_S64x128x8x128_S8x128x128_S8x64x128x128_1_2_03_1_2_0 none
      (shapeCast S64x128x8x128 v shapeCasts_S8192x1024_S64x128x8x128) w) transposes_S8x64x128x128_S64x128x8x128_1_3_0_2)
    (broadcastInDim S64x128x8x128 ![0, 1, 2, 3] bcast_S1x128x8x1_S64x128x8x128_0_1_2_3 (broadcastInDim S1x128x8x1 ![1, 2, 3] bcast_S128x8x1_S1x128x8x1_1_2_3
      (broadcastInDim S128x8x1 ![0, 1] bcast_S128x8_S128x8x1_0_1 (transpose S128x8 [1, 0] bs transposes_S8x128_S128x8_1_0)))))
    shapeCasts_S64x128x8x128_S8192x1024

/-- The gated values. -/
def yArr (g : FVec Ideal S8192x2048 .f32) (lg lb : FVec Ideal S1024 .f32) (ws : FVec Ideal S8x128x128 .f32) (bs : FVec Ideal S8x128 .f32) :
    FVec Ideal S8192x1024 .f32 :=
  mulf (extractStridedSlice S8192x1024 ![0, 0] g slices_S8192x2048_S8192x1024_0_0)
    (xArr (vArr (extractStridedSlice S8192x1024 ![0, 1024] g slices_S8192x2048_S8192x1024_0_1024) lg lb) (wArr ws) bs)

/-- Both halves of the mixers' outputs. -/
def oArr (mx : FVec Ideal S8192x2048 .f32) (y : FVec Ideal S8192x1024 .f32) (go : FVec Ideal S1024 .f32) : FVec Ideal S8192x2048 .bf16 :=
  truncf .bf16 (concatenate S8192x2048 1 [⟨S8192x1024, extractStridedSlice S8192x1024 ![0, 0] mx slices_S8192x2048_S8192x1024_0_0⟩,
    ⟨S8192x1024, mulf (mulf y (rArr y)) (along go)⟩] concatenates_S8192x1024_S8192x1024_S8192x2048_d1) bitsLt_bf16_f32

theorem res_eq (m : (ℓ : Loc nD τ sig) → Buf (Elt Ideal) ℓ) (c : Dev nD) :
    Value.res_main_v70 m c = oArr (m ((c.tc : Thread nD τ).loc main_arg1)) (yArr (gArr (m ((c.tc : Thread nD τ).loc main_arg0)))
      (m ((c.tc : Thread nD τ).loc main_arg2)) (m ((c.tc : Thread nD τ).loc main_arg3)) (m ((c.tc : Thread nD τ).loc main_arg4))
      (m ((c.tc : Thread nD τ).loc main_arg5))) (m ((c.tc : Thread nD τ).loc main_arg6)) := by
  unfold Value.res_main_v70 oArr yArr gArr xArr vArr wArr along cArr rArr mArr
  rfl

theorem gArr_apply (z : FVec Ideal S8192x3072 .f32) (i : Fin 8192) (k : Fin 2048) :
    gArr z (ix2 i k) = gelu (z (ix2 i (⟨1024 + k.val, by omega⟩ : Fin 3072))) := by
  unfold gArr; pointwise; rfl

theorem mArr_apply (x : FVec Ideal S8192x1024 .f32) (i : Fin 8192) :
    mArr x (ix2 i (0 : Fin 1)) = Ideal.div (∑ k : Fin 1024, x (ix2 i k)) (Ideal.ofBits .f32 0x44800000#32) := by
  unfold mArr; pointwise

theorem cArr_apply (x : FVec Ideal S8192x1024 .f32) (i : Fin 8192) (k : Fin 1024) :
    cArr x (ix2 i k) = x (ix2 i k) - Ideal.div (∑ k : Fin 1024, x (ix2 i k)) (Ideal.ofBits .f32 0x44800000#32) := by
  unfold cArr mArr; pointwise

theorem rArr_apply (x : FVec Ideal S8192x1024 .f32) (i : Fin 8192) (k : Fin 1024) :
    rArr x (ix2 i k) = rms (fun k => x (ix2 i k)) := by
  unfold rArr mArr; pointwise; rfl

theorem along_apply (x : FVec Ideal S1024 .f32) (i : Fin 8192) (k : Fin 1024) : along x (ix2 i k) = x (ix1 k) := by
  unfold along; pointwise

theorem vArr_apply (x : FVec Ideal S8192x1024 .f32) (lg lb : FVec Ideal S1024 .f32) (i : Fin 8192) (k : Fin 1024) :
    vArr x lg lb (ix2 i k) = ln (fun k => x (ix2 i k)) (fun k => lg (ix1 k)) (fun k => lb (ix1 k)) k := by
  show cArr x (ix2 i k) * rArr (cArr x) (ix2 i k) * along lg (ix2 i k) + along lb (ix2 i k) = _
  rw [rArr_apply, along_apply, along_apply]
  simp only [cArr_apply]
  rfl

theorem xArr_apply (v : FVec Ideal S8192x1024 .f32) (w : FVec Ideal S8x128x128 .f32) (bs : FVec Ideal S8x128 .f32) (i : Fin 8192) (q : Fin 1024) :
    xArr v w bs (ix2 i q) = (∑ s : Fin 128, v (ix2 (srow i s) q) * w (ix3 (hd q) (pm i) s)) + bs (ix2 (hd q) (pm i)) := by
  unfold xArr; pointwise
  rfl

theorem wArr_apply (ws : FVec Ideal S8x128x128 .f32) (h : Fin 8) (t s : Fin 128) :
    wArr ws (ix3 h t s) = Scalar.select (Scalar.select (IntOp.cmpi CmpIPredicate.sge (IntOp.addi (BitVec.ofNat 32 t.val) 0#32) (BitVec.ofNat 32 s.val)) 1#1 0#1)
      (ws (ix3 h t s)) (0 : EReal) := by
  unfold wArr; pointwise

theorem mul_select (c : BitVec 1) (a w : EReal) : a * Scalar.select c w 0 = Scalar.select c (a * w) 0 := by
  unfold Scalar.select
  split
  · rfl
  · exact mul_zero a

theorem yArr_apply (g : FVec Ideal S8192x2048 .f32) (lg lb : FVec Ideal S1024 .f32) (ws : FVec Ideal S8x128x128 .f32) (bs : FVec Ideal S8x128 .f32)
    (i : Fin 8192) (q : Fin 1024) :
    yArr g lg lb ws bs (ix2 i q) = g (ix2 i (⟨q.val, by omega⟩ : Fin 2048))
      * ((∑ s : Fin 128, Scalar.select (Scalar.select (IntOp.cmpi CmpIPredicate.sge (IntOp.addi (BitVec.ofNat 32 (pm i).val) 0#32) (BitVec.ofNat 32 s.val)) 1#1 0#1)
          (ln (fun k => g (ix2 (srow i s) (⟨1024 + k.val, by omega⟩ : Fin 2048))) (fun k => lg (ix1 k)) (fun k => lb (ix1 k)) q * ws (ix3 (hd q) (pm i) s))
          (0 : EReal)) + bs (ix2 (hd q) (pm i))) := by
  have hv : ∀ s k, extractStridedSlice S8192x1024 ![0, 1024] g slices_S8192x2048_S8192x1024_0_1024 (ix2 s k)
      = g (ix2 s (⟨1024 + k.val, by omega⟩ : Fin 2048)) := fun s k => by pointwise
  have hu : extractStridedSlice S8192x1024 ![0, 0] g slices_S8192x2048_S8192x1024_0_0 (ix2 i q) = g (ix2 i (⟨q.val, by omega⟩ : Fin 2048)) := by pointwise
  refine congrArg₂ (· * ·) hu ((xArr_apply _ _ bs i q).trans (congrArg (· + _) (Finset.sum_congr rfl fun s _ => ?_)))
  rw [vArr_apply, wArr_apply, mul_select]
  simp only [hv]

theorem oArr_apply (mx : FVec Ideal S8192x2048 .f32) (y : FVec Ideal S8192x1024 .f32) (go : FVec Ideal S1024 .f32) (i : Fin 8192) (q : Fin 2048) :
    oArr mx y go (ix2 i q) = if h : q.val < 1024 then mx (ix2 i q)
      else y (ix2 i (⟨q.val - 1024, by omega⟩ : Fin 1024)) * rms (fun k => y (ix2 i k)) * go (ix1 (⟨q.val - 1024, by omega⟩ : Fin 1024)) := by
  unfold oArr
  have hr : ∀ i k, rArr y (ix2 i k) = rms (fun k => y (ix2 i k)) := rArr_apply y
  generalize rArr y = R at hr
  pointwise
  simp only [hr, along_apply]

end Cert.Reference13Ideal.Sgu

namespace Cert.Proof.Sgu

open Idealize.ShloMosaic Idealize.ShloMosaic.TcCoe
open Idealize.SL.Sem
open Cert.Proof.Gelu
open Cert.Kernel13Ideal.Sgu

/-- The mixers' outputs agree. -/
theorem algebraic : Cert.algebraic_Kernel13Ideal_Reference13Ideal (hKernel13Ideal := Cert.Kernel13Ideal.Gen.facts)
    (hReference13Ideal := Cert.Reference13Ideal.Gen.facts) := by
  intro m g m' g' _ hagree
  refine ⟨fun c i => Out m c (i 0) (i 1), ?_, ?_⟩
  · refine θ_run_mono (Cert.Kernel13Ideal.Value.run_blocks m g) fun r h c => ⟨?_, (h c).2⟩
    rw [(h c).1]
    exact arr_7 m c
  · refine θ_run_mono (Cert.Reference13Ideal.Value.run m' g') fun r h c => ⟨?_, (h c).2⟩
    obtain ⟨a0, a1, a2, a3, a4, a5, a6⟩ := hagree c
    rw [(h c).1, Cert.Reference13Ideal.Sgu.res_eq, a0, a1, a2, a3, a4, a5, a6]
    funext i
    obtain ⟨p, q, rfl⟩ : ∃ (p : Fin 8192) (q : Fin 2048), i = ix2 p q := ⟨i 0, i 1, eq_ix2 i⟩
    have hO : Out m c p q = if h : q.val < 1024 then MX m c (ix2 p q)
        else preR m c p ⟨q.val - 1024, by omega⟩ * rms (preR m c p) * GO m c (ix1 ⟨q.val - 1024, by omega⟩) := by
      rw [preR_eq]; rfl
    refine (Cert.Reference13Ideal.Sgu.oArr_apply _ _ _ p q).trans (Eq.trans ?_ hO.symm)
    simp only [Cert.Reference13Ideal.Sgu.yArr_apply, Cert.Reference13Ideal.Sgu.gArr_apply]
    rfl

end Cert.Proof.Sgu

end
-- ==== Proof.InProjBwd.lean ====
module

public import proofs.«01_k».proof.Defs
public import proofs.«01_k».proof.Proof.Gen.Kernel14Ideal.Value
public import proofs.«01_k».proof.Proof.Gen.Reference14Ideal.Run
public import proofs.«01_k».proof.Proof.NormBwd
public import Idealize.ShloMosaic.Lib.Pipeline.ValueKit
public import Idealize.ShloMosaic.Lib.StableHlo.RunHlo
public import Idealize.ShloMosaic.Lib.Pointwise
public import Idealize.ShloMosaic.Lib.Claim
public import Idealize.ShloMosaic.Lib.Pipeline.ReadBack

@[expose] public section

set_option maxRecDepth 16384

noncomputable section

namespace Cert.Kernel14Ideal.InProjBwd

open Idealize.ShloMosaic Idealize.ShloMosaic.TcCoe
open Idealize.SL.Sem
open Cert.Kernel14Ideal Cert.Kernel14Ideal.Gen
open Cert.Proof.Norm

variable (m : (ℓ : Loc nD τ sig) → Buf (Elt Ideal) ℓ) (c : Dev nD)

/-- The zero blocks that the two sums start from. -/
theorem pay1_apply (j : S512x2048.Idx) : k0_pay1 (F := Ideal) j = 0 := by
  rw [eq_ix2 j]; unfold k0_pay1; pointwise

theorem pay2_apply (j : S1x2048.Idx) : k0_pay2 (F := Ideal) j = 0 := by
  rw [eq_ix2 j]; unfold k0_pay2; pointwise

/-- One block of the projection's lanes: its part of the cotangent's product with the transposed weight. -/
def tile (a : S512x768.Idx → Ideal .bf16) (b : S1x2048x768.Idx → Ideal .bf16) (j : S512x2048.Idx) : EReal :=
  ∑ k : Fin 768, a (ix2 (j 0) k) * b (ix3 (0 : Fin 1) (j 1) k)

theorem pay3_at (acc : S512x2048.Idx → Ideal .f32) (a : S512x768.Idx → Ideal .bf16) (b : S1x2048x768.Idx → Ideal .bf16)
    (j : S512x2048.Idx) : k0_pay3 acc a b j = acc j + tile a b j := by
  obtain ⟨p, q, rfl⟩ : ∃ (p : Fin 512) (q : Fin 2048), j = ix2 p q := ⟨j 0, j 1, eq_ix2 j⟩
  unfold k0_pay3 tile; pointwise

/-- The input's gradient, a tile. -/
theorem pay5_apply (x d : S512x2048.Idx → Ideal .f32) (g : S1x2048.Idx → Ideal .f32) (r : S512x2048.Idx → Ideal .f32)
    (p : Fin 512) (q : Fin 2048) :
    k0_pay5 (F := Ideal) x d g r (ix2 p q)
      = (r (ix2 p q) + dnorm (fun k => x (ix2 p k)) (fun k => d (ix2 p k) * g (ix2 (0 : Fin 1) k)) q : EReal) := by
  unfold k0_pay5 k0_pay4; pointwise; rfl

/-- One row tile's part of the gain's gradient. -/
def gain (x d : S512x2048.Idx → Ideal .f32) (j : S1x2048.Idx) : EReal :=
  ∑ k : Fin 512, d (ix2 k (j 1)) * x (ix2 k (j 1)) * rms (fun l => x (ix2 k l))

theorem pay6_at (x d : S512x2048.Idx → Ideal .f32) (acc : S1x2048.Idx → Ideal .f32) (j : S1x2048.Idx) :
    k0_pay6 (F := Ideal) x d acc j = (acc j + gain x d j : EReal) := by
  obtain ⟨p, q, rfl⟩ : ∃ (p : Fin 1) (q : Fin 2048), j = ix2 p q := ⟨j 0, j 1, eq_ix2 j⟩
  unfold k0_pay6 k0_pay4 gain; pointwise; rfl

/-- Where each window stands at grid point `t`, four blocks of lanes to a row tile. -/
theorem idx_ : ∀ t : Fin cfg0.N,
    win0_0.index t = ![t.val / 4 + 8, t.val % 4] ∧ win0_1.index t = ![t.val % 4, 0, 0] ∧ win0_2.index t = ![t.val / 4 + 8, 0]
    ∧ win0_3.index t = ![t.val / 4 + 8, 0] ∧ win0_4.index t = ![0, 0] ∧ win0_5.index t = ![t.val / 4 + 8, 0]
    ∧ win0_6.index t = ![0, 0] := by
  decide +kernel

theorem lt32 (t : Fin cfg0.N) : t.val < 32 := t.isLt.trans_eq N_0

/-- The row of the arrays that row `p` of the tile at grid point `t` is. -/
def row (t : Fin cfg0.N) (p : Fin 512) : Fin 8192 := ⟨(t.val / 4 + 8) * 512 + p.val, by have := lt32 t; omega⟩

/-- The lane of the projection that lane `k` of the block at grid point `t` is. -/
def lane (t : Fin cfg0.N) (k : Fin 768) : Fin 3072 := ⟨t.val % 4 * 768 + k.val, by omega⟩

/-- A row of the second half among all the rows. -/
def up (i : Fin 4096) : Fin 8192 := ⟨4096 + i.val, by omega⟩

/-- The arguments by name: the input, the weight, the norm's gain, the cotangent of the projection, that of the residual,
    and the array whose first half of rows stays. -/
def X : S8192x2048.Idx → Ideal .f32 := m ((c.tc : Thread nD τ).loc main_arg0)
def W : S2048x3072.Idx → Ideal .f32 := m ((c.tc : Thread nD τ).loc main_arg1)
def G : S2048.Idx → Ideal .f32 := m ((c.tc : Thread nD τ).loc main_arg2)
def DZ : S8192x3072.Idx → Ideal .f32 := m ((c.tc : Thread nD τ).loc main_arg3)
def DR : S8192x2048.Idx → Ideal .f32 := m ((c.tc : Thread nD τ).loc main_arg4)
def K : S8192x2048.Idx → Ideal .f32 := m ((c.tc : Thread nD τ).loc main_arg5)

/-- The gradient at the normalised input. -/
def DH (i : Fin 8192) (j : Fin 2048) : EReal := ∑ l : Fin 3072, DZ m c (ix2 i l) * W m c (ix2 j l)

/-- A row of the input. -/
def XR (i : Fin 8192) (j : Fin 2048) : EReal := X m c (ix2 i j)

/-- The gradient at the input. -/
def DX (i : Fin 8192) (j : Fin 2048) : EReal :=
  DR m c (ix2 i j) + dnorm (XR m c i) (fun k => DH m c i k * G m c (ix1 k)) j

/-- The first result: the first half of the rows stays. -/
def Out (i : Fin 8192) (j : Fin 2048) : EReal :=
  if i.val < 4096 then K m c (ix2 i j) else DX m c i j

theorem Out_lo {i : Fin 8192} (j : Fin 2048) (h : i.val < 4096) : Out m c i j = K m c (ix2 i j) := if_pos h

/-- A row of the second half, counted from the half's start. -/
theorem up_lt (i : Fin 8192) : 4096 + (i.val - 4096) < 8192 := by omega

def re (i : Fin 8192) : Fin 8192 := ⟨4096 + (i.val - 4096), up_lt i⟩

theorem re_eq {i : Fin 8192} (h : ¬i.val < 4096) : re i = i := Fin.ext (by unfold re; dsimp only; omega)

theorem Out_hi {i : Fin 8192} (j : Fin 2048) (h : ¬i.val < 4096) : Out m c i j = DX m c (re i) j := by
  rw [re_eq h]; exact if_neg h

/-- The second half's part of the gain's gradient. -/
def DG (j : Fin 2048) : EReal := ∑ i : Fin 4096, DH m c (up i) j * XR m c (up i) j * rms (XR m c (up i))

theorem iblk_0 (t : Fin cfg0.N) (p : Fin 512) (k : Fin 768) :
    iblk m c 0 t (ix2 p k) = DZ m c (ix2 (row t p) (lane t k)) := by
  obtain ⟨e0, e1, e2, e3, e4, e5, e6⟩ := idx_ t
  blk_simp [iblk, e0]
  entry_read
  pointwise
  unfold DZ row lane
  blk_ext [e0]

theorem iblk_1 (t : Fin cfg0.N) (q : Fin 2048) (k : Fin 768) :
    iblk m c 1 t (ix3 (0 : Fin 1) q k) = W m c (ix2 q (lane t k)) := by
  obtain ⟨e0, e1, e2, e3, e4, e5, e6⟩ := idx_ t
  blk_simp [iblk, e1]
  entry_read
  pointwise
  unfold W lane
  blk_ext [e1]

theorem iblk_2 (t : Fin cfg0.N) (p : Fin 512) (k : Fin 2048) : iblk m c 2 t (ix2 p k) = XR m c (row t p) k := by
  obtain ⟨e0, e1, e2, e3, e4, e5, e6⟩ := idx_ t
  blk_simp [iblk, e2]
  entry_read
  unfold XR X row
  blk_ext [e2]

theorem iblk_3 (t : Fin cfg0.N) (p : Fin 512) (k : Fin 2048) : iblk m c 3 t (ix2 p k) = DR m c (ix2 (row t p) k) := by
  obtain ⟨e0, e1, e2, e3, e4, e5, e6⟩ := idx_ t
  blk_simp [iblk, e3]
  entry_read
  unfold DR row
  blk_ext [e3]

theorem iblk_4 (t : Fin cfg0.N) (k : Fin 2048) : iblk m c 4 t (ix2 (0 : Fin 1) k) = G m c (ix1 k) := by
  obtain ⟨e0, e1, e2, e3, e4, e5, e6⟩ := idx_ t
  blk_simp [iblk, e4]
  entry_read
  pointwise
  unfold G
  blk_ext [e4]

/-- The running sum at the last block of a row tile is the gradient at the normalised input. -/
theorem acc_eq (t : Fin cfg0.N) (h3 : t.val % 4 = 3) (p : Fin 512) (q : Fin 2048) :
    (outsAt0 m c t.val t.isLt).2.2 (ix2 p q) = DH m c (row t p) q := by
  rw [Pipeline.eq_sum_fin_of_reset_step_apply_of_flush (fun n h => (outsAt0 m c n h).2.2) 4 (fun _ => 0)
    (fun t j => tile (iblk m c 0 t) (iblk m c 1 t) j)
    (fun t h j => by
      by_cases h1 : t.val % 32 = 0
      · rw [outsAt0_A m c t h h1 (by omega)]; frame_out; rw [pay3_at, pay1_apply]
      · rw [outsAt0_D m c t h h1 (by omega)]; frame_out; rw [pay3_at, pay1_apply])
    (fun t h j => by
      by_cases h1 : t.val % 4 = 3
      · rw [outsAt0_C m c t h (by omega) h1]; frame_out; rw [pay3_at]; simp only [read_unread_whole]
      · rw [outsAt0_B m c t h (by omega) h1]; frame_out; rw [pay3_at]; simp only [read_unread_whole]) t h3 (ix2 p q)]
  rw [zero_add]
  unfold DH tile
  refine Fin.sum_mul_add_congr fun s k hl => ?_
  refine (congrArg₂ (fun a b : EReal => a * b) (iblk_0 m c _ p k) (iblk_1 m c _ q k)).trans ?_
  have := lt32 t
  have hs := s.isLt
  have hr : row ⟨4 * (t.val / 4) + s.val, lt_of_lt_of_eq (by omega) N_0.symm⟩ p = row t p := Fin.ext (by
    unfold row; dsimp only; omega)
  have hk : lane ⟨4 * (t.val / 4) + s.val, lt_of_lt_of_eq (by omega) N_0.symm⟩ k = ⟨s.val * 768 + k.val, hl⟩ := Fin.ext (by
    unfold lane; dsimp only; omega)
  rw [hr, hk]

/-- The tile that the last block of a row tile writes back. -/
theorem outs_5 (t : Fin cfg0.N) (h3 : t.val % 4 = 3) : (outsAt0 m c t.val t.isLt).1
    = k0_pay5 (iblk m c 2 t) (outsAt0 m c t.val t.isLt).2.2 (iblk m c 4 t) (iblk m c 3 t) := by
  rw [outsAt0_C m c t (by omega) (by omega) h3]; frame_out

/-- The gain's gradient at a point: it moves at the last block of a row tile only. -/
def gainAt (t : Fin cfg0.N) (j : S1x2048.Idx) : EReal :=
  if t.val % 4 = 3 then gain (iblk m c 2 t) (outsAt0 m c t.val t.isLt).2.2 j else 0

theorem gain_0 (t : Fin cfg0.N) (h : t.val % 32 = 0) (j : S1x2048.Idx) :
    (outsAt0 m c t.val t.isLt).2.1 j = (0 : EReal) + gainAt m c t j := by
  unfold gainAt
  rw [if_neg (by omega), add_zero, outsAt0_A m c t (by omega) h (by omega)]
  frame_out
  rw [pay2_apply]

theorem gain_s (t : Fin cfg0.N) (h : ¬t.val % 32 = 0) (j : S1x2048.Idx) :
    (outsAt0 m c t.val t.isLt).2.1 j
      = ((outsAt0 m c (t.val - 1) (Nat.lt_of_le_of_lt (Nat.sub_le _ _) t.isLt)).2.1 j + gainAt m c t j : EReal) := by
  unfold gainAt
  by_cases h2 : t.val % 4 = 3
  · rw [if_pos h2, outsAt0_C m c t (by omega) h h2]; frame_out; rw [pay6_at]
  · rw [if_neg h2, add_zero]
    by_cases h0 : t.val % 4 = 0
    · rw [outsAt0_D m c t h0 h h2]; rfl
    · rw [outsAt0_B m c t h0 h h2]; rfl

/-- The first result: the gradient at the input in the second half of the rows, the first half as it was. -/
theorem arr_5 : (dats m 0 c).arrAt 5 cfg0.N = fun i : S8192x2048.Idx => Out m c (i 0) (i 1) := by
  have h : (dats m 0 c).arrAt 5 cfg0.N
      = fun i : S8192x2048.Idx => if (i 0 : ℕ) / 512 ≥ 8 then DX m c (i 0) (i 1)
        else (dats m 0 c).A 5 i := by
    refine (dats m 0 c).arrAt_eq_of_coversWhere 5
      (fun i : S8192x2048.Idx => DX m c (i 0) (i 1))
      (fun β => β (0 : Fin 2) ≥ 8) (by decide +kernel) (fun t hf y => ?_) (fun j => Iff.rfl)
    obtain ⟨e0, e1, e2, e3, e4, e5, e6⟩ := idx_ t
    have h3 := (flush0_5 t).mp hf
    rw [after0_5, outs_5 m c t h3]
    blk_simp
    obtain ⟨p, q, rfl⟩ : ∃ (p : Fin 512) (q : Fin 2048), y = ix2 p q := ⟨y 0, y 1, eq_ix2 y⟩
    rw [pay5_apply, iblk_3]
    rw [show (fun k => iblk m c 2 t (ix2 p k)) = XR m c (row t p) from funext fun k => iblk_2 m c t p k]
    refine (congrArg (fun a => DR m c (ix2 (row t p) q) + dnorm (XR m c (row t p)) a q)
      (funext fun k => congrArg₂ (fun a b : EReal => a * b) (acc_eq m c t h3 p k) (iblk_4 m c t k))).trans ?_
    refine (show _ = DX m c (row t p) q from rfl).trans (congrArg₂ (DX m c) (Fin.ext ?_) (Fin.ext ?_))
    · have := lt32 t
      unfold row; blk_simp [e5]
    · blk_simp [e5]
  rw [h]
  funext i
  have hlt : (i 0).val < 8192 := (i 0).isLt
  show (if (i 0 : ℕ) / 512 ≥ 8 then _ else _) = _
  unfold Out
  by_cases hq : (i 0).val < 4096
  · rw [if_pos hq, if_neg (by omega), A_eq]
    entry_read
    rw [eq_ix2 i]; rfl
  · rw [if_neg hq, if_pos (by omega)]

/-- The second result: the gain's gradient, a tile of rows at a time. -/
theorem arr_6 : (dats m 0 c).arrAt 6 cfg0.N = fun i : S1x2048.Idx => DG m c (i 1) := by
  refine (dats m 0 c).arrAt_eq_of_covers 6 _ (by decide +kernel) fun t hf y => ?_
  obtain ⟨e0, e1, e2, e3, e4, e5, e6⟩ := idx_ t
  rw [after0_6]
  blk_simp
  obtain ⟨p, q, rfl⟩ : ∃ (p : Fin 1) (q : Fin 2048), y = ix2 p q := ⟨y 0, y 1, eq_ix2 y⟩
  rw [Pipeline.eq_sum_fin_of_reset_step_apply_of_flush (fun n h => (outsAt0 m c n h).2.1) 32 (fun _ => 0)
    (gainAt m c) (gain_0 m c) (gain_s m c) t ((flush0_6 t).mp hf) (ix2 p q), zero_add]
  have ht := lt32 t
  have hq : q = (win0_6.blk t).view.emb (ix2 p q) 1 := Fin.ext (by blk_simp [e6])
  refine (Fin.sum_mul_add_congr (S := 8) (n := 4) (L := 32) (F := fun s b => if b.val = 3 then
      ∑ k : Fin 512, DH m c (up ⟨s.val * 512 + k.val, by omega⟩) q * XR m c (up ⟨s.val * 512 + k.val, by omega⟩) q * rms (XR m c (up ⟨s.val * 512 + k.val, by omega⟩)) else 0)
    fun s b hl => ?_).symm.trans ?_
  · unfold gainAt
    have hs := s.isLt
    by_cases hb : b.val = 3
    · have h3 : (32 * (t.val / 32) + (s.val * 4 + b.val)) % 4 = 3 := by omega
      rw [if_pos hb, if_pos h3]
      unfold gain
      refine Fin.sum_fin_congr fun k => ?_
      have hr : row ⟨32 * (t.val / 32) + (s.val * 4 + b.val), lt_of_lt_of_eq (by omega) N_0.symm⟩ k = up ⟨s.val * 512 + k.val, by omega⟩ := Fin.ext (by
        unfold row up; dsimp only; omega)
      rw [← hr]
      exact (congrArg₂ (fun a b : EReal => a * b) (congrArg₂ (fun a b : EReal => a * b) (acc_eq m c _ h3 k q) (iblk_2 m c _ k q))
        (congrArg rms (funext fun l => iblk_2 m c _ k l))).symm
    · rw [if_neg hb, if_neg (by dsimp only; omega)]
  · rw [← hq]
    unfold DG
    refine (Finset.sum_congr rfl fun s _ => ?_).trans (Fin.sum_mul_add_congr (S := 8) (n := 512) (L := 4096)
      (F := fun s k => DH m c (up ⟨s.val * 512 + k.val, by omega⟩) q * XR m c (up ⟨s.val * 512 + k.val, by omega⟩) q * rms (XR m c (up ⟨s.val * 512 + k.val, by omega⟩)))
      (f := fun i => DH m c (up i) q * XR m c (up i) q * rms (XR m c (up i))) fun s k hl => rfl)
    exact (Finset.sum_eq_single (3 : Fin 4) (fun b _ hb => if_neg fun h => hb (Fin.ext h)) (fun h => absurd (Finset.mem_univ _) h)).trans (if_pos rfl)

end Cert.Kernel14Ideal.InProjBwd

namespace Cert.Proof.InProjBwd

open Idealize.ShloMosaic Idealize.ShloMosaic.TcCoe
open Idealize.SL.Sem
open Cert.Proof.Norm
open Cert.Kernel14Ideal.InProjBwd

/-- The kernel's two results are the reference's. -/
theorem algebraic : Cert.algebraic_Kernel14Ideal_Reference14Ideal (hKernel14Ideal := Cert.Kernel14Ideal.Gen.facts) (hReference14Ideal := Cert.Reference14Ideal.Gen.facts) := by
  intro m g m' g' _ hagree
  refine ⟨fun c => (fun i => Out m c (i 0) (i 1)), fun c => (fun i => DG m c (i 1)), ?_, ?_⟩
  · refine θ_run_mono (Cert.Kernel14Ideal.Value.run_blocks m g) fun r h c => ?_
    obtain ⟨h0, h1, ha⟩ := h c
    exact ⟨h0.trans (arr_5 m c), h1.trans (arr_6 m c), ha⟩
  · refine θ_run_mono (Cert.Reference14Ideal.Value.run m' g') fun r h c => ?_
    obtain ⟨h0, h1, ha⟩ := h c
    obtain ⟨a0, a1, a2, a3, a4, a5⟩ := hagree c
    refine ⟨h0.trans ?_, h1.trans ?_, ha⟩
    · unfold Cert.Reference14Ideal.Value.res_main_v43
      rw [a0, a1, a2, a3, a4, a5]
      funext i
      obtain ⟨p, q, rfl⟩ : ∃ (p : Fin 8192) (q : Fin 2048), i = ix2 p q := ⟨i 0, i 1, eq_ix2 i⟩
      pointwise
      by_cases h : p.val < 4096
      · exact (dif_pos h).trans (Out_lo m c q h).symm
      · refine (dif_neg h).trans (Eq.trans ?_ (Out_hi m c q h).symm)
        exact Cert.Proof.NormBwd.dx_eq (XR m c (re p)) (fun k => DH m c (re p) k * G m c (ix1 k)) (DR m c (ix2 (re p) q)) q
    · rw [a0, a1, a3]
      funext i
      obtain ⟨p, q, rfl⟩ : ∃ (p : Fin 1) (q : Fin 2048), i = ix2 p q := ⟨i 0, i 1, eq_ix2 i⟩
      pointwise
      rw [Fin.sum_univ_one]
      exact Finset.sum_congr rfl fun i _ => (mul_comm _ _).trans (mul_assoc _ _ _).symm

end Cert.Proof.InProjBwd

end
-- ==== Proof.GradUp.lean ====
module

public import proofs.«01_k».proof.Defs
public import proofs.«01_k».proof.Proof.Gen.Kernel15Ideal.Value
public import proofs.«01_k».proof.Proof.Gen.Reference15Ideal.Run
public import Idealize.ShloMosaic.Lib.Pipeline.ValueKit
public import Idealize.ShloMosaic.Lib.StableHlo.RunHlo
public import Idealize.ShloMosaic.Lib.Pointwise
public import Idealize.ShloMosaic.Lib.Claim
public import Idealize.ShloMosaic.Lib.Pipeline.ReadBack

@[expose] public section

set_option maxRecDepth 16384

noncomputable section

namespace Cert.Kernel15Ideal.GradUp

open Idealize.ShloMosaic Idealize.ShloMosaic.TcCoe
open Idealize.SL.Sem
open Cert.Kernel15Ideal Cert.Kernel15Ideal.Gen

variable (m : (ℓ : Loc nD τ sig) → Buf (Elt Ideal) ℓ) (c : Dev nD)

/-- The zero block that a sum over the rows starts from. -/
theorem pay1_apply (j : S1024x2048.Idx) : k0_pay1 (F := Ideal) j = 0 := by
  rw [eq_ix2 j]; unfold k0_pay1; pointwise

/-- One row tile's contribution: the input's transpose against the cotangent. -/
theorem pay2_apply (a : S512x1024.Idx → Ideal .bf16) (acc : S1024x2048.Idx → Ideal .f32)
    (b : S512x2048.Idx → Ideal .bf16) (p : Fin 1024) (q : Fin 2048) :
    k0_pay2 a acc b (ix2 p q) = acc (ix2 p q) + ∑ k : Fin 512, a (ix2 k p) * b (ix2 k q) := by
  unfold k0_pay2; pointwise

/-- One row tile's part of the sum at an index of the block. -/
def tile (a : S512x1024.Idx → Ideal .bf16) (b : S512x2048.Idx → Ideal .bf16) (j : S1024x2048.Idx) : EReal :=
  ∑ k : Fin 512, a (ix2 k (j 0)) * b (ix2 k (j 1))

/-- The same at any index of the block. -/
theorem pay2_at (a : S512x1024.Idx → Ideal .bf16) (acc : S1024x2048.Idx → Ideal .f32)
    (b : S512x2048.Idx → Ideal .bf16) (j : S1024x2048.Idx) :
    k0_pay2 a acc b j = acc j + tile a b j := by
  obtain ⟨p, q, rfl⟩ : ∃ (p : Fin 1024) (q : Fin 2048), j = ix2 p q := ⟨j 0, j 1, eq_ix2 j⟩
  exact pay2_apply a acc b p q

/-- The block written back is the sum under two unit axes. -/
theorem pay3_apply (acc : S1024x2048.Idx → Ideal .f32) (p : Fin 1024) (q : Fin 2048) :
    k0_pay3 (F := Ideal) acc (ix4 (0 : Fin 1) (0 : Fin 1) p q) = (acc (ix2 p q) : EReal) := by
  unfold k0_pay3; pointwise

/-- Where each window stands at grid point `t`, sixteen row tiles to a block of the result. -/
theorem idx_ : ∀ t : Fin cfg0.N,
    win0_0.index t = ![t.val % 16, t.val / 64] ∧ win0_1.index t = ![t.val % 16, t.val / 16 % 4]
    ∧ win0_2.index t = ![t.val / 16 % 4, t.val / 64, 0, 0] := by
  decide +kernel

theorem lt128 (t : Fin cfg0.N) : t.val < 128 := t.isLt.trans_eq N_0

/-- The row of the arrays that row `p` of the tiles at grid point `t` is. -/
def row (t : Fin cfg0.N) (p : Fin 512) : Fin 8192 := ⟨t.val % 16 * 512 + p.val, by omega⟩

/-- The lane of the input, and the lane of the cotangent, that a lane of the tile at grid point `t` is. -/
def laneA (t : Fin cfg0.N) (p : Fin 1024) : Fin 2048 := ⟨t.val / 64 * 1024 + p.val, by have := lt128 t; omega⟩
def laneB (t : Fin cfg0.N) (q : Fin 2048) : Fin 8192 := ⟨t.val / 16 % 4 * 2048 + q.val, by omega⟩

/-- The row and the column of the weight that an index of the result stands for. -/
def half (b : Fin 2) (r : Fin 1024) : Fin 2048 := ⟨b.val * 1024 + r.val, by omega⟩
def chip (a : Fin 4) (s : Fin 2048) : Fin 8192 := ⟨a.val * 2048 + s.val, by omega⟩

/-- The arguments by name: the input, the cotangent. -/
def X : S8192x2048.Idx → Ideal .f32 := m ((c.tc : Thread nD τ).loc main_arg0)
def CT : S8192x8192.Idx → Ideal .f32 := m ((c.tc : Thread nD τ).loc main_arg2)

/-- The gradient at the weight. -/
def DW (l : Fin 2048) (n : Fin 8192) : EReal := ∑ r : Fin 8192, X m c (ix2 r l) * CT m c (ix2 r n)

theorem iblk_0 (t : Fin cfg0.N) (k : Fin 512) (p : Fin 1024) : iblk m c 0 t (ix2 k p) = X m c (ix2 (row t k) (laneA t p)) := by
  obtain ⟨e0, e1, e2⟩ := idx_ t
  blk_simp [iblk, e0]
  entry_read
  pointwise
  unfold X row laneA
  blk_ext [e0]

theorem iblk_1 (t : Fin cfg0.N) (k : Fin 512) (q : Fin 2048) : iblk m c 1 t (ix2 k q) = CT m c (ix2 (row t k) (laneB t q)) := by
  obtain ⟨e0, e1, e2⟩ := idx_ t
  blk_simp [iblk, e1]
  entry_read
  pointwise
  unfold CT row laneB
  blk_ext [e1]

/-- The block that the last point of a run writes back is the running sum. -/
theorem outs_1 (t : Fin cfg0.N) (h1 : t.val % 16 = 15) :
    (outsAt0 m c t.val t.isLt).1 = k0_pay3 (outsAt0 m c t.val t.isLt).2 := by
  rw [outsAt0_C m c t (by omega) h1]; frame_out

/-- The result: the gradient at the weight, its rows taken up a tile at a time. -/
theorem arr_2 : (dats m 0 c).arrAt 2 cfg0.N
    = fun i : S4x2x1024x2048.Idx => DW m c (half (i 1) (i 2)) (chip (i 0) (i 3)) := by
  refine (dats m 0 c).arrAt_eq_of_covers 2 _ (by decide +kernel) fun t hf y => ?_
  obtain ⟨e0, e1, e2⟩ := idx_ t
  have h3 := (flush0_2 t).mp hf
  rw [after0_2, outs_1 m c t h3]
  blk_simp
  obtain ⟨p, q, rfl⟩ : ∃ (p : Fin 1024) (q : Fin 2048), y = ix4 (0 : Fin 1) (0 : Fin 1) p q :=
    ⟨y 2, y 3, (eq_ix4 y).trans (by
      rw [show y 0 = (0 : Fin 1) from Subsingleton.elim (α := Fin 1) _ _, show y 1 = (0 : Fin 1) from Subsingleton.elim (α := Fin 1) _ _])⟩
  refine (pay3_apply _ p q).trans ?_
  rw [Pipeline.eq_sum_fin_of_reset_step_apply_of_flush (fun n h => (outsAt0 m c n h).2) 16 (fun _ => 0)
    (fun t j => tile (iblk m c 0 t) (iblk m c 1 t) j)
    (fun t h j => by rw [outsAt0_A m c t h (by omega)]; frame_out; rw [pay2_at, pay1_apply])
    (fun t h j => by
      by_cases h1 : t.val % 16 = 15
      · rw [outsAt0_C m c t h h1]; frame_out; rw [pay2_at]; simp only [read_unread_whole]
      · rw [outsAt0_B m c t h h1]; frame_out; rw [pay2_at]; simp only [read_unread_whole]) t h3 (ix2 p q)]
  rw [zero_add]
  unfold DW tile
  refine Fin.sum_mul_add_congr fun s k hl => ?_
  refine (congrArg₂ (fun a b : EReal => a * b) (iblk_0 m c _ k p) (iblk_1 m c _ k q)).trans ?_
  have := lt128 t
  have hl' : row ⟨16 * (t.val / 16) + s.val, by rw [show cfg0.N = 128 from N_0]; omega⟩ k = ⟨s.val * 512 + k.val, hl⟩ := Fin.ext (by
    unfold row; dsimp only; omega)
  rw [hl']
  refine congrArg₂ (fun l n => X m c (ix2 ⟨s.val * 512 + k.val, hl⟩ l) * CT m c (ix2 ⟨s.val * 512 + k.val, hl⟩ n)) (Fin.ext ?_) (Fin.ext ?_)
  · unfold laneA half; blk_simp [e2]; dsimp only; omega
  · unfold laneB chip; blk_simp [e2]; dsimp only; omega

end Cert.Kernel15Ideal.GradUp

namespace Cert.Proof.GradUp

open Idealize.ShloMosaic Idealize.ShloMosaic.TcCoe
open Idealize.SL.Sem

/-- The kernel's gradient is the reference's. -/
theorem algebraic : Cert.algebraic_Kernel15Ideal_Reference15Ideal (hKernel15Ideal := Cert.Kernel15Ideal.Gen.facts) (hReference15Ideal := Cert.Reference15Ideal.Gen.facts) := by
  intro m g m' g' _ hagree
  refine ⟨fun c => (fun i => Cert.Kernel15Ideal.GradUp.DW m c (Cert.Kernel15Ideal.GradUp.half (i 1) (i 2)) (Cert.Kernel15Ideal.GradUp.chip (i 0) (i 3))), ?_, ?_⟩
  · refine θ_run_mono (Cert.Kernel15Ideal.Value.run_blocks m g) fun r h c => ?_
    obtain ⟨h0, ha⟩ := h c
    exact ⟨h0.trans (Cert.Kernel15Ideal.GradUp.arr_2 m c), ha⟩
  · refine θ_run_mono (Cert.Reference15Ideal.Value.run m' g') fun r h c => ?_
    obtain ⟨h0, ha⟩ := h c
    obtain ⟨a0, a1, a2⟩ := hagree c
    refine ⟨h0.trans ?_, ha⟩
    rw [a0, a2]
    funext i
    rw [eq_ix4 i]
    pointwise
    exact Finset.sum_congr rfl fun r _ => mul_comm _ _

end Cert.Proof.GradUp

end
-- ==== Proof.GradOut.lean ====
module

public import proofs.«01_k».proof.Defs
public import proofs.«01_k».proof.Proof.Gen.Kernel16Ideal.Value
public import proofs.«01_k».proof.Proof.Gen.Reference16Ideal.Run
public import Idealize.ShloMosaic.Lib.Pipeline.ValueKit
public import Idealize.ShloMosaic.Lib.StableHlo.RunHlo
public import Idealize.ShloMosaic.Lib.Pointwise
public import Idealize.ShloMosaic.Lib.Claim
public import Idealize.ShloMosaic.Lib.Pipeline.ReadBack

@[expose] public section

set_option maxRecDepth 16384

noncomputable section

namespace Cert.Kernel16Ideal.GradOut

open Idealize.ShloMosaic Idealize.ShloMosaic.TcCoe
open Idealize.SL.Sem
open Cert.Kernel16Ideal Cert.Kernel16Ideal.Gen

variable (m : (ℓ : Loc nD τ sig) → Buf (Elt Ideal) ℓ) (c : Dev nD)

/-- The zero block that a sum over the rows starts from. -/
theorem pay1_apply (j : S256x2048.Idx) : k0_pay1 (F := Ideal) j = 0 := by
  rw [eq_ix2 j]; unfold k0_pay1; pointwise

/-- One row tile's contribution: the input's transpose against the cotangent. -/
theorem pay2_apply (a : S512x256.Idx → Ideal .bf16) (acc : S256x2048.Idx → Ideal .f32)
    (b : S512x2048.Idx → Ideal .bf16) (p : Fin 256) (q : Fin 2048) :
    k0_pay2 a acc b (ix2 p q) = acc (ix2 p q) + ∑ k : Fin 512, a (ix2 k p) * b (ix2 k q) := by
  unfold k0_pay2; pointwise

/-- One row tile's part of the sum at an index of the block. -/
def tile (a : S512x256.Idx → Ideal .bf16) (b : S512x2048.Idx → Ideal .bf16) (j : S256x2048.Idx) : EReal :=
  ∑ k : Fin 512, a (ix2 k (j 0)) * b (ix2 k (j 1))

/-- The same at any index of the block. -/
theorem pay2_at (a : S512x256.Idx → Ideal .bf16) (acc : S256x2048.Idx → Ideal .f32)
    (b : S512x2048.Idx → Ideal .bf16) (j : S256x2048.Idx) :
    k0_pay2 a acc b j = acc j + tile a b j := by
  obtain ⟨p, q, rfl⟩ : ∃ (p : Fin 256) (q : Fin 2048), j = ix2 p q := ⟨j 0, j 1, eq_ix2 j⟩
  exact pay2_apply a acc b p q

/-- The block written back is the sum under two unit axes. -/
theorem pay3_apply (acc : S256x2048.Idx → Ideal .f32) (p : Fin 256) (q : Fin 2048) :
    k0_pay3 (F := Ideal) acc (ix4 (0 : Fin 1) (0 : Fin 1) p q) = (acc (ix2 p q) : EReal) := by
  unfold k0_pay3; pointwise

/-- Where each window stands at grid point `t`, sixteen row tiles to a block of the result. -/
theorem idx_ : ∀ t : Fin cfg0.N,
    win0_0.index t = ![t.val % 16, t.val / 16] ∧ win0_1.index t = ![t.val % 16, 0]
    ∧ win0_2.index t = ![t.val / 16 / 2, t.val / 16 % 2, 0, 0] := by
  decide +kernel

theorem lt128 (t : Fin cfg0.N) : t.val < 128 := t.isLt.trans_eq N_0

/-- The row of the arrays that row `p` of the tiles at grid point `t` is. -/
def row (t : Fin cfg0.N) (p : Fin 512) : Fin 8192 := ⟨t.val % 16 * 512 + p.val, by omega⟩

/-- The lane of the input, and the lane of the cotangent, that a lane of the tile at grid point `t` is. -/
def laneA (t : Fin cfg0.N) (p : Fin 256) : Fin 2048 := ⟨t.val / 16 * 256 + p.val, by have := lt128 t; omega⟩
def laneB (t : Fin cfg0.N) (q : Fin 2048) : Fin 2048 := ⟨0 + q.val, by omega⟩

/-- The row and the column of the weight that an index of the result stands for. -/
def rowOf (a : Fin 4) (b : Fin 2) (r : Fin 256) : Fin 2048 := ⟨a.val * 512 + b.val * 256 + r.val, by omega⟩

/-- The arguments by name: the input, the cotangent. -/
def X : S8192x2048.Idx → Ideal .f32 := m ((c.tc : Thread nD τ).loc main_arg0)
def CT : S8192x2048.Idx → Ideal .f32 := m ((c.tc : Thread nD τ).loc main_arg2)

/-- The gradient at the weight. -/
def DW (l : Fin 2048) (n : Fin 2048) : EReal := ∑ r : Fin 8192, X m c (ix2 r l) * CT m c (ix2 r n)

theorem iblk_0 (t : Fin cfg0.N) (k : Fin 512) (p : Fin 256) : iblk m c 0 t (ix2 k p) = X m c (ix2 (row t k) (laneA t p)) := by
  obtain ⟨e0, e1, e2⟩ := idx_ t
  blk_simp [iblk, e0]
  entry_read
  pointwise
  unfold X row laneA
  blk_ext [e0]

theorem iblk_1 (t : Fin cfg0.N) (k : Fin 512) (q : Fin 2048) : iblk m c 1 t (ix2 k q) = CT m c (ix2 (row t k) (laneB t q)) := by
  obtain ⟨e0, e1, e2⟩ := idx_ t
  blk_simp [iblk, e1]
  entry_read
  pointwise
  unfold CT row laneB
  blk_ext [e1]

/-- The block that the last point of a run writes back is the running sum. -/
theorem outs_1 (t : Fin cfg0.N) (h1 : t.val % 16 = 15) :
    (outsAt0 m c t.val t.isLt).1 = k0_pay3 (outsAt0 m c t.val t.isLt).2 := by
  rw [outsAt0_C m c t (by omega) h1]; frame_out

/-- The result: the gradient at the weight, its rows taken up a tile at a time. -/
theorem arr_2 : (dats m 0 c).arrAt 2 cfg0.N
    = fun i : S4x2x256x2048.Idx => DW m c (rowOf (i 0) (i 1) (i 2)) (i 3) := by
  refine (dats m 0 c).arrAt_eq_of_covers 2 _ (by decide +kernel) fun t hf y => ?_
  obtain ⟨e0, e1, e2⟩ := idx_ t
  have h3 := (flush0_2 t).mp hf
  rw [after0_2, outs_1 m c t h3]
  blk_simp
  obtain ⟨p, q, rfl⟩ : ∃ (p : Fin 256) (q : Fin 2048), y = ix4 (0 : Fin 1) (0 : Fin 1) p q :=
    ⟨y 2, y 3, (eq_ix4 y).trans (by
      rw [show y 0 = (0 : Fin 1) from Subsingleton.elim (α := Fin 1) _ _, show y 1 = (0 : Fin 1) from Subsingleton.elim (α := Fin 1) _ _])⟩
  refine (pay3_apply _ p q).trans ?_
  rw [Pipeline.eq_sum_fin_of_reset_step_apply_of_flush (fun n h => (outsAt0 m c n h).2) 16 (fun _ => 0)
    (fun t j => tile (iblk m c 0 t) (iblk m c 1 t) j)
    (fun t h j => by rw [outsAt0_A m c t h (by omega)]; frame_out; rw [pay2_at, pay1_apply])
    (fun t h j => by
      by_cases h1 : t.val % 16 = 15
      · rw [outsAt0_C m c t h h1]; frame_out; rw [pay2_at]; simp only [read_unread_whole]
      · rw [outsAt0_B m c t h h1]; frame_out; rw [pay2_at]; simp only [read_unread_whole]) t h3 (ix2 p q)]
  rw [zero_add]
  unfold DW tile
  refine Fin.sum_mul_add_congr fun s k hl => ?_
  refine (congrArg₂ (fun a b : EReal => a * b) (iblk_0 m c _ k p) (iblk_1 m c _ k q)).trans ?_
  have := lt128 t
  have hl' : row ⟨16 * (t.val / 16) + s.val, by rw [show cfg0.N = 128 from N_0]; omega⟩ k = ⟨s.val * 512 + k.val, hl⟩ := Fin.ext (by
    unfold row; dsimp only; omega)
  rw [hl']
  refine congrArg₂ (fun l n => X m c (ix2 ⟨s.val * 512 + k.val, hl⟩ l) * CT m c (ix2 ⟨s.val * 512 + k.val, hl⟩ n)) (Fin.ext ?_) (Fin.ext ?_)
  · unfold laneA rowOf; blk_simp [e2]; dsimp only; omega
  · unfold laneB; blk_simp [e2]

end Cert.Kernel16Ideal.GradOut

namespace Cert.Proof.GradOut

open Idealize.ShloMosaic Idealize.ShloMosaic.TcCoe
open Idealize.SL.Sem

/-- The kernel's gradient is the reference's. -/
theorem algebraic : Cert.algebraic_Kernel16Ideal_Reference16Ideal (hKernel16Ideal := Cert.Kernel16Ideal.Gen.facts) (hReference16Ideal := Cert.Reference16Ideal.Gen.facts) := by
  intro m g m' g' _ hagree
  refine ⟨fun c => (fun i => Cert.Kernel16Ideal.GradOut.DW m c (Cert.Kernel16Ideal.GradOut.rowOf (i 0) (i 1) (i 2)) (i 3)), ?_, ?_⟩
  · refine θ_run_mono (Cert.Kernel16Ideal.Value.run_blocks m g) fun r h c => ?_
    obtain ⟨h0, ha⟩ := h c
    exact ⟨h0.trans (Cert.Kernel16Ideal.GradOut.arr_2 m c), ha⟩
  · refine θ_run_mono (Cert.Reference16Ideal.Value.run m' g') fun r h c => ?_
    obtain ⟨h0, ha⟩ := h c
    obtain ⟨a0, a1, a2⟩ := hagree c
    refine ⟨h0.trans ?_, ha⟩
    rw [a0, a2]
    funext i
    rw [eq_ix4 i]
    pointwise
    exact Finset.sum_congr rfl fun r _ => mul_comm _ _

end Cert.Proof.GradOut

end
-- ==== Proof.GradIn.lean ====
module

public import proofs.«01_k».proof.Defs
public import proofs.«01_k».proof.Proof.Gen.Kernel17Ideal.Value
public import proofs.«01_k».proof.Proof.Gen.Reference17Ideal.Run
public import Idealize.ShloMosaic.Lib.Pipeline.ValueKit
public import Idealize.ShloMosaic.Lib.StableHlo.RunHlo
public import Idealize.ShloMosaic.Lib.Pointwise
public import Idealize.ShloMosaic.Lib.Claim
public import Idealize.ShloMosaic.Lib.Pipeline.ReadBack

@[expose] public section

set_option maxRecDepth 16384

noncomputable section

namespace Cert.Kernel17Ideal.GradIn

open Idealize.ShloMosaic Idealize.ShloMosaic.TcCoe
open Idealize.SL.Sem
open Cert.Kernel17Ideal Cert.Kernel17Ideal.Gen

variable (m : (ℓ : Loc nD τ sig) → Buf (Elt Ideal) ℓ) (c : Dev nD)

/-- The zero block that a sum over the rows starts from. -/
theorem pay1_apply (j : S1024x768.Idx) : k0_pay1 (F := Ideal) j = 0 := by
  rw [eq_ix2 j]; unfold k0_pay1; pointwise

/-- One row tile's contribution: the input's transpose against the cotangent. -/
theorem pay2_apply (a : S512x1024.Idx → Ideal .bf16) (acc : S1024x768.Idx → Ideal .f32)
    (b : S512x768.Idx → Ideal .bf16) (p : Fin 1024) (q : Fin 768) :
    k0_pay2 a acc b (ix2 p q) = acc (ix2 p q) + ∑ k : Fin 512, a (ix2 k p) * b (ix2 k q) := by
  unfold k0_pay2; pointwise

/-- One row tile's part of the sum at an index of the block. -/
def tile (a : S512x1024.Idx → Ideal .bf16) (b : S512x768.Idx → Ideal .bf16) (j : S1024x768.Idx) : EReal :=
  ∑ k : Fin 512, a (ix2 k (j 0)) * b (ix2 k (j 1))

/-- The same at any index of the block. -/
theorem pay2_at (a : S512x1024.Idx → Ideal .bf16) (acc : S1024x768.Idx → Ideal .f32)
    (b : S512x768.Idx → Ideal .bf16) (j : S1024x768.Idx) :
    k0_pay2 a acc b j = acc j + tile a b j := by
  obtain ⟨p, q, rfl⟩ : ∃ (p : Fin 1024) (q : Fin 768), j = ix2 p q := ⟨j 0, j 1, eq_ix2 j⟩
  exact pay2_apply a acc b p q

/-- The block written back is the sum under two unit axes. -/
theorem pay3_apply (acc : S1024x768.Idx → Ideal .f32) (p : Fin 1024) (q : Fin 768) :
    k0_pay3 (F := Ideal) acc (ix4 (0 : Fin 1) (0 : Fin 1) p q) = (acc (ix2 p q) : EReal) := by
  unfold k0_pay3; pointwise

/-- Where each window stands at grid point `t`, sixteen row tiles to a block of the result. -/
theorem idx_ : ∀ t : Fin cfg0.N,
    win0_0.index t = ![t.val % 16, t.val / 64] ∧ win0_1.index t = ![t.val % 16, t.val / 16 % 4]
    ∧ win0_2.index t = ![t.val / 16 % 4, t.val / 64, 0, 0] := by
  decide +kernel

theorem lt128 (t : Fin cfg0.N) : t.val < 128 := t.isLt.trans_eq N_0

/-- The row of the arrays that row `p` of the tiles at grid point `t` is. -/
def row (t : Fin cfg0.N) (p : Fin 512) : Fin 8192 := ⟨t.val % 16 * 512 + p.val, by omega⟩

/-- The lane of the input, and the lane of the cotangent, that a lane of the tile at grid point `t` is. -/
def laneA (t : Fin cfg0.N) (p : Fin 1024) : Fin 2048 := ⟨t.val / 64 * 1024 + p.val, by have := lt128 t; omega⟩
def laneB (t : Fin cfg0.N) (q : Fin 768) : Fin 3072 := ⟨t.val / 16 % 4 * 768 + q.val, by omega⟩

/-- The row and the column of the weight that an index of the result stands for. -/
def half (b : Fin 2) (r : Fin 1024) : Fin 2048 := ⟨b.val * 1024 + r.val, by omega⟩
def chip (a : Fin 4) (s : Fin 768) : Fin 3072 := ⟨a.val * 768 + s.val, by omega⟩

/-- The arguments by name: the input, the cotangent. -/
def X : S8192x2048.Idx → Ideal .f32 := m ((c.tc : Thread nD τ).loc main_arg0)
def CT : S8192x3072.Idx → Ideal .f32 := m ((c.tc : Thread nD τ).loc main_arg2)

/-- The gradient at the weight. -/
def DW (l : Fin 2048) (n : Fin 3072) : EReal := ∑ r : Fin 8192, X m c (ix2 r l) * CT m c (ix2 r n)

theorem iblk_0 (t : Fin cfg0.N) (k : Fin 512) (p : Fin 1024) : iblk m c 0 t (ix2 k p) = X m c (ix2 (row t k) (laneA t p)) := by
  obtain ⟨e0, e1, e2⟩ := idx_ t
  blk_simp [iblk, e0]
  entry_read
  pointwise
  unfold X row laneA
  blk_ext [e0]

theorem iblk_1 (t : Fin cfg0.N) (k : Fin 512) (q : Fin 768) : iblk m c 1 t (ix2 k q) = CT m c (ix2 (row t k) (laneB t q)) := by
  obtain ⟨e0, e1, e2⟩ := idx_ t
  blk_simp [iblk, e1]
  entry_read
  pointwise
  unfold CT row laneB
  blk_ext [e1]

/-- The block that the last point of a run writes back is the running sum. -/
theorem outs_1 (t : Fin cfg0.N) (h1 : t.val % 16 = 15) :
    (outsAt0 m c t.val t.isLt).1 = k0_pay3 (outsAt0 m c t.val t.isLt).2 := by
  rw [outsAt0_C m c t (by omega) h1]; frame_out

/-- The result: the gradient at the weight, its rows taken up a tile at a time. -/
theorem arr_2 : (dats m 0 c).arrAt 2 cfg0.N
    = fun i : S4x2x1024x768.Idx => DW m c (half (i 1) (i 2)) (chip (i 0) (i 3)) := by
  refine (dats m 0 c).arrAt_eq_of_covers 2 _ (by decide +kernel) fun t hf y => ?_
  obtain ⟨e0, e1, e2⟩ := idx_ t
  have h3 := (flush0_2 t).mp hf
  rw [after0_2, outs_1 m c t h3]
  blk_simp
  obtain ⟨p, q, rfl⟩ : ∃ (p : Fin 1024) (q : Fin 768), y = ix4 (0 : Fin 1) (0 : Fin 1) p q :=
    ⟨y 2, y 3, (eq_ix4 y).trans (by
      rw [show y 0 = (0 : Fin 1) from Subsingleton.elim (α := Fin 1) _ _, show y 1 = (0 : Fin 1) from Subsingleton.elim (α := Fin 1) _ _])⟩
  refine (pay3_apply _ p q).trans ?_
  rw [Pipeline.eq_sum_fin_of_reset_step_apply_of_flush (fun n h => (outsAt0 m c n h).2) 16 (fun _ => 0)
    (fun t j => tile (iblk m c 0 t) (iblk m c 1 t) j)
    (fun t h j => by rw [outsAt0_A m c t h (by omega)]; frame_out; rw [pay2_at, pay1_apply])
    (fun t h j => by
      by_cases h1 : t.val % 16 = 15
      · rw [outsAt0_C m c t h h1]; frame_out; rw [pay2_at]; simp only [read_unread_whole]
      · rw [outsAt0_B m c t h h1]; frame_out; rw [pay2_at]; simp only [read_unread_whole]) t h3 (ix2 p q)]
  rw [zero_add]
  unfold DW tile
  refine Fin.sum_mul_add_congr fun s k hl => ?_
  refine (congrArg₂ (fun a b : EReal => a * b) (iblk_0 m c _ k p) (iblk_1 m c _ k q)).trans ?_
  have := lt128 t
  have hl' : row ⟨16 * (t.val / 16) + s.val, by rw [show cfg0.N = 128 from N_0]; omega⟩ k = ⟨s.val * 512 + k.val, hl⟩ := Fin.ext (by
    unfold row; dsimp only; omega)
  rw [hl']
  refine congrArg₂ (fun l n => X m c (ix2 ⟨s.val * 512 + k.val, hl⟩ l) * CT m c (ix2 ⟨s.val * 512 + k.val, hl⟩ n)) (Fin.ext ?_) (Fin.ext ?_)
  · unfold laneA half; blk_simp [e2]; dsimp only; omega
  · unfold laneB chip; blk_simp [e2]; dsimp only; omega

end Cert.Kernel17Ideal.GradIn

namespace Cert.Proof.GradIn

open Idealize.ShloMosaic Idealize.ShloMosaic.TcCoe
open Idealize.SL.Sem

/-- The kernel's gradient is the reference's. -/
theorem algebraic : Cert.algebraic_Kernel17Ideal_Reference17Ideal (hKernel17Ideal := Cert.Kernel17Ideal.Gen.facts) (hReference17Ideal := Cert.Reference17Ideal.Gen.facts) := by
  intro m g m' g' _ hagree
  refine ⟨fun c => (fun i => Cert.Kernel17Ideal.GradIn.DW m c (Cert.Kernel17Ideal.GradIn.half (i 1) (i 2)) (Cert.Kernel17Ideal.GradIn.chip (i 0) (i 3))), ?_, ?_⟩
  · refine θ_run_mono (Cert.Kernel17Ideal.Value.run_blocks m g) fun r h c => ?_
    obtain ⟨h0, ha⟩ := h c
    exact ⟨h0.trans (Cert.Kernel17Ideal.GradIn.arr_2 m c), ha⟩
  · refine θ_run_mono (Cert.Reference17Ideal.Value.run m' g') fun r h c => ?_
    obtain ⟨h0, ha⟩ := h c
    obtain ⟨a0, a1, a2⟩ := hagree c
    refine ⟨h0.trans ?_, ha⟩
    rw [a0, a2]
    funext i
    rw [eq_ix4 i]
    pointwise
    exact Finset.sum_congr rfl fun r _ => mul_comm _ _

end Cert.Proof.GradIn

end
-- ==== Proof.GluBwd.lean ====
module

public import proofs.«01_k».proof.Defs
public import proofs.«01_k».proof.Proof.Gen.Kernel18Ideal.Value
public import proofs.«01_k».proof.Proof.Gelu
public import Idealize.ShloMosaic.Lib.Pipeline.ValueKit
public import Idealize.ShloMosaic.Lib.Pipeline.ReadBack
public import Idealize.ShloMosaic.Lib.StableHlo.RunHlo
public import Idealize.ShloMosaic.Lib.Pointwise
public import Idealize.ShloMosaic.Lib.Claim

@[expose] public section

set_option maxRecDepth 16384

noncomputable section

namespace Cert.Proof.GluBwd

open Idealize.ShloMosaic
open Cert.Proof.Norm Cert.Proof.Gelu

/-- Gelu's cubic coefficient, and three times it. -/
def cub : EReal := ((8943 / 200000 : ℝ) : EReal)
def cub3 : EReal := ((26829 / 200000 : ℝ) : EReal)

/-- The hyperbolic tangent in gelu, as the kernel has it and as the reference has it. -/
def thK (x : EReal) : EReal := Ideal.tanh (Ideal.ofBits .f32 0x3F4C422A#32 * (x + cub * x * x * x))
def th (x : EReal) : EReal :=
  Ideal.tanh (Ideal.ofBits .f32 0x3F4C422A#32
    * (x + Ideal.div (Ideal.ofBits .f32 0x472EAB00#32 * (x * x * x)) (Ideal.ofBits .f32 0x49742400#32)))

/-- Gelu in both spellings. -/
def actK (x : EReal) : EReal := Ideal.ofBits .f32 0x3F000000#32 * x * (1 + thK x)
def act (x : EReal) : EReal := x * (Ideal.ofBits .f32 0x3F000000#32 * (1 + th x))

/-- Gelu's derivative in both spellings. -/
def slopeK (x : EReal) : EReal :=
  Ideal.ofBits .f32 0x3F000000#32 * (1 + thK x)
    + Ideal.ofBits .f32 0x3F000000#32 * x * (1 - thK x * thK x) * (Ideal.ofBits .f32 0x3F4C422A#32 * (1 + cub3 * x * x))
def slope (x : EReal) : EReal :=
  Ideal.ofBits .f32 0x3F000000#32 * (1 + th x)
    + Ideal.ofBits .f32 0x3F4C422A#32 * (Ideal.ofBits .f32 0x3F000000#32 * x * ((1 + th x) * (1 - th x)))
    + Ideal.ofBits .f32 0x472EAB00#32
        * Ideal.div (Ideal.ofBits .f32 0x3F4C422A#32 * (Ideal.ofBits .f32 0x3F000000#32 * x * ((1 + th x) * (1 - th x))))
            (Ideal.ofBits .f32 0x49742400#32)
      * (Ideal.ofBits .f32 0x40400000#32 * (x * x))

theorem num_eq : Ideal.ofBits .f32 0x472EAB00#32 = ((44715 : ℝ) : EReal) := by
  simp [Ideal.ofBits, Ideal.ieee, -EReal.coe_mul]; norm_num
theorem mil_eq : Ideal.ofBits .f32 0x49742400#32 = ((1000000 : ℝ) : EReal) := by
  simp [Ideal.ofBits, Ideal.ieee, -EReal.coe_mul]; norm_num
theorem three_eq : Ideal.ofBits .f32 0x40400000#32 = ((3 : ℝ) : EReal) := by
  simp [Ideal.ofBits, Ideal.ieee, -EReal.coe_mul]; norm_num
theorem len_eq : Ideal.ofBits .f32 0x44800000#32 = ((1024 : ℝ) : EReal) := by
  simp [Ideal.ofBits, Ideal.ieee, -EReal.coe_mul]; norm_num

/-- Division by a million and by the row's length. -/
theorem div_mil (x : EReal) : Ideal.div x (Ideal.ofBits .f32 0x49742400#32) = x * ((1 / 1000000 : ℝ) : EReal) := by
  rw [mil_eq]
  unfold Ideal.div
  rw [if_neg (by norm_cast), ← EReal.coe_inv]
  norm_num
theorem div_len (x : EReal) : Ideal.div x (Ideal.ofBits .f32 0x44800000#32) = x * ((1 / 1024 : ℝ) : EReal) := by
  rw [len_eq]
  unfold Ideal.div
  rw [if_neg (by norm_cast), ← EReal.coe_inv]
  norm_num

theorem bot_cube : (⊥ : EReal) * ⊥ * ⊥ = ⊥ := by rw [EReal.bot_mul_bot, EReal.top_mul_bot]
theorem top_cube : (⊤ : EReal) * ⊤ * ⊤ = ⊤ := by rw [EReal.top_mul_top, EReal.top_mul_top]

/-- The tangents at the ends. -/
theorem th_top : th ⊤ = 1 := by
  unfold th
  rw [div_mil, num_eq, k_eq, top_cube, EReal.coe_mul_top_of_pos (by norm_num), EReal.top_mul_coe_of_pos (by norm_num), EReal.top_add_top,
    EReal.coe_mul_top_of_pos (by norm_num), Ideal.tanh_top]
theorem th_bot : th ⊥ = -1 := by
  unfold th
  rw [div_mil, num_eq, k_eq, bot_cube, EReal.coe_mul_bot_of_pos (by norm_num), EReal.bot_mul_coe_of_pos (by norm_num), EReal.bot_add,
    EReal.coe_mul_bot_of_pos (by norm_num), Ideal.tanh_bot]

/-- The tangents agree. -/
theorem th_eq (x : EReal) : thK x = th x := by
  unfold thK th cub
  rw [div_mil, num_eq]
  congr 2
  congr 1
  have e : ((8943 / 200000 : ℝ) : EReal) = ((44715 : ℝ) : EReal) * ((1 / 1000000 : ℝ) : EReal) := by
    rw [← EReal.coe_mul]; congr 1; norm_num
  rw [e]; ac_rfl

/-- The two spellings of gelu agree. -/
theorem act_eq (x : EReal) : actK x = act x := by
  unfold actK act
  rw [th_eq, mul_comm (Ideal.ofBits .f32 0x3F000000#32) x, mul_assoc]

/-- A real tangent at a real argument. -/
theorem th_coe (r : ℝ) : ∃ t : ℝ, th (r : EReal) = (t : EReal) := by
  unfold th
  rw [div_mil, num_eq, k_eq]
  norm_cast
  exact ⟨_, Ideal.tanh_coe _⟩

/-- The two spellings of gelu's derivative agree, on infinite values too. -/
theorem slope_eq (x : EReal) : slopeK x = slope x := by
  unfold slopeK slope
  rw [th_eq, div_mil, num_eq, k_eq, half_eq, three_eq]
  unfold cub3
  have z : (1 : EReal) - 1 = 0 := by
    rw [show (1 : EReal) = ((1 : ℝ) : EReal) from rfl, ← EReal.coe_sub]; norm_num
  have z' : (1 : EReal) + -1 = 0 := by rw [← sub_eq_add_neg, z]
  induction x with
  | bot => rw [th_bot, neg_mul_neg, one_mul, z, z']; simp
  | top => rw [th_top, one_mul, z]; simp
  | coe r =>
    obtain ⟨t, ht⟩ := th_coe r
    rw [ht, show (1 : EReal) = ((1 : ℝ) : EReal) from rfl]
    norm_cast
    ring

/-- The mean square of a row of 1024, with the small constant. -/
def var (f : Fin 1024 → EReal) : EReal :=
  Ideal.div (∑ k, f k * f k) (Ideal.ofBits .f32 0x44800000#32) + Ideal.ofBits .f32 0x358637BD#32

/-- A normalisation's gradient at its row `x` of 1024, of a cotangent `a` that the gain has entered. -/
def dnorm (x a : Fin 1024 → EReal) (q : Fin 1024) : EReal :=
  Gelu.rms x * a q - x q * (Gelu.rms x * Gelu.rms x * Gelu.rms x) * Ideal.div (∑ k, a k * x k) (Ideal.ofBits .f32 0x44800000#32)

/-- The gradient as the derivative of the forward lines gives it is the closed form. -/
theorem dnorm_eq (x a : Fin 1024 → EReal) (q : Fin 1024) :
    a q * Gelu.rms x
      + x q * Ideal.div ((∑ k, x k * a k) * (Ideal.ofBits .f32 0xBF000000#32 * Ideal.div (Gelu.rms x) (var x))) (Ideal.ofBits .f32 0x44800000#32)
      + Ideal.div ((∑ k, x k * a k) * (Ideal.ofBits .f32 0xBF000000#32 * Ideal.div (Gelu.rms x) (var x))) (Ideal.ofBits .f32 0x44800000#32) * x q
      = dnorm x a q := by
  rw [add_assoc]
  refine (congrArg (a q * Gelu.rms x + ·) (corr_of _ (1 / 1024) (by norm_num) div_len (var x)
    (var_cases_of _ (1 / 1024) (by norm_num) div_len x) (x q) (∑ k, x k * a k))).trans ?_
  rw [mul_comm (a q), show (∑ k, x k * a k) = ∑ k, a k * x k from Finset.sum_congr rfl fun k _ => mul_comm _ _]
  rfl

/-- A row's gate, in either spelling of gelu and of the logistic function. -/
def gate (φ σ : EReal → EReal) (y : Fin 1024 → EReal) (w : Fin 1024 → Fin 1024 → EReal) (b : Fin 1024 → EReal) (q : Fin 1024) : EReal :=
  σ ((∑ k, φ (y k) * w k q) + b q)

/-- A row under its gate. -/
def gated (φ σ : EReal → EReal) (y : Fin 1024 → EReal) (w : Fin 1024 → Fin 1024 → EReal) (b : Fin 1024 → EReal) (q : Fin 1024) : EReal :=
  φ (y q) * gate φ σ y w b q

end Cert.Proof.GluBwd

namespace Cert.Kernel18Ideal.GluBwd

open Idealize.ShloMosaic Idealize.ShloMosaic.TcCoe
open Idealize.SL.Sem
open Cert.Kernel18Ideal Cert.Kernel18Ideal.Gen
open Cert.Proof.GluBwd
open Cert.Proof.Gelu (logi logiK logi_eq rms)

variable (m : (ℓ : Loc nD τ sig) → Buf (Elt Ideal) ℓ) (c : Dev nD)

theorem pay6_apply (y : S512x1024.Idx → Ideal .f32) (p : Fin 512) (q : Fin 1024) :
    k0_pay6 (F := Ideal) y (ix2 p q) = actK (y (ix2 p q)) := by
  unfold k0_pay6; pointwise; rfl

theorem pay7_apply (y : S512x1024.Idx → Ideal .f32) (p : Fin 512) (q : Fin 1024) :
    k0_pay7 (F := Ideal) y (ix2 p q) = (actK (y (ix2 p q)) : EReal) := by
  unfold k0_pay7; pointwise; exact pay6_apply y p q

/-- The gate. -/
theorem pay8_apply (y : S512x1024.Idx → Ideal .f32) (w : S1024x1024.Idx → Ideal .bf16) (b : S1x1024.Idx → Ideal .f32) (p : Fin 512) (q : Fin 1024) :
    k0_pay8 (F := Ideal) y w b (ix2 p q)
      = gate actK logiK (fun k => y (ix2 p k)) (fun k q => w (ix2 k q)) (fun q => b (ix2 (0 : Fin 1) q)) q := by
  unfold k0_pay8; pointwise
  simp only [pay7_apply]
  rfl

/-- The gated row. -/
theorem pay9_apply (y : S512x1024.Idx → Ideal .f32) (w : S1024x1024.Idx → Ideal .bf16) (b : S1x1024.Idx → Ideal .f32) (p : Fin 512) (q : Fin 1024) :
    k0_pay9 (F := Ideal) y w b (ix2 p q)
      = gated actK logiK (fun k => y (ix2 p k)) (fun k q => w (ix2 k q)) (fun q => b (ix2 (0 : Fin 1) q)) q := by
  unfold k0_pay9; pointwise
  rw [pay6_apply, pay8_apply]
  rfl

/-- One over the gated row's root mean square. -/
theorem pay12_apply (y : S512x1024.Idx → Ideal .f32) (w : S1024x1024.Idx → Ideal .bf16) (b : S1x1024.Idx → Ideal .f32) (p : Fin 512) :
    k0_pay12 (F := Ideal) (k0_pay10 y w b) k0_pay11 (ix2 p (0 : Fin 1))
      = rms (gated actK logiK (fun k => y (ix2 p k)) (fun k q => w (ix2 k q)) (fun q => b (ix2 (0 : Fin 1) q))) := by
  unfold k0_pay12 k0_pay10 k0_pay11; pointwise
  simp only [pay9_apply]
  rfl

/-- The norm's gradient at a row, for any array under it and any normaliser. -/
theorem pay13_apply (x dm : S512x1024.Idx → Ideal .f32) (u v : S512x1.Idx → Ideal .f32) (g : S1x1024.Idx → Ideal .f32) (p : Fin 512) (q : Fin 1024) :
    k0_pay13 (F := Ideal) x dm u v g (ix2 p q)
      = (k0_pay12 u v (ix2 p (0 : Fin 1)) * (dm (ix2 p q) * g (ix2 (0 : Fin 1) q))
        - x (ix2 p q) * (k0_pay12 u v (ix2 p (0 : Fin 1)) * k0_pay12 u v (ix2 p (0 : Fin 1)) * k0_pay12 u v (ix2 p (0 : Fin 1)))
          * Ideal.div (∑ k : Fin 1024, dm (ix2 p k) * g (ix2 (0 : Fin 1) k) * x (ix2 p k)) (Ideal.ofBits .f32 0x44800000#32) : EReal) := by
  unfold k0_pay13; pointwise

/-- The gain's gradient, a tile of rows more. -/
theorem pay14_apply (x dm : S512x1024.Idx → Ideal .f32) (u v : S512x1.Idx → Ideal .f32) (acc : S1x1024.Idx → Ideal .f32) (q : Fin 1024) :
    k0_pay14 (F := Ideal) x dm u v acc (ix2 (0 : Fin 1) q)
      = (acc (ix2 (0 : Fin 1) q) + ∑ k : Fin 512, dm (ix2 k q) * x (ix2 k q) * k0_pay12 u v (ix2 k (0 : Fin 1)) : EReal) := by
  unfold k0_pay14; pointwise

/-- What reaches the gate's argument. -/
theorem pay15_apply (a s x dm : S512x1024.Idx → Ideal .f32) (u v : S512x1.Idx → Ideal .f32) (g : S1x1024.Idx → Ideal .f32) (p : Fin 512) (q : Fin 1024) :
    k0_pay15 (F := Ideal) a s x dm u v g (ix2 p q)
      = (k0_pay13 x dm u v g (ix2 p q) * a (ix2 p q) * s (ix2 p q) * (1 - s (ix2 p q)) : EReal) := by
  unfold k0_pay15; pointwise

/-- The bias's gradient, a tile of rows more. -/
theorem pay16_apply (a s x dm : S512x1024.Idx → Ideal .f32) (u v : S512x1.Idx → Ideal .f32) (g acc : S1x1024.Idx → Ideal .f32) (q : Fin 1024) :
    k0_pay16 (F := Ideal) a s x dm u v g acc (ix2 (0 : Fin 1) q)
      = (acc (ix2 (0 : Fin 1) q) + ∑ k : Fin 512, k0_pay15 a s x dm u v g (ix2 k q) : EReal) := by
  unfold k0_pay16; pointwise

/-- What is passed back to the S5 mixer. -/
theorem pay18_apply (y s d e : S512x1024.Idx → Ideal .f32) (w : S1024x1024.Idx → Ideal .bf16) (p : Fin 512) (q : Fin 1024) :
    k0_pay18 (F := Ideal) y s d e w (ix2 p q)
      = ((d (ix2 p q) * s (ix2 p q) + ∑ k : Fin 1024, e (ix2 p k) * w (ix2 q k)) * slopeK (y (ix2 p q)) : EReal) := by
  unfold k0_pay18 k0_pay17; pointwise; rfl

/-- The weight's gradient, a tile of rows more. -/
theorem pay19_apply (a : S512x1024.Idx → Ideal .bf16) (e : S512x1024.Idx → Ideal .f32) (acc : S1024x1024.Idx → Ideal .f32) (p q : Fin 1024) :
    k0_pay1 (F := Ideal) (k0_pay19 a e acc) (ix2 p q) = (acc (ix2 p q) + ∑ k : Fin 512, a (ix2 k p) * e (ix2 k q) : EReal) := by
  unfold k0_pay1 k0_pay19 k0_pay17; pointwise

/-- The zero blocks that the sums start from. -/
theorem pay3_apply (j : S1024x1024.Idx) : k0_pay3 (F := Ideal) j = 0 := by
  rw [eq_ix2 j]; unfold k0_pay3; pointwise
theorem pay4_apply (j : S1x1024.Idx) : k0_pay4 (F := Ideal) j = 0 := by
  rw [eq_ix2 j]; unfold k0_pay4; pointwise
theorem pay5_apply (j : S1x1024.Idx) : k0_pay5 (F := Ideal) j = 0 := by
  rw [eq_ix2 j]; unfold k0_pay5; pointwise
theorem pay2_apply (a : S1024x1024.Idx → Ideal .f32) (p q : Fin 1024) : k0_pay2 (F := Ideal) a (ix2 p q) = (a (ix2 p q) : EReal) := by
  unfold k0_pay2; pointwise

/-- Where each window stands at grid point `t`: the tiles of rows move, the rest stays. -/
theorem idx_ : ∀ t : Fin cfg0.N,
    win0_0.index t = ![t.val, 0] ∧ win0_1.index t = ![t.val, 0] ∧ win0_2.index t = ![0, 0] ∧ win0_3.index t = ![0, 0]
    ∧ win0_4.index t = ![0, 0] ∧ win0_5.index t = ![t.val, 0] ∧ win0_6.index t = ![0, 0] ∧ win0_7.index t = ![0, 0]
    ∧ win0_8.index t = ![0, 0] := by
  decide +kernel

theorem lt16 (t : Fin cfg0.N) : t.val < 16 := t.isLt.trans_eq N_0

/-- The row of the arrays that row `p` of the tile at grid point `t` is. -/
def row (t : Fin cfg0.N) (p : Fin 512) : Fin 8192 := ⟨t.val * 512 + p.val, by have := lt16 t; omega⟩

/-- The arguments by name: the S5 mixer's output, the gate's weight and bias, the norm's gain, and the cotangent, of
    which the first 1024 columns are this half's. -/
def Y : S8192x1024.Idx → Ideal .f32 := m ((c.tc : Thread nD τ).loc main_arg0)
def W : S1024x1024.Idx → Ideal .f32 := m ((c.tc : Thread nD τ).loc main_arg1)
def B : S1024.Idx → Ideal .f32 := m ((c.tc : Thread nD τ).loc main_arg2)
def G : S1024.Idx → Ideal .f32 := m ((c.tc : Thread nD τ).loc main_arg3)
def D : S8192x2048.Idx → Ideal .f32 := m ((c.tc : Thread nD τ).loc main_arg4)

/-- A row's gate, the row under it, and the cotangent's row. -/
def GT (i : Fin 8192) : Fin 1024 → EReal :=
  gate act logi (fun k => Y m c (ix2 i k)) (fun k q => W m c (ix2 k q)) (fun q => B m c (ix1 q))
def X (i : Fin 8192) : Fin 1024 → EReal :=
  gated act logi (fun k => Y m c (ix2 i k)) (fun k q => W m c (ix2 k q)) (fun q => B m c (ix1 q))
def DMr (i : Fin 8192) (k : Fin 1024) : EReal := D m c (ix2 i (⟨k.val, by omega⟩ : Fin 2048))

/-- What the norm passes back, and what of it reaches the gate's argument. -/
def DYS (i : Fin 8192) (q : Fin 1024) : EReal := dnorm (X m c i) (fun k => DMr m c i k * G m c (ix1 k)) q
def DP (i : Fin 8192) (q : Fin 1024) : EReal := DYS m c i q * act (Y m c (ix2 i q)) * GT m c i q * (1 - GT m c i q)

/-- The four results. -/
def DY (i : Fin 8192) (q : Fin 1024) : EReal :=
  (DYS m c i q * GT m c i q + ∑ k, DP m c i k * W m c (ix2 q k)) * slope (Y m c (ix2 i q))
def DW (p q : Fin 1024) : EReal := ∑ i : Fin 8192, act (Y m c (ix2 i p)) * DP m c i q
def DB (q : Fin 1024) : EReal := ∑ i : Fin 8192, DP m c i q
def DG (q : Fin 1024) : EReal := ∑ i : Fin 8192, DMr m c i q * X m c i q * rms (X m c i)

theorem iblk_0 (t : Fin cfg0.N) (p : Fin 512) (k : Fin 1024) : iblk m c 0 t (ix2 p k) = Y m c (ix2 (row t p) k) := by
  obtain ⟨e0, e1, e2, e3, e4, e5, e6, e7, e8⟩ := idx_ t
  blk_simp [iblk, e0]; entry_read; pointwise; unfold Y row; blk_ext [e0]
theorem iblk_1 (t : Fin cfg0.N) (p : Fin 512) (k : Fin 1024) : iblk m c 1 t (ix2 p k) = DMr m c (row t p) k := by
  obtain ⟨e0, e1, e2, e3, e4, e5, e6, e7, e8⟩ := idx_ t
  blk_simp [iblk, e1]; entry_read; pointwise; unfold DMr D row; blk_ext [e1]
theorem iblk_2 (t : Fin cfg0.N) (p k : Fin 1024) : iblk m c 2 t (ix2 p k) = W m c (ix2 p k) := by
  obtain ⟨e0, e1, e2, e3, e4, e5, e6, e7, e8⟩ := idx_ t
  blk_simp [iblk, e2]; entry_read; pointwise; unfold W; blk_ext [e2]
theorem iblk_3 (t : Fin cfg0.N) (k : Fin 1024) : iblk m c 3 t (ix2 (0 : Fin 1) k) = B m c (ix1 k) := by
  obtain ⟨e0, e1, e2, e3, e4, e5, e6, e7, e8⟩ := idx_ t
  blk_simp [iblk, e3]; entry_read; pointwise; unfold B; blk_ext [e3]
theorem iblk_4 (t : Fin cfg0.N) (k : Fin 1024) : iblk m c 4 t (ix2 (0 : Fin 1) k) = G m c (ix1 k) := by
  obtain ⟨e0, e1, e2, e3, e4, e5, e6, e7, e8⟩ := idx_ t
  blk_simp [iblk, e4]; entry_read; pointwise; unfold G; blk_ext [e4]

/-- The kernel's spellings are the reference's. -/
theorem act_fun : actK = act := funext act_eq
theorem logi_fun : logiK = logi := funext logi_eq

/-- The tiles at grid point `t`: gelu, the gate, the gated rows, their normaliser, what the norm passes back, and what
    reaches the gate's argument. -/
theorem act_blk (t : Fin cfg0.N) (p : Fin 512) (q : Fin 1024) : k0_pay6 (iblk m c 0 t) (ix2 p q) = act (Y m c (ix2 (row t p) q)) := by
  rw [pay6_apply, iblk_0, act_eq]
theorem actb_blk (t : Fin cfg0.N) (p : Fin 512) (q : Fin 1024) : k0_pay7 (iblk m c 0 t) (ix2 p q) = act (Y m c (ix2 (row t p) q)) := by
  rw [pay7_apply, iblk_0, act_eq]
theorem gate_blk (t : Fin cfg0.N) (p : Fin 512) (q : Fin 1024) :
    k0_pay8 (iblk m c 0 t) (iblk m c 2 t) (iblk m c 3 t) (ix2 p q) = GT m c (row t p) q := by
  rw [pay8_apply, act_fun, logi_fun]
  unfold GT
  simp only [iblk_0, iblk_2, iblk_3]
theorem gated_blk (t : Fin cfg0.N) (p : Fin 512) (q : Fin 1024) :
    k0_pay9 (iblk m c 0 t) (iblk m c 2 t) (iblk m c 3 t) (ix2 p q) = X m c (row t p) q := by
  rw [pay9_apply, act_fun, logi_fun]
  unfold X
  simp only [iblk_0, iblk_2, iblk_3]
theorem rms_blk (t : Fin cfg0.N) (p : Fin 512) :
    k0_pay12 (k0_pay10 (iblk m c 0 t) (iblk m c 2 t) (iblk m c 3 t)) k0_pay11 (ix2 p (0 : Fin 1)) = rms (X m c (row t p)) := by
  rw [pay12_apply, act_fun, logi_fun]
  unfold X
  simp only [iblk_0, iblk_2, iblk_3]

/-- The tile of what the norm passes back, and the tile of what reaches the gate's argument, by name. -/
def dysT (t : Fin cfg0.N) : S512x1024.Idx → Ideal .f32 :=
  k0_pay13 (k0_pay9 (iblk m c 0 t) (iblk m c 2 t) (iblk m c 3 t)) (iblk m c 1 t)
    (k0_pay10 (iblk m c 0 t) (iblk m c 2 t) (iblk m c 3 t)) k0_pay11 (iblk m c 4 t)
def dpT (t : Fin cfg0.N) : S512x1024.Idx → Ideal .f32 :=
  k0_pay15 (k0_pay6 (iblk m c 0 t)) (k0_pay8 (iblk m c 0 t) (iblk m c 2 t) (iblk m c 3 t))
    (k0_pay9 (iblk m c 0 t) (iblk m c 2 t) (iblk m c 3 t)) (iblk m c 1 t)
    (k0_pay10 (iblk m c 0 t) (iblk m c 2 t) (iblk m c 3 t)) k0_pay11 (iblk m c 4 t)

theorem dys_blk (t : Fin cfg0.N) (p : Fin 512) (q : Fin 1024) : dysT m c t (ix2 p q) = DYS m c (row t p) q := by
  unfold dysT
  rw [pay13_apply, rms_blk, gated_blk]
  simp only [gated_blk, iblk_1, iblk_4]
  rfl
theorem dp_blk (t : Fin cfg0.N) (p : Fin 512) (q : Fin 1024) : dpT m c t (ix2 p q) = DP m c (row t p) q := by
  unfold dpT
  rw [pay15_apply, act_blk, gate_blk]
  exact congrArg (fun a : EReal => a * act (Y m c (ix2 (row t p) q)) * GT m c (row t p) q * (1 - GT m c (row t p) q)) (dys_blk m c t p q)

/-- What a point leaves in the tile of the first result. -/
theorem outs_5 (t : Fin cfg0.N) : (outsAt0 m c t.val t.isLt).1
    = k0_pay18 (iblk m c 0 t) (k0_pay8 (iblk m c 0 t) (iblk m c 2 t) (iblk m c 3 t)) (dysT m c t) (dpT m c t) (iblk m c 2 t) := by
  unfold dysT dpT
  by_cases h : t.val % 16 = 0
  · rw [outsAt0_A m c t h (by omega)]; frame_out
  · by_cases h1 : t.val % 16 = 15
    · rw [outsAt0_C m c t h h1]; frame_out
    · rw [outsAt0_B m c t h h1]; frame_out

/-- The first result: what is passed back to the S5 mixer. -/
theorem arr_5 : (dats m 0 c).arrAt 5 cfg0.N = fun i : S8192x1024.Idx => DY m c (i 0) (i 1) := by
  refine (dats m 0 c).arrAt_eq_of_covers 5 _ (by decide +kernel) fun t hf y => ?_
  obtain ⟨e0, e1, e2, e3, e4, e5, e6, e7, e8⟩ := idx_ t
  rw [after0_5, outs_5]
  blk_simp
  obtain ⟨p, q, rfl⟩ : ∃ (p : Fin 512) (q : Fin 1024), y = ix2 p q := ⟨y 0, y 1, eq_ix2 y⟩
  refine (pay18_apply _ _ _ _ _ p q).trans ?_
  rw [dys_blk, gate_blk, iblk_0, slope_eq]
  simp only [dp_blk, iblk_2]
  refine Eq.trans ?_ (congrArg₂ (DY m c) (Fin.ext ?_) (Fin.ext ?_) : DY m c (row t p) q = _)
  · rfl
  · unfold row; blk_simp [e5]
  · blk_simp [e5]

/-- A tile's part of the weight's gradient, of the bias's and of the gain's, at an index of the result. -/
def tileW (t : Fin cfg0.N) (j : S1024x1024.Idx) : EReal := ∑ k : Fin 512, k0_pay7 (F := Ideal) (iblk m c 0 t) (ix2 k (j 0)) * dpT m c t (ix2 k (j 1))
def tileB (t : Fin cfg0.N) (j : S1x1024.Idx) : EReal := ∑ k : Fin 512, dpT m c t (ix2 k (j 1))
def tileD (t : Fin cfg0.N) (j : S512x1024.Idx) : EReal := iblk m c 1 t j
def tileG (t : Fin cfg0.N) (j : S1x1024.Idx) : EReal :=
  ∑ k : Fin 512, tileD m c t (ix2 k (j 1)) * k0_pay9 (F := Ideal) (iblk m c 0 t) (iblk m c 2 t) (iblk m c 3 t) (ix2 k (j 1))
    * k0_pay12 (F := Ideal) (k0_pay10 (iblk m c 0 t) (iblk m c 2 t) (iblk m c 3 t)) k0_pay11 (ix2 k (0 : Fin 1))

theorem stepW (t : Fin cfg0.N) (acc : S1024x1024.Idx → Ideal .f32) (j : S1024x1024.Idx) :
    k0_pay1 (k0_pay19 (k0_pay7 (iblk m c 0 t)) (dpT m c t) acc) j = acc j + tileW m c t j := by
  obtain ⟨p, q, rfl⟩ : ∃ (p q : Fin 1024), j = ix2 p q := ⟨j 0, j 1, eq_ix2 j⟩
  exact pay19_apply _ _ acc p q
theorem ix_row (j : S1x1024.Idx) : ∃ q : Fin 1024, j = ix2 (0 : Fin 1) q :=
  ⟨j 1, (eq_ix2 j).trans (by rw [show j 0 = (0 : Fin 1) from Subsingleton.elim (α := Fin 1) _ _])⟩
theorem stepB (t : Fin cfg0.N) (acc : S1x1024.Idx → Ideal .f32) (j : S1x1024.Idx) :
    k0_pay16 (k0_pay6 (iblk m c 0 t)) (k0_pay8 (iblk m c 0 t) (iblk m c 2 t) (iblk m c 3 t))
      (k0_pay9 (iblk m c 0 t) (iblk m c 2 t) (iblk m c 3 t)) (iblk m c 1 t)
      (k0_pay10 (iblk m c 0 t) (iblk m c 2 t) (iblk m c 3 t)) k0_pay11 (iblk m c 4 t) acc j = acc j + tileB m c t j := by
  obtain ⟨q, rfl⟩ := ix_row j
  exact pay16_apply _ _ _ _ _ _ _ acc q
theorem stepG (t : Fin cfg0.N) (acc : S1x1024.Idx → Ideal .f32) (j : S1x1024.Idx) :
    k0_pay14 (k0_pay9 (iblk m c 0 t) (iblk m c 2 t) (iblk m c 3 t)) (iblk m c 1 t)
      (k0_pay10 (iblk m c 0 t) (iblk m c 2 t) (iblk m c 3 t)) k0_pay11 acc j = acc j + tileG m c t j := by
  obtain ⟨q, rfl⟩ := ix_row j
  exact pay14_apply _ _ _ _ acc q

/-- The row of the arrays at row `k` of the tile of point `s`. -/
theorem row_eq (t : Fin cfg0.N) (s : Fin 16) (k : Fin 512) (hl : s.val * 512 + k.val < 8192) (h : 16 * (t.val / 16) + s.val < cfg0.N) :
    row ⟨16 * (t.val / 16) + s.val, h⟩ k = ⟨s.val * 512 + k.val, hl⟩ :=
  Fin.ext (by have := lt16 t; unfold row; dsimp only; omega)

/-- The block of the second result that the last point writes is the running sum. -/
theorem outs_6 (t : Fin cfg0.N) (h1 : t.val % 16 = 15) :
    (outsAt0 m c t.val t.isLt).2.1 = k0_pay2 (outsAt0 m c t.val t.isLt).2.2.2.2 := by
  rw [outsAt0_C m c t (by omega) h1]; frame_out

/-- The second result: the gradient at the gate's weight. -/
theorem arr_6 : (dats m 0 c).arrAt 6 cfg0.N = fun i : S1024x1024.Idx => DW m c (i 0) (i 1) := by
  refine (dats m 0 c).arrAt_eq_of_covers 6 _ (by decide +kernel) fun t hf y => ?_
  obtain ⟨e0, e1, e2, e3, e4, e5, e6, e7, e8⟩ := idx_ t
  have h15 := (flush0_6 t).mp hf
  rw [after0_6, outs_6 m c t h15]
  blk_simp
  obtain ⟨p, q, rfl⟩ : ∃ (p q : Fin 1024), y = ix2 p q := ⟨y 0, y 1, eq_ix2 y⟩
  refine (pay2_apply _ p q).trans ?_
  rw [Pipeline.eq_sum_fin_of_reset_step_apply_of_flush (fun n h => (outsAt0 m c n h).2.2.2.2) 16 (fun _ => 0)
    (fun t j => tileW m c t j)
    (fun t h j => by rw [outsAt0_A m c t h (by omega)]; frame_out; refine (stepW m c t _ j).trans ?_; rw [pay3_apply])
    (fun t h j => by
      by_cases h1 : t.val % 16 = 15
      · rw [outsAt0_C m c t h h1]; frame_out; refine (stepW m c t _ j).trans ?_; simp only [read_unread_whole]
      · rw [outsAt0_B m c t h h1]; frame_out; refine (stepW m c t _ j).trans ?_; simp only [read_unread_whole]) t h15 (ix2 p q)]
  rw [zero_add]
  have hp : p = (win0_6.blk t).view.emb (ix2 p q) 0 := Fin.ext (by blk_simp [e6])
  have hq : q = (win0_6.blk t).view.emb (ix2 p q) 1 := Fin.ext (by blk_simp [e6])
  rw [← hp, ← hq]
  unfold DW tileW
  refine Fin.sum_mul_add_congr fun s k hl => ?_
  refine (congrArg₂ (fun a b : EReal => a * b) (actb_blk m c _ k p) (dp_blk m c _ k q)).trans ?_
  rw [row_eq t s k hl]

/-- The third result: the gradient at the gate's bias. -/
theorem arr_7 : (dats m 0 c).arrAt 7 cfg0.N = fun i : S1x1024.Idx => DB m c (i 1) := by
  refine (dats m 0 c).arrAt_eq_of_covers 7 _ (by decide +kernel) fun t hf y => ?_
  obtain ⟨e0, e1, e2, e3, e4, e5, e6, e7, e8⟩ := idx_ t
  have h15 := (flush0_7 t).mp hf
  rw [after0_7]
  blk_simp
  obtain ⟨q, rfl⟩ := ix_row y
  rw [Pipeline.eq_sum_fin_of_reset_step_apply_of_flush (fun n h => (outsAt0 m c n h).2.2.1) 16 (fun _ => 0)
    (fun t j => tileB m c t j)
    (fun t h j => by rw [outsAt0_A m c t h (by omega)]; frame_out; refine (stepB m c t _ j).trans ?_; rw [pay4_apply])
    (fun t h j => by
      by_cases h1 : t.val % 16 = 15
      · rw [outsAt0_C m c t h h1]; frame_out; exact stepB m c t _ j
      · rw [outsAt0_B m c t h h1]; frame_out; exact stepB m c t _ j) t h15 (ix2 (0 : Fin 1) q)]
  rw [zero_add]
  have hq : q = (win0_7.blk t).view.emb (ix2 (0 : Fin 1) q) 1 := Fin.ext (by blk_simp [e7])
  rw [← hq]
  unfold DB tileB
  refine Fin.sum_mul_add_congr fun s k hl => ?_
  refine (dp_blk m c _ k q).trans ?_
  rw [row_eq t s k hl]

/-- The fourth result: the gradient at the norm's gain. -/
theorem arr_8 : (dats m 0 c).arrAt 8 cfg0.N = fun i : S1x1024.Idx => DG m c (i 1) := by
  refine (dats m 0 c).arrAt_eq_of_covers 8 _ (by decide +kernel) fun t hf y => ?_
  obtain ⟨e0, e1, e2, e3, e4, e5, e6, e7, e8⟩ := idx_ t
  have h15 := (flush0_8 t).mp hf
  rw [after0_8]
  blk_simp
  obtain ⟨q, rfl⟩ := ix_row y
  rw [Pipeline.eq_sum_fin_of_reset_step_apply_of_flush (fun n h => (outsAt0 m c n h).2.2.2.1) 16 (fun _ => 0)
    (fun t j => tileG m c t j)
    (fun t h j => by rw [outsAt0_A m c t h (by omega)]; frame_out; refine (stepG m c t _ j).trans ?_; rw [pay5_apply])
    (fun t h j => by
      by_cases h1 : t.val % 16 = 15
      · rw [outsAt0_C m c t h h1]; frame_out; exact stepG m c t _ j
      · rw [outsAt0_B m c t h h1]; frame_out; exact stepG m c t _ j) t h15 (ix2 (0 : Fin 1) q)]
  rw [zero_add]
  have hq : q = (win0_8.blk t).view.emb (ix2 (0 : Fin 1) q) 1 := Fin.ext (by blk_simp [e8])
  rw [← hq]
  unfold DG tileG
  refine Fin.sum_mul_add_congr fun s k hl => ?_
  refine (congrArg₂ (fun a b : EReal => a * b) (congrArg₂ (fun a b : EReal => a * b) (iblk_1 m c _ k q) (gated_blk m c _ k q)) (rms_blk m c _ k)).trans ?_
  rw [row_eq t s k hl]

end Cert.Kernel18Ideal.GluBwd

end
-- ==== Proof.GluBwdRef.lean ====
module

public import proofs.«01_k».proof.Defs
public import proofs.«01_k».proof.Proof.Gen.Reference18Ideal.Run
public import proofs.«01_k».proof.Proof.GluBwd

@[expose] public section

set_option maxRecDepth 16384

noncomputable section

namespace Cert.Reference18Ideal.GluBwd

open Idealize.ShloMosaic Idealize.ShloMosaic.TcCoe
open Idealize.SL.Sem
open Cert.Reference18Ideal Cert.Reference18Ideal.Gen
open Cert.Proof.GluBwd
open Cert.Proof.Gelu (logi rms)

/-- A constant in every place. -/
def fill (b : BitVec 32) : FVec Ideal S8192x1024 .f32 := broadcastInDim S8192x1024 ![] bcast_S_S8192x1024 (constant S_ .f32 b)
def fill1 (b : BitVec 32) : FVec Ideal S8192x1 .f32 := broadcastInDim S8192x1 ![] bcast_S_S8192x1 (constant S_ .f32 b)

/-- The hyperbolic tangent in gelu, gelu, and gelu's derivative. -/
def thArr (y : FVec Ideal S8192x1024 .f32) : FVec Ideal S8192x1024 .f32 :=
  Host.tanh (mulf (fill 0x3F4C422A#32) (addf y (Host.divf (mulf (fill 0x472EAB00#32) (mulf (mulf y y) y)) (fill 0x49742400#32))))
def gArr (y : FVec Ideal S8192x1024 .f32) : FVec Ideal S8192x1024 .f32 :=
  mulf y (mulf (fill 0x3F000000#32) (addf (fill 0x3F800000#32) (thArr y)))
def hArr (y : FVec Ideal S8192x1024 .f32) : FVec Ideal S8192x1024 .f32 :=
  mulf (fill 0x3F4C422A#32) (mulf (mulf (fill 0x3F000000#32) (mulf y (fill 0x3F800000#32)))
    (mulf (addf (fill 0x3F800000#32) (thArr y)) (subf (fill 0x3F800000#32) (thArr y))))
def sArr (y : FVec Ideal S8192x1024 .f32) : FVec Ideal S8192x1024 .f32 :=
  addf (addf (mulf (fill 0x3F800000#32) (mulf (fill 0x3F000000#32) (addf (fill 0x3F800000#32) (thArr y)))) (hArr y))
    (mulf (mulf (fill 0x472EAB00#32) (Host.divf (hArr y) (fill 0x49742400#32))) (mulf (fill 0x40400000#32) (mulf y y)))

/-- A vector along every row. -/
def along (x : FVec Ideal S1024 .f32) : FVec Ideal S8192x1024 .f32 :=
  broadcastInDim S8192x1024 ![0, 1] bcast_S1x1024_S8192x1024_0_1 (broadcastInDim S1x1024 ![1] bcast_S1024_S1x1024_1 x)

/-- The gate. -/
def tArr (a : FVec Ideal S8192x1024 .f32) (w : FVec Ideal S1024x1024 .f32) (b : FVec Ideal S1024 .f32) : FVec Ideal S8192x1024 .f32 :=
  Host.divf (fill 0x3F800000#32) (addf (fill 0x3F800000#32)
    (Host.exp (Host.negf (addf (Host.dotGeneral dot_S8192x1024_S1024x1024_S8192x1024_1_0_0_1_n_n none a w) (along b)))))

/-- Each row's mean square with the small constant, and its inverse root. -/
def vArr (x : FVec Ideal S8192x1024 .f32) : FVec Ideal S8192x1 .f32 :=
  addf (Host.divf (broadcastInDim S8192x1 ![0] bcast_S8192_S8192x1_0
    (Host.reduceAdd (mulf x x) (constant S_ .f32 0x00000000#32) reducesTo_S8192x1024_S8192_d1 h_S_)) (fill1 0x44800000#32)) (fill1 0x358637BD#32)
def rArr (x : FVec Ideal S8192x1024 .f32) : FVec Ideal S8192x1024 .f32 :=
  broadcastInDim S8192x1024 ![0, 1] bcast_S8192x1_S8192x1024_0_1 (Host.rsqrt (vArr x))

/-- The cotangent that the gain has entered. -/
def cut (d : FVec Ideal S8192x2048 .f32) : FVec Ideal S8192x1024 .f32 := extractStridedSlice S8192x1024 ![0, 0] d slices_S8192x2048_S8192x1024_0_0
def zArr (d : FVec Ideal S8192x2048 .f32) (g : FVec Ideal S1024 .f32) : FVec Ideal S8192x1024 .f32 := mulf (cut d) (along g)

/-- The row's factor that the derivative of the root gives. -/
def cArr (x z : FVec Ideal S8192x1024 .f32) : FVec Ideal S8192x1024 .f32 :=
  broadcastInDim S8192x1024 ![0] bcast_S8192_S8192x1024_0 (Host.reduceAdd (Host.divf (mulf
    (shapeCast _ (Host.reduceAdd (mulf x z) (constant S_ .f32 0x00000000#32) reducesTo_S8192x1024_S8192_d1 h_S_) shapeCasts_S8192_S8192x1)
    (mulf (fill1 0xBF000000#32) (Host.divf (Host.rsqrt (vArr x)) (vArr x)))) (fill1 0x44800000#32))
    (constant S_ .f32 0x00000000#32) reducesTo_S8192x1_S8192_d1 h_S_)

/-- What the norm passes back. -/
def dArr (x z : FVec Ideal S8192x1024 .f32) : FVec Ideal S8192x1024 .f32 :=
  addf (addf (mulf z (rArr x)) (mulf x (cArr x z))) (mulf (cArr x z) x)

/-- What of it reaches the gate's argument. -/
def pArr (a t d : FVec Ideal S8192x1024 .f32) : FVec Ideal S8192x1024 .f32 :=
  mulf (mulf a d) (mulf t (subf (fill 0x3F800000#32) t))

/-- The four results. -/
def yRes (y t d p : FVec Ideal S8192x1024 .f32) (w : FVec Ideal S1024x1024 .f32) : FVec Ideal S8192x1024 .f32 :=
  mulf (addf (mulf d t) (Host.dotGeneral dot_S8192x1024_S1024x1024_S8192x1024_1_1_0_0_n_n none p w)) (sArr y)
def wRes (p a : FVec Ideal S8192x1024 .f32) : FVec Ideal S1024x1024 .bf16 :=
  truncf .bf16 (transpose S1024x1024 [1, 0] (Host.dotGeneral dot_S8192x1024_S8192x1024_S1024x1024_0_0_1_1_n_n none p a)
    transposes_S1024x1024_S1024x1024_1_0) bitsLt_bf16_f32
def sum0 (p : FVec Ideal S8192x1024 .f32) : FVec Ideal S1x1024 .f32 :=
  shapeCast _ (Host.reduceAdd (shapeCast S1x1024 (Host.reduceAdd p (constant S_ .f32 0x00000000#32) reducesTo_S8192x1024_S1024_d0 h_S_)
    shapeCasts_S1024_S1x1024) (constant S_ .f32 0x00000000#32) reducesTo_S1x1024_S1024_d0 h_S_) shapeCasts_S1024_S1x1024

/-- The arrays that the results share, of the arguments: the gate, the gated rows, what the norm passes back, what of it
    reaches the gate's argument. -/
def tOf (y : FVec Ideal S8192x1024 .f32) (w : FVec Ideal S1024x1024 .f32) (b : FVec Ideal S1024 .f32) : FVec Ideal S8192x1024 .f32 := tArr (gArr y) w b
def xOf (y : FVec Ideal S8192x1024 .f32) (w : FVec Ideal S1024x1024 .f32) (b : FVec Ideal S1024 .f32) : FVec Ideal S8192x1024 .f32 := mulf (gArr y) (tOf y w b)
def dOf (y : FVec Ideal S8192x1024 .f32) (w : FVec Ideal S1024x1024 .f32) (b g : FVec Ideal S1024 .f32) (d : FVec Ideal S8192x2048 .f32) :
    FVec Ideal S8192x1024 .f32 := dArr (xOf y w b) (zArr d g)
def pOf (y : FVec Ideal S8192x1024 .f32) (w : FVec Ideal S1024x1024 .f32) (b g : FVec Ideal S1024 .f32) (d : FVec Ideal S8192x2048 .f32) :
    FVec Ideal S8192x1024 .f32 := pArr (gArr y) (tOf y w b) (dOf y w b g d)

theorem fill_apply (b : BitVec 32) (i : Fin 8192) (q : Fin 1024) : fill b (ix2 i q) = Ideal.ofBits .f32 b := by
  unfold fill; pointwise
theorem fill1_apply (b : BitVec 32) (i : Fin 8192) : fill1 b (ix2 i (0 : Fin 1)) = Ideal.ofBits .f32 b := by
  unfold fill1; pointwise
theorem thArr_apply (y : FVec Ideal S8192x1024 .f32) (i : Fin 8192) (q : Fin 1024) : thArr y (ix2 i q) = th (y (ix2 i q)) := by
  unfold thArr fill; pointwise; rfl
theorem gArr_apply (y : FVec Ideal S8192x1024 .f32) (i : Fin 8192) (q : Fin 1024) : gArr y (ix2 i q) = act (y (ix2 i q)) := by
  unfold gArr fill
  have ht := thArr_apply y
  generalize thArr y = t at ht
  pointwise
  rw [ht]; rfl
theorem hArr_apply (y : FVec Ideal S8192x1024 .f32) (i : Fin 8192) (q : Fin 1024) :
    hArr y (ix2 i q) = Ideal.ofBits .f32 0x3F4C422A#32
      * (Ideal.ofBits .f32 0x3F000000#32 * y (ix2 i q) * ((1 + th (y (ix2 i q))) * (1 - th (y (ix2 i q))))) := by
  unfold hArr fill
  have ht := thArr_apply y
  generalize thArr y = t at ht
  pointwise
  simp only [ht, mul_one]
theorem sArr_apply (y : FVec Ideal S8192x1024 .f32) (i : Fin 8192) (q : Fin 1024) : sArr y (ix2 i q) = slope (y (ix2 i q)) := by
  unfold sArr fill
  have ht := thArr_apply y
  have hh := hArr_apply y
  generalize thArr y = t at ht
  generalize hArr y = h at hh
  pointwise
  simp only [ht, hh, one_mul]
  rfl
theorem along_apply (x : FVec Ideal S1024 .f32) (i : Fin 8192) (k : Fin 1024) : along x (ix2 i k) = x (ix1 k) := by
  unfold along; pointwise
theorem tArr_apply (a : FVec Ideal S8192x1024 .f32) (w : FVec Ideal S1024x1024 .f32) (b : FVec Ideal S1024 .f32) (i : Fin 8192) (q : Fin 1024) :
    tArr a w b (ix2 i q) = logi ((∑ k : Fin 1024, a (ix2 i k) * w (ix2 k q)) + b (ix1 q)) := by
  unfold tArr fill along; pointwise; rfl
theorem vArr_apply (x : FVec Ideal S8192x1024 .f32) (i : Fin 8192) : vArr x (ix2 i (0 : Fin 1)) = var (fun k => x (ix2 i k)) := by
  unfold vArr fill1; pointwise; rfl
theorem rArr_apply (x : FVec Ideal S8192x1024 .f32) (i : Fin 8192) (q : Fin 1024) : rArr x (ix2 i q) = rms (fun k => x (ix2 i k)) := by
  unfold rArr
  have hv := vArr_apply x
  generalize vArr x = v at hv
  pointwise
  rw [hv]; rfl
theorem zArr_apply (d : FVec Ideal S8192x2048 .f32) (g : FVec Ideal S1024 .f32) (i : Fin 8192) (q : Fin 1024) :
    zArr d g (ix2 i q) = d (ix2 i (⟨q.val, by omega⟩ : Fin 2048)) * g (ix1 q) := by
  unfold zArr cut along; pointwise
theorem cArr_apply (x z : FVec Ideal S8192x1024 .f32) (i : Fin 8192) (q : Fin 1024) :
    cArr x z (ix2 i q) = Ideal.div ((∑ k : Fin 1024, x (ix2 i k) * z (ix2 i k))
      * (Ideal.ofBits .f32 0xBF000000#32 * Ideal.div (rms (fun k => x (ix2 i k))) (var (fun k => x (ix2 i k))))) (Ideal.ofBits .f32 0x44800000#32) := by
  unfold cArr fill1
  have hv := vArr_apply x
  generalize vArr x = v at hv
  pointwise
  rw [Fin.sum_univ_one, hv]; rfl
theorem dArr_apply (x z : FVec Ideal S8192x1024 .f32) (i : Fin 8192) (q : Fin 1024) :
    dArr x z (ix2 i q) = dnorm (fun k => x (ix2 i k)) (fun k => z (ix2 i k)) q := by
  show z (ix2 i q) * rArr x (ix2 i q) + x (ix2 i q) * cArr x z (ix2 i q) + cArr x z (ix2 i q) * x (ix2 i q) = _
  rw [rArr_apply, cArr_apply]
  exact dnorm_eq (fun k => x (ix2 i k)) (fun k => z (ix2 i k)) q
theorem pArr_apply (a t d : FVec Ideal S8192x1024 .f32) (i : Fin 8192) (q : Fin 1024) :
    pArr a t d (ix2 i q) = d (ix2 i q) * a (ix2 i q) * t (ix2 i q) * (1 - t (ix2 i q)) := by
  unfold pArr fill; pointwise
  rw [mul_comm (a (ix2 i q)), ← mul_assoc]
theorem yRes_apply (y t d p : FVec Ideal S8192x1024 .f32) (w : FVec Ideal S1024x1024 .f32) (i : Fin 8192) (q : Fin 1024) :
    yRes y t d p w (ix2 i q) = (d (ix2 i q) * t (ix2 i q) + ∑ k : Fin 1024, p (ix2 i k) * w (ix2 q k)) * slope (y (ix2 i q)) := by
  unfold yRes
  have hs := sArr_apply y
  generalize sArr y = s at hs
  pointwise
  rw [hs]
theorem wRes_apply (p a : FVec Ideal S8192x1024 .f32) (r q : Fin 1024) :
    wRes p a (ix2 r q) = (∑ i : Fin 8192, p (ix2 i q) * a (ix2 i r) : EReal) := by
  unfold wRes; pointwise
theorem sum0_apply (p : FVec Ideal S8192x1024 .f32) (q : Fin 1024) :
    sum0 p (ix2 (0 : Fin 1) q) = ∑ i : Fin 8192, p (ix2 i q) := by
  unfold sum0; pointwise
  rw [Fin.sum_univ_one]

theorem res0_eq (m : (ℓ : Loc nD τ sig) → Buf (Elt Ideal) ℓ) (c : Dev nD) :
    Value.res_main_v114 m c = yRes (m ((c.tc : Thread nD τ).loc main_arg0))
      (tOf (m ((c.tc : Thread nD τ).loc main_arg0)) (m ((c.tc : Thread nD τ).loc main_arg1)) (m ((c.tc : Thread nD τ).loc main_arg2)))
      (dOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)))
      (pOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) (m ((c.tc : Thread nD τ).loc main_arg1)) := by
  unfold Value.res_main_v114 yRes sArr hArr pOf dOf zArr pArr dArr rArr cArr vArr xOf tOf tArr gArr thArr cut along fill fill1
  rfl

theorem res1_eq (m : (ℓ : Loc nD τ sig) → Buf (Elt Ideal) ℓ) (c : Dev nD) :
    Value.res_main_v115 m c = wRes
      (pOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) (gArr (m ((c.tc : Thread nD τ).loc main_arg0))) := by
  unfold Value.res_main_v115 wRes pOf dOf zArr pArr dArr rArr cArr vArr xOf tOf tArr gArr thArr cut along fill fill1
  rfl

theorem res2_eq (m : (ℓ : Loc nD τ sig) → Buf (Elt Ideal) ℓ) (c : Dev nD) :
    Value.res_main_v116 m c = sum0
      (pOf (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4))) := by
  unfold Value.res_main_v116 sum0 pOf dOf zArr pArr dArr rArr cArr vArr xOf tOf tArr gArr thArr cut along fill fill1
  rfl

theorem res3_eq (m : (ℓ : Loc nD τ sig) → Buf (Elt Ideal) ℓ) (c : Dev nD) :
    Value.res_main_v117 m c = sum0 (mulf
      (mulf (xOf (m ((c.tc : Thread nD τ).loc main_arg0)) (m ((c.tc : Thread nD τ).loc main_arg1)) (m ((c.tc : Thread nD τ).loc main_arg2)))
        (rArr (xOf (m ((c.tc : Thread nD τ).loc main_arg0)) (m ((c.tc : Thread nD τ).loc main_arg1)) (m ((c.tc : Thread nD τ).loc main_arg2)))))
      (cut (m ((c.tc : Thread nD τ).loc main_arg4)))) := by
  unfold Value.res_main_v117 sum0 rArr vArr xOf tOf tArr gArr thArr cut along fill fill1
  rfl

theorem cut_apply (d : FVec Ideal S8192x2048 .f32) (i : Fin 8192) (q : Fin 1024) : cut d (ix2 i q) = d (ix2 i (⟨q.val, by omega⟩ : Fin 2048)) := by
  unfold cut; pointwise

end Cert.Reference18Ideal.GluBwd

namespace Cert.Proof.GluBwd

open Idealize.ShloMosaic Idealize.ShloMosaic.TcCoe
open Idealize.SL.Sem
open Cert.Kernel18Ideal.GluBwd
open Cert.Reference18Ideal.GluBwd (tOf xOf dOf pOf)

variable (m : (ℓ : Loc Cert.Kernel18Ideal.nD Cert.Kernel18Ideal.τ Cert.Kernel18Ideal.sig) → Buf (Elt Ideal) ℓ) (c : Dev Cert.Kernel18Ideal.nD)

/-- The reference's arrays at the kernel's arguments. -/
theorem tOf_eq (i : Fin 8192) (q : Fin 1024) : tOf (Y m c) (W m c) (B m c) (ix2 i q) = GT m c i q := by
  unfold tOf
  rw [Cert.Reference18Ideal.GluBwd.tArr_apply]
  simp only [Cert.Reference18Ideal.GluBwd.gArr_apply]
  rfl
theorem xOf_eq (i : Fin 8192) (q : Fin 1024) : xOf (Y m c) (W m c) (B m c) (ix2 i q) = X m c i q := by
  show Cert.Reference18Ideal.GluBwd.gArr (Y m c) (ix2 i q) * tOf (Y m c) (W m c) (B m c) (ix2 i q) = _
  rw [Cert.Reference18Ideal.GluBwd.gArr_apply, tOf_eq]
  rfl
theorem dOf_eq (i : Fin 8192) (q : Fin 1024) : dOf (Y m c) (W m c) (B m c) (G m c) (D m c) (ix2 i q) = DYS m c i q := by
  unfold dOf
  rw [Cert.Reference18Ideal.GluBwd.dArr_apply]
  simp only [xOf_eq, Cert.Reference18Ideal.GluBwd.zArr_apply]
  rfl
theorem pOf_eq (i : Fin 8192) (q : Fin 1024) : pOf (Y m c) (W m c) (B m c) (G m c) (D m c) (ix2 i q) = DP m c i q := by
  unfold pOf
  rw [Cert.Reference18Ideal.GluBwd.pArr_apply, tOf_eq, dOf_eq, Cert.Reference18Ideal.GluBwd.gArr_apply]
  rfl

/-- The constants that the kernel names. -/
theorem preserves : Cert.preserves_Kernel18_Kernel18Ideal :=
  ⟨IdealRules.named_const.statement Cert.Kernel18Ideal.κ "gelu_c" .f32 0x3D372713#32 ((8943 / 200000 : ℝ) : EReal) rfl,
    IdealRules.named_const.statement Cert.Kernel18Ideal.κ "gelu_3c" .f32 0x3E095D4F#32 ((26829 / 200000 : ℝ) : EReal) rfl⟩

/-- The kernel's four results are the reference's. -/
theorem algebraic : Cert.algebraic_Kernel18Ideal_Reference18Ideal (hKernel18Ideal := Cert.Kernel18Ideal.Gen.facts)
    (hReference18Ideal := Cert.Reference18Ideal.Gen.facts) := by
  intro m g m' g' _ hagree
  refine ⟨fun c => (fun i => DY m c (i 0) (i 1)), fun c => (fun i => DW m c (i 0) (i 1)), fun c => (fun i => DB m c (i 1)),
    fun c => (fun i => DG m c (i 1)), ?_, ?_⟩
  · refine θ_run_mono (Cert.Kernel18Ideal.Value.run_blocks m g) fun r h c => ?_
    obtain ⟨h0, h1, h2, h3, ha⟩ := h c
    exact ⟨h0.trans (arr_5 m c), h1.trans (arr_6 m c), h2.trans (arr_7 m c), h3.trans (arr_8 m c), ha⟩
  · refine θ_run_mono (Cert.Reference18Ideal.Value.run m' g') fun r h c => ?_
    obtain ⟨h0, h1, h2, h3, ha⟩ := h c
    obtain ⟨a0, a1, a2, a3, a4⟩ := hagree c
    refine ⟨h0.trans ?_, h1.trans ?_, h2.trans ?_, h3.trans ?_, ha⟩
    · rw [Cert.Reference18Ideal.GluBwd.res0_eq, a0, a1, a2, a3, a4]
      funext i
      obtain ⟨p, q, rfl⟩ : ∃ (p : Fin 8192) (q : Fin 1024), i = ix2 p q := ⟨i 0, i 1, eq_ix2 i⟩
      refine (Cert.Reference18Ideal.GluBwd.yRes_apply (Y m c) (tOf (Y m c) (W m c) (B m c)) (dOf (Y m c) (W m c) (B m c) (G m c) (D m c))
        (pOf (Y m c) (W m c) (B m c) (G m c) (D m c)) (W m c) p q).trans ?_
      simp only [tOf_eq, dOf_eq, pOf_eq]
      rfl
    · rw [Cert.Reference18Ideal.GluBwd.res1_eq, a0, a1, a2, a3, a4]
      funext i
      obtain ⟨p, q, rfl⟩ : ∃ (p q : Fin 1024), i = ix2 p q := ⟨i 0, i 1, eq_ix2 i⟩
      refine (Cert.Reference18Ideal.GluBwd.wRes_apply (pOf (Y m c) (W m c) (B m c) (G m c) (D m c))
        (Cert.Reference18Ideal.GluBwd.gArr (Y m c)) p q).trans ?_
      simp only [pOf_eq, Cert.Reference18Ideal.GluBwd.gArr_apply]
      exact Finset.sum_congr rfl fun k _ => mul_comm _ _
    · rw [Cert.Reference18Ideal.GluBwd.res2_eq, a0, a1, a2, a3, a4]
      funext i
      obtain ⟨q, rfl⟩ := ix_row i
      refine (Cert.Reference18Ideal.GluBwd.sum0_apply (pOf (Y m c) (W m c) (B m c) (G m c) (D m c)) q).trans ?_
      simp only [pOf_eq]
      rfl
    · rw [Cert.Reference18Ideal.GluBwd.res3_eq, a0, a1, a2, a4]
      funext i
      obtain ⟨q, rfl⟩ := ix_row i
      refine (Cert.Reference18Ideal.GluBwd.sum0_apply _ q).trans (Finset.sum_congr rfl fun k _ => ?_)
      show xOf (Y m c) (W m c) (B m c) (ix2 k q) * Cert.Reference18Ideal.GluBwd.rArr (xOf (Y m c) (W m c) (B m c)) (ix2 k q)
        * Cert.Reference18Ideal.GluBwd.cut (D m c) (ix2 k q) = DMr m c k q * X m c k q * Cert.Proof.Gelu.rms (X m c k)
      rw [Cert.Reference18Ideal.GluBwd.rArr_apply, Cert.Reference18Ideal.GluBwd.cut_apply]
      simp only [xOf_eq]
      rw [mul_comm, ← mul_assoc]
      rfl

end Cert.Proof.GluBwd

end
-- ==== Proof.ProjBwd.lean ====
module

public import proofs.«01_k».proof.Defs
public import proofs.«01_k».proof.Proof.Gen.Kernel19Ideal.Value
public import proofs.«01_k».proof.Proof.Gen.Reference19Ideal.Run
public import Idealize.ShloMosaic.Lib.Pipeline.ValueKit
public import Idealize.ShloMosaic.Lib.StableHlo.RunHlo
public import Idealize.ShloMosaic.Lib.Pointwise
public import Idealize.ShloMosaic.Lib.Claim
public import Idealize.ShloMosaic.Lib.Pipeline.ReadBack

@[expose] public section

set_option maxRecDepth 16384

noncomputable section

namespace Cert.Kernel19Ideal.ProjBwd

open Idealize.ShloMosaic Idealize.ShloMosaic.TcCoe
open Idealize.SL.Sem
open Cert.Kernel19Ideal Cert.Kernel19Ideal.Gen

variable (m : (ℓ : Loc nD τ sig) → Buf (Elt Ideal) ℓ) (c : Dev nD)

/-- The zero block that a sum over the lanes starts from. -/
theorem pay1_apply (j : S512x2048.Idx) : k0_pay1 (F := Ideal) j = 0 := by
  rw [eq_ix2 j]; unfold k0_pay1; pointwise

/-- One block of the projection's lanes: its part of the cotangent's product with the transposed weight. -/
def tile (a : S512x768.Idx → Ideal .bf16) (b : S1x2048x768.Idx → Ideal .bf16) (j : S512x2048.Idx) : EReal :=
  ∑ k : Fin 768, a (ix2 (j 0) k) * b (ix3 (0 : Fin 1) (j 1) k)

theorem pay2_at (acc : S512x2048.Idx → Ideal .f32) (a : S512x768.Idx → Ideal .bf16) (b : S1x2048x768.Idx → Ideal .bf16)
    (j : S512x2048.Idx) : k0_pay2 acc a b j = acc j + tile a b j := by
  obtain ⟨p, q, rfl⟩ : ∃ (p : Fin 512) (q : Fin 2048), j = ix2 p q := ⟨j 0, j 1, eq_ix2 j⟩
  unfold k0_pay2 tile; pointwise

/-- Where each window stands at grid point `t`, four blocks of lanes to a row tile. -/
theorem idx_ : ∀ t : Fin cfg0.N,
    win0_0.index t = ![t.val / 4, t.val % 4] ∧ win0_1.index t = ![t.val % 4, 0, 0] ∧ win0_2.index t = ![t.val / 4, 0] := by
  decide +kernel

theorem lt64 (t : Fin cfg0.N) : t.val < 64 := t.isLt.trans_eq N_0

/-- The row of the arrays that row `p` of the tile at grid point `t` is. -/
def row (t : Fin cfg0.N) (p : Fin 512) : Fin 8192 := ⟨t.val / 4 * 512 + p.val, by have := lt64 t; omega⟩

/-- The lane of the projection that lane `k` of the block at grid point `t` is. -/
def lane (t : Fin cfg0.N) (k : Fin 768) : Fin 3072 := ⟨t.val % 4 * 768 + k.val, by omega⟩

/-- The arguments by name: the weight, the cotangent of the projection. -/
def W : S2048x3072.Idx → Ideal .f32 := m ((c.tc : Thread nD τ).loc main_arg0)
def DZ : S8192x3072.Idx → Ideal .f32 := m ((c.tc : Thread nD τ).loc main_arg1)

/-- The gradient at the normed input. -/
def DH (i : Fin 8192) (j : Fin 2048) : EReal := ∑ l : Fin 3072, DZ m c (ix2 i l) * W m c (ix2 j l)

theorem iblk_0 (t : Fin cfg0.N) (p : Fin 512) (k : Fin 768) :
    iblk m c 0 t (ix2 p k) = DZ m c (ix2 (row t p) (lane t k)) := by
  obtain ⟨e0, e1, e2⟩ := idx_ t
  blk_simp [iblk, e0]
  entry_read
  pointwise
  unfold DZ row lane
  blk_ext [e0]

theorem iblk_1 (t : Fin cfg0.N) (q : Fin 2048) (k : Fin 768) :
    iblk m c 1 t (ix3 (0 : Fin 1) q k) = W m c (ix2 q (lane t k)) := by
  obtain ⟨e0, e1, e2⟩ := idx_ t
  blk_simp [iblk, e1]
  entry_read
  pointwise
  unfold W lane
  blk_ext [e1]

/-- The result: the gradient at the normed input, its lanes taken up a block at a time. -/
theorem arr_2 : (dats m 0 c).arrAt 2 cfg0.N = fun i : S8192x2048.Idx => DH m c (i 0) (i 1) := by
  refine (dats m 0 c).arrAt_eq_of_covers 2 _ (by decide +kernel) fun t hf y => ?_
  obtain ⟨e0, e1, e2⟩ := idx_ t
  have h3 := (flush0_2 t).mp hf
  rw [after0_2]
  blk_simp
  obtain ⟨p, q, rfl⟩ : ∃ (p : Fin 512) (q : Fin 2048), y = ix2 p q := ⟨y 0, y 1, eq_ix2 y⟩
  rw [Pipeline.eq_sum_fin_of_reset_step_apply_of_flush (fun n h => outsAt0 m c n h) 4 (fun _ => 0)
    (fun t j => tile (iblk m c 0 t) (iblk m c 1 t) j)
    (fun t h j => by rw [outsAt0_A m c t h]; frame_out; rw [pay2_at, pay1_apply])
    (fun t h j => by rw [outsAt0_B m c t h]; frame_out; rw [pay2_at]) t h3 (ix2 p q)]
  rw [zero_add]
  have := lt64 t
  have hp : row t p = (win0_2.blk t).view.emb (ix2 p q) 0 := Fin.ext (by unfold row; blk_simp [e2])
  have hq : q = (win0_2.blk t).view.emb (ix2 p q) 1 := Fin.ext (by blk_simp [e2])
  rw [← hp, ← hq]
  unfold DH tile
  refine Fin.sum_mul_add_congr fun s k hl => ?_
  refine (congrArg₂ (fun a b : EReal => a * b) (iblk_0 m c _ p k) (iblk_1 m c _ q k)).trans ?_
  have hs := s.isLt
  have hr : row ⟨4 * (t.val / 4) + s.val, lt_of_lt_of_eq (by omega) N_0.symm⟩ p = row t p := Fin.ext (by
    unfold row; dsimp only; omega)
  have hk : lane ⟨4 * (t.val / 4) + s.val, lt_of_lt_of_eq (by omega) N_0.symm⟩ k = ⟨s.val * 768 + k.val, hl⟩ := Fin.ext (by
    unfold lane; dsimp only; omega)
  rw [hr, hk]

end Cert.Kernel19Ideal.ProjBwd

namespace Cert.Proof.ProjBwd

open Idealize.ShloMosaic Idealize.ShloMosaic.TcCoe
open Idealize.SL.Sem
open Cert.Kernel19Ideal.ProjBwd

/-- The kernel's product is the reference's. -/
theorem algebraic : Cert.algebraic_Kernel19Ideal_Reference19Ideal (hKernel19Ideal := Cert.Kernel19Ideal.Gen.facts) (hReference19Ideal := Cert.Reference19Ideal.Gen.facts) := by
  intro m g m' g' _ hagree
  refine ⟨fun c => (fun i => DH m c (i 0) (i 1)), ?_, ?_⟩
  · refine θ_run_mono (Cert.Kernel19Ideal.Value.run_blocks m g) fun r h c => ?_
    obtain ⟨h0, ha⟩ := h c
    exact ⟨h0.trans (arr_2 m c), ha⟩
  · refine θ_run_mono (Cert.Reference19Ideal.Value.run m' g') fun r h c => ?_
    obtain ⟨h0, ha⟩ := h c
    obtain ⟨a0, a1⟩ := hagree c
    refine ⟨h0.trans ?_, ha⟩
    rw [a0, a1]
    funext i
    obtain ⟨p, q, rfl⟩ : ∃ (p : Fin 8192) (q : Fin 2048), i = ix2 p q := ⟨i 0, i 1, eq_ix2 i⟩
    pointwise
    rfl

end Cert.Proof.ProjBwd

end
-- ==== Proof.NormIn.lean ====
module

public import proofs.«01_k».proof.Defs
public import proofs.«01_k».proof.Proof.Gen.Kernel20Ideal.Value
public import proofs.«01_k».proof.Proof.Gen.Reference20Ideal.Run
public import proofs.«01_k».proof.Proof.NormBwd
public import Idealize.ShloMosaic.Lib.Pipeline.ValueKit
public import Idealize.ShloMosaic.Lib.StableHlo.RunHlo
public import Idealize.ShloMosaic.Lib.Pointwise
public import Idealize.ShloMosaic.Lib.Claim
public import Idealize.ShloMosaic.Lib.Pipeline.ReadBack

@[expose] public section

set_option maxRecDepth 16384

noncomputable section

namespace Cert.Kernel20Ideal.NormIn

open Idealize.ShloMosaic Idealize.ShloMosaic.TcCoe
open Idealize.SL.Sem
open Cert.Kernel20Ideal Cert.Kernel20Ideal.Gen
open Cert.Proof.Norm

variable (m : (ℓ : Loc nD τ sig) → Buf (Elt Ideal) ℓ) (c : Dev nD)

/-- The input's gradient, a tile. -/
theorem pay5_apply (x d : S256x2048.Idx → Ideal .f32) (g : S1x2048.Idx → Ideal .f32) (r : S256x2048.Idx → Ideal .f32)
    (p : Fin 256) (q : Fin 2048) :
    k0_pay5 (F := Ideal) x d g r (ix2 p q)
      = (r (ix2 p q) + dnorm (fun k => x (ix2 p k)) (fun k => d (ix2 p k) * g (ix2 (0 : Fin 1) k)) q : EReal) := by
  unfold k0_pay5 k0_pay3; pointwise; rfl

theorem pay6_apply (x d : S256x2048.Idx → Ideal .f32) (g : S1x2048.Idx → Ideal .f32) (r : S256x2048.Idx → Ideal .f32)
    (p : Fin 256) (q : Fin 2048) :
    k0_pay6 (F := Ideal) x d g r (ix2 p q) = (k0_pay5 (F := Ideal) x d g r (ix2 p q) : EReal) := by
  unfold k0_pay6; pointwise

/-- The gain's gradient before its sum over the rows. -/
theorem pay4_apply (x d : S256x2048.Idx → Ideal .f32) (p : Fin 256) (q : Fin 2048) :
    k0_pay4 (F := Ideal) x d (ix2 p q) = (d (ix2 p q) * x (ix2 p q) * rms (fun k => x (ix2 p k)) : EReal) := by
  unfold k0_pay4 k0_pay3; pointwise; rfl

/-- The zero row that the sum over the rows starts from, and one row tile's part. -/
theorem pay2_apply (j : S1x2048.Idx) : k0_pay2 (F := Ideal) j = 0 := by
  rw [eq_ix2 j]; unfold k0_pay2; pointwise

theorem pay1_at (v : S256x2048.Idx → Ideal .f32) (acc : S1x2048.Idx → Ideal .f32) (j : S1x2048.Idx) :
    k0_pay1 (F := Ideal) v acc j = (acc j + ∑ k : Fin 256, v (ix2 k (j 1)) : EReal) := by
  obtain ⟨p, q, rfl⟩ : ∃ (p : Fin 1) (q : Fin 2048), j = ix2 p q := ⟨j 0, j 1, eq_ix2 j⟩
  unfold k0_pay1; pointwise

/-- Where each window stands at grid point `t`. -/
theorem idx_ : ∀ t : Fin cfg0.N,
    win0_0.index t = ![t.val, 0] ∧ win0_1.index t = ![t.val, 0] ∧ win0_2.index t = ![t.val, 0] ∧ win0_3.index t = ![0, 0]
    ∧ win0_4.index t = ![t.val, 0] ∧ win0_5.index t = ![t.val, 0] ∧ win0_6.index t = ![0, 0] := by
  decide +kernel

theorem lt32 (t : Fin cfg0.N) : t.val < 32 := t.isLt.trans_eq N_0

/-- The row of the array that row `p` of the tile at grid point `t` is. -/
def row (t : Fin cfg0.N) (p : Fin 256) : Fin 8192 := ⟨t.val * 256 + p.val, by have := lt32 t; omega⟩

/-- The arguments by name: the input, the norm's gain, the cotangent of the normed input and that of the residual. -/
def X : S8192x2048.Idx → Ideal .f32 := m ((c.tc : Thread nD τ).loc main_arg0)
def G : S2048.Idx → Ideal .f32 := m ((c.tc : Thread nD τ).loc main_arg1)
def DH : S8192x2048.Idx → Ideal .f32 := m ((c.tc : Thread nD τ).loc main_arg2)
def DR : S8192x2048.Idx → Ideal .f32 := m ((c.tc : Thread nD τ).loc main_arg3)

/-- A row of the input, and of the cotangent that the gain has entered. -/
def XR (i : Fin 8192) (j : Fin 2048) : EReal := X m c (ix2 i j)
def DA (i : Fin 8192) (j : Fin 2048) : EReal := DH m c (ix2 i j) * G m c (ix1 j)

/-- The gradient at the input. -/
def DX (i : Fin 8192) (j : Fin 2048) : EReal := DR m c (ix2 i j) + dnorm (XR m c i) (DA m c i) j

/-- One row's part of the gain's gradient, and the gain's gradient. -/
def DGr (i : Fin 8192) (j : Fin 2048) : EReal := DH m c (ix2 i j) * XR m c i j * rms (XR m c i)
def DG (j : Fin 2048) : EReal := ∑ i : Fin 8192, DGr m c i j

theorem iblk_0 (t : Fin cfg0.N) (p : Fin 256) (k : Fin 2048) : iblk m c 0 t (ix2 p k) = DH m c (ix2 (row t p) k) := by
  obtain ⟨e0, e1, e2, e3, e4, e5, e6⟩ := idx_ t
  blk_simp [iblk, e0]
  entry_read
  unfold DH row
  blk_ext [e0]

theorem iblk_1 (t : Fin cfg0.N) (p : Fin 256) (k : Fin 2048) : iblk m c 1 t (ix2 p k) = XR m c (row t p) k := by
  obtain ⟨e0, e1, e2, e3, e4, e5, e6⟩ := idx_ t
  blk_simp [iblk, e1]
  entry_read
  unfold XR X row
  blk_ext [e1]

theorem iblk_2 (t : Fin cfg0.N) (p : Fin 256) (k : Fin 2048) : iblk m c 2 t (ix2 p k) = DR m c (ix2 (row t p) k) := by
  obtain ⟨e0, e1, e2, e3, e4, e5, e6⟩ := idx_ t
  blk_simp [iblk, e2]
  entry_read
  unfold DR row
  blk_ext [e2]

theorem iblk_3 (t : Fin cfg0.N) (k : Fin 2048) : iblk m c 3 t (ix2 (0 : Fin 1) k) = G m c (ix1 k) := by
  obtain ⟨e0, e1, e2, e3, e4, e5, e6⟩ := idx_ t
  blk_simp [iblk, e3]
  entry_read
  pointwise
  unfold G
  blk_ext [e3]

/-- The input's gradient, the tile at grid point `t`. -/
theorem pay5_blk (t : Fin cfg0.N) (p : Fin 256) (q : Fin 2048) :
    k0_pay5 (iblk m c 1 t) (iblk m c 0 t) (iblk m c 3 t) (iblk m c 2 t) (ix2 p q) = DX m c (row t p) q := by
  rw [pay5_apply, iblk_2]
  unfold DX
  rw [show (fun k => iblk m c 1 t (ix2 p k)) = XR m c (row t p) from funext fun k => iblk_1 m c t p k]
  exact congrArg (fun a => DR m c (ix2 (row t p) q) + dnorm (XR m c (row t p)) a q)
    (funext fun k => congrArg₂ (fun a b : EReal => a * b) (iblk_0 m c t p k) (iblk_3 m c t k))

/-- A row's part of the gain's gradient, in the tile at grid point `t`. -/
theorem pay4_blk (t : Fin cfg0.N) (p : Fin 256) (q : Fin 2048) :
    k0_pay4 (iblk m c 1 t) (iblk m c 0 t) (ix2 p q) = DGr m c (row t p) q := by
  rw [pay4_apply, iblk_0, iblk_1]
  unfold DGr
  rw [show (fun k => iblk m c 1 t (ix2 p k)) = XR m c (row t p) from funext fun k => iblk_1 m c t p k]

/-- What a point leaves in each of the two tiles it writes. -/
theorem outs_4 (t : Fin cfg0.N) : (outsAt0 m c t.val t.isLt).1
    = k0_pay5 (iblk m c 1 t) (iblk m c 0 t) (iblk m c 3 t) (iblk m c 2 t) := by
  by_cases h : t.val % 32 = 0
  · rw [outsAt0_A m c t h]; frame_out
  · rw [outsAt0_B m c t h]; frame_out

theorem outs_5 (t : Fin cfg0.N) : (outsAt0 m c t.val t.isLt).2.1
    = k0_pay6 (iblk m c 1 t) (iblk m c 0 t) (iblk m c 3 t) (iblk m c 2 t) := by
  by_cases h : t.val % 32 = 0
  · rw [outsAt0_A m c t h]; frame_out
  · rw [outsAt0_B m c t h]; frame_out

/-- The first result: the input's gradient. -/
theorem arr_4 : (dats m 0 c).arrAt 4 cfg0.N = fun i : S8192x2048.Idx => DX m c (i 0) (i 1) := by
  refine (dats m 0 c).arrAt_eq_of_covers 4 _ (by decide +kernel) fun t hf y => ?_
  obtain ⟨e0, e1, e2, e3, e4, e5, e6⟩ := idx_ t
  rw [after0_4, outs_4]
  blk_simp
  obtain ⟨p, q, rfl⟩ : ∃ (p : Fin 256) (q : Fin 2048), y = ix2 p q := ⟨y 0, y 1, eq_ix2 y⟩
  refine (pay5_blk m c t p q).trans (congrArg₂ (DX m c) (Fin.ext ?_) (Fin.ext ?_))
  · unfold row; blk_simp [e4]
  · blk_simp [e4]

/-- The second result: the same in the narrow format. -/
theorem arr_5 : (dats m 0 c).arrAt 5 cfg0.N = fun i : S8192x2048.Idx => DX m c (i 0) (i 1) := by
  refine (dats m 0 c).arrAt_eq_of_covers 5 _ (by decide +kernel) fun t hf y => ?_
  obtain ⟨e0, e1, e2, e3, e4, e5, e6⟩ := idx_ t
  rw [after0_5, outs_5]
  blk_simp
  obtain ⟨p, q, rfl⟩ : ∃ (p : Fin 256) (q : Fin 2048), y = ix2 p q := ⟨y 0, y 1, eq_ix2 y⟩
  refine ((pay6_apply _ _ _ _ p q).trans (pay5_blk m c t p q)).trans (congrArg₂ (DX m c) (Fin.ext ?_) (Fin.ext ?_))
  · unfold row; blk_simp [e5]
  · blk_simp [e5]

/-- The third result: the gain's gradient, a tile of rows at a time. -/
theorem arr_6 : (dats m 0 c).arrAt 6 cfg0.N = fun i : S1x2048.Idx => DG m c (i 1) := by
  refine (dats m 0 c).arrAt_eq_of_covers 6 _ (by decide +kernel) fun t hf y => ?_
  obtain ⟨e0, e1, e2, e3, e4, e5, e6⟩ := idx_ t
  rw [after0_6]
  blk_simp
  obtain ⟨p, q, rfl⟩ : ∃ (p : Fin 1) (q : Fin 2048), y = ix2 p q := ⟨y 0, y 1, eq_ix2 y⟩
  rw [Pipeline.eq_sum_fin_of_reset_step_apply_of_flush (fun n h => (outsAt0 m c n h).2.2) 32 (fun _ => 0)
    (fun t j => ∑ k : Fin 256, k0_pay4 (iblk m c 1 t) (iblk m c 0 t) (ix2 k (j 1)))
    (fun t h j => by rw [outsAt0_A m c t h]; frame_out; rw [pay1_at, pay2_apply])
    (fun t h j => by rw [outsAt0_B m c t h]; frame_out; rw [pay1_at]) t ((flush0_6 t).mp hf) (ix2 p q)]
  rw [zero_add]
  unfold DG
  refine Fin.sum_mul_add_congr fun s k hl => ?_
  refine (pay4_blk m c _ k q).trans ?_
  have := lt32 t
  have hl' : row ⟨32 * (t.val / 32) + s.val, by rw [show cfg0.N = 32 from N_0]; omega⟩ k = ⟨s.val * 256 + k.val, hl⟩ := Fin.ext (by
    unfold row; dsimp only; omega)
  have hq : q = (win0_6.blk t).view.emb (ix2 p q) 1 := Fin.ext (by blk_simp [e6])
  rw [hl', ← hq]

end Cert.Kernel20Ideal.NormIn

namespace Cert.Proof.NormIn

open Idealize.ShloMosaic Idealize.ShloMosaic.TcCoe
open Idealize.SL.Sem
open Cert.Proof.Norm
open Cert.Kernel20Ideal.NormIn

/-- The kernel's three results are the reference's. -/
theorem algebraic : Cert.algebraic_Kernel20Ideal_Reference20Ideal (hKernel20Ideal := Cert.Kernel20Ideal.Gen.facts) (hReference20Ideal := Cert.Reference20Ideal.Gen.facts) := by
  intro m g m' g' _ hagree
  refine ⟨fun c => (fun i => DX m c (i 0) (i 1)), fun c => (fun i => DX m c (i 0) (i 1)), fun c => (fun i => DG m c (i 1)), ?_, ?_⟩
  · refine θ_run_mono (Cert.Kernel20Ideal.Value.run_blocks m g) fun r h c => ?_
    obtain ⟨h0, h1, h2, ha⟩ := h c
    exact ⟨h0.trans (arr_4 m c), h1.trans (arr_5 m c), h2.trans (arr_6 m c), ha⟩
  · refine θ_run_mono (Cert.Reference20Ideal.Value.run m' g') fun r h c => ?_
    obtain ⟨h0, h1, h2, ha⟩ := h c
    obtain ⟨a0, a1, a2, a3⟩ := hagree c
    have e (p : Fin 8192) (q : Fin 2048) := Cert.Proof.NormBwd.dx_eq (XR m c p) (DA m c p) (DR m c (ix2 p q)) q
    refine ⟨h0.trans ?_, h1.trans ?_, h2.trans ?_, ha⟩
    · rw [a0, a1, a2, a3]
      funext i
      obtain ⟨p, q, rfl⟩ : ∃ (p : Fin 8192) (q : Fin 2048), i = ix2 p q := ⟨i 0, i 1, eq_ix2 i⟩
      pointwise
      exact e p q
    · rw [a0, a1, a2, a3]
      funext i
      obtain ⟨p, q, rfl⟩ : ∃ (p : Fin 8192) (q : Fin 2048), i = ix2 p q := ⟨i 0, i 1, eq_ix2 i⟩
      pointwise
      exact e p q
    · rw [a0, a2]
      funext i
      obtain ⟨p, q, rfl⟩ : ∃ (p : Fin 1) (q : Fin 2048), i = ix2 p q := ⟨i 0, i 1, eq_ix2 i⟩
      pointwise
      rw [Fin.sum_univ_one]
      exact Finset.sum_congr rfl fun i _ => (mul_comm _ _).trans (mul_assoc _ _ _).symm

end Cert.Proof.NormIn

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Step
public import proofs.«01_k».proof.Proof.Gen.Kernel2.Frame
public import proofs.«01_k».proof.Proof.Gen.Kernel2Ideal.Value
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Kernel6.Frame
public import proofs.«01_k».proof.Proof.Gen.Kernel6Ideal.Value
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Kernel11.Frame
public import proofs.«01_k».proof.Proof.Gen.Kernel11Ideal.Value
public import proofs.«01_k».proof.Proof.Gen.Reference11Ideal.Run
public import proofs.«01_k».proof.Proof.Gen.Kernel12.Frame
public import proofs.«01_k».proof.Proof.Gen.Kernel12Ideal.Value
public import proofs.«01_k».proof.Proof.Gen.Reference12Ideal.Run
public import proofs.«01_k».proof.Proof.Gen.On_ssm_half
public import proofs.«01_k».proof.Proof.Gen.Kernel13.Frame
public import proofs.«01_k».proof.Proof.Gen.Kernel13Ideal.Value
public import proofs.«01_k».proof.Proof.Gen.Reference13Ideal.Run
public import proofs.«01_k».proof.Proof.Gen.Kernel14.Frame
public import proofs.«01_k».proof.Proof.Gen.Kernel14Ideal.Value
public import proofs.«01_k».proof.Proof.Gen.Reference14Ideal.Run
public import proofs.«01_k».proof.Proof.Gen.Kernel15.Frame
public import proofs.«01_k».proof.Proof.Gen.Kernel15Ideal.Value
public import proofs.«01_k».proof.Proof.Gen.Reference15Ideal.Run
public import proofs.«01_k».proof.Proof.Gen.Kernel16.Frame
public import proofs.«01_k».proof.Proof.Gen.Kernel16Ideal.Value
public import proofs.«01_k».proof.Proof.Gen.Reference16Ideal.Run
public import proofs.«01_k».proof.Proof.Gen.Kernel17.Frame
public import proofs.«01_k».proof.Proof.Gen.Kernel17Ideal.Value
public import proofs.«01_k».proof.Proof.Gen.Reference17Ideal.Run
public import proofs.«01_k».proof.Proof.Gen.Kernel18.Frame
public import proofs.«01_k».proof.Proof.Gen.Kernel18Ideal.Value
public import proofs.«01_k».proof.Proof.Gen.Reference18Ideal.Run
public import proofs.«01_k».proof.Proof.Gen.Kernel19.Frame
public import proofs.«01_k».proof.Proof.Gen.Kernel19Ideal.Value
public import proofs.«01_k».proof.Proof.Gen.Reference19Ideal.Run
public import proofs.«01_k».proof.Proof.Gen.Kernel20.Frame
public import proofs.«01_k».proof.Proof.Gen.Kernel20Ideal.Value
public import proofs.«01_k».proof.Proof.Gen.Reference20Ideal.Run
public import proofs.«01_k».proof.Proof.Value
public import proofs.«01_k».proof.Proof.Same
public import proofs.«01_k».proof.Proof.Mlp
public import proofs.«01_k».proof.Proof.GradDown
public import proofs.«01_k».proof.Proof.NormBwd
public import proofs.«01_k».proof.Proof.Loss
public import proofs.«01_k».proof.Proof.OutProj
public import proofs.«01_k».proof.Proof.AdamCalls
public import proofs.«01_k».proof.Proof.Glu
public import proofs.«01_k».proof.Proof.SguRef
public import proofs.«01_k».proof.Proof.InProjBwd
public import proofs.«01_k».proof.Proof.GradUp
public import proofs.«01_k».proof.Proof.GradOut
public import proofs.«01_k».proof.Proof.GradIn
public import proofs.«01_k».proof.Proof.GluBwdRef
public import proofs.«01_k».proof.Proof.ProjBwd
public import proofs.«01_k».proof.Proof.NormIn
public import Idealize.ShloMosaic.Lib.Quiescent
public import Idealize.ShloMosaic.Adequacy
public import Idealize.ShloMosaic.Init

@[expose] public section

noncomputable section

namespace Cert.Proof

open Idealize.ShloMosaic Idealize.SL.Sem

/-- The kernel at machine words: the arguments come back unchanged and every counter is at zero. -/
theorem frame_kernel : Cert.quiescent_Kernel := fun m g _ => by
  rw [Cert.Kernel.Ssm.defs_eq]
  exact Cert.KernelIdeal.Ssm.run_args (F := Bits) m g

/-- The kernel over the extended reals: the same. -/
theorem frame_ideal : Cert.quiescent_KernelIdeal := fun m g _ => Cert.KernelIdeal.Ssm.run_args m g

/-- The reference: the same. -/
theorem frame_reference : Cert.quiescent_ReferenceIdeal := fun m g _ =>
  θ_run_mono (Cert.ReferenceIdeal.Ssm.run_ref m g) fun r h => ⟨fun c => (h c).2.2.2, Idealize.ShloMosaic.sem_eq_zero_of_no_sems (by decide) r.2⟩

/-- Kernel and reference leave the same three results. -/
theorem values : Cert.algebraic_KernelIdeal_ReferenceIdeal := fun m g m' g' _ hm =>
  ⟨Cert.KernelIdeal.Ssm.res0 m, Cert.KernelIdeal.Ssm.res1 m, Cert.KernelIdeal.Ssm.res2 m, Cert.KernelIdeal.Ssm.run_values m g,
    θ_run_mono (Cert.ReferenceIdeal.Ssm.run_ref m' g') fun r h c => by
      obtain ⟨a0, a1, a2, a3⟩ := hm c
      obtain ⟨h0, h1, h2, ha⟩ := h c
      rw [a0, a1, a2, a3] at h0 h1 h2
      exact ⟨h0, h1, h2, ha⟩⟩

/-- The feed-forward layer's backward call: at machine words the arguments come back unchanged and every
    counter is at zero. -/
theorem frame_kernel2 : Cert.quiescent_Kernel2 := fun m g _ => Cert.Kernel2.Gen.frame m g

/-- The same over the extended reals. -/
theorem frame_ideal2 : Cert.quiescent_Kernel2Ideal := fun m g _ => Cert.Kernel2Ideal.Gen.frame m g

/-- The same of its reference. -/
theorem frame_reference2 : Cert.quiescent_Reference2Ideal := fun m g _ =>
  θ_run_mono (Cert.Reference2Ideal.Value.run m g) fun r h =>
    ⟨fun c => (h c).2.2, Idealize.ShloMosaic.sem_eq_zero_of_no_sems (by decide) r.2⟩

/-- The gradient at the second weight: at machine words the arguments come back unchanged and every
    counter is at zero. -/
theorem frame_kernel3 : Cert.quiescent_Kernel3 := fun m g _ => Cert.Kernel3.Gen.frame m g

/-- The same over the extended reals. -/
theorem frame_ideal3 : Cert.quiescent_Kernel3Ideal := fun m g _ => Cert.Kernel3Ideal.Gen.frame m g

/-- The same of its reference. -/
theorem frame_reference3 : Cert.quiescent_Reference3Ideal := fun m g _ =>
  θ_run_mono (Cert.Reference3Ideal.Value.run m g) fun r h =>
    ⟨fun c => (h c).2, Idealize.ShloMosaic.sem_eq_zero_of_no_sems (by decide) r.2⟩

/-- The norm's and the projection's backward call: at machine words the arguments come back unchanged and every
    counter is at zero. -/
theorem frame_kernel4 : Cert.quiescent_Kernel4 := fun m g _ => Cert.Kernel4.Gen.frame m g

/-- The same over the extended reals. -/
theorem frame_ideal4 : Cert.quiescent_Kernel4Ideal := fun m g _ => Cert.Kernel4Ideal.Gen.frame m g

/-- The same of its reference. -/
theorem frame_reference4 : Cert.quiescent_Reference4Ideal := fun m g _ =>
  θ_run_mono (Cert.Reference4Ideal.Value.run m g) fun r h =>
    ⟨fun c => (h c).2.2.2.2, Idealize.ShloMosaic.sem_eq_zero_of_no_sems (by decide) r.2⟩

/-- The feed-forward layer's last product with the loss: at machine words the arguments come back unchanged and every
    counter is at zero. -/
theorem frame_kernel5 : Cert.quiescent_Kernel5 := fun m g _ => Cert.Kernel5.Gen.frame m g

/-- The same over the extended reals. -/
theorem frame_ideal5 : Cert.quiescent_Kernel5Ideal := fun m g _ => Cert.Kernel5Ideal.Gen.frame m g

/-- The same of its reference. -/
theorem frame_reference5 : Cert.quiescent_Reference5Ideal := fun m g _ =>
  θ_run_mono (Cert.Reference5Ideal.Value.run m g) fun r h =>
    ⟨fun c => (h c).2.2.2.2, Idealize.ShloMosaic.sem_eq_zero_of_no_sems (by decide) r.2⟩

/-- The mixers' output projection: at machine words the arguments come back unchanged and every
    counter is at zero. -/
theorem frame_kernel6 : Cert.quiescent_Kernel6 := fun m g _ => Cert.Kernel6.Gen.frame m g

/-- The same over the extended reals. -/
theorem frame_ideal6 : Cert.quiescent_Kernel6Ideal := fun m g _ => Cert.Kernel6Ideal.Gen.frame m g

/-- The same of its reference. -/
theorem frame_reference6 : Cert.quiescent_Reference6Ideal := fun m g _ =>
  θ_run_mono (Cert.Reference6Ideal.Value.run m g) fun r h =>
    ⟨fun c => (h c).2.2, Idealize.ShloMosaic.sem_eq_zero_of_no_sems (by decide) r.2⟩

/-! AdamW: the frames of the five calls, one for each shape of a weight. -/

theorem frame_kernel7 : Cert.quiescent_Kernel7 := fun m g _ => Cert.Kernel7.Gen.frame m g
theorem frame_ideal7 : Cert.quiescent_Kernel7Ideal := fun m g _ => Cert.Kernel7Ideal.Gen.frame m g
theorem frame_reference7 : Cert.quiescent_Reference7Ideal := fun m g _ =>
  θ_run_mono (Cert.Reference7Ideal.Value.run m g) fun r h =>
    ⟨fun c => (h c).2.2.2.2, Idealize.ShloMosaic.sem_eq_zero_of_no_sems (by decide) r.2⟩

theorem frame_kernel8 : Cert.quiescent_Kernel8 := fun m g _ => Cert.Kernel8.Gen.frame m g
theorem frame_ideal8 : Cert.quiescent_Kernel8Ideal := fun m g _ => Cert.Kernel8Ideal.Gen.frame m g
theorem frame_reference8 : Cert.quiescent_Reference8Ideal := fun m g _ =>
  θ_run_mono (Cert.Reference8Ideal.Value.run m g) fun r h =>
    ⟨fun c => (h c).2.2.2.2, Idealize.ShloMosaic.sem_eq_zero_of_no_sems (by decide) r.2⟩

theorem frame_kernel9 : Cert.quiescent_Kernel9 := fun m g _ => Cert.Kernel9.Gen.frame m g
theorem frame_ideal9 : Cert.quiescent_Kernel9Ideal := fun m g _ => Cert.Kernel9Ideal.Gen.frame m g
theorem frame_reference9 : Cert.quiescent_Reference9Ideal := fun m g _ =>
  θ_run_mono (Cert.Reference9Ideal.Value.run m g) fun r h =>
    ⟨fun c => (h c).2.2.2.2, Idealize.ShloMosaic.sem_eq_zero_of_no_sems (by decide) r.2⟩

theorem frame_kernel10 : Cert.quiescent_Kernel10 := fun m g _ => Cert.Kernel10.Gen.frame m g
theorem frame_ideal10 : Cert.quiescent_Kernel10Ideal := fun m g _ => Cert.Kernel10Ideal.Gen.frame m g
theorem frame_reference10 : Cert.quiescent_Reference10Ideal := fun m g _ =>
  θ_run_mono (Cert.Reference10Ideal.Value.run m g) fun r h =>
    ⟨fun c => (h c).2.2.2.2, Idealize.ShloMosaic.sem_eq_zero_of_no_sems (by decide) r.2⟩

theorem frame_kernel11 : Cert.quiescent_Kernel11 := fun m g _ => Cert.Kernel11.Gen.frame m g
theorem frame_ideal11 : Cert.quiescent_Kernel11Ideal := fun m g _ => Cert.Kernel11Ideal.Gen.frame m g
theorem frame_reference11 : Cert.quiescent_Reference11Ideal := fun m g _ =>
  θ_run_mono (Cert.Reference11Ideal.Value.run m g) fun r h =>
    ⟨fun c => (h c).2.2.2.2, Idealize.ShloMosaic.sem_eq_zero_of_no_sems (by decide) r.2⟩

/-! The gate after the S5 mixer: the frames. -/

theorem frame_kernel12 : Cert.quiescent_Kernel12 := fun m g _ => Cert.Kernel12.Gen.frame m g
theorem frame_ideal12 : Cert.quiescent_Kernel12Ideal := fun m g _ => Cert.Kernel12Ideal.Gen.frame m g
theorem frame_reference12 : Cert.quiescent_Reference12Ideal := fun m g _ =>
  θ_run_mono (Cert.Reference12Ideal.Value.run m g) fun r h =>
    ⟨fun c => (h c).2, Idealize.ShloMosaic.sem_eq_zero_of_no_sems (by decide) r.2⟩

/-! The spatial gating mixer: the frames. -/

theorem frame_kernel13 : Cert.quiescent_Kernel13 := fun m g _ => Cert.Kernel13.Gen.frame m g
theorem frame_ideal13 : Cert.quiescent_Kernel13Ideal := fun m g _ => Cert.Kernel13Ideal.Gen.frame m g
theorem frame_reference13 : Cert.quiescent_Reference13Ideal := fun m g _ =>
  θ_run_mono (Cert.Reference13Ideal.Value.run m g) fun r h =>
    ⟨fun c => (h c).2, Idealize.ShloMosaic.sem_eq_zero_of_no_sems (by decide) r.2⟩

/-! The input projection and its norm, backward: the frames. -/

theorem frame_kernel14 : Cert.quiescent_Kernel14 := fun m g _ => Cert.Kernel14.Gen.frame m g
theorem frame_ideal14 : Cert.quiescent_Kernel14Ideal := fun m g _ => Cert.Kernel14Ideal.Gen.frame m g
theorem frame_reference14 : Cert.quiescent_Reference14Ideal := fun m g _ =>
  θ_run_mono (Cert.Reference14Ideal.Value.run m g) fun r h =>
    ⟨fun c => (h c).2.2, Idealize.ShloMosaic.sem_eq_zero_of_no_sems (by decide) r.2⟩

/-! The gradients of three weights: the frames. -/

theorem frame_kernel15 : Cert.quiescent_Kernel15 := fun m g _ => Cert.Kernel15.Gen.frame m g
theorem frame_ideal15 : Cert.quiescent_Kernel15Ideal := fun m g _ => Cert.Kernel15Ideal.Gen.frame m g
theorem frame_reference15 : Cert.quiescent_Reference15Ideal := fun m g _ =>
  θ_run_mono (Cert.Reference15Ideal.Value.run m g) fun r h =>
    ⟨fun c => (h c).2, Idealize.ShloMosaic.sem_eq_zero_of_no_sems (by decide) r.2⟩

theorem frame_kernel16 : Cert.quiescent_Kernel16 := fun m g _ => Cert.Kernel16.Gen.frame m g
theorem frame_ideal16 : Cert.quiescent_Kernel16Ideal := fun m g _ => Cert.Kernel16Ideal.Gen.frame m g
theorem frame_reference16 : Cert.quiescent_Reference16Ideal := fun m g _ =>
  θ_run_mono (Cert.Reference16Ideal.Value.run m g) fun r h =>
    ⟨fun c => (h c).2, Idealize.ShloMosaic.sem_eq_zero_of_no_sems (by decide) r.2⟩

theorem frame_kernel17 : Cert.quiescent_Kernel17 := fun m g _ => Cert.Kernel17.Gen.frame m g
theorem frame_ideal17 : Cert.quiescent_Kernel17Ideal := fun m g _ => Cert.Kernel17Ideal.Gen.frame m g
theorem frame_reference17 : Cert.quiescent_Reference17Ideal := fun m g _ =>
  θ_run_mono (Cert.Reference17Ideal.Value.run m g) fun r h =>
    ⟨fun c => (h c).2, Idealize.ShloMosaic.sem_eq_zero_of_no_sems (by decide) r.2⟩

/-! The gate after the S5 mixer and its norm, backward: the frames. -/

theorem frame_kernel18 : Cert.quiescent_Kernel18 := fun m g _ => Cert.Kernel18.Gen.frame m g
theorem frame_ideal18 : Cert.quiescent_Kernel18Ideal := fun m g _ => Cert.Kernel18Ideal.Gen.frame m g
theorem frame_reference18 : Cert.quiescent_Reference18Ideal := fun m g _ =>
  θ_run_mono (Cert.Reference18Ideal.Value.run m g) fun r h =>
    ⟨fun c => (h c).2.2.2.2, Idealize.ShloMosaic.sem_eq_zero_of_no_sems (by decide) r.2⟩

/-! The input projection and its norm, backward, of all the rows: the frames. -/

theorem frame_kernel19 : Cert.quiescent_Kernel19 := fun m g _ => Cert.Kernel19.Gen.frame m g
theorem frame_ideal19 : Cert.quiescent_Kernel19Ideal := fun m g _ => Cert.Kernel19Ideal.Gen.frame m g
theorem frame_reference19 : Cert.quiescent_Reference19Ideal := fun m g _ =>
  θ_run_mono (Cert.Reference19Ideal.Value.run m g) fun r h =>
    ⟨fun c => (h c).2, Idealize.ShloMosaic.sem_eq_zero_of_no_sems (by decide) r.2⟩

theorem frame_kernel20 : Cert.quiescent_Kernel20 := fun m g _ => Cert.Kernel20.Gen.frame m g
theorem frame_ideal20 : Cert.quiescent_Kernel20Ideal := fun m g _ => Cert.Kernel20Ideal.Gen.frame m g
theorem frame_reference20 : Cert.quiescent_Reference20Ideal := fun m g _ =>
  θ_run_mono (Cert.Reference20Ideal.Value.run m g) fun r h =>
    ⟨fun c => (h c).2.2.2, Idealize.ShloMosaic.sem_eq_zero_of_no_sems (by decide) r.2⟩

/-- Every claim of the twenty calls. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts, Cert.On_ssm_half.Gen.facts,
    frame_kernel, frame_ideal, frame_reference,
    frame_kernel2, frame_ideal2, frame_reference2,
    frame_kernel3, frame_ideal3, frame_reference3,
    frame_kernel4, frame_ideal4, frame_reference4,
    frame_kernel5, frame_ideal5, frame_reference5,
    frame_kernel6, frame_ideal6, frame_reference6,
    frame_kernel7, frame_ideal7, frame_reference7,
    frame_kernel8, frame_ideal8, frame_reference8,
    frame_kernel9, frame_ideal9, frame_reference9,
    frame_kernel10, frame_ideal10, frame_reference10,
    frame_kernel11, frame_ideal11, frame_reference11,
    frame_kernel12, frame_ideal12, frame_reference12,
    frame_kernel13, frame_ideal13, frame_reference13,
    frame_kernel14, frame_ideal14, frame_reference14,
    frame_kernel15, frame_ideal15, frame_reference15,
    frame_kernel16, frame_ideal16, frame_reference16,
    frame_kernel17, frame_ideal17, frame_reference17,
    frame_kernel18, frame_ideal18, frame_reference18,
    frame_kernel19, frame_ideal19, frame_reference19,
    frame_kernel20, frame_ideal20, frame_reference20,
    trivial, values, trivial, Mlp.algebraic, trivial, GradDown.algebraic, trivial, NormBwd.algebraic, trivial, Loss.algebraic,
    trivial, OutProj.algebraic, trivial, Adam.algebraic7, trivial, Adam.algebraic8, trivial, Adam.algebraic9, trivial, Adam.algebraic10,
    trivial, Adam.algebraic11, Glu.preserves, Glu.algebraic, Sgu.preserves, Sgu.algebraic,
    trivial, InProjBwd.algebraic, trivial, GradUp.algebraic, trivial, GradOut.algebraic, trivial, GradIn.algebraic,
    GluBwd.preserves, GluBwd.algebraic, trivial, ProjBwd.algebraic, trivial, NormIn.algebraic⟩

end Cert.Proof

end
